-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_UpBwdIdeal_finite_up_bwd [hPre_finite_up_bwd : Cert.Pre_finite_up_bwd.Facts] (m : (ℓ : Loc Cert.UpBwdIdeal.nD Cert.UpBwdIdeal.τ Cert.UpBwdIdeal.sig) → Buf (Elt Ideal) ℓ) : Prop :=
  ∀ c : Dev Cert.UpBwdIdeal.nD,
    (Cert.Pre_finite_up_bwd.fn (F := Ideal) (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4))).1 = (fun _ => 1#1)
    ∧ (Cert.Pre_finite_up_bwd.fn (F := Ideal) (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4))).2.1 = (fun _ => 1#1)
    ∧ (Cert.Pre_finite_up_bwd.fn (F := Ideal) (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4))).2.2.1 = (fun _ => 1#1)
    ∧ (Cert.Pre_finite_up_bwd.fn (F := Ideal) (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4))).2.2.2 = (fun _ => 1#1)

def Pre_UpBwdRefIdeal (m : (ℓ : Loc Cert.UpBwdRefIdeal.nD Cert.UpBwdRefIdeal.τ Cert.UpBwdRefIdeal.sig) → Buf (Elt Ideal) ℓ) : Prop :=
  True

def Pre_UpBwdRefIdeal_finite_up_bwd [hPre_finite_up_bwd : Cert.Pre_finite_up_bwd.Facts] (m : (ℓ : Loc Cert.UpBwdRefIdeal.nD Cert.UpBwdRefIdeal.τ Cert.UpBwdRefIdeal.sig) → Buf (Elt Ideal) ℓ) : Prop :=
  ∀ c : Dev Cert.UpBwdRefIdeal.nD,
    (Cert.Pre_finite_up_bwd.fn (F := Ideal) (m ((c.tc : Thread Cert.UpBwdRefIdeal.nD Cert.UpBwdRefIdeal.τ).loc Cert.UpBwdRefIdeal.main_arg0)) (m ((c.tc : Thread Cert.UpBwdRefIdeal.nD Cert.UpBwdRefIdeal.τ).loc Cert.UpBwdRefIdeal.main_arg1)) (m ((c.tc : Thread Cert.UpBwdRefIdeal.nD Cert.UpBwdRefIdeal.τ).loc Cert.UpBwdRefIdeal.main_arg2)) (m ((c.tc : Thread Cert.UpBwdRefIdeal.nD Cert.UpBwdRefIdeal.τ).loc Cert.UpBwdRefIdeal.main_arg3)) (m ((c.tc : Thread Cert.UpBwdRefIdeal.nD Cert.UpBwdRefIdeal.τ).loc Cert.UpBwdRefIdeal.main_arg4))).1 = (fun _ => 1#1)
    ∧ (Cert.Pre_finite_up_bwd.fn (F := Ideal) (m ((c.tc : Thread Cert.UpBwdRefIdeal.nD Cert.UpBwdRefIdeal.τ).loc Cert.UpBwdRefIdeal.main_arg0)) (m ((c.tc : Thread Cert.UpBwdRefIdeal.nD Cert.UpBwdRefIdeal.τ).loc Cert.UpBwdRefIdeal.main_arg1)) (m ((c.tc : Thread Cert.UpBwdRefIdeal.nD Cert.UpBwdRefIdeal.τ).loc Cert.UpBwdRefIdeal.main_arg2)) (m ((c.tc : Thread Cert.UpBwdRefIdeal.nD Cert.UpBwdRefIdeal.τ).loc Cert.UpBwdRefIdeal.main_arg3)) (m ((c.tc : Thread Cert.UpBwdRefIdeal.nD Cert.UpBwdRefIdeal.τ).loc Cert.UpBwdRefIdeal.main_arg4))).2.1 = (fun _ => 1#1)
    ∧ (Cert.Pre_finite_up_bwd.fn (F := Ideal) (m ((c.tc : Thread Cert.UpBwdRefIdeal.nD Cert.UpBwdRefIdeal.τ).loc Cert.UpBwdRefIdeal.main_arg0)) (m ((c.tc : Thread Cert.UpBwdRefIdeal.nD Cert.UpBwdRefIdeal.τ).loc Cert.UpBwdRefIdeal.main_arg1)) (m ((c.tc : Thread Cert.UpBwdRefIdeal.nD Cert.UpBwdRefIdeal.τ).loc Cert.UpBwdRefIdeal.main_arg2)) (m ((c.tc : Thread Cert.UpBwdRefIdeal.nD Cert.UpBwdRefIdeal.τ).loc Cert.UpBwdRefIdeal.main_arg3)) (m ((c.tc : Thread Cert.UpBwdRefIdeal.nD Cert.UpBwdRefIdeal.τ).loc Cert.UpBwdRefIdeal.main_arg4))).2.2.1 = (fun _ => 1#1)
    ∧ (Cert.Pre_finite_up_bwd.fn (F := Ideal) (m ((c.tc : Thread Cert.UpBwdRefIdeal.nD Cert.UpBwdRefIdeal.τ).loc Cert.UpBwdRefIdeal.main_arg0)) (m ((c.tc : Thread Cert.UpBwdRefIdeal.nD Cert.UpBwdRefIdeal.τ).loc Cert.UpBwdRefIdeal.main_arg1)) (m ((c.tc : Thread Cert.UpBwdRefIdeal.nD Cert.UpBwdRefIdeal.τ).loc Cert.UpBwdRefIdeal.main_arg2)) (m ((c.tc : Thread Cert.UpBwdRefIdeal.nD Cert.UpBwdRefIdeal.τ).loc Cert.UpBwdRefIdeal.main_arg3)) (m ((c.tc : Thread Cert.UpBwdRefIdeal.nD Cert.UpBwdRefIdeal.τ).loc Cert.UpBwdRefIdeal.main_arg4))).2.2.2 = (fun _ => 1#1)

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsRefIdeal (m : (ℓ : Loc Cert.HeadsRefIdeal.nD Cert.HeadsRefIdeal.τ Cert.HeadsRefIdeal.sig) → Buf (Elt Ideal) ℓ) : Prop :=
  True

def Pre_HeadsBwd (m : (ℓ : Loc Cert.HeadsBwd.nD Cert.HeadsBwd.τ Cert.HeadsBwd.sig) → Buf (Elt Bits) ℓ) : Prop :=
  True

def Pre_HeadsBwdIdeal (m : (ℓ : Loc Cert.HeadsBwdIdeal.nD Cert.HeadsBwdIdeal.τ Cert.HeadsBwdIdeal.sig) → Buf (Elt Ideal) ℓ) : Prop :=
  True

def Pre_HeadsBwdIdeal_finite_heads_bwd [hPre_finite_heads_bwd : Cert.Pre_finite_heads_bwd.Facts] (m : (ℓ : Loc Cert.HeadsBwdIdeal.nD Cert.HeadsBwdIdeal.τ Cert.HeadsBwdIdeal.sig) → Buf (Elt Ideal) ℓ) : Prop :=
  ∀ c : Dev Cert.HeadsBwdIdeal.nD,
    (Cert.Pre_finite_heads_bwd.fn (F := Ideal) (m ((c.tc : Thread Cert.HeadsBwdIdeal.nD Cert.HeadsBwdIdeal.τ).loc Cert.HeadsBwdIdeal.main_arg0)) (m ((c.tc : Thread Cert.HeadsBwdIdeal.nD Cert.HeadsBwdIdeal.τ).loc Cert.HeadsBwdIdeal.main_arg1)) (m ((c.tc : Thread Cert.HeadsBwdIdeal.nD Cert.HeadsBwdIdeal.τ).loc Cert.HeadsBwdIdeal.main_arg2)) (m ((c.tc : Thread Cert.HeadsBwdIdeal.nD Cert.HeadsBwdIdeal.τ).loc Cert.HeadsBwdIdeal.main_arg3)) (m ((c.tc : Thread Cert.HeadsBwdIdeal.nD Cert.HeadsBwdIdeal.τ).loc Cert.HeadsBwdIdeal.main_arg4)) (m ((c.tc : Thread Cert.HeadsBwdIdeal.nD Cert.HeadsBwdIdeal.τ).loc Cert.HeadsBwdIdeal.main_arg5)) (m ((c.tc : Thread Cert.HeadsBwdIdeal.nD Cert.HeadsBwdIdeal.τ).loc Cert.HeadsBwdIdeal.main_arg6))).1 = (fun _ => 1#1)
    ∧ (Cert.Pre_finite_heads_bwd.fn (F := Ideal) (m ((c.tc : Thread Cert.HeadsBwdIdeal.nD Cert.HeadsBwdIdeal.τ).loc Cert.HeadsBwdIdeal.main_arg0)) (m ((c.tc : Thread Cert.HeadsBwdIdeal.nD Cert.HeadsBwdIdeal.τ).loc Cert.HeadsBwdIdeal.main_arg1)) (m ((c.tc : Thread Cert.HeadsBwdIdeal.nD Cert.HeadsBwdIdeal.τ).loc Cert.HeadsBwdIdeal.main_arg2)) (m ((c.tc : Thread Cert.HeadsBwdIdeal.nD Cert.HeadsBwdIdeal.τ).loc Cert.HeadsBwdIdeal.main_arg3)) (m ((c.tc : Thread Cert.HeadsBwdIdeal.nD Cert.HeadsBwdIdeal.τ).loc Cert.HeadsBwdIdeal.main_arg4)) (m ((c.tc : Thread Cert.HeadsBwdIdeal.nD Cert.HeadsBwdIdeal.τ).loc Cert.HeadsBwdIdeal.main_arg5)) (m ((c.tc : Thread Cert.HeadsBwdIdeal.nD Cert.HeadsBwdIdeal.τ).loc Cert.HeadsBwdIdeal.main_arg6))).2.1 = (fun _ => 1#1)
    ∧ (Cert.Pre_finite_heads_bwd.fn (F := Ideal) (m ((c.tc : Thread Cert.HeadsBwdIdeal.nD Cert.HeadsBwdIdeal.τ).loc Cert.HeadsBwdIdeal.main_arg0)) (m ((c.tc : Thread Cert.HeadsBwdIdeal.nD Cert.HeadsBwdIdeal.τ).loc Cert.HeadsBwdIdeal.main_arg1)) (m ((c.tc : Thread Cert.HeadsBwdIdeal.nD Cert.HeadsBwdIdeal.τ).loc Cert.HeadsBwdIdeal.main_arg2)) (m ((c.tc : Thread Cert.HeadsBwdIdeal.nD Cert.HeadsBwdIdeal.τ).loc Cert.HeadsBwdIdeal.main_arg3)) (m ((c.tc : Thread Cert.HeadsBwdIdeal.nD Cert.HeadsBwdIdeal.τ).loc Cert.HeadsBwdIdeal.main_arg4)) (m ((c.tc : Thread Cert.HeadsBwdIdeal.nD Cert.HeadsBwdIdeal.τ).loc Cert.HeadsBwdIdeal.main_arg5)) (m ((c.tc : Thread Cert.HeadsBwdIdeal.nD Cert.HeadsBwdIdeal.τ).loc Cert.HeadsBwdIdeal.main_arg6))).2.2.1 = (fun _ => 1#1)
    ∧ (Cert.Pre_finite_heads_bwd.fn (F := Ideal) (m ((c.tc : Thread Cert.HeadsBwdIdeal.nD Cert.HeadsBwdIdeal.τ).loc Cert.HeadsBwdIdeal.main_arg0)) (m ((c.tc : Thread Cert.HeadsBwdIdeal.nD Cert.HeadsBwdIdeal.τ).loc Cert.HeadsBwdIdeal.main_arg1)) (m ((c.tc : Thread Cert.HeadsBwdIdeal.nD Cert.HeadsBwdIdeal.τ).loc Cert.HeadsBwdIdeal.main_arg2)) (m ((c.tc : Thread Cert.HeadsBwdIdeal.nD Cert.HeadsBwdIdeal.τ).loc Cert.HeadsBwdIdeal.main_arg3)) (m ((c.tc : Thread Cert.HeadsBwdIdeal.nD Cert.HeadsBwdIdeal.τ).loc Cert.HeadsBwdIdeal.main_arg4)) (m ((c.tc : Thread Cert.HeadsBwdIdeal.nD Cert.HeadsBwdIdeal.τ).loc Cert.HeadsBwdIdeal.main_arg5)) (m ((c.tc : Thread Cert.HeadsBwdIdeal.nD Cert.HeadsBwdIdeal.τ).loc Cert.HeadsBwdIdeal.main_arg6))).2.2.2.1 = (fun _ => 1#1)
    ∧ (Cert.Pre_finite_heads_bwd.fn (F := Ideal) (m ((c.tc : Thread Cert.HeadsBwdIdeal.nD Cert.HeadsBwdIdeal.τ).loc Cert.HeadsBwdIdeal.main_arg0)) (m ((c.tc : Thread Cert.HeadsBwdIdeal.nD Cert.HeadsBwdIdeal.τ).loc Cert.HeadsBwdIdeal.main_arg1)) (m ((c.tc : Thread Cert.HeadsBwdIdeal.nD Cert.HeadsBwdIdeal.τ).loc Cert.HeadsBwdIdeal.main_arg2)) (m ((c.tc : Thread Cert.HeadsBwdIdeal.nD Cert.HeadsBwdIdeal.τ).loc Cert.HeadsBwdIdeal.main_arg3)) (m ((c.tc : Thread Cert.HeadsBwdIdeal.nD Cert.HeadsBwdIdeal.τ).loc Cert.HeadsBwdIdeal.main_arg4)) (m ((c.tc : Thread Cert.HeadsBwdIdeal.nD Cert.HeadsBwdIdeal.τ).loc Cert.HeadsBwdIdeal.main_arg5)) (m ((c.tc : Thread Cert.HeadsBwdIdeal.nD Cert.HeadsBwdIdeal.τ).loc Cert.HeadsBwdIdeal.main_arg6))).2.2.2.2.1 = (fun _ => 1#1)
    ∧ (Cert.Pre_finite_heads_bwd.fn (F := Ideal) (m ((c.tc : Thread Cert.HeadsBwdIdeal.nD Cert.HeadsBwdIdeal.τ).loc Cert.HeadsBwdIdeal.main_arg0)) (m ((c.tc : Thread Cert.HeadsBwdIdeal.nD Cert.HeadsBwdIdeal.τ).loc Cert.HeadsBwdIdeal.main_arg1)) (m ((c.tc : Thread Cert.HeadsBwdIdeal.nD Cert.HeadsBwdIdeal.τ).loc Cert.HeadsBwdIdeal.main_arg2)) (m ((c.tc : Thread Cert.HeadsBwdIdeal.nD Cert.HeadsBwdIdeal.τ).loc Cert.HeadsBwdIdeal.main_arg3)) (m ((c.tc : Thread Cert.HeadsBwdIdeal.nD Cert.HeadsBwdIdeal.τ).loc Cert.HeadsBwdIdeal.main_arg4)) (m ((c.tc : Thread Cert.HeadsBwdIdeal.nD Cert.HeadsBwdIdeal.τ).loc Cert.HeadsBwdIdeal.main_arg5)) (m ((c.tc : Thread Cert.HeadsBwdIdeal.nD Cert.HeadsBwdIdeal.τ).loc Cert.HeadsBwdIdeal.main_arg6))).2.2.2.2.2 = (fun _ => 1#1)

def Pre_HeadsBwdRefIdeal (m : (ℓ : Loc Cert.HeadsBwdRefIdeal.nD Cert.HeadsBwdRefIdeal.τ Cert.HeadsBwdRefIdeal.sig) → Buf (Elt Ideal) ℓ) : Prop :=
  True

def Pre_HeadsBwdRefIdeal_finite_heads_bwd [hPre_finite_heads_bwd : Cert.Pre_finite_heads_bwd.Facts] (m : (ℓ : Loc Cert.HeadsBwdRefIdeal.nD Cert.HeadsBwdRefIdeal.τ Cert.HeadsBwdRefIdeal.sig) → Buf (Elt Ideal) ℓ) : Prop :=
  ∀ c : Dev Cert.HeadsBwdRefIdeal.nD,
    (Cert.Pre_finite_heads_bwd.fn (F := Ideal) (m ((c.tc : Thread Cert.HeadsBwdRefIdeal.nD Cert.HeadsBwdRefIdeal.τ).loc Cert.HeadsBwdRefIdeal.main_arg0)) (m ((c.tc : Thread Cert.HeadsBwdRefIdeal.nD Cert.HeadsBwdRefIdeal.τ).loc Cert.HeadsBwdRefIdeal.main_arg1)) (m ((c.tc : Thread Cert.HeadsBwdRefIdeal.nD Cert.HeadsBwdRefIdeal.τ).loc Cert.HeadsBwdRefIdeal.main_arg2)) (m ((c.tc : Thread Cert.HeadsBwdRefIdeal.nD Cert.HeadsBwdRefIdeal.τ).loc Cert.HeadsBwdRefIdeal.main_arg3)) (m ((c.tc : Thread Cert.HeadsBwdRefIdeal.nD Cert.HeadsBwdRefIdeal.τ).loc Cert.HeadsBwdRefIdeal.main_arg4)) (m ((c.tc : Thread Cert.HeadsBwdRefIdeal.nD Cert.HeadsBwdRefIdeal.τ).loc Cert.HeadsBwdRefIdeal.main_arg5)) (m ((c.tc : Thread Cert.HeadsBwdRefIdeal.nD Cert.HeadsBwdRefIdeal.τ).loc Cert.HeadsBwdRefIdeal.main_arg6))).1 = (fun _ => 1#1)
    ∧ (Cert.Pre_finite_heads_bwd.fn (F := Ideal) (m ((c.tc : Thread Cert.HeadsBwdRefIdeal.nD Cert.HeadsBwdRefIdeal.τ).loc Cert.HeadsBwdRefIdeal.main_arg0)) (m ((c.tc : Thread Cert.HeadsBwdRefIdeal.nD Cert.HeadsBwdRefIdeal.τ).loc Cert.HeadsBwdRefIdeal.main_arg1)) (m ((c.tc : Thread Cert.HeadsBwdRefIdeal.nD Cert.HeadsBwdRefIdeal.τ).loc Cert.HeadsBwdRefIdeal.main_arg2)) (m ((c.tc : Thread Cert.HeadsBwdRefIdeal.nD Cert.HeadsBwdRefIdeal.τ).loc Cert.HeadsBwdRefIdeal.main_arg3)) (m ((c.tc : Thread Cert.HeadsBwdRefIdeal.nD Cert.HeadsBwdRefIdeal.τ).loc Cert.HeadsBwdRefIdeal.main_arg4)) (m ((c.tc : Thread Cert.HeadsBwdRefIdeal.nD Cert.HeadsBwdRefIdeal.τ).loc Cert.HeadsBwdRefIdeal.main_arg5)) (m ((c.tc : Thread Cert.HeadsBwdRefIdeal.nD Cert.HeadsBwdRefIdeal.τ).loc Cert.HeadsBwdRefIdeal.main_arg6))).2.1 = (fun _ => 1#1)
    ∧ (Cert.Pre_finite_heads_bwd.fn (F := Ideal) (m ((c.tc : Thread Cert.HeadsBwdRefIdeal.nD Cert.HeadsBwdRefIdeal.τ).loc Cert.HeadsBwdRefIdeal.main_arg0)) (m ((c.tc : Thread Cert.HeadsBwdRefIdeal.nD Cert.HeadsBwdRefIdeal.τ).loc Cert.HeadsBwdRefIdeal.main_arg1)) (m ((c.tc : Thread Cert.HeadsBwdRefIdeal.nD Cert.HeadsBwdRefIdeal.τ).loc Cert.HeadsBwdRefIdeal.main_arg2)) (m ((c.tc : Thread Cert.HeadsBwdRefIdeal.nD Cert.HeadsBwdRefIdeal.τ).loc Cert.HeadsBwdRefIdeal.main_arg3)) (m ((c.tc : Thread Cert.HeadsBwdRefIdeal.nD Cert.HeadsBwdRefIdeal.τ).loc Cert.HeadsBwdRefIdeal.main_arg4)) (m ((c.tc : Thread Cert.HeadsBwdRefIdeal.nD Cert.HeadsBwdRefIdeal.τ).loc Cert.HeadsBwdRefIdeal.main_arg5)) (m ((c.tc : Thread Cert.HeadsBwdRefIdeal.nD Cert.HeadsBwdRefIdeal.τ).loc Cert.HeadsBwdRefIdeal.main_arg6))).2.2.1 = (fun _ => 1#1)
    ∧ (Cert.Pre_finite_heads_bwd.fn (F := Ideal) (m ((c.tc : Thread Cert.HeadsBwdRefIdeal.nD Cert.HeadsBwdRefIdeal.τ).loc Cert.HeadsBwdRefIdeal.main_arg0)) (m ((c.tc : Thread Cert.HeadsBwdRefIdeal.nD Cert.HeadsBwdRefIdeal.τ).loc Cert.HeadsBwdRefIdeal.main_arg1)) (m ((c.tc : Thread Cert.HeadsBwdRefIdeal.nD Cert.HeadsBwdRefIdeal.τ).loc Cert.HeadsBwdRefIdeal.main_arg2)) (m ((c.tc : Thread Cert.HeadsBwdRefIdeal.nD Cert.HeadsBwdRefIdeal.τ).loc Cert.HeadsBwdRefIdeal.main_arg3)) (m ((c.tc : Thread Cert.HeadsBwdRefIdeal.nD Cert.HeadsBwdRefIdeal.τ).loc Cert.HeadsBwdRefIdeal.main_arg4)) (m ((c.tc : Thread Cert.HeadsBwdRefIdeal.nD Cert.HeadsBwdRefIdeal.τ).loc Cert.HeadsBwdRefIdeal.main_arg5)) (m ((c.tc : Thread Cert.HeadsBwdRefIdeal.nD Cert.HeadsBwdRefIdeal.τ).loc Cert.HeadsBwdRefIdeal.main_arg6))).2.2.2.1 = (fun _ => 1#1)
    ∧ (Cert.Pre_finite_heads_bwd.fn (F := Ideal) (m ((c.tc : Thread Cert.HeadsBwdRefIdeal.nD Cert.HeadsBwdRefIdeal.τ).loc Cert.HeadsBwdRefIdeal.main_arg0)) (m ((c.tc : Thread Cert.HeadsBwdRefIdeal.nD Cert.HeadsBwdRefIdeal.τ).loc Cert.HeadsBwdRefIdeal.main_arg1)) (m ((c.tc : Thread Cert.HeadsBwdRefIdeal.nD Cert.HeadsBwdRefIdeal.τ).loc Cert.HeadsBwdRefIdeal.main_arg2)) (m ((c.tc : Thread Cert.HeadsBwdRefIdeal.nD Cert.HeadsBwdRefIdeal.τ).loc Cert.HeadsBwdRefIdeal.main_arg3)) (m ((c.tc : Thread Cert.HeadsBwdRefIdeal.nD Cert.HeadsBwdRefIdeal.τ).loc Cert.HeadsBwdRefIdeal.main_arg4)) (m ((c.tc : Thread Cert.HeadsBwdRefIdeal.nD Cert.HeadsBwdRefIdeal.τ).loc Cert.HeadsBwdRefIdeal.main_arg5)) (m ((c.tc : Thread Cert.HeadsBwdRefIdeal.nD Cert.HeadsBwdRefIdeal.τ).loc Cert.HeadsBwdRefIdeal.main_arg6))).2.2.2.2.1 = (fun _ => 1#1)
    ∧ (Cert.Pre_finite_heads_bwd.fn (F := Ideal) (m ((c.tc : Thread Cert.HeadsBwdRefIdeal.nD Cert.HeadsBwdRefIdeal.τ).loc Cert.HeadsBwdRefIdeal.main_arg0)) (m ((c.tc : Thread Cert.HeadsBwdRefIdeal.nD Cert.HeadsBwdRefIdeal.τ).loc Cert.HeadsBwdRefIdeal.main_arg1)) (m ((c.tc : Thread Cert.HeadsBwdRefIdeal.nD Cert.HeadsBwdRefIdeal.τ).loc Cert.HeadsBwdRefIdeal.main_arg2)) (m ((c.tc : Thread Cert.HeadsBwdRefIdeal.nD Cert.HeadsBwdRefIdeal.τ).loc Cert.HeadsBwdRefIdeal.main_arg3)) (m ((c.tc : Thread Cert.HeadsBwdRefIdeal.nD Cert.HeadsBwdRefIdeal.τ).loc Cert.HeadsBwdRefIdeal.main_arg4)) (m ((c.tc : Thread Cert.HeadsBwdRefIdeal.nD Cert.HeadsBwdRefIdeal.τ).loc Cert.HeadsBwdRefIdeal.main_arg5)) (m ((c.tc : Thread Cert.HeadsBwdRefIdeal.nD Cert.HeadsBwdRefIdeal.τ).loc Cert.HeadsBwdRefIdeal.main_arg6))).2.2.2.2.2 = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_finite_in_bwd [hPre_finite_in_bwd : Cert.Pre_finite_in_bwd.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_finite_in_bwd.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8)) (m ((c.tc : Thread Cert.InBwdIdeal.nD Cert.InBwdIdeal.τ).loc Cert.InBwdIdeal.main_arg9))).1 = (fun _ => 1#1)
    ∧ (Cert.Pre_finite_in_bwd.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8)) (m ((c.tc : Thread Cert.InBwdIdeal.nD Cert.InBwdIdeal.τ).loc Cert.InBwdIdeal.main_arg9))).2.1 = (fun _ => 1#1)
    ∧ (Cert.Pre_finite_in_bwd.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8)) (m ((c.tc : Thread Cert.InBwdIdeal.nD Cert.InBwdIdeal.τ).loc Cert.InBwdIdeal.main_arg9))).2.2.1 = (fun _ => 1#1)
    ∧ (Cert.Pre_finite_in_bwd.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8)) (m ((c.tc : Thread Cert.InBwdIdeal.nD Cert.InBwdIdeal.τ).loc Cert.InBwdIdeal.main_arg9))).2.2.2.1 = (fun _ => 1#1)
    ∧ (Cert.Pre_finite_in_bwd.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8)) (m ((c.tc : Thread Cert.InBwdIdeal.nD Cert.InBwdIdeal.τ).loc Cert.InBwdIdeal.main_arg9))).2.2.2.2.1 = (fun _ => 1#1)
    ∧ (Cert.Pre_finite_in_bwd.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8)) (m ((c.tc : Thread Cert.InBwdIdeal.nD Cert.InBwdIdeal.τ).loc Cert.InBwdIdeal.main_arg9))).2.2.2.2.2.1 = (fun _ => 1#1)
    ∧ (Cert.Pre_finite_in_bwd.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8)) (m ((c.tc : Thread Cert.InBwdIdeal.nD Cert.InBwdIdeal.τ).loc Cert.InBwdIdeal.main_arg9))).2.2.2.2.2.2.1 = (fun _ => 1#1)
    ∧ (Cert.Pre_finite_in_bwd.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8)) (m ((c.tc : Thread Cert.InBwdIdeal.nD Cert.InBwdIdeal.τ).loc Cert.InBwdIdeal.main_arg9))).2.2.2.2.2.2.2.1 = (fun _ => 1#1)
    ∧ (Cert.Pre_finite_in_bwd.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8)) (m ((c.tc : Thread Cert.InBwdIdeal.nD Cert.InBwdIdeal.τ).loc Cert.InBwdIdeal.main_arg9))).2.2.2.2.2.2.2.2 = (fun _ => 1#1)

def Pre_InBwdRefIdeal (m : (ℓ : Loc Cert.InBwdRefIdeal.nD Cert.InBwdRefIdeal.τ Cert.InBwdRefIdeal.sig) → Buf (Elt Ideal) ℓ) : Prop :=
  True

def Pre_InBwdRefIdeal_finite_in_bwd [hPre_finite_in_bwd : Cert.Pre_finite_in_bwd.Facts] (m : (ℓ : Loc Cert.InBwdRefIdeal.nD Cert.InBwdRefIdeal.τ Cert.InBwdRefIdeal.sig) → Buf (Elt Ideal) ℓ) : Prop :=
  ∀ c : Dev Cert.InBwdRefIdeal.nD,
    (Cert.Pre_finite_in_bwd.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5)) (m ((c.tc : Thread Cert.InBwdRefIdeal.nD Cert.InBwdRefIdeal.τ).loc Cert.InBwdRefIdeal.main_arg6)) (m ((c.tc : Thread Cert.InBwdRefIdeal.nD Cert.InBwdRefIdeal.τ).loc Cert.InBwdRefIdeal.main_arg7)) (m ((c.tc : Thread Cert.InBwdRefIdeal.nD Cert.InBwdRefIdeal.τ).loc Cert.InBwdRefIdeal.main_arg8)) (m ((c.tc : Thread Cert.InBwdRefIdeal.nD Cert.InBwdRefIdeal.τ).loc Cert.InBwdRefIdeal.main_arg9))).1 = (fun _ => 1#1)
    ∧ (Cert.Pre_finite_in_bwd.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5)) (m ((c.tc : Thread Cert.InBwdRefIdeal.nD Cert.InBwdRefIdeal.τ).loc Cert.InBwdRefIdeal.main_arg6)) (m ((c.tc : Thread Cert.InBwdRefIdeal.nD Cert.InBwdRefIdeal.τ).loc Cert.InBwdRefIdeal.main_arg7)) (m ((c.tc : Thread Cert.InBwdRefIdeal.nD Cert.InBwdRefIdeal.τ).loc Cert.InBwdRefIdeal.main_arg8)) (m ((c.tc : Thread Cert.InBwdRefIdeal.nD Cert.InBwdRefIdeal.τ).loc Cert.InBwdRefIdeal.main_arg9))).2.1 = (fun _ => 1#1)
    ∧ (Cert.Pre_finite_in_bwd.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5)) (m ((c.tc : Thread Cert.InBwdRefIdeal.nD Cert.InBwdRefIdeal.τ).loc Cert.InBwdRefIdeal.main_arg6)) (m ((c.tc : Thread Cert.InBwdRefIdeal.nD Cert.InBwdRefIdeal.τ).loc Cert.InBwdRefIdeal.main_arg7)) (m ((c.tc : Thread Cert.InBwdRefIdeal.nD Cert.InBwdRefIdeal.τ).loc Cert.InBwdRefIdeal.main_arg8)) (m ((c.tc : Thread Cert.InBwdRefIdeal.nD Cert.InBwdRefIdeal.τ).loc Cert.InBwdRefIdeal.main_arg9))).2.2.1 = (fun _ => 1#1)
    ∧ (Cert.Pre_finite_in_bwd.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5)) (m ((c.tc : Thread Cert.InBwdRefIdeal.nD Cert.InBwdRefIdeal.τ).loc Cert.InBwdRefIdeal.main_arg6)) (m ((c.tc : Thread Cert.InBwdRefIdeal.nD Cert.InBwdRefIdeal.τ).loc Cert.InBwdRefIdeal.main_arg7)) (m ((c.tc : Thread Cert.InBwdRefIdeal.nD Cert.InBwdRefIdeal.τ).loc Cert.InBwdRefIdeal.main_arg8)) (m ((c.tc : Thread Cert.InBwdRefIdeal.nD Cert.InBwdRefIdeal.τ).loc Cert.InBwdRefIdeal.main_arg9))).2.2.2.1 = (fun _ => 1#1)
    ∧ (Cert.Pre_finite_in_bwd.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5)) (m ((c.tc : Thread Cert.InBwdRefIdeal.nD Cert.InBwdRefIdeal.τ).loc Cert.InBwdRefIdeal.main_arg6)) (m ((c.tc : Thread Cert.InBwdRefIdeal.nD Cert.InBwdRefIdeal.τ).loc Cert.InBwdRefIdeal.main_arg7)) (m ((c.tc : Thread Cert.InBwdRefIdeal.nD Cert.InBwdRefIdeal.τ).loc Cert.InBwdRefIdeal.main_arg8)) (m ((c.tc : Thread Cert.InBwdRefIdeal.nD Cert.InBwdRefIdeal.τ).loc Cert.InBwdRefIdeal.main_arg9))).2.2.2.2.1 = (fun _ => 1#1)
    ∧ (Cert.Pre_finite_in_bwd.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5)) (m ((c.tc : Thread Cert.InBwdRefIdeal.nD Cert.InBwdRefIdeal.τ).loc Cert.InBwdRefIdeal.main_arg6)) (m ((c.tc : Thread Cert.InBwdRefIdeal.nD Cert.InBwdRefIdeal.τ).loc Cert.InBwdRefIdeal.main_arg7)) (m ((c.tc : Thread Cert.InBwdRefIdeal.nD Cert.InBwdRefIdeal.τ).loc Cert.InBwdRefIdeal.main_arg8)) (m ((c.tc : Thread Cert.InBwdRefIdeal.nD Cert.InBwdRefIdeal.τ).loc Cert.InBwdRefIdeal.main_arg9))).2.2.2.2.2.1 = (fun _ => 1#1)
    ∧ (Cert.Pre_finite_in_bwd.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5)) (m ((c.tc : Thread Cert.InBwdRefIdeal.nD Cert.InBwdRefIdeal.τ).loc Cert.InBwdRefIdeal.main_arg6)) (m ((c.tc : Thread Cert.InBwdRefIdeal.nD Cert.InBwdRefIdeal.τ).loc Cert.InBwdRefIdeal.main_arg7)) (m ((c.tc : Thread Cert.InBwdRefIdeal.nD Cert.InBwdRefIdeal.τ).loc Cert.InBwdRefIdeal.main_arg8)) (m ((c.tc : Thread Cert.InBwdRefIdeal.nD Cert.InBwdRefIdeal.τ).loc Cert.InBwdRefIdeal.main_arg9))).2.2.2.2.2.2.1 = (fun _ => 1#1)
    ∧ (Cert.Pre_finite_in_bwd.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5)) (m ((c.tc : Thread Cert.InBwdRefIdeal.nD Cert.InBwdRefIdeal.τ).loc Cert.InBwdRefIdeal.main_arg6)) (m ((c.tc : Thread Cert.InBwdRefIdeal.nD Cert.InBwdRefIdeal.τ).loc Cert.InBwdRefIdeal.main_arg7)) (m ((c.tc : Thread Cert.InBwdRefIdeal.nD Cert.InBwdRefIdeal.τ).loc Cert.InBwdRefIdeal.main_arg8)) (m ((c.tc : Thread Cert.InBwdRefIdeal.nD Cert.InBwdRefIdeal.τ).loc Cert.InBwdRefIdeal.main_arg9))).2.2.2.2.2.2.2.1 = (fun _ => 1#1)
    ∧ (Cert.Pre_finite_in_bwd.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5)) (m ((c.tc : Thread Cert.InBwdRefIdeal.nD Cert.InBwdRefIdeal.τ).loc Cert.InBwdRefIdeal.main_arg6)) (m ((c.tc : Thread Cert.InBwdRefIdeal.nD Cert.InBwdRefIdeal.τ).loc Cert.InBwdRefIdeal.main_arg7)) (m ((c.tc : Thread Cert.InBwdRefIdeal.nD Cert.InBwdRefIdeal.τ).loc Cert.InBwdRefIdeal.main_arg8)) (m ((c.tc : Thread Cert.InBwdRefIdeal.nD Cert.InBwdRefIdeal.τ).loc Cert.InBwdRefIdeal.main_arg9))).2.2.2.2.2.2.2.2 = (fun _ => 1#1)

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_UkvBwd (m : (ℓ : Loc Cert.UkvBwd.nD Cert.UkvBwd.τ Cert.UkvBwd.sig) → Buf (Elt Bits) ℓ) : Prop :=
  True

def Pre_UkvBwdIdeal (m : (ℓ : Loc Cert.UkvBwdIdeal.nD Cert.UkvBwdIdeal.τ Cert.UkvBwdIdeal.sig) → Buf (Elt Ideal) ℓ) : Prop :=
  True

def Pre_UkvBwdIdeal_finite_ukv_bwd [hPre_finite_ukv_bwd : Cert.Pre_finite_ukv_bwd.Facts] (m : (ℓ : Loc Cert.UkvBwdIdeal.nD Cert.UkvBwdIdeal.τ Cert.UkvBwdIdeal.sig) → Buf (Elt Ideal) ℓ) : Prop :=
  ∀ c : Dev Cert.UkvBwdIdeal.nD,
    (Cert.Pre_finite_ukv_bwd.fn (F := Ideal) (m ((c.tc : Thread Cert.UkvBwdIdeal.nD Cert.UkvBwdIdeal.τ).loc Cert.UkvBwdIdeal.main_arg0)) (m ((c.tc : Thread Cert.UkvBwdIdeal.nD Cert.UkvBwdIdeal.τ).loc Cert.UkvBwdIdeal.main_arg1)) (m ((c.tc : Thread Cert.UkvBwdIdeal.nD Cert.UkvBwdIdeal.τ).loc Cert.UkvBwdIdeal.main_arg2)) (m ((c.tc : Thread Cert.UkvBwdIdeal.nD Cert.UkvBwdIdeal.τ).loc Cert.UkvBwdIdeal.main_arg3)) (m ((c.tc : Thread Cert.UkvBwdIdeal.nD Cert.UkvBwdIdeal.τ).loc Cert.UkvBwdIdeal.main_arg4)) (m ((c.tc : Thread Cert.UkvBwdIdeal.nD Cert.UkvBwdIdeal.τ).loc Cert.UkvBwdIdeal.main_arg5))).1 = (fun _ => 1#1)
    ∧ (Cert.Pre_finite_ukv_bwd.fn (F := Ideal) (m ((c.tc : Thread Cert.UkvBwdIdeal.nD Cert.UkvBwdIdeal.τ).loc Cert.UkvBwdIdeal.main_arg0)) (m ((c.tc : Thread Cert.UkvBwdIdeal.nD Cert.UkvBwdIdeal.τ).loc Cert.UkvBwdIdeal.main_arg1)) (m ((c.tc : Thread Cert.UkvBwdIdeal.nD Cert.UkvBwdIdeal.τ).loc Cert.UkvBwdIdeal.main_arg2)) (m ((c.tc : Thread Cert.UkvBwdIdeal.nD Cert.UkvBwdIdeal.τ).loc Cert.UkvBwdIdeal.main_arg3)) (m ((c.tc : Thread Cert.UkvBwdIdeal.nD Cert.UkvBwdIdeal.τ).loc Cert.UkvBwdIdeal.main_arg4)) (m ((c.tc : Thread Cert.UkvBwdIdeal.nD Cert.UkvBwdIdeal.τ).loc Cert.UkvBwdIdeal.main_arg5))).2.1 = (fun _ => 1#1)
    ∧ (Cert.Pre_finite_ukv_bwd.fn (F := Ideal) (m ((c.tc : Thread Cert.UkvBwdIdeal.nD Cert.UkvBwdIdeal.τ).loc Cert.UkvBwdIdeal.main_arg0)) (m ((c.tc : Thread Cert.UkvBwdIdeal.nD Cert.UkvBwdIdeal.τ).loc Cert.UkvBwdIdeal.main_arg1)) (m ((c.tc : Thread Cert.UkvBwdIdeal.nD Cert.UkvBwdIdeal.τ).loc Cert.UkvBwdIdeal.main_arg2)) (m ((c.tc : Thread Cert.UkvBwdIdeal.nD Cert.UkvBwdIdeal.τ).loc Cert.UkvBwdIdeal.main_arg3)) (m ((c.tc : Thread Cert.UkvBwdIdeal.nD Cert.UkvBwdIdeal.τ).loc Cert.UkvBwdIdeal.main_arg4)) (m ((c.tc : Thread Cert.UkvBwdIdeal.nD Cert.UkvBwdIdeal.τ).loc Cert.UkvBwdIdeal.main_arg5))).2.2.1 = (fun _ => 1#1)
    ∧ (Cert.Pre_finite_ukv_bwd.fn (F := Ideal) (m ((c.tc : Thread Cert.UkvBwdIdeal.nD Cert.UkvBwdIdeal.τ).loc Cert.UkvBwdIdeal.main_arg0)) (m ((c.tc : Thread Cert.UkvBwdIdeal.nD Cert.UkvBwdIdeal.τ).loc Cert.UkvBwdIdeal.main_arg1)) (m ((c.tc : Thread Cert.UkvBwdIdeal.nD Cert.UkvBwdIdeal.τ).loc Cert.UkvBwdIdeal.main_arg2)) (m ((c.tc : Thread Cert.UkvBwdIdeal.nD Cert.UkvBwdIdeal.τ).loc Cert.UkvBwdIdeal.main_arg3)) (m ((c.tc : Thread Cert.UkvBwdIdeal.nD Cert.UkvBwdIdeal.τ).loc Cert.UkvBwdIdeal.main_arg4)) (m ((c.tc : Thread Cert.UkvBwdIdeal.nD Cert.UkvBwdIdeal.τ).loc Cert.UkvBwdIdeal.main_arg5))).2.2.2.1 = (fun _ => 1#1)
    ∧ (Cert.Pre_finite_ukv_bwd.fn (F := Ideal) (m ((c.tc : Thread Cert.UkvBwdIdeal.nD Cert.UkvBwdIdeal.τ).loc Cert.UkvBwdIdeal.main_arg0)) (m ((c.tc : Thread Cert.UkvBwdIdeal.nD Cert.UkvBwdIdeal.τ).loc Cert.UkvBwdIdeal.main_arg1)) (m ((c.tc : Thread Cert.UkvBwdIdeal.nD Cert.UkvBwdIdeal.τ).loc Cert.UkvBwdIdeal.main_arg2)) (m ((c.tc : Thread Cert.UkvBwdIdeal.nD Cert.UkvBwdIdeal.τ).loc Cert.UkvBwdIdeal.main_arg3)) (m ((c.tc : Thread Cert.UkvBwdIdeal.nD Cert.UkvBwdIdeal.τ).loc Cert.UkvBwdIdeal.main_arg4)) (m ((c.tc : Thread Cert.UkvBwdIdeal.nD Cert.UkvBwdIdeal.τ).loc Cert.UkvBwdIdeal.main_arg5))).2.2.2.2 = (fun _ => 1#1)

def Pre_UkvBwdRefIdeal (m : (ℓ : Loc Cert.UkvBwdRefIdeal.nD Cert.UkvBwdRefIdeal.τ Cert.UkvBwdRefIdeal.sig) → Buf (Elt Ideal) ℓ) : Prop :=
  True

def Pre_UkvBwdRefIdeal_finite_ukv_bwd [hPre_finite_ukv_bwd : Cert.Pre_finite_ukv_bwd.Facts] (m : (ℓ : Loc Cert.UkvBwdRefIdeal.nD Cert.UkvBwdRefIdeal.τ Cert.UkvBwdRefIdeal.sig) → Buf (Elt Ideal) ℓ) : Prop :=
  ∀ c : Dev Cert.UkvBwdRefIdeal.nD,
    (Cert.Pre_finite_ukv_bwd.fn (F := Ideal) (m ((c.tc : Thread Cert.UkvBwdRefIdeal.nD Cert.UkvBwdRefIdeal.τ).loc Cert.UkvBwdRefIdeal.main_arg0)) (m ((c.tc : Thread Cert.UkvBwdRefIdeal.nD Cert.UkvBwdRefIdeal.τ).loc Cert.UkvBwdRefIdeal.main_arg1)) (m ((c.tc : Thread Cert.UkvBwdRefIdeal.nD Cert.UkvBwdRefIdeal.τ).loc Cert.UkvBwdRefIdeal.main_arg2)) (m ((c.tc : Thread Cert.UkvBwdRefIdeal.nD Cert.UkvBwdRefIdeal.τ).loc Cert.UkvBwdRefIdeal.main_arg3)) (m ((c.tc : Thread Cert.UkvBwdRefIdeal.nD Cert.UkvBwdRefIdeal.τ).loc Cert.UkvBwdRefIdeal.main_arg4)) (m ((c.tc : Thread Cert.UkvBwdRefIdeal.nD Cert.UkvBwdRefIdeal.τ).loc Cert.UkvBwdRefIdeal.main_arg5))).1 = (fun _ => 1#1)
    ∧ (Cert.Pre_finite_ukv_bwd.fn (F := Ideal) (m ((c.tc : Thread Cert.UkvBwdRefIdeal.nD Cert.UkvBwdRefIdeal.τ).loc Cert.UkvBwdRefIdeal.main_arg0)) (m ((c.tc : Thread Cert.UkvBwdRefIdeal.nD Cert.UkvBwdRefIdeal.τ).loc Cert.UkvBwdRefIdeal.main_arg1)) (m ((c.tc : Thread Cert.UkvBwdRefIdeal.nD Cert.UkvBwdRefIdeal.τ).loc Cert.UkvBwdRefIdeal.main_arg2)) (m ((c.tc : Thread Cert.UkvBwdRefIdeal.nD Cert.UkvBwdRefIdeal.τ).loc Cert.UkvBwdRefIdeal.main_arg3)) (m ((c.tc : Thread Cert.UkvBwdRefIdeal.nD Cert.UkvBwdRefIdeal.τ).loc Cert.UkvBwdRefIdeal.main_arg4)) (m ((c.tc : Thread Cert.UkvBwdRefIdeal.nD Cert.UkvBwdRefIdeal.τ).loc Cert.UkvBwdRefIdeal.main_arg5))).2.1 = (fun _ => 1#1)
    ∧ (Cert.Pre_finite_ukv_bwd.fn (F := Ideal) (m ((c.tc : Thread Cert.UkvBwdRefIdeal.nD Cert.UkvBwdRefIdeal.τ).loc Cert.UkvBwdRefIdeal.main_arg0)) (m ((c.tc : Thread Cert.UkvBwdRefIdeal.nD Cert.UkvBwdRefIdeal.τ).loc Cert.UkvBwdRefIdeal.main_arg1)) (m ((c.tc : Thread Cert.UkvBwdRefIdeal.nD Cert.UkvBwdRefIdeal.τ).loc Cert.UkvBwdRefIdeal.main_arg2)) (m ((c.tc : Thread Cert.UkvBwdRefIdeal.nD Cert.UkvBwdRefIdeal.τ).loc Cert.UkvBwdRefIdeal.main_arg3)) (m ((c.tc : Thread Cert.UkvBwdRefIdeal.nD Cert.UkvBwdRefIdeal.τ).loc Cert.UkvBwdRefIdeal.main_arg4)) (m ((c.tc : Thread Cert.UkvBwdRefIdeal.nD Cert.UkvBwdRefIdeal.τ).loc Cert.UkvBwdRefIdeal.main_arg5))).2.2.1 = (fun _ => 1#1)
    ∧ (Cert.Pre_finite_ukv_bwd.fn (F := Ideal) (m ((c.tc : Thread Cert.UkvBwdRefIdeal.nD Cert.UkvBwdRefIdeal.τ).loc Cert.UkvBwdRefIdeal.main_arg0)) (m ((c.tc : Thread Cert.UkvBwdRefIdeal.nD Cert.UkvBwdRefIdeal.τ).loc Cert.UkvBwdRefIdeal.main_arg1)) (m ((c.tc : Thread Cert.UkvBwdRefIdeal.nD Cert.UkvBwdRefIdeal.τ).loc Cert.UkvBwdRefIdeal.main_arg2)) (m ((c.tc : Thread Cert.UkvBwdRefIdeal.nD Cert.UkvBwdRefIdeal.τ).loc Cert.UkvBwdRefIdeal.main_arg3)) (m ((c.tc : Thread Cert.UkvBwdRefIdeal.nD Cert.UkvBwdRefIdeal.τ).loc Cert.UkvBwdRefIdeal.main_arg4)) (m ((c.tc : Thread Cert.UkvBwdRefIdeal.nD Cert.UkvBwdRefIdeal.τ).loc Cert.UkvBwdRefIdeal.main_arg5))).2.2.2.1 = (fun _ => 1#1)
    ∧ (Cert.Pre_finite_ukv_bwd.fn (F := Ideal) (m ((c.tc : Thread Cert.UkvBwdRefIdeal.nD Cert.UkvBwdRefIdeal.τ).loc Cert.UkvBwdRefIdeal.main_arg0)) (m ((c.tc : Thread Cert.UkvBwdRefIdeal.nD Cert.UkvBwdRefIdeal.τ).loc Cert.UkvBwdRefIdeal.main_arg1)) (m ((c.tc : Thread Cert.UkvBwdRefIdeal.nD Cert.UkvBwdRefIdeal.τ).loc Cert.UkvBwdRefIdeal.main_arg2)) (m ((c.tc : Thread Cert.UkvBwdRefIdeal.nD Cert.UkvBwdRefIdeal.τ).loc Cert.UkvBwdRefIdeal.main_arg3)) (m ((c.tc : Thread Cert.UkvBwdRefIdeal.nD Cert.UkvBwdRefIdeal.τ).loc Cert.UkvBwdRefIdeal.main_arg4)) (m ((c.tc : Thread Cert.UkvBwdRefIdeal.nD Cert.UkvBwdRefIdeal.τ).loc Cert.UkvBwdRefIdeal.main_arg5))).2.2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1)
      ∧ r.2.mem ((c.tc : Thread Cert.UpBwd.nD Cert.UpBwd.τ).loc Cert.UpBwd.main_arg2) = m ((c.tc : Thread Cert.UpBwd.nD Cert.UpBwd.τ).loc Cert.UpBwd.main_arg2)
      ∧ r.2.mem ((c.tc : Thread Cert.UpBwd.nD Cert.UpBwd.τ).loc Cert.UpBwd.main_arg3) = m ((c.tc : Thread Cert.UpBwd.nD Cert.UpBwd.τ).loc Cert.UpBwd.main_arg3)
      ∧ r.2.mem ((c.tc : Thread Cert.UpBwd.nD Cert.UpBwd.τ).loc Cert.UpBwd.main_arg4) = m ((c.tc : Thread Cert.UpBwd.nD Cert.UpBwd.τ).loc Cert.UpBwd.main_arg4))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4))
      ∧ r.2.sem = fun _ => 0)

def quiescent_UpBwdIdeal_pre_finite_up_bwd [hUpBwdIdeal : Cert.UpBwdIdeal.Facts] [hPre_finite_up_bwd : Cert.Pre_finite_up_bwd.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal_finite_up_bwd m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4))
      ∧ r.2.sem = fun _ => 0)

def quiescent_UpBwdRefIdeal [hUpBwdRefIdeal : Cert.UpBwdRefIdeal.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1)
      ∧ r.2.mem ((c.tc : Thread Cert.UpBwdRefIdeal.nD Cert.UpBwdRefIdeal.τ).loc Cert.UpBwdRefIdeal.main_arg2) = m ((c.tc : Thread Cert.UpBwdRefIdeal.nD Cert.UpBwdRefIdeal.τ).loc Cert.UpBwdRefIdeal.main_arg2)
      ∧ r.2.mem ((c.tc : Thread Cert.UpBwdRefIdeal.nD Cert.UpBwdRefIdeal.τ).loc Cert.UpBwdRefIdeal.main_arg3) = m ((c.tc : Thread Cert.UpBwdRefIdeal.nD Cert.UpBwdRefIdeal.τ).loc Cert.UpBwdRefIdeal.main_arg3)
      ∧ r.2.mem ((c.tc : Thread Cert.UpBwdRefIdeal.nD Cert.UpBwdRefIdeal.τ).loc Cert.UpBwdRefIdeal.main_arg4) = m ((c.tc : Thread Cert.UpBwdRefIdeal.nD Cert.UpBwdRefIdeal.τ).loc Cert.UpBwdRefIdeal.main_arg4))
      ∧ r.2.sem = fun _ => 0)

def quiescent_UpBwdRefIdeal_pre_finite_up_bwd [hUpBwdRefIdeal : Cert.UpBwdRefIdeal.Facts] [hPre_finite_up_bwd : Cert.Pre_finite_up_bwd.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal_finite_up_bwd m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1)
      ∧ r.2.mem ((c.tc : Thread Cert.UpBwdRefIdeal.nD Cert.UpBwdRefIdeal.τ).loc Cert.UpBwdRefIdeal.main_arg2) = m ((c.tc : Thread Cert.UpBwdRefIdeal.nD Cert.UpBwdRefIdeal.τ).loc Cert.UpBwdRefIdeal.main_arg2)
      ∧ r.2.mem ((c.tc : Thread Cert.UpBwdRefIdeal.nD Cert.UpBwdRefIdeal.τ).loc Cert.UpBwdRefIdeal.main_arg3) = m ((c.tc : Thread Cert.UpBwdRefIdeal.nD Cert.UpBwdRefIdeal.τ).loc Cert.UpBwdRefIdeal.main_arg3)
      ∧ r.2.mem ((c.tc : Thread Cert.UpBwdRefIdeal.nD Cert.UpBwdRefIdeal.τ).loc Cert.UpBwdRefIdeal.main_arg4) = m ((c.tc : Thread Cert.UpBwdRefIdeal.nD Cert.UpBwdRefIdeal.τ).loc Cert.UpBwdRefIdeal.main_arg4))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1)
      ∧ r.2.mem ((c.tc : Thread Cert.Heads.nD Cert.Heads.τ).loc Cert.Heads.main_arg2) = m ((c.tc : Thread Cert.Heads.nD Cert.Heads.τ).loc Cert.Heads.main_arg2)
      ∧ r.2.mem ((c.tc : Thread Cert.Heads.nD Cert.Heads.τ).loc Cert.Heads.main_arg3) = m ((c.tc : Thread Cert.Heads.nD Cert.Heads.τ).loc Cert.Heads.main_arg3)
      ∧ r.2.mem ((c.tc : Thread Cert.Heads.nD Cert.Heads.τ).loc Cert.Heads.main_arg4) = m ((c.tc : Thread Cert.Heads.nD Cert.Heads.τ).loc Cert.Heads.main_arg4)
      ∧ r.2.mem ((c.tc : Thread Cert.Heads.nD Cert.Heads.τ).loc Cert.Heads.main_arg5) = m ((c.tc : Thread Cert.Heads.nD Cert.Heads.τ).loc Cert.Heads.main_arg5))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
      ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
      ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5))
      ∧ r.2.sem = fun _ => 0)

def quiescent_HeadsRefIdeal [hHeadsRefIdeal : Cert.HeadsRefIdeal.Facts] : Prop :=
  ∀ (m : (ℓ : Loc Cert.HeadsRefIdeal.nD Cert.HeadsRefIdeal.τ Cert.HeadsRefIdeal.sig) → Buf (Elt Ideal) ℓ) (g : Dev Cert.HeadsRefIdeal.nD → PrngReg), Pre_HeadsRefIdeal m →
    θ_run (Cert.HeadsRefIdeal.defs (F := Ideal)) (onTc (τ := Cert.HeadsRefIdeal.τ) (Cert.HeadsRefIdeal.main (F := Ideal))) ⟨m, fun _ => 0, g⟩ (fun r => (∀ c : Dev Cert.HeadsRefIdeal.nD,
      r.2.mem ((c.tc : Thread Cert.HeadsRefIdeal.nD Cert.HeadsRefIdeal.τ).loc Cert.HeadsRefIdeal.main_arg0) = m ((c.tc : Thread Cert.HeadsRefIdeal.nD Cert.HeadsRefIdeal.τ).loc Cert.HeadsRefIdeal.main_arg0)
      ∧ r.2.mem ((c.tc : Thread Cert.HeadsRefIdeal.nD Cert.HeadsRefIdeal.τ).loc Cert.HeadsRefIdeal.main_arg1) = m ((c.tc : Thread Cert.HeadsRefIdeal.nD Cert.HeadsRefIdeal.τ).loc Cert.HeadsRefIdeal.main_arg1)
      ∧ r.2.mem ((c.tc : Thread Cert.HeadsRefIdeal.nD Cert.HeadsRefIdeal.τ).loc Cert.HeadsRefIdeal.main_arg2) = m ((c.tc : Thread Cert.HeadsRefIdeal.nD Cert.HeadsRefIdeal.τ).loc Cert.HeadsRefIdeal.main_arg2)
      ∧ r.2.mem ((c.tc : Thread Cert.HeadsRefIdeal.nD Cert.HeadsRefIdeal.τ).loc Cert.HeadsRefIdeal.main_arg3) = m ((c.tc : Thread Cert.HeadsRefIdeal.nD Cert.HeadsRefIdeal.τ).loc Cert.HeadsRefIdeal.main_arg3)
      ∧ r.2.mem ((c.tc : Thread Cert.HeadsRefIdeal.nD Cert.HeadsRefIdeal.τ).loc Cert.HeadsRefIdeal.main_arg4) = m ((c.tc : Thread Cert.HeadsRefIdeal.nD Cert.HeadsRefIdeal.τ).loc Cert.HeadsRefIdeal.main_arg4)
      ∧ r.2.mem ((c.tc : Thread Cert.HeadsRefIdeal.nD Cert.HeadsRefIdeal.τ).loc Cert.HeadsRefIdeal.main_arg5) = m ((c.tc : Thread Cert.HeadsRefIdeal.nD Cert.HeadsRefIdeal.τ).loc Cert.HeadsRefIdeal.main_arg5))
      ∧ r.2.sem = fun _ => 0)

def quiescent_HeadsBwd [hHeadsBwd : Cert.HeadsBwd.Facts] : Prop :=
  ∀ (m : (ℓ : Loc Cert.HeadsBwd.nD Cert.HeadsBwd.τ Cert.HeadsBwd.sig) → Buf (Elt Bits) ℓ) (g : Dev Cert.HeadsBwd.nD → PrngReg), Pre_HeadsBwd m →
    θ_run (Cert.HeadsBwd.defs (F := Bits)) (onTc (τ := Cert.HeadsBwd.τ) (Cert.HeadsBwd.main (F := Bits))) ⟨m, fun _ => 0, g⟩ (fun r => (∀ c : Dev Cert.HeadsBwd.nD,
      r.2.mem ((c.tc : Thread Cert.HeadsBwd.nD Cert.HeadsBwd.τ).loc Cert.HeadsBwd.main_arg0) = m ((c.tc : Thread Cert.HeadsBwd.nD Cert.HeadsBwd.τ).loc Cert.HeadsBwd.main_arg0)
      ∧ r.2.mem ((c.tc : Thread Cert.HeadsBwd.nD Cert.HeadsBwd.τ).loc Cert.HeadsBwd.main_arg1) = m ((c.tc : Thread Cert.HeadsBwd.nD Cert.HeadsBwd.τ).loc Cert.HeadsBwd.main_arg1)
      ∧ r.2.mem ((c.tc : Thread Cert.HeadsBwd.nD Cert.HeadsBwd.τ).loc Cert.HeadsBwd.main_arg2) = m ((c.tc : Thread Cert.HeadsBwd.nD Cert.HeadsBwd.τ).loc Cert.HeadsBwd.main_arg2)
      ∧ r.2.mem ((c.tc : Thread Cert.HeadsBwd.nD Cert.HeadsBwd.τ).loc Cert.HeadsBwd.main_arg3) = m ((c.tc : Thread Cert.HeadsBwd.nD Cert.HeadsBwd.τ).loc Cert.HeadsBwd.main_arg3)
      ∧ r.2.mem ((c.tc : Thread Cert.HeadsBwd.nD Cert.HeadsBwd.τ).loc Cert.HeadsBwd.main_arg4) = m ((c.tc : Thread Cert.HeadsBwd.nD Cert.HeadsBwd.τ).loc Cert.HeadsBwd.main_arg4)
      ∧ r.2.mem ((c.tc : Thread Cert.HeadsBwd.nD Cert.HeadsBwd.τ).loc Cert.HeadsBwd.main_arg5) = m ((c.tc : Thread Cert.HeadsBwd.nD Cert.HeadsBwd.τ).loc Cert.HeadsBwd.main_arg5)
      ∧ r.2.mem ((c.tc : Thread Cert.HeadsBwd.nD Cert.HeadsBwd.τ).loc Cert.HeadsBwd.main_arg6) = m ((c.tc : Thread Cert.HeadsBwd.nD Cert.HeadsBwd.τ).loc Cert.HeadsBwd.main_arg6))
      ∧ r.2.sem = fun _ => 0)

def quiescent_HeadsBwdIdeal [hHeadsBwdIdeal : Cert.HeadsBwdIdeal.Facts] : Prop :=
  ∀ (m : (ℓ : Loc Cert.HeadsBwdIdeal.nD Cert.HeadsBwdIdeal.τ Cert.HeadsBwdIdeal.sig) → Buf (Elt Ideal) ℓ) (g : Dev Cert.HeadsBwdIdeal.nD → PrngReg), Pre_HeadsBwdIdeal m →
    θ_run (Cert.HeadsBwdIdeal.defs (F := Ideal)) (onTc (τ := Cert.HeadsBwdIdeal.τ) (Cert.HeadsBwdIdeal.main (F := Ideal))) ⟨m, fun _ => 0, g⟩ (fun r => (∀ c : Dev Cert.HeadsBwdIdeal.nD,
      r.2.mem ((c.tc : Thread Cert.HeadsBwdIdeal.nD Cert.HeadsBwdIdeal.τ).loc Cert.HeadsBwdIdeal.main_arg0) = m ((c.tc : Thread Cert.HeadsBwdIdeal.nD Cert.HeadsBwdIdeal.τ).loc Cert.HeadsBwdIdeal.main_arg0)
      ∧ r.2.mem ((c.tc : Thread Cert.HeadsBwdIdeal.nD Cert.HeadsBwdIdeal.τ).loc Cert.HeadsBwdIdeal.main_arg1) = m ((c.tc : Thread Cert.HeadsBwdIdeal.nD Cert.HeadsBwdIdeal.τ).loc Cert.HeadsBwdIdeal.main_arg1)
      ∧ r.2.mem ((c.tc : Thread Cert.HeadsBwdIdeal.nD Cert.HeadsBwdIdeal.τ).loc Cert.HeadsBwdIdeal.main_arg2) = m ((c.tc : Thread Cert.HeadsBwdIdeal.nD Cert.HeadsBwdIdeal.τ).loc Cert.HeadsBwdIdeal.main_arg2)
      ∧ r.2.mem ((c.tc : Thread Cert.HeadsBwdIdeal.nD Cert.HeadsBwdIdeal.τ).loc Cert.HeadsBwdIdeal.main_arg3) = m ((c.tc : Thread Cert.HeadsBwdIdeal.nD Cert.HeadsBwdIdeal.τ).loc Cert.HeadsBwdIdeal.main_arg3)
      ∧ r.2.mem ((c.tc : Thread Cert.HeadsBwdIdeal.nD Cert.HeadsBwdIdeal.τ).loc Cert.HeadsBwdIdeal.main_arg4) = m ((c.tc : Thread Cert.HeadsBwdIdeal.nD Cert.HeadsBwdIdeal.τ).loc Cert.HeadsBwdIdeal.main_arg4)
      ∧ r.2.mem ((c.tc : Thread Cert.HeadsBwdIdeal.nD Cert.HeadsBwdIdeal.τ).loc Cert.HeadsBwdIdeal.main_arg5) = m ((c.tc : Thread Cert.HeadsBwdIdeal.nD Cert.HeadsBwdIdeal.τ).loc Cert.HeadsBwdIdeal.main_arg5)
      ∧ r.2.mem ((c.tc : Thread Cert.HeadsBwdIdeal.nD Cert.HeadsBwdIdeal.τ).loc Cert.HeadsBwdIdeal.main_arg6) = m ((c.tc : Thread Cert.HeadsBwdIdeal.nD Cert.HeadsBwdIdeal.τ).loc Cert.HeadsBwdIdeal.main_arg6))
      ∧ r.2.sem = fun _ => 0)

def quiescent_HeadsBwdIdeal_pre_finite_heads_bwd [hHeadsBwdIdeal : Cert.HeadsBwdIdeal.Facts] [hPre_finite_heads_bwd : Cert.Pre_finite_heads_bwd.Facts] : Prop :=
  ∀ (m : (ℓ : Loc Cert.HeadsBwdIdeal.nD Cert.HeadsBwdIdeal.τ Cert.HeadsBwdIdeal.sig) → Buf (Elt Ideal) ℓ) (g : Dev Cert.HeadsBwdIdeal.nD → PrngReg), Pre_HeadsBwdIdeal_finite_heads_bwd m →
    θ_run (Cert.HeadsBwdIdeal.defs (F := Ideal)) (onTc (τ := Cert.HeadsBwdIdeal.τ) (Cert.HeadsBwdIdeal.main (F := Ideal))) ⟨m, fun _ => 0, g⟩ (fun r => (∀ c : Dev Cert.HeadsBwdIdeal.nD,
      r.2.mem ((c.tc : Thread Cert.HeadsBwdIdeal.nD Cert.HeadsBwdIdeal.τ).loc Cert.HeadsBwdIdeal.main_arg0) = m ((c.tc : Thread Cert.HeadsBwdIdeal.nD Cert.HeadsBwdIdeal.τ).loc Cert.HeadsBwdIdeal.main_arg0)
      ∧ r.2.mem ((c.tc : Thread Cert.HeadsBwdIdeal.nD Cert.HeadsBwdIdeal.τ).loc Cert.HeadsBwdIdeal.main_arg1) = m ((c.tc : Thread Cert.HeadsBwdIdeal.nD Cert.HeadsBwdIdeal.τ).loc Cert.HeadsBwdIdeal.main_arg1)
      ∧ r.2.mem ((c.tc : Thread Cert.HeadsBwdIdeal.nD Cert.HeadsBwdIdeal.τ).loc Cert.HeadsBwdIdeal.main_arg2) = m ((c.tc : Thread Cert.HeadsBwdIdeal.nD Cert.HeadsBwdIdeal.τ).loc Cert.HeadsBwdIdeal.main_arg2)
      ∧ r.2.mem ((c.tc : Thread Cert.HeadsBwdIdeal.nD Cert.HeadsBwdIdeal.τ).loc Cert.HeadsBwdIdeal.main_arg3) = m ((c.tc : Thread Cert.HeadsBwdIdeal.nD Cert.HeadsBwdIdeal.τ).loc Cert.HeadsBwdIdeal.main_arg3)
      ∧ r.2.mem ((c.tc : Thread Cert.HeadsBwdIdeal.nD Cert.HeadsBwdIdeal.τ).loc Cert.HeadsBwdIdeal.main_arg4) = m ((c.tc : Thread Cert.HeadsBwdIdeal.nD Cert.HeadsBwdIdeal.τ).loc Cert.HeadsBwdIdeal.main_arg4)
      ∧ r.2.mem ((c.tc : Thread Cert.HeadsBwdIdeal.nD Cert.HeadsBwdIdeal.τ).loc Cert.HeadsBwdIdeal.main_arg5) = m ((c.tc : Thread Cert.HeadsBwdIdeal.nD Cert.HeadsBwdIdeal.τ).loc Cert.HeadsBwdIdeal.main_arg5)
      ∧ r.2.mem ((c.tc : Thread Cert.HeadsBwdIdeal.nD Cert.HeadsBwdIdeal.τ).loc Cert.HeadsBwdIdeal.main_arg6) = m ((c.tc : Thread Cert.HeadsBwdIdeal.nD Cert.HeadsBwdIdeal.τ).loc Cert.HeadsBwdIdeal.main_arg6))
      ∧ r.2.sem = fun _ => 0)

def quiescent_HeadsBwdRefIdeal [hHeadsBwdRefIdeal : Cert.HeadsBwdRefIdeal.Facts] : Prop :=
  ∀ (m : (ℓ : Loc Cert.HeadsBwdRefIdeal.nD Cert.HeadsBwdRefIdeal.τ Cert.HeadsBwdRefIdeal.sig) → Buf (Elt Ideal) ℓ) (g : Dev Cert.HeadsBwdRefIdeal.nD → PrngReg), Pre_HeadsBwdRefIdeal m →
    θ_run (Cert.HeadsBwdRefIdeal.defs (F := Ideal)) (onTc (τ := Cert.HeadsBwdRefIdeal.τ) (Cert.HeadsBwdRefIdeal.main (F := Ideal))) ⟨m, fun _ => 0, g⟩ (fun r => (∀ c : Dev Cert.HeadsBwdRefIdeal.nD,
      r.2.mem ((c.tc : Thread Cert.HeadsBwdRefIdeal.nD Cert.HeadsBwdRefIdeal.τ).loc Cert.HeadsBwdRefIdeal.main_arg0) = m ((c.tc : Thread Cert.HeadsBwdRefIdeal.nD Cert.HeadsBwdRefIdeal.τ).loc Cert.HeadsBwdRefIdeal.main_arg0)
      ∧ r.2.mem ((c.tc : Thread Cert.HeadsBwdRefIdeal.nD Cert.HeadsBwdRefIdeal.τ).loc Cert.HeadsBwdRefIdeal.main_arg1) = m ((c.tc : Thread Cert.HeadsBwdRefIdeal.nD Cert.HeadsBwdRefIdeal.τ).loc Cert.HeadsBwdRefIdeal.main_arg1)
      ∧ r.2.mem ((c.tc : Thread Cert.HeadsBwdRefIdeal.nD Cert.HeadsBwdRefIdeal.τ).loc Cert.HeadsBwdRefIdeal.main_arg2) = m ((c.tc : Thread Cert.HeadsBwdRefIdeal.nD Cert.HeadsBwdRefIdeal.τ).loc Cert.HeadsBwdRefIdeal.main_arg2)
      ∧ r.2.mem ((c.tc : Thread Cert.HeadsBwdRefIdeal.nD Cert.HeadsBwdRefIdeal.τ).loc Cert.HeadsBwdRefIdeal.main_arg3) = m ((c.tc : Thread Cert.HeadsBwdRefIdeal.nD Cert.HeadsBwdRefIdeal.τ).loc Cert.HeadsBwdRefIdeal.main_arg3)
      ∧ r.2.mem ((c.tc : Thread Cert.HeadsBwdRefIdeal.nD Cert.HeadsBwdRefIdeal.τ).loc Cert.HeadsBwdRefIdeal.main_arg4) = m ((c.tc : Thread Cert.HeadsBwdRefIdeal.nD Cert.HeadsBwdRefIdeal.τ).loc Cert.HeadsBwdRefIdeal.main_arg4)
      ∧ r.2.mem ((c.tc : Thread Cert.HeadsBwdRefIdeal.nD Cert.HeadsBwdRefIdeal.τ).loc Cert.HeadsBwdRefIdeal.main_arg5) = m ((c.tc : Thread Cert.HeadsBwdRefIdeal.nD Cert.HeadsBwdRefIdeal.τ).loc Cert.HeadsBwdRefIdeal.main_arg5)
      ∧ r.2.mem ((c.tc : Thread Cert.HeadsBwdRefIdeal.nD Cert.HeadsBwdRefIdeal.τ).loc Cert.HeadsBwdRefIdeal.main_arg6) = m ((c.tc : Thread Cert.HeadsBwdRefIdeal.nD Cert.HeadsBwdRefIdeal.τ).loc Cert.HeadsBwdRefIdeal.main_arg6))
      ∧ r.2.sem = fun _ => 0)

def quiescent_HeadsBwdRefIdeal_pre_finite_heads_bwd [hHeadsBwdRefIdeal : Cert.HeadsBwdRefIdeal.Facts] [hPre_finite_heads_bwd : Cert.Pre_finite_heads_bwd.Facts] : Prop :=
  ∀ (m : (ℓ : Loc Cert.HeadsBwdRefIdeal.nD Cert.HeadsBwdRefIdeal.τ Cert.HeadsBwdRefIdeal.sig) → Buf (Elt Ideal) ℓ) (g : Dev Cert.HeadsBwdRefIdeal.nD → PrngReg), Pre_HeadsBwdRefIdeal_finite_heads_bwd m →
    θ_run (Cert.HeadsBwdRefIdeal.defs (F := Ideal)) (onTc (τ := Cert.HeadsBwdRefIdeal.τ) (Cert.HeadsBwdRefIdeal.main (F := Ideal))) ⟨m, fun _ => 0, g⟩ (fun r => (∀ c : Dev Cert.HeadsBwdRefIdeal.nD,
      r.2.mem ((c.tc : Thread Cert.HeadsBwdRefIdeal.nD Cert.HeadsBwdRefIdeal.τ).loc Cert.HeadsBwdRefIdeal.main_arg0) = m ((c.tc : Thread Cert.HeadsBwdRefIdeal.nD Cert.HeadsBwdRefIdeal.τ).loc Cert.HeadsBwdRefIdeal.main_arg0)
      ∧ r.2.mem ((c.tc : Thread Cert.HeadsBwdRefIdeal.nD Cert.HeadsBwdRefIdeal.τ).loc Cert.HeadsBwdRefIdeal.main_arg1) = m ((c.tc : Thread Cert.HeadsBwdRefIdeal.nD Cert.HeadsBwdRefIdeal.τ).loc Cert.HeadsBwdRefIdeal.main_arg1)
      ∧ r.2.mem ((c.tc : Thread Cert.HeadsBwdRefIdeal.nD Cert.HeadsBwdRefIdeal.τ).loc Cert.HeadsBwdRefIdeal.main_arg2) = m ((c.tc : Thread Cert.HeadsBwdRefIdeal.nD Cert.HeadsBwdRefIdeal.τ).loc Cert.HeadsBwdRefIdeal.main_arg2)
      ∧ r.2.mem ((c.tc : Thread Cert.HeadsBwdRefIdeal.nD Cert.HeadsBwdRefIdeal.τ).loc Cert.HeadsBwdRefIdeal.main_arg3) = m ((c.tc : Thread Cert.HeadsBwdRefIdeal.nD Cert.HeadsBwdRefIdeal.τ).loc Cert.HeadsBwdRefIdeal.main_arg3)
      ∧ r.2.mem ((c.tc : Thread Cert.HeadsBwdRefIdeal.nD Cert.HeadsBwdRefIdeal.τ).loc Cert.HeadsBwdRefIdeal.main_arg4) = m ((c.tc : Thread Cert.HeadsBwdRefIdeal.nD Cert.HeadsBwdRefIdeal.τ).loc Cert.HeadsBwdRefIdeal.main_arg4)
      ∧ r.2.mem ((c.tc : Thread Cert.HeadsBwdRefIdeal.nD Cert.HeadsBwdRefIdeal.τ).loc Cert.HeadsBwdRefIdeal.main_arg5) = m ((c.tc : Thread Cert.HeadsBwdRefIdeal.nD Cert.HeadsBwdRefIdeal.τ).loc Cert.HeadsBwdRefIdeal.main_arg5)
      ∧ r.2.mem ((c.tc : Thread Cert.HeadsBwdRefIdeal.nD Cert.HeadsBwdRefIdeal.τ).loc Cert.HeadsBwdRefIdeal.main_arg6) = m ((c.tc : Thread Cert.HeadsBwdRefIdeal.nD Cert.HeadsBwdRefIdeal.τ).loc Cert.HeadsBwdRefIdeal.main_arg6))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7)
      ∧ r.2.mem ((c.tc : Thread Cert.InBwd.nD Cert.InBwd.τ).loc Cert.InBwd.main_arg8) = m ((c.tc : Thread Cert.InBwd.nD Cert.InBwd.τ).loc Cert.InBwd.main_arg8)
      ∧ r.2.mem ((c.tc : Thread Cert.InBwd.nD Cert.InBwd.τ).loc Cert.InBwd.main_arg9) = m ((c.tc : Thread Cert.InBwd.nD Cert.InBwd.τ).loc Cert.InBwd.main_arg9))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
      ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9))
      ∧ r.2.sem = fun _ => 0)

def quiescent_InBwdIdeal_pre_finite_in_bwd [hInBwdIdeal : Cert.InBwdIdeal.Facts] [hPre_finite_in_bwd : Cert.Pre_finite_in_bwd.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_finite_in_bwd m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
      ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7)
      ∧ r.2.mem ((c.tc : Thread Cert.InBwdRefIdeal.nD Cert.InBwdRefIdeal.τ).loc Cert.InBwdRefIdeal.main_arg8) = m ((c.tc : Thread Cert.InBwdRefIdeal.nD Cert.InBwdRefIdeal.τ).loc Cert.InBwdRefIdeal.main_arg8)
      ∧ r.2.mem ((c.tc : Thread Cert.InBwdRefIdeal.nD Cert.InBwdRefIdeal.τ).loc Cert.InBwdRefIdeal.main_arg9) = m ((c.tc : Thread Cert.InBwdRefIdeal.nD Cert.InBwdRefIdeal.τ).loc Cert.InBwdRefIdeal.main_arg9))
      ∧ r.2.sem = fun _ => 0)

def quiescent_InBwdRefIdeal_pre_finite_in_bwd [hInBwdRefIdeal : Cert.InBwdRefIdeal.Facts] [hPre_finite_in_bwd : Cert.Pre_finite_in_bwd.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal_finite_in_bwd m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7)
      ∧ r.2.mem ((c.tc : Thread Cert.InBwdRefIdeal.nD Cert.InBwdRefIdeal.τ).loc Cert.InBwdRefIdeal.main_arg8) = m ((c.tc : Thread Cert.InBwdRefIdeal.nD Cert.InBwdRefIdeal.τ).loc Cert.InBwdRefIdeal.main_arg8)
      ∧ r.2.mem ((c.tc : Thread Cert.InBwdRefIdeal.nD Cert.InBwdRefIdeal.τ).loc Cert.InBwdRefIdeal.main_arg9) = m ((c.tc : Thread Cert.InBwdRefIdeal.nD Cert.InBwdRefIdeal.τ).loc Cert.InBwdRefIdeal.main_arg9))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1))
      ∧ r.2.sem = fun _ => 0)

def quiescent_UkvBwd [hUkvBwd : Cert.UkvBwd.Facts] : Prop :=
  ∀ (m : (ℓ : Loc Cert.UkvBwd.nD Cert.UkvBwd.τ Cert.UkvBwd.sig) → Buf (Elt Bits) ℓ) (g : Dev Cert.UkvBwd.nD → PrngReg), Pre_UkvBwd m →
    θ_run (Cert.UkvBwd.defs (F := Bits)) (onTc (τ := Cert.UkvBwd.τ) (Cert.UkvBwd.main (F := Bits))) ⟨m, fun _ => 0, g⟩ (fun r => (∀ c : Dev Cert.UkvBwd.nD,
      r.2.mem ((c.tc : Thread Cert.UkvBwd.nD Cert.UkvBwd.τ).loc Cert.UkvBwd.main_arg0) = m ((c.tc : Thread Cert.UkvBwd.nD Cert.UkvBwd.τ).loc Cert.UkvBwd.main_arg0)
      ∧ r.2.mem ((c.tc : Thread Cert.UkvBwd.nD Cert.UkvBwd.τ).loc Cert.UkvBwd.main_arg1) = m ((c.tc : Thread Cert.UkvBwd.nD Cert.UkvBwd.τ).loc Cert.UkvBwd.main_arg1)
      ∧ r.2.mem ((c.tc : Thread Cert.UkvBwd.nD Cert.UkvBwd.τ).loc Cert.UkvBwd.main_arg2) = m ((c.tc : Thread Cert.UkvBwd.nD Cert.UkvBwd.τ).loc Cert.UkvBwd.main_arg2)
      ∧ r.2.mem ((c.tc : Thread Cert.UkvBwd.nD Cert.UkvBwd.τ).loc Cert.UkvBwd.main_arg3) = m ((c.tc : Thread Cert.UkvBwd.nD Cert.UkvBwd.τ).loc Cert.UkvBwd.main_arg3)
      ∧ r.2.mem ((c.tc : Thread Cert.UkvBwd.nD Cert.UkvBwd.τ).loc Cert.UkvBwd.main_arg4) = m ((c.tc : Thread Cert.UkvBwd.nD Cert.UkvBwd.τ).loc Cert.UkvBwd.main_arg4)
      ∧ r.2.mem ((c.tc : Thread Cert.UkvBwd.nD Cert.UkvBwd.τ).loc Cert.UkvBwd.main_arg5) = m ((c.tc : Thread Cert.UkvBwd.nD Cert.UkvBwd.τ).loc Cert.UkvBwd.main_arg5))
      ∧ r.2.sem = fun _ => 0)

def quiescent_UkvBwdIdeal [hUkvBwdIdeal : Cert.UkvBwdIdeal.Facts] : Prop :=
  ∀ (m : (ℓ : Loc Cert.UkvBwdIdeal.nD Cert.UkvBwdIdeal.τ Cert.UkvBwdIdeal.sig) → Buf (Elt Ideal) ℓ) (g : Dev Cert.UkvBwdIdeal.nD → PrngReg), Pre_UkvBwdIdeal m →
    θ_run (Cert.UkvBwdIdeal.defs (F := Ideal)) (onTc (τ := Cert.UkvBwdIdeal.τ) (Cert.UkvBwdIdeal.main (F := Ideal))) ⟨m, fun _ => 0, g⟩ (fun r => (∀ c : Dev Cert.UkvBwdIdeal.nD,
      r.2.mem ((c.tc : Thread Cert.UkvBwdIdeal.nD Cert.UkvBwdIdeal.τ).loc Cert.UkvBwdIdeal.main_arg0) = m ((c.tc : Thread Cert.UkvBwdIdeal.nD Cert.UkvBwdIdeal.τ).loc Cert.UkvBwdIdeal.main_arg0)
      ∧ r.2.mem ((c.tc : Thread Cert.UkvBwdIdeal.nD Cert.UkvBwdIdeal.τ).loc Cert.UkvBwdIdeal.main_arg1) = m ((c.tc : Thread Cert.UkvBwdIdeal.nD Cert.UkvBwdIdeal.τ).loc Cert.UkvBwdIdeal.main_arg1)
      ∧ r.2.mem ((c.tc : Thread Cert.UkvBwdIdeal.nD Cert.UkvBwdIdeal.τ).loc Cert.UkvBwdIdeal.main_arg2) = m ((c.tc : Thread Cert.UkvBwdIdeal.nD Cert.UkvBwdIdeal.τ).loc Cert.UkvBwdIdeal.main_arg2)
      ∧ r.2.mem ((c.tc : Thread Cert.UkvBwdIdeal.nD Cert.UkvBwdIdeal.τ).loc Cert.UkvBwdIdeal.main_arg3) = m ((c.tc : Thread Cert.UkvBwdIdeal.nD Cert.UkvBwdIdeal.τ).loc Cert.UkvBwdIdeal.main_arg3)
      ∧ r.2.mem ((c.tc : Thread Cert.UkvBwdIdeal.nD Cert.UkvBwdIdeal.τ).loc Cert.UkvBwdIdeal.main_arg4) = m ((c.tc : Thread Cert.UkvBwdIdeal.nD Cert.UkvBwdIdeal.τ).loc Cert.UkvBwdIdeal.main_arg4)
      ∧ r.2.mem ((c.tc : Thread Cert.UkvBwdIdeal.nD Cert.UkvBwdIdeal.τ).loc Cert.UkvBwdIdeal.main_arg5) = m ((c.tc : Thread Cert.UkvBwdIdeal.nD Cert.UkvBwdIdeal.τ).loc Cert.UkvBwdIdeal.main_arg5))
      ∧ r.2.sem = fun _ => 0)

def quiescent_UkvBwdIdeal_pre_finite_ukv_bwd [hUkvBwdIdeal : Cert.UkvBwdIdeal.Facts] [hPre_finite_ukv_bwd : Cert.Pre_finite_ukv_bwd.Facts] : Prop :=
  ∀ (m : (ℓ : Loc Cert.UkvBwdIdeal.nD Cert.UkvBwdIdeal.τ Cert.UkvBwdIdeal.sig) → Buf (Elt Ideal) ℓ) (g : Dev Cert.UkvBwdIdeal.nD → PrngReg), Pre_UkvBwdIdeal_finite_ukv_bwd m →
    θ_run (Cert.UkvBwdIdeal.defs (F := Ideal)) (onTc (τ := Cert.UkvBwdIdeal.τ) (Cert.UkvBwdIdeal.main (F := Ideal))) ⟨m, fun _ => 0, g⟩ (fun r => (∀ c : Dev Cert.UkvBwdIdeal.nD,
      r.2.mem ((c.tc : Thread Cert.UkvBwdIdeal.nD Cert.UkvBwdIdeal.τ).loc Cert.UkvBwdIdeal.main_arg0) = m ((c.tc : Thread Cert.UkvBwdIdeal.nD Cert.UkvBwdIdeal.τ).loc Cert.UkvBwdIdeal.main_arg0)
      ∧ r.2.mem ((c.tc : Thread Cert.UkvBwdIdeal.nD Cert.UkvBwdIdeal.τ).loc Cert.UkvBwdIdeal.main_arg1) = m ((c.tc : Thread Cert.UkvBwdIdeal.nD Cert.UkvBwdIdeal.τ).loc Cert.UkvBwdIdeal.main_arg1)
      ∧ r.2.mem ((c.tc : Thread Cert.UkvBwdIdeal.nD Cert.UkvBwdIdeal.τ).loc Cert.UkvBwdIdeal.main_arg2) = m ((c.tc : Thread Cert.UkvBwdIdeal.nD Cert.UkvBwdIdeal.τ).loc Cert.UkvBwdIdeal.main_arg2)
      ∧ r.2.mem ((c.tc : Thread Cert.UkvBwdIdeal.nD Cert.UkvBwdIdeal.τ).loc Cert.UkvBwdIdeal.main_arg3) = m ((c.tc : Thread Cert.UkvBwdIdeal.nD Cert.UkvBwdIdeal.τ).loc Cert.UkvBwdIdeal.main_arg3)
      ∧ r.2.mem ((c.tc : Thread Cert.UkvBwdIdeal.nD Cert.UkvBwdIdeal.τ).loc Cert.UkvBwdIdeal.main_arg4) = m ((c.tc : Thread Cert.UkvBwdIdeal.nD Cert.UkvBwdIdeal.τ).loc Cert.UkvBwdIdeal.main_arg4)
      ∧ r.2.mem ((c.tc : Thread Cert.UkvBwdIdeal.nD Cert.UkvBwdIdeal.τ).loc Cert.UkvBwdIdeal.main_arg5) = m ((c.tc : Thread Cert.UkvBwdIdeal.nD Cert.UkvBwdIdeal.τ).loc Cert.UkvBwdIdeal.main_arg5))
      ∧ r.2.sem = fun _ => 0)

def quiescent_UkvBwdRefIdeal [hUkvBwdRefIdeal : Cert.UkvBwdRefIdeal.Facts] : Prop :=
  ∀ (m : (ℓ : Loc Cert.UkvBwdRefIdeal.nD Cert.UkvBwdRefIdeal.τ Cert.UkvBwdRefIdeal.sig) → Buf (Elt Ideal) ℓ) (g : Dev Cert.UkvBwdRefIdeal.nD → PrngReg), Pre_UkvBwdRefIdeal m →
    θ_run (Cert.UkvBwdRefIdeal.defs (F := Ideal)) (onTc (τ := Cert.UkvBwdRefIdeal.τ) (Cert.UkvBwdRefIdeal.main (F := Ideal))) ⟨m, fun _ => 0, g⟩ (fun r => (∀ c : Dev Cert.UkvBwdRefIdeal.nD,
      r.2.mem ((c.tc : Thread Cert.UkvBwdRefIdeal.nD Cert.UkvBwdRefIdeal.τ).loc Cert.UkvBwdRefIdeal.main_arg0) = m ((c.tc : Thread Cert.UkvBwdRefIdeal.nD Cert.UkvBwdRefIdeal.τ).loc Cert.UkvBwdRefIdeal.main_arg0)
      ∧ r.2.mem ((c.tc : Thread Cert.UkvBwdRefIdeal.nD Cert.UkvBwdRefIdeal.τ).loc Cert.UkvBwdRefIdeal.main_arg1) = m ((c.tc : Thread Cert.UkvBwdRefIdeal.nD Cert.UkvBwdRefIdeal.τ).loc Cert.UkvBwdRefIdeal.main_arg1)
      ∧ r.2.mem ((c.tc : Thread Cert.UkvBwdRefIdeal.nD Cert.UkvBwdRefIdeal.τ).loc Cert.UkvBwdRefIdeal.main_arg2) = m ((c.tc : Thread Cert.UkvBwdRefIdeal.nD Cert.UkvBwdRefIdeal.τ).loc Cert.UkvBwdRefIdeal.main_arg2)
      ∧ r.2.mem ((c.tc : Thread Cert.UkvBwdRefIdeal.nD Cert.UkvBwdRefIdeal.τ).loc Cert.UkvBwdRefIdeal.main_arg3) = m ((c.tc : Thread Cert.UkvBwdRefIdeal.nD Cert.UkvBwdRefIdeal.τ).loc Cert.UkvBwdRefIdeal.main_arg3)
      ∧ r.2.mem ((c.tc : Thread Cert.UkvBwdRefIdeal.nD Cert.UkvBwdRefIdeal.τ).loc Cert.UkvBwdRefIdeal.main_arg4) = m ((c.tc : Thread Cert.UkvBwdRefIdeal.nD Cert.UkvBwdRefIdeal.τ).loc Cert.UkvBwdRefIdeal.main_arg4)
      ∧ r.2.mem ((c.tc : Thread Cert.UkvBwdRefIdeal.nD Cert.UkvBwdRefIdeal.τ).loc Cert.UkvBwdRefIdeal.main_arg5) = m ((c.tc : Thread Cert.UkvBwdRefIdeal.nD Cert.UkvBwdRefIdeal.τ).loc Cert.UkvBwdRefIdeal.main_arg5))
      ∧ r.2.sem = fun _ => 0)

def quiescent_UkvBwdRefIdeal_pre_finite_ukv_bwd [hUkvBwdRefIdeal : Cert.UkvBwdRefIdeal.Facts] [hPre_finite_ukv_bwd : Cert.Pre_finite_ukv_bwd.Facts] : Prop :=
  ∀ (m : (ℓ : Loc Cert.UkvBwdRefIdeal.nD Cert.UkvBwdRefIdeal.τ Cert.UkvBwdRefIdeal.sig) → Buf (Elt Ideal) ℓ) (g : Dev Cert.UkvBwdRefIdeal.nD → PrngReg), Pre_UkvBwdRefIdeal_finite_ukv_bwd m →
    θ_run (Cert.UkvBwdRefIdeal.defs (F := Ideal)) (onTc (τ := Cert.UkvBwdRefIdeal.τ) (Cert.UkvBwdRefIdeal.main (F := Ideal))) ⟨m, fun _ => 0, g⟩ (fun r => (∀ c : Dev Cert.UkvBwdRefIdeal.nD,
      r.2.mem ((c.tc : Thread Cert.UkvBwdRefIdeal.nD Cert.UkvBwdRefIdeal.τ).loc Cert.UkvBwdRefIdeal.main_arg0) = m ((c.tc : Thread Cert.UkvBwdRefIdeal.nD Cert.UkvBwdRefIdeal.τ).loc Cert.UkvBwdRefIdeal.main_arg0)
      ∧ r.2.mem ((c.tc : Thread Cert.UkvBwdRefIdeal.nD Cert.UkvBwdRefIdeal.τ).loc Cert.UkvBwdRefIdeal.main_arg1) = m ((c.tc : Thread Cert.UkvBwdRefIdeal.nD Cert.UkvBwdRefIdeal.τ).loc Cert.UkvBwdRefIdeal.main_arg1)
      ∧ r.2.mem ((c.tc : Thread Cert.UkvBwdRefIdeal.nD Cert.UkvBwdRefIdeal.τ).loc Cert.UkvBwdRefIdeal.main_arg2) = m ((c.tc : Thread Cert.UkvBwdRefIdeal.nD Cert.UkvBwdRefIdeal.τ).loc Cert.UkvBwdRefIdeal.main_arg2)
      ∧ r.2.mem ((c.tc : Thread Cert.UkvBwdRefIdeal.nD Cert.UkvBwdRefIdeal.τ).loc Cert.UkvBwdRefIdeal.main_arg3) = m ((c.tc : Thread Cert.UkvBwdRefIdeal.nD Cert.UkvBwdRefIdeal.τ).loc Cert.UkvBwdRefIdeal.main_arg3)
      ∧ r.2.mem ((c.tc : Thread Cert.UkvBwdRefIdeal.nD Cert.UkvBwdRefIdeal.τ).loc Cert.UkvBwdRefIdeal.main_arg4) = m ((c.tc : Thread Cert.UkvBwdRefIdeal.nD Cert.UkvBwdRefIdeal.τ).loc Cert.UkvBwdRefIdeal.main_arg4)
      ∧ r.2.mem ((c.tc : Thread Cert.UkvBwdRefIdeal.nD Cert.UkvBwdRefIdeal.τ).loc Cert.UkvBwdRefIdeal.main_arg5) = m ((c.tc : Thread Cert.UkvBwdRefIdeal.nD Cert.UkvBwdRefIdeal.τ).loc Cert.UkvBwdRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v104) = v2 c
          ∧ r.2.mem ((c.tc : Thread Cert.ReferenceIdeal.nD Cert.ReferenceIdeal.τ).loc Cert.ReferenceIdeal.main_v105) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v4_0)) (v1 : (c : Dev Cert.UpIdeal.nD) → Buf (Elt Ideal) ((c.tc : Thread Cert.UpIdeal.nD Cert.UpIdeal.τ).loc Cert.UpIdeal.main_v4_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4_0) = v0 c
          ∧ r.2.mem ((c.tc : Thread Cert.UpIdeal.nD Cert.UpIdeal.τ).loc Cert.UpIdeal.main_v4_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v12) = v0 c
          ∧ r.2.mem ((c.tc : Thread Cert.UpRefIdeal.nD Cert.UpRefIdeal.τ).loc Cert.UpRefIdeal.main_v33) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_UpBwd_UpBwdIdeal : Prop :=
  True

def algebraic_UpBwdIdeal_UpBwdRefIdeal_pre_finite_up_bwd [hUpBwdIdeal : Cert.UpBwdIdeal.Facts] [hUpBwdRefIdeal : Cert.UpBwdRefIdeal.Facts] [hPre_finite_up_bwd : Cert.Pre_finite_up_bwd.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.UpBwdRefIdeal.nD Cert.UpBwdRefIdeal.τ Cert.UpBwdRefIdeal.sig) → Buf (Elt Ideal) ℓ) (g' : Dev Cert.UpBwdRefIdeal.nD → PrngReg), Pre_UpBwdIdeal_finite_up_bwd m →
    (∀ c : Dev Cert.UpBwdIdeal.nD,
      m' ((c.tc : Thread Cert.UpBwdRefIdeal.nD Cert.UpBwdRefIdeal.τ).loc Cert.UpBwdRefIdeal.main_arg0) = m ((c.tc : Thread Cert.UpBwdIdeal.nD Cert.UpBwdIdeal.τ).loc Cert.UpBwdIdeal.main_arg0)
      ∧ m' ((c.tc : Thread Cert.UpBwdRefIdeal.nD Cert.UpBwdRefIdeal.τ).loc Cert.UpBwdRefIdeal.main_arg1) = m ((c.tc : Thread Cert.UpBwdIdeal.nD Cert.UpBwdIdeal.τ).loc Cert.UpBwdIdeal.main_arg1)
      ∧ m' ((c.tc : Thread Cert.UpBwdRefIdeal.nD Cert.UpBwdRefIdeal.τ).loc Cert.UpBwdRefIdeal.main_arg2) = m ((c.tc : Thread Cert.UpBwdIdeal.nD Cert.UpBwdIdeal.τ).loc Cert.UpBwdIdeal.main_arg2)
      ∧ m' ((c.tc : Thread Cert.UpBwdRefIdeal.nD Cert.UpBwdRefIdeal.τ).loc Cert.UpBwdRefIdeal.main_arg3) = m ((c.tc : Thread Cert.UpBwdIdeal.nD Cert.UpBwdIdeal.τ).loc Cert.UpBwdIdeal.main_arg3)
      ∧ m' ((c.tc : Thread Cert.UpBwdRefIdeal.nD Cert.UpBwdRefIdeal.τ).loc Cert.UpBwdRefIdeal.main_arg4) = m ((c.tc : Thread Cert.UpBwdIdeal.nD Cert.UpBwdIdeal.τ).loc Cert.UpBwdIdeal.main_arg4)) →
    ∃ (v0 : (c : Dev Cert.UpBwdIdeal.nD) → Buf (Elt Ideal) ((c.tc : Thread Cert.UpBwdIdeal.nD Cert.UpBwdIdeal.τ).loc Cert.UpBwdIdeal.main_v8_0)) (v1 : (c : Dev Cert.UpBwdIdeal.nD) → Buf (Elt Ideal) ((c.tc : Thread Cert.UpBwdIdeal.nD Cert.UpBwdIdeal.τ).loc Cert.UpBwdIdeal.main_v8_1)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v8_0) = v0 c
          ∧ r.2.mem ((c.tc : Thread Cert.UpBwdIdeal.nD Cert.UpBwdIdeal.τ).loc Cert.UpBwdIdeal.main_v8_1) = v1 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
          ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
          ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
          ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4))
      ∧ θ_run (Cert.UpBwdRefIdeal.defs (F := Ideal)) (onTc (τ := Cert.UpBwdRefIdeal.τ) (Cert.UpBwdRefIdeal.main (F := Ideal))) ⟨m', fun _ => 0, g'⟩ (fun r => ∀ c : Dev Cert.UpBwdRefIdeal.nD,
          r.2.mem ((c.tc : Thread Cert.UpBwdRefIdeal.nD Cert.UpBwdRefIdeal.τ).loc Cert.UpBwdRefIdeal.main_v36) = v0 c
          ∧ r.2.mem ((c.tc : Thread Cert.UpBwdRefIdeal.nD Cert.UpBwdRefIdeal.τ).loc Cert.UpBwdRefIdeal.main_v19) = v1 c
          ∧ r.2.mem ((c.tc : Thread Cert.UpBwdRefIdeal.nD Cert.UpBwdRefIdeal.τ).loc Cert.UpBwdRefIdeal.main_arg0) = m' ((c.tc : Thread Cert.UpBwdRefIdeal.nD Cert.UpBwdRefIdeal.τ).loc Cert.UpBwdRefIdeal.main_arg0)
          ∧ r.2.mem ((c.tc : Thread Cert.UpBwdRefIdeal.nD Cert.UpBwdRefIdeal.τ).loc Cert.UpBwdRefIdeal.main_arg1) = m' ((c.tc : Thread Cert.UpBwdRefIdeal.nD Cert.UpBwdRefIdeal.τ).loc Cert.UpBwdRefIdeal.main_arg1)
          ∧ r.2.mem ((c.tc : Thread Cert.UpBwdRefIdeal.nD Cert.UpBwdRefIdeal.τ).loc Cert.UpBwdRefIdeal.main_arg2) = m' ((c.tc : Thread Cert.UpBwdRefIdeal.nD Cert.UpBwdRefIdeal.τ).loc Cert.UpBwdRefIdeal.main_arg2)
          ∧ r.2.mem ((c.tc : Thread Cert.UpBwdRefIdeal.nD Cert.UpBwdRefIdeal.τ).loc Cert.UpBwdRefIdeal.main_arg3) = m' ((c.tc : Thread Cert.UpBwdRefIdeal.nD Cert.UpBwdRefIdeal.τ).loc Cert.UpBwdRefIdeal.main_arg3)
          ∧ r.2.mem ((c.tc : Thread Cert.UpBwdRefIdeal.nD Cert.UpBwdRefIdeal.τ).loc Cert.UpBwdRefIdeal.main_arg4) = m' ((c.tc : Thread Cert.UpBwdRefIdeal.nD Cert.UpBwdRefIdeal.τ).loc Cert.UpBwdRefIdeal.main_arg4))

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)) →
    ∃ (v0 : (c : Dev Cert.UpWIdeal.nD) → Buf (Elt Ideal) ((c.tc : Thread Cert.UpWIdeal.nD Cert.UpWIdeal.τ).loc Cert.UpWIdeal.main_v5)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v5) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v12) = v0 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1))

def preserves_Heads_HeadsIdeal : Prop :=
  True

def algebraic_HeadsIdeal_HeadsRefIdeal [hHeadsIdeal : Cert.HeadsIdeal.Facts] [hHeadsRefIdeal : Cert.HeadsRefIdeal.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsRefIdeal.nD Cert.HeadsRefIdeal.τ Cert.HeadsRefIdeal.sig) → Buf (Elt Ideal) ℓ) (g' : Dev Cert.HeadsRefIdeal.nD → PrngReg), Pre_HeadsIdeal m →
    (∀ c : Dev Cert.HeadsIdeal.nD,
      m' ((c.tc : Thread Cert.HeadsRefIdeal.nD Cert.HeadsRefIdeal.τ).loc Cert.HeadsRefIdeal.main_arg0) = m ((c.tc : Thread Cert.HeadsIdeal.nD Cert.HeadsIdeal.τ).loc Cert.HeadsIdeal.main_arg0)
      ∧ m' ((c.tc : Thread Cert.HeadsRefIdeal.nD Cert.HeadsRefIdeal.τ).loc Cert.HeadsRefIdeal.main_arg1) = m ((c.tc : Thread Cert.HeadsIdeal.nD Cert.HeadsIdeal.τ).loc Cert.HeadsIdeal.main_arg1)
      ∧ m' ((c.tc : Thread Cert.HeadsRefIdeal.nD Cert.HeadsRefIdeal.τ).loc Cert.HeadsRefIdeal.main_arg2) = m ((c.tc : Thread Cert.HeadsIdeal.nD Cert.HeadsIdeal.τ).loc Cert.HeadsIdeal.main_arg2)
      ∧ m' ((c.tc : Thread Cert.HeadsRefIdeal.nD Cert.HeadsRefIdeal.τ).loc Cert.HeadsRefIdeal.main_arg3) = m ((c.tc : Thread Cert.HeadsIdeal.nD Cert.HeadsIdeal.τ).loc Cert.HeadsIdeal.main_arg3)
      ∧ m' ((c.tc : Thread Cert.HeadsRefIdeal.nD Cert.HeadsRefIdeal.τ).loc Cert.HeadsRefIdeal.main_arg4) = m ((c.tc : Thread Cert.HeadsIdeal.nD Cert.HeadsIdeal.τ).loc Cert.HeadsIdeal.main_arg4)
      ∧ m' ((c.tc : Thread Cert.HeadsRefIdeal.nD Cert.HeadsRefIdeal.τ).loc Cert.HeadsRefIdeal.main_arg5) = m ((c.tc : Thread Cert.HeadsIdeal.nD Cert.HeadsIdeal.τ).loc Cert.HeadsIdeal.main_arg5)) →
    ∃ (v0 : (c : Dev Cert.HeadsIdeal.nD) → Buf (Elt Ideal) ((c.tc : Thread Cert.HeadsIdeal.nD Cert.HeadsIdeal.τ).loc Cert.HeadsIdeal.main_v1_0)) (v1 : (c : Dev Cert.HeadsIdeal.nD) → Buf (Elt Ideal) ((c.tc : Thread Cert.HeadsIdeal.nD Cert.HeadsIdeal.τ).loc Cert.HeadsIdeal.main_v1_1)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v1_0) = v0 c
          ∧ r.2.mem ((c.tc : Thread Cert.HeadsIdeal.nD Cert.HeadsIdeal.τ).loc Cert.HeadsIdeal.main_v1_1) = v1 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
          ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
          ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
          ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5))
      ∧ θ_run (Cert.HeadsRefIdeal.defs (F := Ideal)) (onTc (τ := Cert.HeadsRefIdeal.τ) (Cert.HeadsRefIdeal.main (F := Ideal))) ⟨m', fun _ => 0, g'⟩ (fun r => ∀ c : Dev Cert.HeadsRefIdeal.nD,
          r.2.mem ((c.tc : Thread Cert.HeadsRefIdeal.nD Cert.HeadsRefIdeal.τ).loc Cert.HeadsRefIdeal.main_v25) = v0 c
          ∧ r.2.mem ((c.tc : Thread Cert.HeadsRefIdeal.nD Cert.HeadsRefIdeal.τ).loc Cert.HeadsRefIdeal.main_v27) = v1 c
          ∧ r.2.mem ((c.tc : Thread Cert.HeadsRefIdeal.nD Cert.HeadsRefIdeal.τ).loc Cert.HeadsRefIdeal.main_arg0) = m' ((c.tc : Thread Cert.HeadsRefIdeal.nD Cert.HeadsRefIdeal.τ).loc Cert.HeadsRefIdeal.main_arg0)
          ∧ r.2.mem ((c.tc : Thread Cert.HeadsRefIdeal.nD Cert.HeadsRefIdeal.τ).loc Cert.HeadsRefIdeal.main_arg1) = m' ((c.tc : Thread Cert.HeadsRefIdeal.nD Cert.HeadsRefIdeal.τ).loc Cert.HeadsRefIdeal.main_arg1)
          ∧ r.2.mem ((c.tc : Thread Cert.HeadsRefIdeal.nD Cert.HeadsRefIdeal.τ).loc Cert.HeadsRefIdeal.main_arg2) = m' ((c.tc : Thread Cert.HeadsRefIdeal.nD Cert.HeadsRefIdeal.τ).loc Cert.HeadsRefIdeal.main_arg2)
          ∧ r.2.mem ((c.tc : Thread Cert.HeadsRefIdeal.nD Cert.HeadsRefIdeal.τ).loc Cert.HeadsRefIdeal.main_arg3) = m' ((c.tc : Thread Cert.HeadsRefIdeal.nD Cert.HeadsRefIdeal.τ).loc Cert.HeadsRefIdeal.main_arg3)
          ∧ r.2.mem ((c.tc : Thread Cert.HeadsRefIdeal.nD Cert.HeadsRefIdeal.τ).loc Cert.HeadsRefIdeal.main_arg4) = m' ((c.tc : Thread Cert.HeadsRefIdeal.nD Cert.HeadsRefIdeal.τ).loc Cert.HeadsRefIdeal.main_arg4)
          ∧ r.2.mem ((c.tc : Thread Cert.HeadsRefIdeal.nD Cert.HeadsRefIdeal.τ).loc Cert.HeadsRefIdeal.main_arg5) = m' ((c.tc : Thread Cert.HeadsRefIdeal.nD Cert.HeadsRefIdeal.τ).loc Cert.HeadsRefIdeal.main_arg5))

def preserves_HeadsBwd_HeadsBwdIdeal : Prop :=
  True

def algebraic_HeadsBwdIdeal_HeadsBwdRefIdeal_pre_finite_heads_bwd [hHeadsBwdIdeal : Cert.HeadsBwdIdeal.Facts] [hHeadsBwdRefIdeal : Cert.HeadsBwdRefIdeal.Facts] [hPre_finite_heads_bwd : Cert.Pre_finite_heads_bwd.Facts] : Prop :=
  ∀ (m : (ℓ : Loc Cert.HeadsBwdIdeal.nD Cert.HeadsBwdIdeal.τ Cert.HeadsBwdIdeal.sig) → Buf (Elt Ideal) ℓ) (g : Dev Cert.HeadsBwdIdeal.nD → PrngReg)
    (m' : (ℓ : Loc Cert.HeadsBwdRefIdeal.nD Cert.HeadsBwdRefIdeal.τ Cert.HeadsBwdRefIdeal.sig) → Buf (Elt Ideal) ℓ) (g' : Dev Cert.HeadsBwdRefIdeal.nD → PrngReg), Pre_HeadsBwdIdeal_finite_heads_bwd m →
    (∀ c : Dev Cert.HeadsBwdIdeal.nD,
      m' ((c.tc : Thread Cert.HeadsBwdRefIdeal.nD Cert.HeadsBwdRefIdeal.τ).loc Cert.HeadsBwdRefIdeal.main_arg0) = m ((c.tc : Thread Cert.HeadsBwdIdeal.nD Cert.HeadsBwdIdeal.τ).loc Cert.HeadsBwdIdeal.main_arg0)
      ∧ m' ((c.tc : Thread Cert.HeadsBwdRefIdeal.nD Cert.HeadsBwdRefIdeal.τ).loc Cert.HeadsBwdRefIdeal.main_arg1) = m ((c.tc : Thread Cert.HeadsBwdIdeal.nD Cert.HeadsBwdIdeal.τ).loc Cert.HeadsBwdIdeal.main_arg1)
      ∧ m' ((c.tc : Thread Cert.HeadsBwdRefIdeal.nD Cert.HeadsBwdRefIdeal.τ).loc Cert.HeadsBwdRefIdeal.main_arg2) = m ((c.tc : Thread Cert.HeadsBwdIdeal.nD Cert.HeadsBwdIdeal.τ).loc Cert.HeadsBwdIdeal.main_arg2)
      ∧ m' ((c.tc : Thread Cert.HeadsBwdRefIdeal.nD Cert.HeadsBwdRefIdeal.τ).loc Cert.HeadsBwdRefIdeal.main_arg3) = m ((c.tc : Thread Cert.HeadsBwdIdeal.nD Cert.HeadsBwdIdeal.τ).loc Cert.HeadsBwdIdeal.main_arg3)
      ∧ m' ((c.tc : Thread Cert.HeadsBwdRefIdeal.nD Cert.HeadsBwdRefIdeal.τ).loc Cert.HeadsBwdRefIdeal.main_arg4) = m ((c.tc : Thread Cert.HeadsBwdIdeal.nD Cert.HeadsBwdIdeal.τ).loc Cert.HeadsBwdIdeal.main_arg4)
      ∧ m' ((c.tc : Thread Cert.HeadsBwdRefIdeal.nD Cert.HeadsBwdRefIdeal.τ).loc Cert.HeadsBwdRefIdeal.main_arg5) = m ((c.tc : Thread Cert.HeadsBwdIdeal.nD Cert.HeadsBwdIdeal.τ).loc Cert.HeadsBwdIdeal.main_arg5)
      ∧ m' ((c.tc : Thread Cert.HeadsBwdRefIdeal.nD Cert.HeadsBwdRefIdeal.τ).loc Cert.HeadsBwdRefIdeal.main_arg6) = m ((c.tc : Thread Cert.HeadsBwdIdeal.nD Cert.HeadsBwdIdeal.τ).loc Cert.HeadsBwdIdeal.main_arg6)) →
    ∃ (v0 : (c : Dev Cert.HeadsBwdIdeal.nD) → Buf (Elt Ideal) ((c.tc : Thread Cert.HeadsBwdIdeal.nD Cert.HeadsBwdIdeal.τ).loc Cert.HeadsBwdIdeal.main_v2_0)) (v1 : (c : Dev Cert.HeadsBwdIdeal.nD) → Buf (Elt Ideal) ((c.tc : Thread Cert.HeadsBwdIdeal.nD Cert.HeadsBwdIdeal.τ).loc Cert.HeadsBwdIdeal.main_v2_1)) (v2 : (c : Dev Cert.HeadsBwdIdeal.nD) → Buf (Elt Ideal) ((c.tc : Thread Cert.HeadsBwdIdeal.nD Cert.HeadsBwdIdeal.τ).loc Cert.HeadsBwdIdeal.main_v2_2)) (v3 : (c : Dev Cert.HeadsBwdIdeal.nD) → Buf (Elt Ideal) ((c.tc : Thread Cert.HeadsBwdIdeal.nD Cert.HeadsBwdIdeal.τ).loc Cert.HeadsBwdIdeal.main_v2_3)) (v4 : (c : Dev Cert.HeadsBwdIdeal.nD) → Buf (Elt Ideal) ((c.tc : Thread Cert.HeadsBwdIdeal.nD Cert.HeadsBwdIdeal.τ).loc Cert.HeadsBwdIdeal.main_v2_4)),
      θ_run (Cert.HeadsBwdIdeal.defs (F := Ideal)) (onTc (τ := Cert.HeadsBwdIdeal.τ) (Cert.HeadsBwdIdeal.main (F := Ideal))) ⟨m, fun _ => 0, g⟩ (fun r => ∀ c : Dev Cert.HeadsBwdIdeal.nD,
          r.2.mem ((c.tc : Thread Cert.HeadsBwdIdeal.nD Cert.HeadsBwdIdeal.τ).loc Cert.HeadsBwdIdeal.main_v2_0) = v0 c
          ∧ r.2.mem ((c.tc : Thread Cert.HeadsBwdIdeal.nD Cert.HeadsBwdIdeal.τ).loc Cert.HeadsBwdIdeal.main_v2_1) = v1 c
          ∧ r.2.mem ((c.tc : Thread Cert.HeadsBwdIdeal.nD Cert.HeadsBwdIdeal.τ).loc Cert.HeadsBwdIdeal.main_v2_2) = v2 c
          ∧ r.2.mem ((c.tc : Thread Cert.HeadsBwdIdeal.nD Cert.HeadsBwdIdeal.τ).loc Cert.HeadsBwdIdeal.main_v2_3) = v3 c
          ∧ r.2.mem ((c.tc : Thread Cert.HeadsBwdIdeal.nD Cert.HeadsBwdIdeal.τ).loc Cert.HeadsBwdIdeal.main_v2_4) = v4 c
          ∧ r.2.mem ((c.tc : Thread Cert.HeadsBwdIdeal.nD Cert.HeadsBwdIdeal.τ).loc Cert.HeadsBwdIdeal.main_arg0) = m ((c.tc : Thread Cert.HeadsBwdIdeal.nD Cert.HeadsBwdIdeal.τ).loc Cert.HeadsBwdIdeal.main_arg0)
          ∧ r.2.mem ((c.tc : Thread Cert.HeadsBwdIdeal.nD Cert.HeadsBwdIdeal.τ).loc Cert.HeadsBwdIdeal.main_arg1) = m ((c.tc : Thread Cert.HeadsBwdIdeal.nD Cert.HeadsBwdIdeal.τ).loc Cert.HeadsBwdIdeal.main_arg1)
          ∧ r.2.mem ((c.tc : Thread Cert.HeadsBwdIdeal.nD Cert.HeadsBwdIdeal.τ).loc Cert.HeadsBwdIdeal.main_arg2) = m ((c.tc : Thread Cert.HeadsBwdIdeal.nD Cert.HeadsBwdIdeal.τ).loc Cert.HeadsBwdIdeal.main_arg2)
          ∧ r.2.mem ((c.tc : Thread Cert.HeadsBwdIdeal.nD Cert.HeadsBwdIdeal.τ).loc Cert.HeadsBwdIdeal.main_arg3) = m ((c.tc : Thread Cert.HeadsBwdIdeal.nD Cert.HeadsBwdIdeal.τ).loc Cert.HeadsBwdIdeal.main_arg3)
          ∧ r.2.mem ((c.tc : Thread Cert.HeadsBwdIdeal.nD Cert.HeadsBwdIdeal.τ).loc Cert.HeadsBwdIdeal.main_arg4) = m ((c.tc : Thread Cert.HeadsBwdIdeal.nD Cert.HeadsBwdIdeal.τ).loc Cert.HeadsBwdIdeal.main_arg4)
          ∧ r.2.mem ((c.tc : Thread Cert.HeadsBwdIdeal.nD Cert.HeadsBwdIdeal.τ).loc Cert.HeadsBwdIdeal.main_arg5) = m ((c.tc : Thread Cert.HeadsBwdIdeal.nD Cert.HeadsBwdIdeal.τ).loc Cert.HeadsBwdIdeal.main_arg5)
          ∧ r.2.mem ((c.tc : Thread Cert.HeadsBwdIdeal.nD Cert.HeadsBwdIdeal.τ).loc Cert.HeadsBwdIdeal.main_arg6) = m ((c.tc : Thread Cert.HeadsBwdIdeal.nD Cert.HeadsBwdIdeal.τ).loc Cert.HeadsBwdIdeal.main_arg6))
      ∧ θ_run (Cert.HeadsBwdRefIdeal.defs (F := Ideal)) (onTc (τ := Cert.HeadsBwdRefIdeal.τ) (Cert.HeadsBwdRefIdeal.main (F := Ideal))) ⟨m', fun _ => 0, g'⟩ (fun r => ∀ c : Dev Cert.HeadsBwdRefIdeal.nD,
          r.2.mem ((c.tc : Thread Cert.HeadsBwdRefIdeal.nD Cert.HeadsBwdRefIdeal.τ).loc Cert.HeadsBwdRefIdeal.main_v72) = v0 c
          ∧ r.2.mem ((c.tc : Thread Cert.HeadsBwdRefIdeal.nD Cert.HeadsBwdRefIdeal.τ).loc Cert.HeadsBwdRefIdeal.main_v53) = v1 c
          ∧ r.2.mem ((c.tc : Thread Cert.HeadsBwdRefIdeal.nD Cert.HeadsBwdRefIdeal.τ).loc Cert.HeadsBwdRefIdeal.main_v56) = v2 c
          ∧ r.2.mem ((c.tc : Thread Cert.HeadsBwdRefIdeal.nD Cert.HeadsBwdRefIdeal.τ).loc Cert.HeadsBwdRefIdeal.main_v37) = v3 c
          ∧ r.2.mem ((c.tc : Thread Cert.HeadsBwdRefIdeal.nD Cert.HeadsBwdRefIdeal.τ).loc Cert.HeadsBwdRefIdeal.main_v76) = v4 c
          ∧ r.2.mem ((c.tc : Thread Cert.HeadsBwdRefIdeal.nD Cert.HeadsBwdRefIdeal.τ).loc Cert.HeadsBwdRefIdeal.main_arg0) = m' ((c.tc : Thread Cert.HeadsBwdRefIdeal.nD Cert.HeadsBwdRefIdeal.τ).loc Cert.HeadsBwdRefIdeal.main_arg0)
          ∧ r.2.mem ((c.tc : Thread Cert.HeadsBwdRefIdeal.nD Cert.HeadsBwdRefIdeal.τ).loc Cert.HeadsBwdRefIdeal.main_arg1) = m' ((c.tc : Thread Cert.HeadsBwdRefIdeal.nD Cert.HeadsBwdRefIdeal.τ).loc Cert.HeadsBwdRefIdeal.main_arg1)
          ∧ r.2.mem ((c.tc : Thread Cert.HeadsBwdRefIdeal.nD Cert.HeadsBwdRefIdeal.τ).loc Cert.HeadsBwdRefIdeal.main_arg2) = m' ((c.tc : Thread Cert.HeadsBwdRefIdeal.nD Cert.HeadsBwdRefIdeal.τ).loc Cert.HeadsBwdRefIdeal.main_arg2)
          ∧ r.2.mem ((c.tc : Thread Cert.HeadsBwdRefIdeal.nD Cert.HeadsBwdRefIdeal.τ).loc Cert.HeadsBwdRefIdeal.main_arg3) = m' ((c.tc : Thread Cert.HeadsBwdRefIdeal.nD Cert.HeadsBwdRefIdeal.τ).loc Cert.HeadsBwdRefIdeal.main_arg3)
          ∧ r.2.mem ((c.tc : Thread Cert.HeadsBwdRefIdeal.nD Cert.HeadsBwdRefIdeal.τ).loc Cert.HeadsBwdRefIdeal.main_arg4) = m' ((c.tc : Thread Cert.HeadsBwdRefIdeal.nD Cert.HeadsBwdRefIdeal.τ).loc Cert.HeadsBwdRefIdeal.main_arg4)
          ∧ r.2.mem ((c.tc : Thread Cert.HeadsBwdRefIdeal.nD Cert.HeadsBwdRefIdeal.τ).loc Cert.HeadsBwdRefIdeal.main_arg5) = m' ((c.tc : Thread Cert.HeadsBwdRefIdeal.nD Cert.HeadsBwdRefIdeal.τ).loc Cert.HeadsBwdRefIdeal.main_arg5)
          ∧ r.2.mem ((c.tc : Thread Cert.HeadsBwdRefIdeal.nD Cert.HeadsBwdRefIdeal.τ).loc Cert.HeadsBwdRefIdeal.main_arg6) = m' ((c.tc : Thread Cert.HeadsBwdRefIdeal.nD Cert.HeadsBwdRefIdeal.τ).loc Cert.HeadsBwdRefIdeal.main_arg6))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v1_0)) (v1 : (c : Dev Cert.InIdeal.nD) → Buf (Elt Ideal) ((c.tc : Thread Cert.InIdeal.nD Cert.InIdeal.τ).loc Cert.InIdeal.main_v1_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v1_0) = v0 c
          ∧ r.2.mem ((c.tc : Thread Cert.InIdeal.nD Cert.InIdeal.τ).loc Cert.InIdeal.main_v1_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v12) = v0 c
          ∧ r.2.mem ((c.tc : Thread Cert.InRefIdeal.nD Cert.InRefIdeal.τ).loc Cert.InRefIdeal.main_v14) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_InBwd_InBwdIdeal : Prop :=
  True

def algebraic_InBwdIdeal_InBwdRefIdeal_pre_finite_in_bwd [hInBwdIdeal : Cert.InBwdIdeal.Facts] [hInBwdRefIdeal : Cert.InBwdRefIdeal.Facts] [hPre_finite_in_bwd : Cert.Pre_finite_in_bwd.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal_finite_in_bwd m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)
      ∧ m' ((c.tc : Thread Cert.InBwdRefIdeal.nD Cert.InBwdRefIdeal.τ).loc Cert.InBwdRefIdeal.main_arg6) = m ((c.tc : Thread Cert.InBwdIdeal.nD Cert.InBwdIdeal.τ).loc Cert.InBwdIdeal.main_arg6)
      ∧ m' ((c.tc : Thread Cert.InBwdRefIdeal.nD Cert.InBwdRefIdeal.τ).loc Cert.InBwdRefIdeal.main_arg7) = m ((c.tc : Thread Cert.InBwdIdeal.nD Cert.InBwdIdeal.τ).loc Cert.InBwdIdeal.main_arg7)
      ∧ m' ((c.tc : Thread Cert.InBwdRefIdeal.nD Cert.InBwdRefIdeal.τ).loc Cert.InBwdRefIdeal.main_arg8) = m ((c.tc : Thread Cert.InBwdIdeal.nD Cert.InBwdIdeal.τ).loc Cert.InBwdIdeal.main_arg8)
      ∧ m' ((c.tc : Thread Cert.InBwdRefIdeal.nD Cert.InBwdRefIdeal.τ).loc Cert.InBwdRefIdeal.main_arg9) = m ((c.tc : Thread Cert.InBwdIdeal.nD Cert.InBwdIdeal.τ).loc Cert.InBwdIdeal.main_arg9)) →
    ∃ (v0 : (c : Dev Cert.InBwdIdeal.nD) → Buf (Elt Ideal) ((c.tc : Thread Cert.InBwdIdeal.nD Cert.InBwdIdeal.τ).loc Cert.InBwdIdeal.main_v7_0)) (v1 : (c : Dev Cert.InBwdIdeal.nD) → Buf (Elt Ideal) ((c.tc : Thread Cert.InBwdIdeal.nD Cert.InBwdIdeal.τ).loc Cert.InBwdIdeal.main_v7_1)) (v2 : (c : Dev Cert.InBwdIdeal.nD) → Buf (Elt Ideal) ((c.tc : Thread Cert.InBwdIdeal.nD Cert.InBwdIdeal.τ).loc Cert.InBwdIdeal.main_v7_2)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v7_0) = v0 c
          ∧ r.2.mem ((c.tc : Thread Cert.InBwdIdeal.nD Cert.InBwdIdeal.τ).loc Cert.InBwdIdeal.main_v7_1) = v1 c
          ∧ r.2.mem ((c.tc : Thread Cert.InBwdIdeal.nD Cert.InBwdIdeal.τ).loc Cert.InBwdIdeal.main_v7_2) = v2 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
          ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
          ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v38) = v0 c
          ∧ r.2.mem ((c.tc : Thread Cert.InBwdRefIdeal.nD Cert.InBwdRefIdeal.τ).loc Cert.InBwdRefIdeal.main_v39) = v1 c
          ∧ r.2.mem ((c.tc : Thread Cert.InBwdRefIdeal.nD Cert.InBwdRefIdeal.τ).loc Cert.InBwdRefIdeal.main_v21) = v2 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5)
          ∧ r.2.mem ((c.tc : Thread Cert.InBwdRefIdeal.nD Cert.InBwdRefIdeal.τ).loc Cert.InBwdRefIdeal.main_arg6) = m' ((c.tc : Thread Cert.InBwdRefIdeal.nD Cert.InBwdRefIdeal.τ).loc Cert.InBwdRefIdeal.main_arg6)
          ∧ r.2.mem ((c.tc : Thread Cert.InBwdRefIdeal.nD Cert.InBwdRefIdeal.τ).loc Cert.InBwdRefIdeal.main_arg7) = m' ((c.tc : Thread Cert.InBwdRefIdeal.nD Cert.InBwdRefIdeal.τ).loc Cert.InBwdRefIdeal.main_arg7)
          ∧ r.2.mem ((c.tc : Thread Cert.InBwdRefIdeal.nD Cert.InBwdRefIdeal.τ).loc Cert.InBwdRefIdeal.main_arg8) = m' ((c.tc : Thread Cert.InBwdRefIdeal.nD Cert.InBwdRefIdeal.τ).loc Cert.InBwdRefIdeal.main_arg8)
          ∧ r.2.mem ((c.tc : Thread Cert.InBwdRefIdeal.nD Cert.InBwdRefIdeal.τ).loc Cert.InBwdRefIdeal.main_arg9) = m' ((c.tc : Thread Cert.InBwdRefIdeal.nD Cert.InBwdRefIdeal.τ).loc Cert.InBwdRefIdeal.main_arg9))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)) →
    ∃ (v0 : (c : Dev Cert.InWIdeal.nD) → Buf (Elt Ideal) ((c.tc : Thread Cert.InWIdeal.nD Cert.InWIdeal.τ).loc Cert.InWIdeal.main_v2)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v2) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v5) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1))

def preserves_UkvBwd_UkvBwdIdeal : Prop :=
  True

def algebraic_UkvBwdIdeal_UkvBwdRefIdeal_pre_finite_ukv_bwd [hUkvBwdIdeal : Cert.UkvBwdIdeal.Facts] [hUkvBwdRefIdeal : Cert.UkvBwdRefIdeal.Facts] [hPre_finite_ukv_bwd : Cert.Pre_finite_ukv_bwd.Facts] : Prop :=
  ∀ (m : (ℓ : Loc Cert.UkvBwdIdeal.nD Cert.UkvBwdIdeal.τ Cert.UkvBwdIdeal.sig) → Buf (Elt Ideal) ℓ) (g : Dev Cert.UkvBwdIdeal.nD → PrngReg)
    (m' : (ℓ : Loc Cert.UkvBwdRefIdeal.nD Cert.UkvBwdRefIdeal.τ Cert.UkvBwdRefIdeal.sig) → Buf (Elt Ideal) ℓ) (g' : Dev Cert.UkvBwdRefIdeal.nD → PrngReg), Pre_UkvBwdIdeal_finite_ukv_bwd m →
    (∀ c : Dev Cert.UkvBwdIdeal.nD,
      m' ((c.tc : Thread Cert.UkvBwdRefIdeal.nD Cert.UkvBwdRefIdeal.τ).loc Cert.UkvBwdRefIdeal.main_arg0) = m ((c.tc : Thread Cert.UkvBwdIdeal.nD Cert.UkvBwdIdeal.τ).loc Cert.UkvBwdIdeal.main_arg0)
      ∧ m' ((c.tc : Thread Cert.UkvBwdRefIdeal.nD Cert.UkvBwdRefIdeal.τ).loc Cert.UkvBwdRefIdeal.main_arg1) = m ((c.tc : Thread Cert.UkvBwdIdeal.nD Cert.UkvBwdIdeal.τ).loc Cert.UkvBwdIdeal.main_arg1)
      ∧ m' ((c.tc : Thread Cert.UkvBwdRefIdeal.nD Cert.UkvBwdRefIdeal.τ).loc Cert.UkvBwdRefIdeal.main_arg2) = m ((c.tc : Thread Cert.UkvBwdIdeal.nD Cert.UkvBwdIdeal.τ).loc Cert.UkvBwdIdeal.main_arg2)
      ∧ m' ((c.tc : Thread Cert.UkvBwdRefIdeal.nD Cert.UkvBwdRefIdeal.τ).loc Cert.UkvBwdRefIdeal.main_arg3) = m ((c.tc : Thread Cert.UkvBwdIdeal.nD Cert.UkvBwdIdeal.τ).loc Cert.UkvBwdIdeal.main_arg3)
      ∧ m' ((c.tc : Thread Cert.UkvBwdRefIdeal.nD Cert.UkvBwdRefIdeal.τ).loc Cert.UkvBwdRefIdeal.main_arg4) = m ((c.tc : Thread Cert.UkvBwdIdeal.nD Cert.UkvBwdIdeal.τ).loc Cert.UkvBwdIdeal.main_arg4)
      ∧ m' ((c.tc : Thread Cert.UkvBwdRefIdeal.nD Cert.UkvBwdRefIdeal.τ).loc Cert.UkvBwdRefIdeal.main_arg5) = m ((c.tc : Thread Cert.UkvBwdIdeal.nD Cert.UkvBwdIdeal.τ).loc Cert.UkvBwdIdeal.main_arg5)) →
    ∃ (v0 : (c : Dev Cert.UkvBwdIdeal.nD) → Buf (Elt Ideal) ((c.tc : Thread Cert.UkvBwdIdeal.nD Cert.UkvBwdIdeal.τ).loc Cert.UkvBwdIdeal.main_v4_0)) (v1 : (c : Dev Cert.UkvBwdIdeal.nD) → Buf (Elt Ideal) ((c.tc : Thread Cert.UkvBwdIdeal.nD Cert.UkvBwdIdeal.τ).loc Cert.UkvBwdIdeal.main_v4_1)) (v2 : (c : Dev Cert.UkvBwdIdeal.nD) → Buf (Elt Ideal) ((c.tc : Thread Cert.UkvBwdIdeal.nD Cert.UkvBwdIdeal.τ).loc Cert.UkvBwdIdeal.main_v4_2)),
      θ_run (Cert.UkvBwdIdeal.defs (F := Ideal)) (onTc (τ := Cert.UkvBwdIdeal.τ) (Cert.UkvBwdIdeal.main (F := Ideal))) ⟨m, fun _ => 0, g⟩ (fun r => ∀ c : Dev Cert.UkvBwdIdeal.nD,
          r.2.mem ((c.tc : Thread Cert.UkvBwdIdeal.nD Cert.UkvBwdIdeal.τ).loc Cert.UkvBwdIdeal.main_v4_0) = v0 c
          ∧ r.2.mem ((c.tc : Thread Cert.UkvBwdIdeal.nD Cert.UkvBwdIdeal.τ).loc Cert.UkvBwdIdeal.main_v4_1) = v1 c
          ∧ r.2.mem ((c.tc : Thread Cert.UkvBwdIdeal.nD Cert.UkvBwdIdeal.τ).loc Cert.UkvBwdIdeal.main_v4_2) = v2 c
          ∧ r.2.mem ((c.tc : Thread Cert.UkvBwdIdeal.nD Cert.UkvBwdIdeal.τ).loc Cert.UkvBwdIdeal.main_arg0) = m ((c.tc : Thread Cert.UkvBwdIdeal.nD Cert.UkvBwdIdeal.τ).loc Cert.UkvBwdIdeal.main_arg0)
          ∧ r.2.mem ((c.tc : Thread Cert.UkvBwdIdeal.nD Cert.UkvBwdIdeal.τ).loc Cert.UkvBwdIdeal.main_arg1) = m ((c.tc : Thread Cert.UkvBwdIdeal.nD Cert.UkvBwdIdeal.τ).loc Cert.UkvBwdIdeal.main_arg1)
          ∧ r.2.mem ((c.tc : Thread Cert.UkvBwdIdeal.nD Cert.UkvBwdIdeal.τ).loc Cert.UkvBwdIdeal.main_arg2) = m ((c.tc : Thread Cert.UkvBwdIdeal.nD Cert.UkvBwdIdeal.τ).loc Cert.UkvBwdIdeal.main_arg2)
          ∧ r.2.mem ((c.tc : Thread Cert.UkvBwdIdeal.nD Cert.UkvBwdIdeal.τ).loc Cert.UkvBwdIdeal.main_arg3) = m ((c.tc : Thread Cert.UkvBwdIdeal.nD Cert.UkvBwdIdeal.τ).loc Cert.UkvBwdIdeal.main_arg3)
          ∧ r.2.mem ((c.tc : Thread Cert.UkvBwdIdeal.nD Cert.UkvBwdIdeal.τ).loc Cert.UkvBwdIdeal.main_arg4) = m ((c.tc : Thread Cert.UkvBwdIdeal.nD Cert.UkvBwdIdeal.τ).loc Cert.UkvBwdIdeal.main_arg4)
          ∧ r.2.mem ((c.tc : Thread Cert.UkvBwdIdeal.nD Cert.UkvBwdIdeal.τ).loc Cert.UkvBwdIdeal.main_arg5) = m ((c.tc : Thread Cert.UkvBwdIdeal.nD Cert.UkvBwdIdeal.τ).loc Cert.UkvBwdIdeal.main_arg5))
      ∧ θ_run (Cert.UkvBwdRefIdeal.defs (F := Ideal)) (onTc (τ := Cert.UkvBwdRefIdeal.τ) (Cert.UkvBwdRefIdeal.main (F := Ideal))) ⟨m', fun _ => 0, g'⟩ (fun r => ∀ c : Dev Cert.UkvBwdRefIdeal.nD,
          r.2.mem ((c.tc : Thread Cert.UkvBwdRefIdeal.nD Cert.UkvBwdRefIdeal.τ).loc Cert.UkvBwdRefIdeal.main_v3) = v0 c
          ∧ r.2.mem ((c.tc : Thread Cert.UkvBwdRefIdeal.nD Cert.UkvBwdRefIdeal.τ).loc Cert.UkvBwdRefIdeal.main_v41) = v1 c
          ∧ r.2.mem ((c.tc : Thread Cert.UkvBwdRefIdeal.nD Cert.UkvBwdRefIdeal.τ).loc Cert.UkvBwdRefIdeal.main_v24) = v2 c
          ∧ r.2.mem ((c.tc : Thread Cert.UkvBwdRefIdeal.nD Cert.UkvBwdRefIdeal.τ).loc Cert.UkvBwdRefIdeal.main_arg0) = m' ((c.tc : Thread Cert.UkvBwdRefIdeal.nD Cert.UkvBwdRefIdeal.τ).loc Cert.UkvBwdRefIdeal.main_arg0)
          ∧ r.2.mem ((c.tc : Thread Cert.UkvBwdRefIdeal.nD Cert.UkvBwdRefIdeal.τ).loc Cert.UkvBwdRefIdeal.main_arg1) = m' ((c.tc : Thread Cert.UkvBwdRefIdeal.nD Cert.UkvBwdRefIdeal.τ).loc Cert.UkvBwdRefIdeal.main_arg1)
          ∧ r.2.mem ((c.tc : Thread Cert.UkvBwdRefIdeal.nD Cert.UkvBwdRefIdeal.τ).loc Cert.UkvBwdRefIdeal.main_arg2) = m' ((c.tc : Thread Cert.UkvBwdRefIdeal.nD Cert.UkvBwdRefIdeal.τ).loc Cert.UkvBwdRefIdeal.main_arg2)
          ∧ r.2.mem ((c.tc : Thread Cert.UkvBwdRefIdeal.nD Cert.UkvBwdRefIdeal.τ).loc Cert.UkvBwdRefIdeal.main_arg3) = m' ((c.tc : Thread Cert.UkvBwdRefIdeal.nD Cert.UkvBwdRefIdeal.τ).loc Cert.UkvBwdRefIdeal.main_arg3)
          ∧ r.2.mem ((c.tc : Thread Cert.UkvBwdRefIdeal.nD Cert.UkvBwdRefIdeal.τ).loc Cert.UkvBwdRefIdeal.main_arg4) = m' ((c.tc : Thread Cert.UkvBwdRefIdeal.nD Cert.UkvBwdRefIdeal.τ).loc Cert.UkvBwdRefIdeal.main_arg4)
          ∧ r.2.mem ((c.tc : Thread Cert.UkvBwdRefIdeal.nD Cert.UkvBwdRefIdeal.τ).loc Cert.UkvBwdRefIdeal.main_arg5) = m' ((c.tc : Thread Cert.UkvBwdRefIdeal.nD Cert.UkvBwdRefIdeal.τ).loc Cert.UkvBwdRefIdeal.main_arg5))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)) (v2 : (c : Dev Cert.LossIdeal.nD) → Buf (Elt Ideal) ((c.tc : Thread Cert.LossIdeal.nD Cert.LossIdeal.τ).loc Cert.LossIdeal.main_v2_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_v2_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v34) = v1 c
          ∧ r.2.mem ((c.tc : Thread Cert.LossRefIdeal.nD Cert.LossRefIdeal.τ).loc Cert.LossRefIdeal.main_v51) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hUpBwd : Cert.UpBwd.Facts) (hUpBwdIdeal : Cert.UpBwdIdeal.Facts) (hUpBwdRefIdeal : Cert.UpBwdRefIdeal.Facts) (hUpW : Cert.UpW.Facts) (hUpWIdeal : Cert.UpWIdeal.Facts) (hUpWRefIdeal : Cert.UpWRefIdeal.Facts) (hHeads : Cert.Heads.Facts) (hHeadsIdeal : Cert.HeadsIdeal.Facts) (hHeadsRefIdeal : Cert.HeadsRefIdeal.Facts) (hHeadsBwd : Cert.HeadsBwd.Facts) (hHeadsBwdIdeal : Cert.HeadsBwdIdeal.Facts) (hHeadsBwdRefIdeal : Cert.HeadsBwdRefIdeal.Facts) (hIn : Cert.In.Facts) (hInIdeal : Cert.InIdeal.Facts) (hInRefIdeal : Cert.InRefIdeal.Facts) (hInBwd : Cert.InBwd.Facts) (hInBwdIdeal : Cert.InBwdIdeal.Facts) (hInBwdRefIdeal : Cert.InBwdRefIdeal.Facts) (hInW : Cert.InW.Facts) (hInWIdeal : Cert.InWIdeal.Facts) (hInWRefIdeal : Cert.InWRefIdeal.Facts) (hUkvBwd : Cert.UkvBwd.Facts) (hUkvBwdIdeal : Cert.UkvBwdIdeal.Facts) (hUkvBwdRefIdeal : Cert.UkvBwdRefIdeal.Facts) (hLoss : Cert.Loss.Facts) (hLossIdeal : Cert.LossIdeal.Facts) (hLossRefIdeal : Cert.LossRefIdeal.Facts) (hPre_all_finite : Cert.Pre_all_finite.Facts) (hPre_finite_up_bwd : Cert.Pre_finite_up_bwd.Facts) (hPre_finite_heads_bwd : Cert.Pre_finite_heads_bwd.Facts) (hPre_finite_in_bwd : Cert.Pre_finite_in_bwd.Facts) (hPre_finite_ukv_bwd : Cert.Pre_finite_ukv_bwd.Facts) (hPre_finite_loss : Cert.Pre_finite_loss.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Up (hUp := hUp)
    ∧ quiescent_UpIdeal (hUpIdeal := hUpIdeal)
    ∧ quiescent_UpRefIdeal (hUpRefIdeal := hUpRefIdeal)
    ∧ quiescent_UpBwd (hUpBwd := hUpBwd)
    ∧ quiescent_UpBwdIdeal (hUpBwdIdeal := hUpBwdIdeal)
    ∧ quiescent_UpBwdIdeal_pre_finite_up_bwd (hUpBwdIdeal := hUpBwdIdeal) (hPre_finite_up_bwd := hPre_finite_up_bwd)
    ∧ quiescent_UpBwdRefIdeal (hUpBwdRefIdeal := hUpBwdRefIdeal)
    ∧ quiescent_UpBwdRefIdeal_pre_finite_up_bwd (hUpBwdRefIdeal := hUpBwdRefIdeal) (hPre_finite_up_bwd := hPre_finite_up_bwd)
    ∧ quiescent_UpW (hUpW := hUpW)
    ∧ quiescent_UpWIdeal (hUpWIdeal := hUpWIdeal)
    ∧ quiescent_UpWRefIdeal (hUpWRefIdeal := hUpWRefIdeal)
    ∧ quiescent_Heads (hHeads := hHeads)
    ∧ quiescent_HeadsIdeal (hHeadsIdeal := hHeadsIdeal)
    ∧ quiescent_HeadsRefIdeal (hHeadsRefIdeal := hHeadsRefIdeal)
    ∧ quiescent_HeadsBwd (hHeadsBwd := hHeadsBwd)
    ∧ quiescent_HeadsBwdIdeal (hHeadsBwdIdeal := hHeadsBwdIdeal)
    ∧ quiescent_HeadsBwdIdeal_pre_finite_heads_bwd (hHeadsBwdIdeal := hHeadsBwdIdeal) (hPre_finite_heads_bwd := hPre_finite_heads_bwd)
    ∧ quiescent_HeadsBwdRefIdeal (hHeadsBwdRefIdeal := hHeadsBwdRefIdeal)
    ∧ quiescent_HeadsBwdRefIdeal_pre_finite_heads_bwd (hHeadsBwdRefIdeal := hHeadsBwdRefIdeal) (hPre_finite_heads_bwd := hPre_finite_heads_bwd)
    ∧ quiescent_In (hIn := hIn)
    ∧ quiescent_InIdeal (hInIdeal := hInIdeal)
    ∧ quiescent_InRefIdeal (hInRefIdeal := hInRefIdeal)
    ∧ quiescent_InBwd (hInBwd := hInBwd)
    ∧ quiescent_InBwdIdeal (hInBwdIdeal := hInBwdIdeal)
    ∧ quiescent_InBwdIdeal_pre_finite_in_bwd (hInBwdIdeal := hInBwdIdeal) (hPre_finite_in_bwd := hPre_finite_in_bwd)
    ∧ quiescent_InBwdRefIdeal (hInBwdRefIdeal := hInBwdRefIdeal)
    ∧ quiescent_InBwdRefIdeal_pre_finite_in_bwd (hInBwdRefIdeal := hInBwdRefIdeal) (hPre_finite_in_bwd := hPre_finite_in_bwd)
    ∧ quiescent_InW (hInW := hInW)
    ∧ quiescent_InWIdeal (hInWIdeal := hInWIdeal)
    ∧ quiescent_InWRefIdeal (hInWRefIdeal := hInWRefIdeal)
    ∧ quiescent_UkvBwd (hUkvBwd := hUkvBwd)
    ∧ quiescent_UkvBwdIdeal (hUkvBwdIdeal := hUkvBwdIdeal)
    ∧ quiescent_UkvBwdIdeal_pre_finite_ukv_bwd (hUkvBwdIdeal := hUkvBwdIdeal) (hPre_finite_ukv_bwd := hPre_finite_ukv_bwd)
    ∧ quiescent_UkvBwdRefIdeal (hUkvBwdRefIdeal := hUkvBwdRefIdeal)
    ∧ quiescent_UkvBwdRefIdeal_pre_finite_ukv_bwd (hUkvBwdRefIdeal := hUkvBwdRefIdeal) (hPre_finite_ukv_bwd := hPre_finite_ukv_bwd)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Up_UpIdeal
    ∧ algebraic_UpIdeal_UpRefIdeal (hUpIdeal := hUpIdeal) (hUpRefIdeal := hUpRefIdeal)
    ∧ preserves_UpBwd_UpBwdIdeal
    ∧ algebraic_UpBwdIdeal_UpBwdRefIdeal_pre_finite_up_bwd (hUpBwdIdeal := hUpBwdIdeal) (hUpBwdRefIdeal := hUpBwdRefIdeal) (hPre_finite_up_bwd := hPre_finite_up_bwd)
    ∧ preserves_UpW_UpWIdeal
    ∧ algebraic_UpWIdeal_UpWRefIdeal (hUpWIdeal := hUpWIdeal) (hUpWRefIdeal := hUpWRefIdeal)
    ∧ preserves_Heads_HeadsIdeal
    ∧ algebraic_HeadsIdeal_HeadsRefIdeal (hHeadsIdeal := hHeadsIdeal) (hHeadsRefIdeal := hHeadsRefIdeal)
    ∧ preserves_HeadsBwd_HeadsBwdIdeal
    ∧ algebraic_HeadsBwdIdeal_HeadsBwdRefIdeal_pre_finite_heads_bwd (hHeadsBwdIdeal := hHeadsBwdIdeal) (hHeadsBwdRefIdeal := hHeadsBwdRefIdeal) (hPre_finite_heads_bwd := hPre_finite_heads_bwd)
    ∧ preserves_In_InIdeal
    ∧ algebraic_InIdeal_InRefIdeal (hInIdeal := hInIdeal) (hInRefIdeal := hInRefIdeal)
    ∧ preserves_InBwd_InBwdIdeal
    ∧ algebraic_InBwdIdeal_InBwdRefIdeal_pre_finite_in_bwd (hInBwdIdeal := hInBwdIdeal) (hInBwdRefIdeal := hInBwdRefIdeal) (hPre_finite_in_bwd := hPre_finite_in_bwd)
    ∧ preserves_InW_InWIdeal
    ∧ algebraic_InWIdeal_InWRefIdeal (hInWIdeal := hInWIdeal) (hInWRefIdeal := hInWRefIdeal)
    ∧ preserves_UkvBwd_UkvBwdIdeal
    ∧ algebraic_UkvBwdIdeal_UkvBwdRefIdeal_pre_finite_ukv_bwd (hUkvBwdIdeal := hUkvBwdIdeal) (hUkvBwdRefIdeal := hUkvBwdRefIdeal) (hPre_finite_ukv_bwd := hPre_finite_ukv_bwd)
    ∧ preserves_Loss_LossIdeal
    ∧ algebraic_LossIdeal_LossRefIdeal_pre_finite_loss (hLossIdeal := hLossIdeal) (hLossRefIdeal := hLossRefIdeal) (hPre_finite_loss := hPre_finite_loss)
-- ==== Pre_all_finite.lean ====
abbrev S4096x5632 : Shape := ⟨2, ![4096, 5632]⟩
abbrev S4096x1024 : Shape := ⟨2, ![4096, 1024]⟩
abbrev S2816x1024 : Shape := ⟨2, ![2816, 1024]⟩
abbrev S3x5632 : Shape := ⟨2, ![3, 5632]⟩
abbrev S1x5632 : Shape := ⟨2, ![1, 5632]⟩
abbrev S_ : Shape := ⟨0, ![]⟩

class Facts : Prop where
  bcast_S_S4096x5632 : S_.BroadcastsInDim S4096x5632 (![] : Fin 0 → Fin S4096x5632.rank)
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S3x5632 : S_.BroadcastsInDim S3x5632 (![] : Fin 0 → Fin S3x5632.rank)
  bcast_S_S1x5632 : S_.BroadcastsInDim S1x5632 (![] : Fin 0 → Fin S1x5632.rank)

variable [Facts]

def fn {F : FTy → Type} [FloatOps F] (main_arg0 : FVec F S4096x5632 .f32) (main_arg1 : FVec F S4096x1024 .f32) (main_arg2 : FVec F S2816x1024 .f32) (main_arg3 : FVec F S3x5632 .f32) (main_arg4 : FVec F S1x5632 .f32) : IVec S4096x5632 1 × IVec S4096x1024 1 × IVec S2816x1024 1 × IVec S3x5632 1 × IVec S1x5632 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S3x5632 .f32 := Host.absf main_arg3
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_v12 : FVec F S1x5632 .f32 := Host.absf main_arg4
  let main_cst_3 : FVec F S_ .f32 := constant S_ .f32 0x7F800000#32
  let main_v13 : FVec F S1x5632 .f32 := broadcastInDim S1x5632 ![] bcast_S_S1x5632 main_cst_3
  let main_v14 : IVec S1x5632 1 := cmpf .olt main_v12 main_v13
  (main_v2, main_v5, main_v8, main_v11, main_v14)
-- ==== Pre_finite_heads_bwd.lean ====
abbrev S4096x1024 : Shape := ⟨2, ![4096, 1024]⟩
abbrev S1024x1024 : Shape := ⟨2, ![1024, 1024]⟩
abbrev S4096x512 : Shape := ⟨2, ![4096, 512]⟩
abbrev S1x512 : Shape := ⟨2, ![1, 512]⟩
abbrev S_ : Shape := ⟨0, ![]⟩

class Facts : Prop where
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S4096x512 : S_.BroadcastsInDim S4096x512 (![] : Fin 0 → Fin S4096x512.rank)
  bcast_S_S1x512 : S_.BroadcastsInDim S1x512 (![] : Fin 0 → Fin S1x512.rank)

variable [Facts]

def fn {F : FTy → Type} [FloatOps F] (main_arg0 : FVec F S4096x1024 .f32) (main_arg1 : FVec F S1024x1024 .f32) (main_arg2 : FVec F S4096x1024 .f32) (main_arg3 : FVec F S4096x512 .f32) (main_arg4 : FVec F S4096x512 .f32) (main_arg5 : FVec F S1x512 .f32) (main_arg6 : FVec F S1x512 .f32) : IVec S4096x1024 1 × IVec S1024x1024 1 × IVec S4096x512 1 × IVec S4096x512 1 × IVec S1x512 1 × IVec S1x512 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S4096x512 .f32 := Host.absf main_arg3
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S4096x512 .f32 := Host.absf main_arg4
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_v12 : FVec F S1x512 .f32 := Host.absf main_arg5
  let main_cst_3 : FVec F S_ .f32 := constant S_ .f32 0x7F800000#32
  let main_v13 : FVec F S1x512 .f32 := broadcastInDim S1x512 ![] bcast_S_S1x512 main_cst_3
  let main_v14 : IVec S1x512 1 := cmpf .olt main_v12 main_v13
  let main_v15 : FVec F S1x512 .f32 := Host.absf main_arg6
  let main_cst_4 : FVec F S_ .f32 := constant S_ .f32 0x7F800000#32
  let main_v16 : FVec F S1x512 .f32 := broadcastInDim S1x512 ![] bcast_S_S1x512 main_cst_4
  let main_v17 : IVec S1x512 1 := cmpf .olt main_v15 main_v16
  (main_v2, main_v5, main_v8, main_v11, main_v14, main_v17)
-- ==== Pre_finite_in_bwd.lean ====
abbrev S4096x512 : Shape := ⟨2, ![4096, 512]⟩
abbrev S4096x256 : Shape := ⟨2, ![4096, 256]⟩
abbrev S4096x128 : Shape := ⟨2, ![4096, 128]⟩
abbrev S4096x384 : Shape := ⟨2, ![4096, 384]⟩
abbrev S2304x1024 : Shape := ⟨2, ![2304, 1024]⟩
abbrev S4096x1024 : Shape := ⟨2, ![4096, 1024]⟩
abbrev S1x1024 : Shape := ⟨2, ![1, 1024]⟩
abbrev S_ : Shape := ⟨0, ![]⟩

class Facts : Prop where
  bcast_S_S4096x512 : S_.BroadcastsInDim S4096x512 (![] : Fin 0 → Fin S4096x512.rank)
  bcast_S_S4096x256 : S_.BroadcastsInDim S4096x256 (![] : Fin 0 → Fin S4096x256.rank)
  bcast_S_S4096x128 : S_.BroadcastsInDim S4096x128 (![] : Fin 0 → Fin S4096x128.rank)
  bcast_S_S4096x384 : S_.BroadcastsInDim S4096x384 (![] : Fin 0 → Fin S4096x384.rank)
  bcast_S_S2304x1024 : S_.BroadcastsInDim S2304x1024 (![] : Fin 0 → Fin S2304x1024.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn_part1 {F : FTy → Type} [FloatOps F] (main_arg6 : FVec F S2304x1024 .f32) (main_arg7 : FVec F S4096x1024 .f32) (main_arg8 : FVec F S1x1024 .f32) (main_v2 : IVec S4096x512 1) (main_v5 : IVec S4096x512 1) (main_v8 : IVec S4096x512 1) (main_v11 : IVec S4096x256 1) (main_v14 : IVec S4096x128 1) (main_v17 : IVec S4096x384 1) : IVec S4096x512 1 × IVec S4096x512 1 × IVec S4096x512 1 × IVec S4096x256 1 × IVec S4096x128 1 × IVec S4096x384 1 × IVec S2304x1024 1 × IVec S4096x1024 1 × IVec S1x1024 1 :=
  let main_v18 : FVec F S2304x1024 .f32 := Host.absf main_arg6
  let main_cst_5 : FVec F S_ .f32 := constant S_ .f32 0x7F800000#32
  let main_v19 : FVec F S2304x1024 .f32 := broadcastInDim S2304x1024 ![] bcast_S_S2304x1024 main_cst_5
  let main_v20 : IVec S2304x1024 1 := cmpf .olt main_v18 main_v19
  let main_v21 : FVec F S4096x1024 .f32 := Host.absf main_arg7
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  let main_v24 : FVec F S1x1024 .f32 := Host.absf main_arg8
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_v24 main_v25
  (main_v2, main_v5, main_v8, main_v11, main_v14, main_v17, main_v20, main_v23, main_v26)

def fn {F : FTy → Type} [FloatOps F] (main_arg0 : FVec F S4096x512 .f32) (main_arg1 : FVec F S4096x512 .f32) (main_arg2 : FVec F S4096x512 .f32) (main_arg3 : FVec F S4096x256 .f32) (main_arg4 : FVec F S4096x128 .f32) (main_arg5 : FVec F S4096x384 .f32) (main_arg6 : FVec F S2304x1024 .f32) (main_arg7 : FVec F S4096x1024 .f32) (main_arg8 : FVec F S1x1024 .f32) (main_arg9 : FVec F S4096x1024 .f32) : IVec S4096x512 1 × IVec S4096x512 1 × IVec S4096x512 1 × IVec S4096x256 1 × IVec S4096x128 1 × IVec S4096x384 1 × IVec S2304x1024 1 × IVec S4096x1024 1 × IVec S1x1024 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S4096x256 .f32 := Host.absf main_arg3
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_v12 : FVec F S4096x128 .f32 := Host.absf main_arg4
  let main_cst_3 : FVec F S_ .f32 := constant S_ .f32 0x7F800000#32
  let main_v13 : FVec F S4096x128 .f32 := broadcastInDim S4096x128 ![] bcast_S_S4096x128 main_cst_3
  let main_v14 : IVec S4096x128 1 := cmpf .olt main_v12 main_v13
  let main_v15 : FVec F S4096x384 .f32 := Host.absf main_arg5
  let main_cst_4 : FVec F S_ .f32 := constant S_ .f32 0x7F800000#32
  let main_v16 : FVec F S4096x384 .f32 := broadcastInDim S4096x384 ![] bcast_S_S4096x384 main_cst_4
  let main_v17 : IVec S4096x384 1 := cmpf .olt main_v15 main_v16
  fn_part1 (F := F) main_arg6 main_arg7 main_arg8 main_v2 main_v5 main_v8 main_v11 main_v14 main_v17
-- ==== Pre_finite_loss.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x2816 .f32) (main_arg1 : FVec F S2816x1024 .f32) (main_arg2 : FVec F S4096x1024 .f32) (main_arg3 : FVec F S1x1024 .f32) (main_arg4 : FVec F S4096x1024 .f32) : IVec S4096x2816 1 × IVec S2816x1024 1 × IVec S4096x1024 1 × IVec S1x1024 1 × IVec S4096x1024 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite_ukv_bwd.lean ====
abbrev S4096x512 : Shape := ⟨2, ![4096, 512]⟩
abbrev S256x1024 : Shape := ⟨2, ![256, 1024]⟩
abbrev S4096x2304 : Shape := ⟨2, ![4096, 2304]⟩
abbrev S1x256 : Shape := ⟨2, ![1, 256]⟩
abbrev S4096x256 : Shape := ⟨2, ![4096, 256]⟩
abbrev S_ : Shape := ⟨0, ![]⟩

class Facts : Prop where
  bcast_S_S4096x512 : S_.BroadcastsInDim S4096x512 (![] : Fin 0 → Fin S4096x512.rank)
  bcast_S_S256x1024 : S_.BroadcastsInDim S256x1024 (![] : Fin 0 → Fin S256x1024.rank)
  bcast_S_S4096x2304 : S_.BroadcastsInDim S4096x2304 (![] : Fin 0 → Fin S4096x2304.rank)
  bcast_S_S1x256 : S_.BroadcastsInDim S1x256 (![] : Fin 0 → Fin S1x256.rank)

variable [Facts]

def fn {F : FTy → Type} [FloatOps F] (main_arg0 : FVec F S4096x512 .f32) (main_arg1 : FVec F S4096x512 .f32) (main_arg2 : FVec F S256x1024 .f32) (main_arg3 : FVec F S4096x2304 .f32) (main_arg4 : FVec F S1x256 .f32) (main_arg5 : FVec F S4096x256 .f32) : IVec S4096x512 1 × IVec S4096x512 1 × IVec S256x1024 1 × IVec S4096x2304 1 × IVec S1x256 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S256x1024 .f32 := Host.absf main_arg2
  let main_cst_1 : FVec F S_ .f32 := constant S_ .f32 0x7F800000#32
  let main_v7 : FVec F S256x1024 .f32 := broadcastInDim S256x1024 ![] bcast_S_S256x1024 main_cst_1
  let main_v8 : IVec S256x1024 1 := cmpf .olt main_v6 main_v7
  let main_v9 : FVec F S4096x2304 .f32 := Host.absf main_arg3
  let main_cst_2 : FVec F S_ .f32 := constant S_ .f32 0x7F800000#32
  let main_v10 : FVec F S4096x2304 .f32 := broadcastInDim S4096x2304 ![] bcast_S_S4096x2304 main_cst_2
  let main_v11 : IVec S4096x2304 1 := cmpf .olt main_v9 main_v10
  let main_v12 : FVec F S1x256 .f32 := Host.absf main_arg4
  let main_cst_3 : FVec F S_ .f32 := constant S_ .f32 0x7F800000#32
  let main_v13 : FVec F S1x256 .f32 := broadcastInDim S1x256 ![] bcast_S_S1x256 main_cst_3
  let main_v14 : IVec S1x256 1 := cmpf .olt main_v12 main_v13
  (main_v2, main_v5, main_v8, main_v11, main_v14)
-- ==== Pre_finite_up_bwd.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩

class Facts : Prop where
  bcast_S_S4096x5632 : S_.BroadcastsInDim S4096x5632 (![] : Fin 0 → Fin S4096x5632.rank)
  bcast_S_S1024x5632 : S_.BroadcastsInDim S1024x5632 (![] : Fin 0 → Fin S1024x5632.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x5632 .f32) (main_arg1 : FVec F S1024x5632 .f32) (main_arg2 : FVec F S4096x1024 .f32) (main_arg3 : FVec F S1x1024 .f32) (main_arg4 : FVec F S4096x1024 .f32) : IVec S4096x5632 1 × IVec S1024x5632 1 × IVec S4096x1024 1 × IVec S1x1024 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Kernel.lean ====
abbrev S4096x5632 : Shape := ⟨2, ![4096, 5632]⟩
abbrev S4096x1024 : Shape := ⟨2, ![4096, 1024]⟩
abbrev S2816x1024 : Shape := ⟨2, ![2816, 1024]⟩
abbrev S3x5632 : Shape := ⟨2, ![3, 5632]⟩
abbrev S1x5632 : Shape := ⟨2, ![1, 5632]⟩
abbrev S4096x2x11x256 : Shape := ⟨4, ![4096, 2, 11, 256]⟩
abbrev S4096x11x2x256 : Shape := ⟨4, ![4096, 11, 2, 256]⟩
abbrev S3x2x11x256 : Shape := ⟨4, ![3, 2, 11, 256]⟩
abbrev S3x11x2x256 : Shape := ⟨4, ![3, 11, 2, 256]⟩
abbrev S1x2x11x256 : Shape := ⟨4, ![1, 2, 11, 256]⟩
abbrev S1x11x2x256 : Shape := ⟨4, ![1, 11, 2, 256]⟩
abbrev S2048x512 : Shape := ⟨2, ![2048, 512]⟩
abbrev S2048x1024 : Shape := ⟨2, ![2048, 1024]⟩
abbrev S256x1024 : Shape := ⟨2, ![256, 1024]⟩
abbrev S3x512 : Shape := ⟨2, ![3, 512]⟩
abbrev S1x512 : Shape := ⟨2, ![1, 512]⟩
abbrev S2056x512 : Shape := ⟨2, ![2056, 512]⟩
abbrev S256x512 : Shape := ⟨2, ![256, 512]⟩
abbrev S8x512 : Shape := ⟨2, ![8, 512]⟩
abbrev S264x512 : Shape := ⟨2, ![264, 512]⟩
abbrev S256x256 : Shape := ⟨2, ![256, 256]⟩
abbrev S512 : Shape := ⟨1, ![512]⟩

abbrev nBuf : Space → Nat
  | .hbm => 19
  | .vmem => 20
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S2816x1024, .f32⟩
  | .hbm, ⟨3, _⟩ => ⟨S3x5632, .f32⟩
  | .hbm, ⟨4, _⟩ => ⟨S1x5632, .f32⟩
  | .hbm, ⟨5, _⟩ => ⟨S4096x2x11x256, .f32⟩
  | .hbm, ⟨6, _⟩ => ⟨S4096x11x2x256, .f32⟩
  | .hbm, ⟨7, _⟩ => ⟨S4096x5632, .f32⟩
  | .hbm, ⟨8, _⟩ => ⟨S2816x1024, .bf16⟩
  | .hbm, ⟨9, _⟩ => ⟨S3x2x11x256, .f32⟩
  | .hbm, ⟨10, _⟩ => ⟨S3x11x2x256, .f32⟩
  | .hbm, ⟨11, _⟩ => ⟨S3x5632, .f32⟩
  | .hbm, ⟨12, _⟩ => ⟨S1x2x11x256, .f32⟩
  | .hbm, ⟨13, _⟩ => ⟨S1x11x2x256, .f32⟩
  | .hbm, ⟨14, _⟩ => ⟨S1x5632, .f32⟩
  | .hbm, ⟨15, _⟩ => ⟨S4096x5632, .bf16⟩
  | .hbm, ⟨16, _⟩ => ⟨S3x5632, .f32⟩
  | .hbm, ⟨17, _⟩ => ⟨S1x5632, .f32⟩
  | .hbm, ⟨18, _⟩ => ⟨S2816x1024, .bf16⟩
  | .local _ .vmem, ⟨0, _⟩ => ⟨S2048x512, .f32⟩
  | .local _ .vmem, ⟨1, _⟩ => ⟨S2048x512, .f32⟩
  | .local _ .vmem, ⟨2, _⟩ => ⟨S2048x1024, .f32⟩
  | .local _ .vmem, ⟨3, _⟩ => ⟨S2048x1024, .f32⟩
  | .local _ .vmem, ⟨4, _⟩ => ⟨S256x1024, .bf16⟩
  | .local _ .vmem, ⟨5, _⟩ => ⟨S256x1024, .bf16⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S2048x512, .bf16⟩
  | .local _ .vmem, ⟨11, _⟩ => ⟨S2048x512, .bf16⟩
  | .local _ .vmem, ⟨12, _⟩ => ⟨S3x512, .f32⟩
  | .local _ .vmem, ⟨13, _⟩ => ⟨S3x512, .f32⟩
  | .local _ .vmem, ⟨14, _⟩ => ⟨S1x512, .f32⟩
  | .local _ .vmem, ⟨15, _⟩ => ⟨S1x512, .f32⟩
  | .local _ .vmem, ⟨16, _⟩ => ⟨S256x1024, .bf16⟩
  | .local _ .vmem, ⟨17, _⟩ => ⟨S256x1024, .bf16⟩
  | .local _ .vmem, ⟨18, _⟩ => ⟨S2056x512, .f32⟩
  | .local _ .vmem, ⟨19, _⟩ => ⟨S256x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![11, 2], ![false, false]⟩

def k0_cond1 (i : grid0.Coords) : BitVec 1 :=
  let arg1 : BitVec 32 := BitVec.ofNat 32 (i 1).val
  let c0_i32 : BitVec 32 := 0#32
  let v655 : BitVec 1 := Scalar.cmpi .eq arg1 c0_i32
  let v656 : BitVec 32 := Scalar.extui v655
  let c0_i32_207 : BitVec 32 := 0#32
  let v657 : BitVec 1 := Scalar.cmpi .ne v656 c0_i32_207
  v657

def k0_cond2 (i : grid0.Coords) : BitVec 1 :=
  let arg1 : BitVec 32 := BitVec.ofNat 32 (i 1).val
  let c0_i32_208 : BitVec 32 := 0#32
  let v658 : BitVec 1 := Scalar.cmpi .sgt arg1 c0_i32_208
  let v659 : BitVec 32 := Scalar.extui v658
  let c0_i32_209 : BitVec 32 := 0#32
  let v660 : BitVec 1 := Scalar.cmpi .ne v659 c0_i32_209
  v660

def k0_cond3 (i : grid0.Coords) : BitVec 1 :=
  let arg1 : BitVec 32 := BitVec.ofNat 32 (i 1).val
  let c1_i32_210 : BitVec 32 := 1#32
  let v661 : BitVec 1 := Scalar.cmpi .eq arg1 c1_i32_210
  let v662 : BitVec 32 := Scalar.extui v661
  let c0_i32_211 : BitVec 32 := 0#32
  let v663 : BitVec 1 := Scalar.cmpi .ne v662 c0_i32_211
  v663

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4096x5632 : Shape := ⟨2, ![4096, 5632]⟩
abbrev S4096x1024 : Shape := ⟨2, ![4096, 1024]⟩
abbrev S2816x1024 : Shape := ⟨2, ![2816, 1024]⟩
abbrev S3x5632 : Shape := ⟨2, ![3, 5632]⟩
abbrev S1x5632 : Shape := ⟨2, ![1, 5632]⟩
abbrev S2x2048x5632 : Shape := ⟨3, ![2, 2048, 5632]⟩
abbrev S2x2048x1024 : Shape := ⟨3, ![2, 2048, 1024]⟩
abbrev S_ : Shape := ⟨0, ![]⟩
abbrev S2x2x5632 : Shape := ⟨3, ![2, 2, 5632]⟩
abbrev S2x2050x5632 : Shape := ⟨3, ![2, 2050, 5632]⟩
abbrev S5632 : Shape := ⟨1, ![5632]⟩
abbrev S1x1x5632 : Shape := ⟨3, ![1, 1, 5632]⟩
abbrev S2x2048x2816 : Shape := ⟨3, ![2, 2048, 2816]⟩
abbrev S1024x2816 : Shape := ⟨2, ![1024, 2816]⟩
abbrev S4096x2816 : Shape := ⟨2, ![4096, 2816]⟩
abbrev S4096x11x256 : Shape := ⟨3, ![4096, 11, 256]⟩
abbrev S4096x11x1x256 : Shape := ⟨4, ![4096, 11, 1, 256]⟩
abbrev S4096x11x2x256 : Shape := ⟨4, ![4096, 11, 2, 256]⟩
abbrev S3x2816 : Shape := ⟨2, ![3, 2816]⟩
abbrev S3x11x256 : Shape := ⟨3, ![3, 11, 256]⟩
abbrev S3x11x1x256 : Shape := ⟨4, ![3, 11, 1, 256]⟩
abbrev S3x11x2x256 : Shape := ⟨4, ![3, 11, 2, 256]⟩
abbrev S1x2816 : Shape := ⟨2, ![1, 2816]⟩
abbrev S1x11x256 : Shape := ⟨3, ![1, 11, 256]⟩
abbrev S1x11x1x256 : Shape := ⟨4, ![1, 11, 1, 256]⟩
abbrev S1x11x2x256 : Shape := ⟨4, ![1, 11, 2, 256]⟩

abbrev nBuf : Space → Nat
  | .hbm => 144
  | .vmem => 0
  | .smem => 0
  | _ => 0

abbrev hbmTy0_0 (i : Nat) : BufTy := match i % 128 with
  | 0 => ⟨S4096x5632, .f32⟩
  | 1 => ⟨S4096x1024, .f32⟩
  | 2 => ⟨S2816x1024, .f32⟩
  | 3 => ⟨S3x5632, .f32⟩
  | 4 => ⟨S1x5632, .f32⟩
  | 5 => ⟨S2x2048x5632, .f32⟩
  | 6 => ⟨S2x2048x1024, .f32⟩
  | 7 => ⟨S_, .f32⟩
  | 8 => ⟨S2x2x5632, .f32⟩
  | 9 => ⟨S2x2050x5632, .f32⟩
  | 10 => ⟨S_, .f32⟩
  | 11 => ⟨S2x2x5632, .f32⟩
  | 12 => ⟨S1x5632, .f32⟩
  | 13 => ⟨S5632, .f32⟩
  | 14 => ⟨S2x2048x5632, .f32⟩
  | 15 => ⟨S1x1x5632, .f32⟩
  | 16 => ⟨S2x2048x5632, .f32⟩
  | 17 => ⟨S2x2048x5632, .f32⟩
  | 18 => ⟨S1x5632, .f32⟩
  | 19 => ⟨S5632, .f32⟩
  | 20 => ⟨S2x2048x5632, .f32⟩
  | 21 => ⟨S1x1x5632, .f32⟩
  | 22 => ⟨S2x2048x5632, .f32⟩
  | 23 => ⟨S2x2048x5632, .f32⟩
  | 24 => ⟨S2x2048x5632, .f32⟩
  | 25 => ⟨S1x5632, .f32⟩
  | 26 => ⟨S5632, .f32⟩
  | 27 => ⟨S2x2048x5632, .f32⟩
  | 28 => ⟨S1x1x5632, .f32⟩
  | 29 => ⟨S2x2048x5632, .f32⟩
  | 30 => ⟨S2x2048x5632, .f32⟩
  | 31 => ⟨S2x2048x5632, .f32⟩
  | 32 => ⟨S1x1x5632, .f32⟩
  | 33 => ⟨S2x2048x5632, .f32⟩
  | 34 => ⟨S2x2048x5632, .f32⟩
  | 35 => ⟨S2x2048x2816, .f32⟩
  | 36 => ⟨S2x2048x2816, .f32⟩
  | 37 => ⟨S2x2048x2816, .f32⟩
  | 38 => ⟨S2x2048x2816, .f32⟩
  | 39 => ⟨S_, .f32⟩
  | 40 => ⟨S2x2048x2816, .f32⟩
  | 41 => ⟨S2x2048x2816, .f32⟩
  | 42 => ⟨S_, .f32⟩
  | 43 => ⟨S2x2048x2816, .f32⟩
  | 44 => ⟨S2x2048x2816, .f32⟩
  | 45 => ⟨S_, .f32⟩
  | 46 => ⟨S2x2048x2816, .f32⟩
  | 47 => ⟨S2x2048x2816, .f32⟩
  | 48 => ⟨S2x2048x2816, .f32⟩
  | 49 => ⟨S2x2048x2816, .f32⟩
  | 50 => ⟨S2x2048x2816, .f32⟩
  | 51 => ⟨S2x2048x1024, .f32⟩
  | 52 => ⟨S1024x2816, .f32⟩
  | 53 => ⟨S2816x1024, .f32⟩
  | 54 => ⟨S2x2048x2816, .f32⟩
  | 55 => ⟨S2x2048x2816, .f32⟩
  | 56 => ⟨S2x2048x2816, .f32⟩
  | 57 => ⟨S2x2048x2816, .f32⟩
  | 58 => ⟨S2x2048x2816, .f32⟩
  | 59 => ⟨S2x2048x2816, .f32⟩
  | 60 => ⟨S2x2048x2816, .f32⟩
  | 61 => ⟨S_, .f32⟩
  | 62 => ⟨S2x2048x5632, .f32⟩
  | 63 => ⟨S_, .f32⟩
  | 64 => ⟨S2x2048x5632, .f32⟩
  | 65 => ⟨S2x2048x5632, .f32⟩
  | 66 => ⟨S_, .f32⟩
  | 67 => ⟨S5632, .f32⟩
  | 68 => ⟨S1x1x5632, .f32⟩
  | 69 => ⟨S_, .f32⟩
  | 70 => ⟨S5632, .f32⟩
  | 71 => ⟨S1x5632, .f32⟩
  | 72 => ⟨S2x2048x5632, .f32⟩
  | 73 => ⟨S2x2048x5632, .f32⟩
  | 74 => ⟨S2x2048x5632, .f32⟩
  | 75 => ⟨S_, .f32⟩
  | 76 => ⟨S5632, .f32⟩
  | 77 => ⟨S1x1x5632, .f32⟩
  | 78 => ⟨S_, .f32⟩
  | 79 => ⟨S5632, .f32⟩
  | 80 => ⟨S_, .f32⟩
  | 81 => ⟨S2x2050x5632, .f32⟩
  | 82 => ⟨S1x5632, .f32⟩
  | 83 => ⟨S_, .f32⟩
  | 84 => ⟨S3x5632, .f32⟩
  | 85 => ⟨S2x2048x5632, .f32⟩
  | 86 => ⟨S2x2048x5632, .f32⟩
  | 87 => ⟨S2x2048x5632, .f32⟩
  | 88 => ⟨S_, .f32⟩
  | 89 => ⟨S5632, .f32⟩
  | 90 => ⟨S1x1x5632, .f32⟩
  | 91 => ⟨S_, .f32⟩
  | 92 => ⟨S5632, .f32⟩
  | 93 => ⟨S_, .f32⟩
  | 94 => ⟨S2x2050x5632, .f32⟩
  | 95 => ⟨S2x2050x5632, .f32⟩
  | 96 => ⟨S1x5632, .f32⟩
  | 97 => ⟨S_, .f32⟩
  | 98 => ⟨S3x5632, .f32⟩
  | 99 => ⟨S3x5632, .f32⟩
  | 100 => ⟨S2x2048x5632, .f32⟩
  | 101 => ⟨S2x2048x5632, .f32⟩
  | 102 => ⟨S2x2048x5632, .f32⟩
  | 103 => ⟨S_, .f32⟩
  | 104 => ⟨S5632, .f32⟩
  | 105 => ⟨S1x1x5632, .f32⟩
  | 106 => ⟨S_, .f32⟩
  | 107 => ⟨S5632, .f32⟩
  | 108 => ⟨S_, .f32⟩
  | 109 => ⟨S2x2050x5632, .f32⟩
  | 110 => ⟨S2x2050x5632, .f32⟩
  | 111 => ⟨S1x5632, .f32⟩
  | 112 => ⟨S_, .f32⟩
  | 113 => ⟨S3x5632, .f32⟩
  | 114 => ⟨S3x5632, .f32⟩
  | 115 => ⟨S2x2x5632, .f32⟩
  | 116 => ⟨S2x2048x5632, .f32⟩
  | 117 => ⟨S4096x5632, .f32⟩
  | 118 => ⟨S4096x2816, .f32⟩
  | 119 => ⟨S4096x2816, .f32⟩
  | 120 => ⟨S4096x11x256, .f32⟩
  | 121 => ⟨S4096x11x256, .f32⟩
  | 122 => ⟨S4096x11x1x256, .f32⟩
  | 123 => ⟨S4096x11x1x256, .f32⟩
  | 124 => ⟨S4096x11x2x256, .f32⟩
  | 125 => ⟨S4096x5632, .f32⟩
  | 126 => ⟨S4096x5632, .bf16⟩
  | 127 => ⟨S3x2816, .f32⟩
  | _ => ⟨S4096x5632, .f32⟩

abbrev hbmTy0_1 (i : Nat) : BufTy := match i % 128 with
  | 0 => ⟨S3x2816, .f32⟩
  | 1 => ⟨S3x11x256, .f32⟩
  | 2 => ⟨S3x11x256, .f32⟩
  | 3 => ⟨S3x11x1x256, .f32⟩
  | 4 => ⟨S3x11x1x256, .f32⟩
  | 5 => ⟨S3x11x2x256, .f32⟩
  | 6 => ⟨S3x5632, .f32⟩
  | 7 => ⟨S1x2816, .f32⟩
  | 8 => ⟨S1x2816, .f32⟩
  | 9 => ⟨S1x11x256, .f32⟩
  | 10 => ⟨S1x11x256, .f32⟩
  | 11 => ⟨S1x11x1x256, .f32⟩
  | 12 => ⟨S1x11x1x256, .f32⟩
  | 13 => ⟨S1x11x2x256, .f32⟩
  | 14 => ⟨S1x5632, .f32⟩
  | 15 => ⟨S2816x1024, .bf16⟩
  | _ => ⟨S4096x5632, .f32⟩

abbrev hbmTy (i : Nat) : BufTy := match i / 128 with
  | 0 => hbmTy0_0 i
  | 1 => hbmTy0_1 i
  | _ => ⟨S4096x5632, .f32⟩

abbrev bufTy : (tb : Table) → Fin (tcTables nBuf tb) → BufTy
  | .hbm, ⟨i, _⟩ => hbmTy i
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v30_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v30_1 : Ref sig .tc := ⟨.hbm, 48, rfl⟩
abbrev main_v30_0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v38 : Ref sig .tc := ⟨.hbm, 60, rfl⟩
abbrev main_cst_1 : Ref sig .tc := ⟨.hbm, 61, rfl⟩
abbrev main_v39 : Ref sig .tc := ⟨.hbm, 62, rfl⟩
abbrev main_cst_2 : Ref sig .tc := ⟨.hbm, 63, rfl⟩
abbrev main_v40 : Ref sig .tc := ⟨.hbm, 64, rfl⟩
abbrev main_v41 : Ref sig .tc := ⟨.hbm, 65, rfl⟩
abbrev main_cst_3 : Ref sig .tc := ⟨.hbm, 66, rfl⟩
abbrev main_v42 : Ref sig .tc := ⟨.hbm, 67, rfl⟩
abbrev main_v43 : Ref sig .tc := ⟨.hbm, 68, rfl⟩
abbrev main_cst_4 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_5 : Ref sig .tc := ⟨.hbm, 75, rfl⟩
abbrev main_v49 : Ref sig .tc := ⟨.hbm, 76, rfl⟩
abbrev main_v50 : Ref sig .tc := ⟨.hbm, 77, rfl⟩
abbrev main_cst_6 : Ref sig .tc := ⟨.hbm, 78, rfl⟩
abbrev main_v51 : Ref sig .tc := ⟨.hbm, 79, rfl⟩
abbrev main_cst_7 : Ref sig .tc := ⟨.hbm, 80, rfl⟩
abbrev main_v52 : Ref sig .tc := ⟨.hbm, 81, rfl⟩
abbrev main_v53 : Ref sig .tc := ⟨.hbm, 82, rfl⟩
abbrev main_cst_8 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_9 : Ref sig .tc := ⟨.hbm, 88, rfl⟩
abbrev main_v58 : Ref sig .tc := ⟨.hbm, 89, rfl⟩
abbrev main_v59 : Ref sig .tc := ⟨.hbm, 90, rfl⟩
abbrev main_cst_10 : Ref sig .tc := ⟨.hbm, 91, rfl⟩
abbrev main_v60 : Ref sig .tc := ⟨.hbm, 92, rfl⟩
abbrev main_cst_11 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_12 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_13 : Ref sig .tc := ⟨.hbm, 103, rfl⟩
abbrev main_v69 : Ref sig .tc := ⟨.hbm, 104, rfl⟩
abbrev main_v70 : Ref sig .tc := ⟨.hbm, 105, rfl⟩
abbrev main_cst_14 : Ref sig .tc := ⟨.hbm, 106, rfl⟩
abbrev main_v71 : Ref sig .tc := ⟨.hbm, 107, rfl⟩
abbrev main_cst_15 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_16 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩

abbrev nD : Nat := 1
abbrev τ : Topo := Topo.v7x

variable {F : FTy → Type} [FloatOps F]
-- ==== Up.lean ====
abbrev S4096x1024 : Shape := ⟨2, ![4096, 1024]⟩
abbrev S1x1024 : Shape := ⟨2, ![1, 1024]⟩
abbrev S1024x5632 : Shape := ⟨2, ![1024, 5632]⟩
abbrev S1024x2x11x256 : Shape := ⟨4, ![1024, 2, 11, 256]⟩
abbrev S1024x11x2x256 : Shape := ⟨4, ![1024, 11, 2, 256]⟩
abbrev S4096x5632 : Shape := ⟨2, ![4096, 5632]⟩
abbrev S256x1024 : Shape := ⟨2, ![256, 1024]⟩
abbrev S256x5632 : Shape := ⟨2, ![256, 5632]⟩
abbrev S256 : Shape := ⟨1, ![256]⟩
abbrev S256x1 : Shape := ⟨2, ![256, 1]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S1024x2x11x256, .f32⟩
  | .hbm, ⟨4, _⟩ => ⟨S1024x11x2x256, .f32⟩
  | .hbm, ⟨5, _⟩ => ⟨S1024x5632, .f32⟩
  | .hbm, ⟨6, _⟩ => ⟨S1024x5632, .bf16⟩
  | .hbm, ⟨7, _⟩ => ⟨S4096x1024, .bf16⟩
  | .hbm, ⟨8, _⟩ => ⟨S4096x5632, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5632, .bf16⟩
  | .local _ .vmem, ⟨4, _⟩ => ⟨S256x1024, .bf16⟩
  | .local _ .vmem, ⟨5, _⟩ => ⟨S256x1024, .bf16⟩
  | .local _ .vmem, ⟨6, _⟩ => ⟨S256x5632, .f32⟩
  | .local _ .vmem, ⟨7, _⟩ => ⟨S256x5632, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== UpRefIdeal.lean ====
abbrev S4096x1024 : Shape := ⟨2, ![4096, 1024]⟩
abbrev S1x1024 : Shape := ⟨2, ![1, 1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S4096x11x256 : Shape := ⟨3, ![4096, 11, 256]⟩
abbrev S4096x11x1x256 : Shape := ⟨4, ![4096, 11, 1, 256]⟩
abbrev S4096x11x2x256 : Shape := ⟨4, ![4096, 11, 2, 256]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x5632, .f32⟩
  | .hbm, ⟨35, _⟩ => ⟨S4096x2816, .f32⟩
  | .hbm, ⟨36, _⟩ => ⟨S4096x2816, .f32⟩
  | .hbm, ⟨37, _⟩ => ⟨S4096x11x256, .f32⟩
  | .hbm, ⟨38, _⟩ => ⟨S4096x11x256, .f32⟩
  | .hbm, ⟨39, _⟩ => ⟨S4096x11x1x256, .f32⟩
  | .hbm, ⟨40, _⟩ => ⟨S4096x11x1x256, .f32⟩
  | .hbm, ⟨41, _⟩ => ⟨S4096x11x2x256, .f32⟩
  | .hbm, ⟨42, _⟩ => ⟨S4096x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== UpBwd.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S4096x2x11x256 : Shape := ⟨4, ![4096, 2, 11, 256]⟩
abbrev S4096x11x2x256 : Shape := ⟨4, ![4096, 11, 2, 256]⟩
abbrev S1024x2x11x256 : Shape := ⟨4, ![1024, 2, 11, 256]⟩
abbrev S1024x11x2x256 : Shape := ⟨4, ![1024, 11, 2, 256]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 15
  | .vmem => 11
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x2x11x256, .f32⟩
  | .hbm, ⟨6, _⟩ => ⟨S4096x11x2x256, .f32⟩
  | .hbm, ⟨7, _⟩ => ⟨S4096x5632, .f32⟩
  | .hbm, ⟨8, _⟩ => ⟨S4096x5632, .bf16⟩
  | .hbm, ⟨9, _⟩ => ⟨S1024x2x11x256, .f32⟩
  | .hbm, ⟨10, _⟩ => ⟨S1024x11x2x256, .f32⟩
  | .hbm, ⟨11, _⟩ => ⟨S1024x5632, .f32⟩
  | .hbm, ⟨12, _⟩ => ⟨S1024x5632, .bf16⟩
  | .hbm, ⟨13, _⟩ => ⟨S4096x1024, .f32⟩
  | .hbm, ⟨14, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_17 : BitVec 32 := 0#32
  let v37 : BitVec 1 := Scalar.cmpi .ne v36 c0_i32_17
  v37

def k0_cond2 (i : grid0.Coords) : BitVec 1 :=
  let arg0 : BitVec 32 := BitVec.ofNat 32 (i 0).val
  let c0_i32_18 : BitVec 32 := 0#32
  let v38 : BitVec 1 := Scalar.cmpi .sgt arg0 c0_i32_18
  let v39 : BitVec 32 := Scalar.extui v38
  let c0_i32_19 : BitVec 32 := 0#32
  let v40 : BitVec 1 := Scalar.cmpi .ne v39 c0_i32_19
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== UpBwdRefIdeal.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x5632, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== UpW.lean ====
abbrev S4096x5632 : Shape := ⟨2, ![4096, 5632]⟩
abbrev S4096x1024 : Shape := ⟨2, ![4096, 1024]⟩
abbrev S4096x2x11x256 : Shape := ⟨4, ![4096, 2, 11, 256]⟩
abbrev S4096x11x2x256 : Shape := ⟨4, ![4096, 11, 2, 256]⟩
abbrev S5632x1024 : Shape := ⟨2, ![5632, 1024]⟩
abbrev S1024x2816 : Shape := ⟨2, ![1024, 2816]⟩
abbrev S1024x1024 : Shape := ⟨2, ![1024, 1024]⟩
abbrev S2816x1024 : Shape := ⟨2, ![2816, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S4096x2x11x256, .f32⟩
  | .hbm, ⟨3, _⟩ => ⟨S4096x11x2x256, .f32⟩
  | .hbm, ⟨4, _⟩ => ⟨S4096x5632, .f32⟩
  | .hbm, ⟨5, _⟩ => ⟨S4096x5632, .bf16⟩
  | .hbm, ⟨6, _⟩ => ⟨S4096x1024, .bf16⟩
  | .hbm, ⟨7, _⟩ => ⟨S5632x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .f32⟩
  | .local _ .vmem, ⟨5, _⟩ => ⟨S2816x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2816x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWRefIdeal.lean ====
abbrev S4096x5632 : Shape := ⟨2, ![4096, 5632]⟩
abbrev S4096x1024 : Shape := ⟨2, ![4096, 1024]⟩
abbrev S_ : Shape := ⟨0, ![]⟩
abbrev S1024x5632 : Shape := ⟨2, ![1024, 5632]⟩
abbrev S5632x1024 : Shape := ⟨2, ![5632, 1024]⟩
abbrev S1024x2816 : Shape := ⟨2, ![1024, 2816]⟩
abbrev S1024x11x256 : Shape := ⟨3, ![1024, 11, 256]⟩
abbrev S1024x11x1x256 : Shape := ⟨4, ![1024, 11, 1, 256]⟩
abbrev S1024x11x2x256 : Shape := ⟨4, ![1024, 11, 2, 256]⟩

abbrev nBuf : Space → Nat
  | .hbm => 16
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S1024x2816, .f32⟩
  | .hbm, ⟨8, _⟩ => ⟨S1024x2816, .f32⟩
  | .hbm, ⟨9, _⟩ => ⟨S1024x11x256, .f32⟩
  | .hbm, ⟨10, _⟩ => ⟨S1024x11x256, .f32⟩
  | .hbm, ⟨11, _⟩ => ⟨S1024x11x1x256, .f32⟩
  | .hbm, ⟨12, _⟩ => ⟨S1024x11x1x256, .f32⟩
  | .hbm, ⟨13, _⟩ => ⟨S1024x11x2x256, .f32⟩
  | .hbm, ⟨14, _⟩ => ⟨S1024x5632, .f32⟩
  | .hbm, ⟨15, _⟩ => ⟨S5632x1024, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Heads.lean ====
abbrev S4096x512 : Shape := ⟨2, ![4096, 512]⟩
abbrev S1x512 : Shape := ⟨2, ![1, 512]⟩
abbrev S1024x1024 : Shape := ⟨2, ![1024, 1024]⟩
abbrev S4096x1024 : Shape := ⟨2, ![4096, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S1x512, .f32⟩
  | .hbm, ⟨4, _⟩ => ⟨S1024x1024, .f32⟩
  | .hbm, ⟨5, _⟩ => ⟨S4096x1024, .f32⟩
  | .hbm, ⟨6, _⟩ => ⟨S1024x1024, .bf16⟩
  | .hbm, ⟨7, _⟩ => ⟨S4096x1024, .bf16⟩
  | .hbm, ⟨8, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== HeadsRefIdeal.lean ====
abbrev S4096x512 : Shape := ⟨2, ![4096, 512]⟩
abbrev S1x512 : Shape := ⟨2, ![1, 512]⟩
abbrev S1024x1024 : Shape := ⟨2, ![1024, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S1x512, .f32⟩
  | .hbm, ⟨4, _⟩ => ⟨S1024x1024, .f32⟩
  | .hbm, ⟨5, _⟩ => ⟨S4096x1024, .f32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x1024, .f32⟩
  | .hbm, ⟨37, _⟩ => ⟨S4096x1024, .bf16⟩
  | .hbm, ⟨38, _⟩ => ⟨S4096x1024, .f32⟩
  | .hbm, ⟨39, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== HeadsBwd.lean ====
abbrev S4096x1024 : Shape := ⟨2, ![4096, 1024]⟩
abbrev S1024x1024 : Shape := ⟨2, ![1024, 1024]⟩
abbrev S4096x512 : Shape := ⟨2, ![4096, 512]⟩
abbrev S1x512 : Shape := ⟨2, ![1, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 14
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x512, .f32⟩
  | .hbm, ⟨4, _⟩ => ⟨S4096x512, .f32⟩
  | .hbm, ⟨5, _⟩ => ⟨S1x512, .f32⟩
  | .hbm, ⟨6, _⟩ => ⟨S1x512, .f32⟩
  | .hbm, ⟨7, _⟩ => ⟨S1024x1024, .bf16⟩
  | .hbm, ⟨8, _⟩ => ⟨S4096x1024, .bf16⟩
  | .hbm, ⟨9, _⟩ => ⟨S4096x512, .f32⟩
  | .hbm, ⟨10, _⟩ => ⟨S4096x512, .f32⟩
  | .hbm, ⟨11, _⟩ => ⟨S1x512, .f32⟩
  | .hbm, ⟨12, _⟩ => ⟨S1x512, .f32⟩
  | .hbm, ⟨13, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S1x512, .f32⟩
  | .local _ .vmem, ⟨10, _⟩ => ⟨S1x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S1x512, .f32⟩
  | .local _ .vmem, ⟨16, _⟩ => ⟨S1x512, .f32⟩
  | .local _ .vmem, ⟨17, _⟩ => ⟨S1024x1024, .bf16⟩
  | .local _ .vmem, ⟨18, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v63 : BitVec 1 := Scalar.cmpi .eq arg0 c0_i32
  let v64 : BitVec 32 := Scalar.extui v63
  let c0_i32_27 : BitVec 32 := 0#32
  let v65 : BitVec 1 := Scalar.cmpi .ne v64 c0_i32_27
  v65

def k0_cond2 (i : grid0.Coords) : BitVec 1 :=
  let arg0 : BitVec 32 := BitVec.ofNat 32 (i 0).val
  let c0_i32_28 : BitVec 32 := 0#32
  let v66 : BitVec 1 := Scalar.cmpi .sgt arg0 c0_i32_28
  let v67 : BitVec 32 := Scalar.extui v66
  let c0_i32_29 : BitVec 32 := 0#32
  let v68 : BitVec 1 := Scalar.cmpi .ne v67 c0_i32_29
  v68

def k0_cond3 (i : grid0.Coords) : BitVec 1 :=
  let arg0 : BitVec 32 := BitVec.ofNat 32 (i 0).val
  let c0_i32_30 : BitVec 32 := 0#32
  let v69 : BitVec 1 := Scalar.cmpi .eq arg0 c0_i32_30
  let v70 : BitVec 32 := Scalar.extui v69
  let c0_i32_31 : BitVec 32 := 0#32
  let v71 : BitVec 1 := Scalar.cmpi .ne v70 c0_i32_31
  v71

def k0_cond4 (i : grid0.Coords) : BitVec 1 :=
  let arg0 : BitVec 32 := BitVec.ofNat 32 (i 0).val
  let c0_i32_32 : BitVec 32 := 0#32
  let v72 : BitVec 1 := Scalar.cmpi .sgt arg0 c0_i32_32
  let v73 : BitVec 32 := Scalar.extui v72
  let c0_i32_33 : BitVec 32 := 0#32
  let v74 : BitVec 1 := Scalar.cmpi .ne v73 c0_i32_33
  v74

def k0_cond7 (i : grid0.Coords) : BitVec 1 :=
  let arg0 : BitVec 32 := BitVec.ofNat 32 (i 0).val
  let c7_i32 : BitVec 32 := 7#32
  let v84 : BitVec 1 := Scalar.cmpi .eq arg0 c7_i32
  let v85 : BitVec 32 := Scalar.extui v84
  let c0_i32_41 : BitVec 32 := 0#32
  let v86 : BitVec 1 := Scalar.cmpi .ne v85 c0_i32_41
  v86

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== HeadsBwdRefIdeal.lean ====
abbrev S4096x1024 : Shape := ⟨2, ![4096, 1024]⟩
abbrev S1024x1024 : Shape := ⟨2, ![1024, 1024]⟩
abbrev S4096x512 : Shape := ⟨2, ![4096, 512]⟩
abbrev S1x512 : Shape := ⟨2, ![1, 512]⟩
abbrev S_ : Shape := ⟨0, ![]⟩
abbrev S4096 : Shape := ⟨1, ![4096]⟩
abbrev S4096x1 : Shape := ⟨2, ![4096, 1]⟩
abbrev S512 : Shape := ⟨1, ![512]⟩

abbrev nBuf : Space → Nat
  | .hbm => 100
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x512, .f32⟩
  | .hbm, ⟨4, _⟩ => ⟨S4096x512, .f32⟩
  | .hbm, ⟨5, _⟩ => ⟨S1x512, .f32⟩
  | .hbm, ⟨6, _⟩ => ⟨S1x512, .f32⟩
  | .hbm, ⟨7, _⟩ => ⟨S4096x512, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S_, .f32⟩
  | .hbm, ⟨52, _⟩ => ⟨S512, .f32⟩
  | .hbm, ⟨53, _⟩ => ⟨S1x512, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x512, .f32⟩
  | .hbm, ⟨61, _⟩ => ⟨S4096x512, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x512, .f32⟩
  | .hbm, ⟨69, _⟩ => ⟨S4096x512, .f32⟩
  | .hbm, ⟨70, _⟩ => ⟨S4096x512, .f32⟩
  | .hbm, ⟨71, _⟩ => ⟨S4096x512, .f32⟩
  | .hbm, ⟨72, _⟩ => ⟨S4096x512, .f32⟩
  | .hbm, ⟨73, _⟩ => ⟨S4096x512, .f32⟩
  | .hbm, ⟨74, _⟩ => ⟨S_, .f32⟩
  | .hbm, ⟨75, _⟩ => ⟨S512, .f32⟩
  | .hbm, ⟨76, _⟩ => ⟨S1x512, .f32⟩
  | .hbm, ⟨77, _⟩ => ⟨S4096x512, .f32⟩
  | .hbm, ⟨78, _⟩ => ⟨S4096x512, .f32⟩
  | .hbm, ⟨79, _⟩ => ⟨S4096x512, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S4096x512, .f32⟩
  | .hbm, ⟨84, _⟩ => ⟨S4096x512, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x512, .f32⟩
  | .hbm, ⟨92, _⟩ => ⟨S4096x512, .f32⟩
  | .hbm, ⟨93, _⟩ => ⟨S4096x512, .f32⟩
  | .hbm, ⟨94, _⟩ => ⟨S4096x512, .f32⟩
  | .hbm, ⟨95, _⟩ => ⟨S4096x512, .f32⟩
  | .hbm, ⟨96, _⟩ => ⟨S4096x1024, .f32⟩
  | .hbm, ⟨97, _⟩ => ⟨S1024x1024, .f32⟩
  | .hbm, ⟨98, _⟩ => ⟨S1024x1024, .f32⟩
  | .hbm, ⟨99, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩

abbrev nD : Nat := 1
abbrev τ : Topo := Topo.v7x

variable {F : FTy → Type} [FloatOps F]
-- ==== In.lean ====
abbrev S4096x1024 : Shape := ⟨2, ![4096, 1024]⟩
abbrev S1x1024 : Shape := ⟨2, ![1, 1024]⟩
abbrev S2304x1024 : Shape := ⟨2, ![2304, 1024]⟩
abbrev S4096x2304 : Shape := ⟨2, ![4096, 2304]⟩
abbrev S512x1024 : Shape := ⟨2, ![512, 1024]⟩
abbrev S512x2304 : Shape := ⟨2, ![512, 2304]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2304x1024, .f32⟩
  | .hbm, ⟨3, _⟩ => ⟨S2304x1024, .bf16⟩
  | .hbm, ⟨4, _⟩ => ⟨S4096x1024, .bf16⟩
  | .hbm, ⟨5, _⟩ => ⟨S4096x2304, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2304x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2304, .f32⟩
  | .local _ .vmem, ⟨7, _⟩ => ⟨S512x2304, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InRefIdeal.lean ====
abbrev S4096x1024 : Shape := ⟨2, ![4096, 1024]⟩
abbrev S1x1024 : Shape := ⟨2, ![1, 1024]⟩
abbrev S2304x1024 : Shape := ⟨2, ![2304, 1024]⟩
abbrev S_ : Shape := ⟨0, ![]⟩
abbrev S4096 : Shape := ⟨1, ![4096]⟩
abbrev S4096x1 : Shape := ⟨2, ![4096, 1]⟩
abbrev S1024x2304 : Shape := ⟨2, ![1024, 2304]⟩
abbrev S4096x2304 : Shape := ⟨2, ![4096, 2304]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2304x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S1024x2304, .f32⟩
  | .hbm, ⟨20, _⟩ => ⟨S4096x2304, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== InBwd.lean ====
abbrev S4096x512 : Shape := ⟨2, ![4096, 512]⟩
abbrev S4096x256 : Shape := ⟨2, ![4096, 256]⟩
abbrev S4096x128 : Shape := ⟨2, ![4096, 128]⟩
abbrev S4096x384 : Shape := ⟨2, ![4096, 384]⟩
abbrev S2304x1024 : Shape := ⟨2, ![2304, 1024]⟩
abbrev S4096x1024 : Shape := ⟨2, ![4096, 1024]⟩
abbrev S1x1024 : Shape := ⟨2, ![1, 1024]⟩
abbrev S4096x2304 : Shape := ⟨2, ![4096, 2304]⟩
abbrev S512x512 : Shape := ⟨2, ![512, 512]⟩
abbrev S512x256 : Shape := ⟨2, ![512, 256]⟩
abbrev S512x128 : Shape := ⟨2, ![512, 128]⟩
abbrev S512x384 : Shape := ⟨2, ![512, 384]⟩
abbrev S512x1024 : Shape := ⟨2, ![512, 1024]⟩
abbrev S512x2304 : Shape := ⟨2, ![512, 2304]⟩
abbrev S512 : Shape := ⟨1, ![512]⟩
abbrev S512x1 : Shape := ⟨2, ![512, 1]⟩
abbrev S1024 : Shape := ⟨1, ![1024]⟩

abbrev nBuf : Space → Nat
  | .hbm => 20
  | .vmem => 23
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x256, .f32⟩
  | .hbm, ⟨4, _⟩ => ⟨S4096x128, .f32⟩
  | .hbm, ⟨5, _⟩ => ⟨S4096x384, .f32⟩
  | .hbm, ⟨6, _⟩ => ⟨S2304x1024, .f32⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S4096x256, .bf16⟩
  | .hbm, ⟨14, _⟩ => ⟨S4096x128, .bf16⟩
  | .hbm, ⟨15, _⟩ => ⟨S4096x384, .bf16⟩
  | .hbm, ⟨16, _⟩ => ⟨S2304x1024, .bf16⟩
  | .hbm, ⟨17, _⟩ => ⟨S4096x2304, .bf16⟩
  | .hbm, ⟨18, _⟩ => ⟨S4096x1024, .f32⟩
  | .hbm, ⟨19, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S512x128, .bf16⟩
  | .local _ .vmem, ⟨9, _⟩ => ⟨S512x128, .bf16⟩
  | .local _ .vmem, ⟨10, _⟩ => ⟨S512x384, .bf16⟩
  | .local _ .vmem, ⟨11, _⟩ => ⟨S512x384, .bf16⟩
  | .local _ .vmem, ⟨12, _⟩ => ⟨S2304x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x2304, .bf16⟩
  | .local _ .vmem, ⟨19, _⟩ => ⟨S512x2304, .bf16⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_36 : BitVec 32 := 0#32
  let v55 : BitVec 1 := Scalar.cmpi .ne v54 c0_i32_36
  v55

def k0_cond2 (i : grid0.Coords) : BitVec 1 :=
  let arg0 : BitVec 32 := BitVec.ofNat 32 (i 0).val
  let c0_i32_37 : BitVec 32 := 0#32
  let v56 : BitVec 1 := Scalar.cmpi .sgt arg0 c0_i32_37
  let v57 : BitVec 32 := Scalar.extui v56
  let c0_i32_38 : BitVec 32 := 0#32
  let v58 : BitVec 1 := Scalar.cmpi .ne v57 c0_i32_38
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2304x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2304 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== InBwdRefIdeal.lean ====
abbrev S4096x512 : Shape := ⟨2, ![4096, 512]⟩
abbrev S4096x256 : Shape := ⟨2, ![4096, 256]⟩
abbrev S4096x128 : Shape := ⟨2, ![4096, 128]⟩
abbrev S4096x384 : Shape := ⟨2, ![4096, 384]⟩
abbrev S2304x1024 : Shape := ⟨2, ![2304, 1024]⟩
abbrev S4096x1024 : Shape := ⟨2, ![4096, 1024]⟩
abbrev S1x1024 : Shape := ⟨2, ![1, 1024]⟩
abbrev S4096x2304 : Shape := ⟨2, ![4096, 2304]⟩
abbrev S_ : Shape := ⟨0, ![]⟩
abbrev S4096 : Shape := ⟨1, ![4096]⟩
abbrev S4096x1 : Shape := ⟨2, ![4096, 1]⟩
abbrev S1024x2304 : Shape := ⟨2, ![1024, 2304]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x256, .f32⟩
  | .hbm, ⟨4, _⟩ => ⟨S4096x128, .f32⟩
  | .hbm, ⟨5, _⟩ => ⟨S4096x384, .f32⟩
  | .hbm, ⟨6, _⟩ => ⟨S2304x1024, .f32⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x2304, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1024x2304, .f32⟩
  | .hbm, ⟨31, _⟩ => ⟨S4096x2304, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x2304, .bf16⟩
  | .hbm, ⟨57, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]
-- ==== InW.lean ====
abbrev S4096x2304 : Shape := ⟨2, ![4096, 2304]⟩
abbrev S4096x1024 : Shape := ⟨2, ![4096, 1024]⟩
abbrev S2304x1024 : Shape := ⟨2, ![2304, 1024]⟩
abbrev S1024x2304 : Shape := ⟨2, ![1024, 2304]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2304, .f32⟩
  | .hbm, ⟨1, _⟩ => ⟨S4096x1024, .f32⟩
  | .hbm, ⟨2, _⟩ => ⟨S4096x2304, .bf16⟩
  | .hbm, ⟨3, _⟩ => ⟨S4096x1024, .bf16⟩
  | .hbm, ⟨4, _⟩ => ⟨S2304x1024, .f32⟩
  | .local _ .vmem, ⟨0, _⟩ => ⟨S1024x2304, .bf16⟩
  | .local _ .vmem, ⟨1, _⟩ => ⟨S1024x2304, .bf16⟩
  | .local _ .vmem, ⟨2, _⟩ => ⟨S1024x1024, .bf16⟩
  | .local _ .vmem, ⟨3, _⟩ => ⟨S1024x1024, .bf16⟩
  | .local _ .vmem, ⟨4, _⟩ => ⟨S2304x1024, .f32⟩
  | _, _ => ⟨S4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2304x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InWRefIdeal.lean ====
abbrev S4096x2304 : Shape := ⟨2, ![4096, 2304]⟩
abbrev S4096x1024 : Shape := ⟨2, ![4096, 1024]⟩
abbrev S_ : Shape := ⟨0, ![]⟩
abbrev S2304x1024 : Shape := ⟨2, ![2304, 1024]⟩
abbrev S1024x2304 : Shape := ⟨2, ![1024, 2304]⟩

abbrev nBuf : Space → Nat
  | .hbm => 9
  | .vmem => 0
  | .smem => 0
  | _ => 0

abbrev bufTy : (tb : Table) → Fin (tcTables nBuf tb) → BufTy
  | .hbm, ⟨0, _⟩ => ⟨S4096x2304, .f32⟩
  | .hbm, ⟨1, _⟩ => ⟨S4096x1024, .f32⟩
  | .hbm, ⟨2, _⟩ => ⟨S_, .f32⟩
  | .hbm, ⟨3, _⟩ => ⟨S2304x1024, .f32⟩
  | .hbm, ⟨4, _⟩ => ⟨S1024x2304, .f32⟩
  | .hbm, ⟨5, _⟩ => ⟨S4096x2304, .f32⟩
  | .hbm, ⟨6, _⟩ => ⟨S2304x1024, .f32⟩
  | .hbm, ⟨7, _⟩ => ⟨S1024x2304, .f32⟩
  | .hbm, ⟨8, _⟩ => ⟨S2304x1024, .f32⟩
  | _, _ => ⟨S4096x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UkvBwd.lean ====
abbrev S4096x512 : Shape := ⟨2, ![4096, 512]⟩
abbrev S256x1024 : Shape := ⟨2, ![256, 1024]⟩
abbrev S4096x2304 : Shape := ⟨2, ![4096, 2304]⟩
abbrev S1x256 : Shape := ⟨2, ![1, 256]⟩
abbrev S4096x256 : Shape := ⟨2, ![4096, 256]⟩
abbrev S512x512 : Shape := ⟨2, ![512, 512]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩
abbrev S256 : Shape := ⟨1, ![256]⟩

abbrev nBuf : Space → Nat
  | .hbm => 13
  | .vmem => 15
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S256x1024, .f32⟩
  | .hbm, ⟨3, _⟩ => ⟨S4096x2304, .f32⟩
  | .hbm, ⟨4, _⟩ => ⟨S1x256, .f32⟩
  | .hbm, ⟨5, _⟩ => ⟨S4096x256, .f32⟩
  | .hbm, ⟨6, _⟩ => ⟨S4096x512, .bf16⟩
  | .hbm, ⟨7, _⟩ => ⟨S4096x512, .bf16⟩
  | .hbm, ⟨8, _⟩ => ⟨S256x1024, .bf16⟩
  | .hbm, ⟨9, _⟩ => ⟨S4096x256, .bf16⟩
  | .hbm, ⟨10, _⟩ => ⟨S256x1024, .f32⟩
  | .hbm, ⟨11, _⟩ => ⟨S4096x256, .bf16⟩
  | .hbm, ⟨12, _⟩ => ⟨S1x256, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S256x1024, .bf16⟩
  | .local _ .vmem, ⟨5, _⟩ => ⟨S512x256, .f32⟩
  | .local _ .vmem, ⟨6, _⟩ => ⟨S512x256, .f32⟩
  | .local _ .vmem, ⟨7, _⟩ => ⟨S1x256, .f32⟩
  | .local _ .vmem, ⟨8, _⟩ => ⟨S512x256, .bf16⟩
  | .local _ .vmem, ⟨9, _⟩ => ⟨S512x256, .bf16⟩
  | .local _ .vmem, ⟨10, _⟩ => ⟨S256x1024, .f32⟩
  | .local _ .vmem, ⟨11, _⟩ => ⟨S512x256, .bf16⟩
  | .local _ .vmem, ⟨12, _⟩ => ⟨S512x256, .bf16⟩
  | .local _ .vmem, ⟨13, _⟩ => ⟨S1x256, .f32⟩
  | .local _ .vmem, ⟨14, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c0_i32_28 : BitVec 32 := 0#32
  let v52 : BitVec 1 := Scalar.cmpi .eq arg0 c0_i32_28
  let v53 : BitVec 32 := Scalar.extui v52
  let c0_i32_29 : BitVec 32 := 0#32
  let v54 : BitVec 1 := Scalar.cmpi .ne v53 c0_i32_29
  v54

def k0_cond4 (i : grid0.Coords) : BitVec 1 :=
  let arg0 : BitVec 32 := BitVec.ofNat 32 (i 0).val
  let c0_i32_30 : BitVec 32 := 0#32
  let v55 : BitVec 1 := Scalar.cmpi .sgt arg0 c0_i32_30
  let v56 : BitVec 32 := Scalar.extui v55
  let c0_i32_31 : BitVec 32 := 0#32
  let v57 : BitVec 1 := Scalar.cmpi .ne v56 c0_i32_31
  v57

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_22 : BitVec 32 := 0#32
  let v45 : BitVec 1 := Scalar.cmpi .ne v44 c0_i32_22
  v45

def k0_cond2 (i : grid0.Coords) : BitVec 1 :=
  let arg0 : BitVec 32 := BitVec.ofNat 32 (i 0).val
  let c0_i32_23 : BitVec 32 := 0#32
  let v46 : BitVec 1 := Scalar.cmpi .sgt arg0 c0_i32_23
  let v47 : BitVec 32 := Scalar.extui v46
  let c0_i32_24 : BitVec 32 := 0#32
  let v48 : BitVec 1 := Scalar.cmpi .ne v47 c0_i32_24
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== UkvBwdRefIdeal.lean ====
abbrev S4096x512 : Shape := ⟨2, ![4096, 512]⟩
abbrev S256x1024 : Shape := ⟨2, ![256, 1024]⟩
abbrev S4096x2304 : Shape := ⟨2, ![4096, 2304]⟩
abbrev S1x256 : Shape := ⟨2, ![1, 256]⟩
abbrev S4096x256 : Shape := ⟨2, ![4096, 256]⟩
abbrev S4096x1024 : Shape := ⟨2, ![4096, 1024]⟩
abbrev S1024x256 : Shape := ⟨2, ![1024, 256]⟩
abbrev S_ : Shape := ⟨0, ![]⟩
abbrev S4096 : Shape := ⟨1, ![4096]⟩
abbrev S4096x1 : Shape := ⟨2, ![4096, 1]⟩
abbrev S256 : Shape := ⟨1, ![256]⟩

abbrev nBuf : Space → Nat
  | .hbm => 56
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S256x1024, .f32⟩
  | .hbm, ⟨3, _⟩ => ⟨S4096x2304, .f32⟩
  | .hbm, ⟨4, _⟩ => ⟨S1x256, .f32⟩
  | .hbm, ⟨5, _⟩ => ⟨S4096x256, .f32⟩
  | .hbm, ⟨6, _⟩ => ⟨S4096x1024, .f32⟩
  | .hbm, ⟨7, _⟩ => ⟨S4096x1024, .f32⟩
  | .hbm, ⟨8, _⟩ => ⟨S1024x256, .f32⟩
  | .hbm, ⟨9, _⟩ => ⟨S256x1024, .f32⟩
  | .hbm, ⟨10, _⟩ => ⟨S4096x256, .f32⟩
  | .hbm, ⟨11, _⟩ => ⟨S4096x256, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S4096x1024, .f32⟩
  | .hbm, ⟨31, _⟩ => ⟨S4096x256, .f32⟩
  | .hbm, ⟨32, _⟩ => ⟨S4096x256, .f32⟩
  | .hbm, ⟨33, _⟩ => ⟨S_, .f32⟩
  | .hbm, ⟨34, _⟩ => ⟨S256, .f32⟩
  | .hbm, ⟨35, _⟩ => ⟨S1x256, .f32⟩
  | .hbm, ⟨36, _⟩ => ⟨S4096x256, .f32⟩
  | .hbm, ⟨37, _⟩ => ⟨S4096x256, .f32⟩
  | .hbm, ⟨38, _⟩ => ⟨S4096x256, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x256, .f32⟩
  | .hbm, ⟨43, _⟩ => ⟨S4096x256, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x256, .f32⟩
  | .hbm, ⟨51, _⟩ => ⟨S4096x256, .f32⟩
  | .hbm, ⟨52, _⟩ => ⟨S4096x256, .f32⟩
  | .hbm, ⟨53, _⟩ => ⟨S4096x256, .f32⟩
  | .hbm, ⟨54, _⟩ => ⟨S4096x256, .f32⟩
  | .hbm, ⟨55, _⟩ => ⟨S4096x256, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Loss.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S128x1024 : Shape := ⟨2, ![128, 1024]⟩
abbrev S128x2816 : Shape := ⟨2, ![128, 2816]⟩
abbrev S128 : Shape := ⟨1, ![128]⟩
abbrev S128x1 : Shape := ⟨2, ![128, 1]⟩
abbrev S1 : Shape := ⟨1, ![1]⟩
abbrev S1x1 : Shape := ⟨2, ![1, 1]⟩
abbrev S1024 : Shape := ⟨1, ![1024]⟩

abbrev nBuf : Space → Nat
  | .hbm => 10
  | .vmem => 12
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x2816, .bf16⟩
  | .hbm, ⟨6, _⟩ => ⟨S2816x1024, .bf16⟩
  | .hbm, ⟨7, _⟩ => ⟨S4096x1024, .f32⟩
  | .hbm, ⟨8, _⟩ => ⟨S1x1024, .f32⟩
  | .hbm, ⟨9, _⟩ => ⟨S1x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x128, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v237 : BitVec 1 := Scalar.cmpi .eq arg0 c0_i32
  let v238 : BitVec 32 := Scalar.extui v237
  let c0_i32_93 : BitVec 32 := 0#32
  let v239 : BitVec 1 := Scalar.cmpi .ne v238 c0_i32_93
  v239

def k0_cond2 (i : grid0.Coords) : BitVec 1 :=
  let arg0 : BitVec 32 := BitVec.ofNat 32 (i 0).val
  let c0_i32_94 : BitVec 32 := 0#32
  let v240 : BitVec 1 := Scalar.cmpi .sgt arg0 c0_i32_94
  let v241 : BitVec 32 := Scalar.extui v240
  let c0_i32_95 : BitVec 32 := 0#32
  let v242 : BitVec 1 := Scalar.cmpi .ne v241 c0_i32_95
  v242

def k0_cond3 (i : grid0.Coords) : BitVec 1 :=
  let arg0 : BitVec 32 := BitVec.ofNat 32 (i 0).val
  let c0_i32_96 : BitVec 32 := 0#32
  let v245 : BitVec 1 := Scalar.cmpi .eq arg0 c0_i32_96
  let v246 : BitVec 32 := Scalar.extui v245
  let c0_i32_97 : BitVec 32 := 0#32
  let v247 : BitVec 1 := Scalar.cmpi .ne v246 c0_i32_97
  v247

def k0_cond4 (i : grid0.Coords) : BitVec 1 :=
  let arg0 : BitVec 32 := BitVec.ofNat 32 (i 0).val
  let c0_i32_98 : BitVec 32 := 0#32
  let v248 : BitVec 1 := Scalar.cmpi .sgt arg0 c0_i32_98
  let v249 : BitVec 32 := Scalar.extui v248
  let c0_i32_99 : BitVec 32 := 0#32
  let v250 : BitVec 1 := Scalar.cmpi .ne v249 c0_i32_99
  v250

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S1x128, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]
-- ==== Proof.Chunk.lean ====
/-
The rows of one block of the convolution's backward pass, 256 at a time: the operations of one chunk as functions
of the rows read, and what each is on arrays of real numbers.
-/
module

public import proofs.«01_k».proof.Proof.Gen.KernelIdeal.Skeleton
public import Idealize.ShloMosaic.Lib.Pointwise
public import Idealize.ShloMosaic.Lib.ValueIdx
public import Idealize.ShloMosaic.PureOps.Ideal.Laws

@[expose] public section

set_option maxRecDepth 16384

noncomputable section

namespace Cert.Conv

open Idealize.ShloMosaic Idealize.SL.Sem Cert.KernelIdeal Cert.KernelIdeal.Gen

/-! ## The operations of one chunk -/

section Ops
variable {F : FTy → Type} [FloatOps F]

/-- The eight rows before a chunk, then the chunk. -/
def ext (prev : FVec F S8x512 .f32) (cur : FVec F S256x512 .f32) : FVec F S264x512 .f32 :=
  concatenate S264x512 0 [⟨S8x512, prev⟩, ⟨S256x512, cur⟩] concatenates_S8x512_S256x512_S264x512_d0

/-- The rows one before the chunk's. -/
def back1 (e : FVec F S264x512 .f32) : FVec F S256x512 .f32 :=
  extractStridedSlice S256x512 ![8, 0] (dynamicRotate 0 1#32 none e rotates_S264x512_d0) slices_S264x512_o8_0_S256x512

/-- The rows two before the chunk's. -/
def back2 (e : FVec F S264x512 .f32) : FVec F S256x512 .f32 :=
  extractStridedSlice S256x512 ![8, 0] (dynamicRotate 0 2#32 none e rotates_S264x512_d0) slices_S264x512_o8_0_S256x512

/-- Three taps and the bias. -/
def taps (w0 w1 w2 b : FVec F S1x512 .f32) (cur u1 u2 : FVec F S256x512 .f32) : FVec F S256x512 .f32 :=
  addf (addf (addf (mulf (broadcastTo S256x512 w2 broadcasts_S1x512_S256x512) cur)
    (mulf (broadcastTo S256x512 w1 broadcasts_S1x512_S256x512) u1))
    (mulf (broadcastTo S256x512 w0 broadcasts_S1x512_S256x512) u2))
    (broadcastTo S256x512 b broadcasts_S1x512_S256x512)

/-- The gate half of the convolution's rows. -/
def gate (y : FVec F S256x512 .f32) : FVec F S256x256 .f32 :=
  extractStridedSlice S256x256 ![0, 0] y slices_S256x512_o0_0_S256x256

/-- The value half of the convolution's rows. -/
def val (y : FVec F S256x512 .f32) : FVec F S256x256 .f32 :=
  extractStridedSlice S256x256 ![0, 256] y slices_S256x512_o0_256_S256x256

/-- All ones. -/
def ones : FVec F S256x256 .f32 := broadcast S256x256 (Scalar.ofBits .f32 0x3F800000#32)

/-- The logistic function. -/
def logistic (g : FVec F S256x256 .f32) : FVec F S256x256 .f32 :=
  divf ones (addf ones (exp (subf (broadcast S256x256 (Scalar.ofBits .f32 0x00000000#32)) g)))

/-- The rows of `dx` times the rows of `wd`. -/
def dact (dx : FVec F S256x1024 .f32) (wd : FVec F S256x1024 .bf16) : FVec F S256x256 .f32 :=
  matmul dot_S256x1024_S256x1024_S256x256_1_1_0_0_n_n none (truncf .bf16 dx bitsLt_bf16_f32) wd
    (constant S256x256 .f32 0x00000000#32)

/-- The gradient of the down projection's weights, one chunk's part added to `acc`. -/
def dwdAcc (acc : FVec F S256x1024 .f32) (g v : FVec F S256x256 .f32) (dx : FVec F S256x1024 .f32) : FVec F S256x1024 .f32 :=
  addf acc (matmul dot_S256x256_S256x1024_S256x1024_0_0_1_1_n_n none
    (truncf .bf16 (mulf (mulf g (logistic g)) v) bitsLt_bf16_f32) (truncf .bf16 dx bitsLt_bf16_f32)
    (constant S256x1024 .f32 0x00000000#32))

/-- The gradient of the convolution's rows: gate half, then value half. -/
def dconv (da g v : FVec F S256x256 .f32) : FVec F S256x512 .f32 :=
  concatenate S256x512 1 [⟨S256x256, mulf (mulf da v) (mulf (logistic g) (addf ones (mulf g (subf ones (logistic g)))))⟩,
    ⟨S256x256, mulf da (mulf g (logistic g))⟩] concatenates_S256x256_S256x256_S256x512_d1

/-- One chunk's column sums added to `acc`. -/
def colAcc (acc : FVec F S1x512 .f32) (x : FVec F S256x512 .f32) : FVec F S1x512 .f32 :=
  addf acc (shapeCast S1x512 (multiReduction .add [0] S512 x 0x00000000#32 reduces_S256x512_S512 (.inl rfl) rfl)
    shapeCasts_S512_S1x512)

/-- The rows of the gradient of the input from the rows of the convolution's gradient and the eight after them. -/
def duRows (w0 w1 w2 : FVec F S1x512 .f32) (e : FVec F S264x512 .f32) : FVec F S256x512 .bf16 :=
  truncf .bf16 (addf (addf (mulf (broadcastTo S256x512 w2 broadcasts_S1x512_S256x512)
      (extractStridedSlice S256x512 ![0, 0] e slices_S264x512_o0_0_S256x512))
    (mulf (broadcastTo S256x512 w1 broadcasts_S1x512_S256x512)
      (extractStridedSlice S256x512 ![0, 0] (dynamicRotate 0 263#32 none e rotates_S264x512_d0) slices_S264x512_o0_0_S256x512)))
    (mulf (broadcastTo S256x512 w0 broadcasts_S1x512_S256x512)
      (extractStridedSlice S256x512 ![0, 0] (dynamicRotate 0 262#32 none e rotates_S264x512_d0) slices_S264x512_o0_0_S256x512)))
    bitsLt_bf16_f32

end Ops

/-! ## The same operations on real numbers -/

/-- An array of rank two whose entries are the real numbers `f row column`. -/
def lift {φ : FTy} (a b : ℕ) (f : ℕ → ℕ → ℝ) : FVec Ideal ⟨2, ![a, b]⟩ φ := fun i => ((f (i 0).val (i 1).val : ℝ) : EReal)

theorem lift_congr {φ : FTy} {a b : ℕ} {f g : ℕ → ℕ → ℝ} (h : ∀ r, r < a → ∀ l, l < b → f r l = g r l) :
    (lift a b f : FVec Ideal ⟨2, ![a, b]⟩ φ) = lift a b g := by
  funext i
  exact congrArg (fun x : ℝ => (x : EReal)) (h _ (i 0).isLt _ (i 1).isLt)

/-- `f` moved `s` places on, zero before that. -/
def sh (f : ℕ → ℝ) (s t : ℕ) : ℝ := if s ≤ t then f (t - s) else 0

/-- `f` read `s` places ahead, zero from 2048 on. -/
def ahead (f : ℕ → ℝ) (s t : ℕ) : ℝ := if t + s < 2048 then f (t + s) else 0

/-- The logistic function. -/
def sg (x : ℝ) : ℝ := 1 / (1 + Real.exp (-x))

/-- The causal convolution of one column. -/
def conv (w0 w1 w2 b : ℝ) (f : ℕ → ℝ) (t : ℕ) : ℝ := w2 * f t + w1 * sh f 1 t + w0 * sh f 2 t + b

/-- The gradient through the gate. -/
def dGate (da g v : ℝ) : ℝ := da * v * (sg g * (1 + g * (1 - sg g)))

/-- The gradient through the value. -/
def dVal (da g : ℝ) : ℝ := da * (g * sg g)

/-- The gradient of the convolution's input, one column. -/
def unconv (w0 w1 w2 : ℝ) (d : ℕ → ℝ) (t : ℕ) : ℝ := w2 * d t + w1 * ahead d 1 t + w0 * ahead d 2 t

theorem coe_sum_range (n : ℕ) (f : ℕ → ℝ) :
    (∑ k : Fin n, ((f k.val : ℝ) : EReal)) = ((∑ k ∈ Finset.range n, f k : ℝ) : EReal) := by
  rw [Finset.sum_range]
  exact (map_sum (⟨⟨Real.toEReal, rfl⟩, EReal.coe_add⟩ : ℝ →+ EReal) _ _).symm

theorem one_add_exp_ne (x : ℝ) : 1 + Real.exp x ≠ 0 := by positivity

theorem ext_lift (f g : ℕ → ℕ → ℝ) :
    ext (F := Ideal) (lift 8 512 f) (lift 256 512 g) = lift 264 512 (fun r l => if r < 8 then f r l else g (r - 8) l) := by
  funext j
  idx_vars j
  unfold ext lift
  pointwise
  split_ifs <;> rfl

theorem back1_lift (f : ℕ → ℕ → ℝ) :
    back1 (F := Ideal) (lift 264 512 f) = lift 256 512 (fun r l => f (r + 7) l) := by
  funext j
  idx_vars j
  unfold back1 lift
  pointwise
  congr 2
  have := j0.isLt
  omega

theorem back2_lift (f : ℕ → ℕ → ℝ) :
    back2 (F := Ideal) (lift 264 512 f) = lift 256 512 (fun r l => f (r + 6) l) := by
  funext j
  idx_vars j
  unfold back2 lift
  pointwise
  congr 2
  have := j0.isLt
  omega

theorem taps_lift (w0 w1 w2 b : ℕ → ℕ → ℝ) (c u1 u2 : ℕ → ℕ → ℝ) :
    taps (F := Ideal) (lift 1 512 w0) (lift 1 512 w1) (lift 1 512 w2) (lift 1 512 b) (lift 256 512 c) (lift 256 512 u1)
      (lift 256 512 u2) = lift 256 512 (fun r l => w2 0 l * c r l + w1 0 l * u1 r l + w0 0 l * u2 r l + b 0 l) := by
  funext j
  idx_vars j
  unfold taps lift
  pointwise
  push_cast
  rfl

theorem gate_lift (y : ℕ → ℕ → ℝ) : gate (F := Ideal) (lift 256 512 y) = lift 256 256 y := by
  funext j
  idx_vars j
  unfold gate lift
  pointwise

theorem val_lift (y : ℕ → ℕ → ℝ) : val (F := Ideal) (lift 256 512 y) = lift 256 256 (fun r q => y r (256 + q)) := by
  funext j
  idx_vars j
  unfold val lift
  pointwise

theorem logistic_lift (f : ℕ → ℕ → ℝ) :
    logistic (F := Ideal) (lift 256 256 f) = lift 256 256 (fun r l => sg (f r l)) := by
  funext j
  idx_vars j
  unfold logistic lift ones
  pointwise
  rw [show (0 : EReal) - ((f j0 j1 : ℝ) : EReal) = ((- f j0 j1 : ℝ) : EReal) by push_cast; exact zero_sub _, Ideal.exp_coe,
    show (1 : EReal) + ((Real.exp (- f j0 j1) : ℝ) : EReal) = ((1 + Real.exp (- f j0 j1) : ℝ) : EReal) by push_cast; rfl,
    Ideal.div_coe (one_add_exp_ne _), one_mul]
  rfl

theorem dact_lift (f g : ℕ → ℕ → ℝ) :
    dact (F := Ideal) (lift 256 1024 f) (lift 256 1024 g) = lift 256 256 (fun r q => ∑ d ∈ Finset.range 1024, f r d * g q d) := by
  funext j
  idx_vars j
  unfold dact lift
  pointwise
  rw [← coe_sum_range]
  push_cast
  rfl

theorem dwdAcc_lift (a : ℕ → ℕ → ℝ) (g v x : ℕ → ℕ → ℝ) :
    dwdAcc (F := Ideal) (lift 256 1024 a) (lift 256 256 g) (lift 256 256 v) (lift 256 1024 x)
      = lift 256 1024 (fun q d => a q d + ∑ r ∈ Finset.range 256, (g r q * sg (g r q) * v r q) * x r d) := by
  unfold dwdAcc
  rw [logistic_lift]
  funext j
  idx_vars j
  unfold lift
  pointwise
  rw [EReal.coe_add, ← coe_sum_range]
  push_cast
  rfl

theorem dconv_lift (da g v : ℕ → ℕ → ℝ) :
    dconv (F := Ideal) (lift 256 256 da) (lift 256 256 g) (lift 256 256 v)
      = lift 256 512 (fun r l => if l < 256 then dGate (da r l) (g r l) (v r l) else dVal (da r (l - 256)) (g r (l - 256))) := by
  unfold dconv
  rw [logistic_lift]
  funext j
  idx_vars j
  unfold lift ones dGate dVal
  pointwise
  split_ifs
  · push_cast
    rfl
  · push_cast
    rfl

theorem colAcc_lift (f g : ℕ → ℕ → ℝ) :
    colAcc (F := Ideal) (lift 1 512 f) (lift 256 512 g) = lift 1 512 (fun r l => f r l + ∑ k ∈ Finset.range 256, g k l) := by
  funext j
  idx_vars j
  unfold colAcc lift
  pointwise
  rw [EReal.coe_add, ← coe_sum_range]

theorem mulf_lift {φ : FTy} {a b : ℕ} (f g : ℕ → ℕ → ℝ) :
    mulf (F := Ideal) (lift a b f : FVec Ideal ⟨2, ![a, b]⟩ φ) (lift a b g) = lift a b (fun r l => f r l * g r l) := by
  funext j
  exact (EReal.coe_mul _ _).symm

theorem duRows_lift (w0 w1 w2 e : ℕ → ℕ → ℝ) :
    duRows (F := Ideal) (lift 1 512 w0) (lift 1 512 w1) (lift 1 512 w2) (lift 264 512 e)
      = lift 256 512 (fun r l => w2 0 l * e r l + w1 0 l * e (r + 1) l + w0 0 l * e (r + 2) l) := by
  funext j
  idx_vars j
  have h := j0.isLt
  unfold duRows lift
  pointwise
  push_cast
  rw [show (j0.val + 1) % 264 = j0.val + 1 by omega, show (j0.val + 2) % 264 = j0.val + 2 by omega]

end Cert.Conv
end
-- ==== Proof.Finite.lean ====
/-
The precondition read as real numbers: an array whose every entry is less than infinity in absolute value holds the
real numbers of some function of row and column.
-/
module

public import proofs.«01_k».proof.Pre_all_finite
public import proofs.«01_k».proof.Proof.Chunk
public import Idealize.ShloMosaic.Lib.IdealHost

@[expose] public section

set_option maxRecDepth 16384

noncomputable section

open Idealize.ShloMosaic Cert.Conv

namespace Cert.Pre_all_finite

/-- The precondition's broadcasts. -/
theorem bcasts : Facts where
  bcast_S_S4096x5632 := by decide
  bcast_S_S4096x1024 := by decide
  bcast_S_S2816x1024 := by decide
  bcast_S_S3x5632 := by decide
  bcast_S_S1x5632 := by decide

theorem inf_f32 : (Ideal.ofBits .f32 0x7F800000#32 : EReal) = ⊤ := by
  simp [Ideal.ofBits, Ideal.ieee]

/-- An array of finite entries is the array of their real numbers. -/
theorem real_of_finite {a b : ℕ} (x : FVec Ideal ⟨2, ![a, b]⟩ .f32)
    (h : S_.BroadcastsInDim ⟨2, ![a, b]⟩ (![] : Fin 0 → Fin (⟨2, ![a, b]⟩ : Shape).rank))
    (hx : cmpf .olt (Host.absf x) (broadcastInDim ⟨2, ![a, b]⟩ ![] h (constant (F := Ideal) S_ .f32 0x7F800000#32))
      = fun _ => 1#1) :
    ∃ f : ℕ → ℕ → ℝ, x = lift a b f := by
  have hfin : ∀ i, x i ≠ ⊤ ∧ x i ≠ ⊥ := by
    intro i
    have e := congrFun hx i
    have e' : Ideal.cmp .olt (max (x i) (-(x i))) (Ideal.ofBits .f32 0x7F800000#32) = 1#1 := e
    rw [inf_f32] at e'
    have lt : max (x i) (-(x i)) < (⊤ : EReal) := by
      by_contra hn
      simp [Ideal.cmp, hn] at e'
    refine ⟨fun ht => ?_, fun hb => ?_⟩
    · rw [ht] at lt; simp at lt
    · rw [hb] at lt; simp at lt
  refine ⟨fun r c => if h : r < a ∧ c < b then (x (ValueIdx.ix2 ⟨r, h.1⟩ ⟨c, h.2⟩)).toReal else 0, ?_⟩
  funext i
  unfold lift
  have hi : (i 0).val < a ∧ (i 1).val < b := ⟨(i 0).isLt, (i 1).isLt⟩
  have e2 : ValueIdx.ix2 ⟨(i 0).val, hi.1⟩ ⟨(i 1).val, hi.2⟩ = i := by
    funext k
    match k with
    | ⟨0, _⟩ => rfl
    | ⟨1, _⟩ => rfl
  beta_reduce
  rw [dif_pos hi, e2]
  exact (EReal.coe_toReal (hfin i).1 (hfin i).2).symm

end Cert.Pre_all_finite

end
-- ==== Proof.Block.lean ====
/-
One block of the convolution's backward pass on real numbers: what each chunk of 256 rows leaves, and the sums of
the eight chunks.
-/
module

public import proofs.«01_k».proof.Proof.Chunk
public import Idealize.ShloMosaic.Lib.Ring
public import Idealize.ShloMosaic.Lib.Pipeline.ValueKit.Tiles

@[expose] public section

set_option maxRecDepth 16384

noncomputable section

namespace Cert.Conv

open Idealize.ShloMosaic Idealize.SL.Sem Cert.KernelIdeal Cert.KernelIdeal.Gen

/-! ## A chunk's values, with the casts of the loads -/

section Ops
variable {F : FTy → Type} [FloatOps F]

/-- The first chunk with eight rows of zeros before it. -/
def extFirst (cur : Vec F S256x512 .f32) : FVec F S264x512 .f32 :=
  ext (broadcast S8x512 (Scalar.ofBits .f32 0x00000000#32)) (shapeCast S256x512 cur shapeCasts_S256x512_S256x512)

/-- A later chunk with the eight rows before it. -/
def extNext (prev : Vec F S8x512 .f32) (cur : Vec F S256x512 .f32) : FVec F S264x512 .f32 :=
  ext (shapeCast S8x512 prev shapeCasts_S8x512_S8x512) (shapeCast S256x512 cur shapeCasts_S256x512_S256x512)

/-- The convolution's rows. -/
def rowsY (w0 w1 w2 b : Vec F S1x512 .f32) (cur : Vec F S256x512 .f32) (e : FVec F S264x512 .f32) : FVec F S256x512 .f32 :=
  taps (shapeCast S1x512 w0 shapeCasts_S1x512_S1x512) (shapeCast S1x512 w1 shapeCasts_S1x512_S1x512)
    (shapeCast S1x512 w2 shapeCasts_S1x512_S1x512) (shapeCast S1x512 b shapeCasts_S1x512_S1x512)
    (shapeCast S256x512 cur shapeCasts_S256x512_S256x512) (back1 e) (back2 e)

/-- The gradient of the convolution's rows. -/
def rowsD (w0 w1 w2 b : Vec F S1x512 .f32) (wd : Vec F S256x1024 .bf16) (cur : Vec F S256x512 .f32) (e : FVec F S264x512 .f32)
    (dx : Vec F S256x1024 .f32) : FVec F S256x512 .f32 :=
  dconv (dact dx (shapeCast S256x1024 wd shapeCasts_S256x1024_S256x1024)) (gate (rowsY w0 w1 w2 b cur e))
    (val (rowsY w0 w1 w2 b cur e))

/-- The same rows as they are stored. -/
def rowsS (w0 w1 w2 b : Vec F S1x512 .f32) (wd : Vec F S256x1024 .bf16) (cur : Vec F S256x512 .f32) (e : FVec F S264x512 .f32)
    (dx : Vec F S256x1024 .f32) : FVec F S256x512 .f32 :=
  shapeCast S256x512 (rowsD w0 w1 w2 b wd cur e dx) shapeCasts_S256x512_S256x512

/-- The rows of the input's gradient as they are stored. -/
def rowsU (w0 w1 w2 : Vec F S1x512 .f32) (e : Vec F S264x512 .f32) : FVec F S256x512 .bf16 :=
  duRows (shapeCast S1x512 w0 shapeCasts_S1x512_S1x512) (shapeCast S1x512 w1 shapeCasts_S1x512_S1x512)
    (shapeCast S1x512 w2 shapeCasts_S1x512_S1x512) e

end Ops

/-! ## The block on real numbers -/

variable (X DX WD W B : ℕ → ℕ → ℝ)

/-- The convolution. -/
def yB (r l : ℕ) : ℝ := conv (W 0 l) (W 1 l) (W 2 l) (B 0 l) (fun t => X t l) r

/-- The gradient of the activation. -/
def aB (r q : ℕ) : ℝ := ∑ d ∈ Finset.range 1024, DX r d * WD q d

/-- The gradient of the convolution. -/
def dB (r l : ℕ) : ℝ :=
  if l < 256 then dGate (aB DX WD r l) (yB X W B r l) (yB X W B r (256 + l))
  else dVal (aB DX WD r (l - 256)) (yB X W B r (l - 256))

/-- The activation. -/
def actB (r q : ℕ) : ℝ := yB X W B r q * sg (yB X W B r q) * yB X W B r (256 + q)

variable {X DX WD W B}

theorem shapeCast_lift {φ : FTy} {a b : ℕ} (f : ℕ → ℕ → ℝ) (h) :
    shapeCast ⟨2, ![a, b]⟩ (lift a b f : FVec Ideal ⟨2, ![a, b]⟩ φ) h = lift a b f := shapeCast_self _ _

theorem extFirst_lift {cur : FVec Ideal S256x512 .f32} (hc : cur = lift 256 512 (fun r l => X (0 + r) l)) :
    extFirst cur = lift 264 512 (fun r l => sh (fun t => X t l) 8 (0 + r)) := by
  subst hc
  have hz : (broadcast S8x512 (Scalar.ofBits .f32 0x00000000#32) : FVec Ideal S8x512 .f32) = lift 8 512 (fun _ _ => 0) := by
    funext j
    unfold lift
    pointwise
    rfl
  unfold extFirst
  rw [hz, shapeCast_lift, ext_lift]
  refine lift_congr fun r hr l hl => ?_
  unfold sh
  simp only [Nat.zero_add]
  split_ifs <;> first | rfl | omega

theorem extNext_lift {o : ℕ} {prev : FVec Ideal S8x512 .f32} {cur : FVec Ideal S256x512 .f32}
    (hp : prev = lift 8 512 (fun r l => X (o + r) l)) (hc : cur = lift 256 512 (fun r l => X (o + 8 + r) l)) :
    extNext prev cur = lift 264 512 (fun r l => sh (fun t => X t l) 8 (o + 8 + r)) := by
  subst hp hc
  unfold extNext
  rw [shapeCast_lift, shapeCast_lift, ext_lift]
  refine lift_congr fun r hr l hl => ?_
  unfold sh
  simp only [show 8 ≤ o + 8 + r by omega, if_true]
  split_ifs
  · rw [show o + 8 + r - 8 = o + r by omega]
  · rw [show o + 8 + (r - 8) = o + 8 + r - 8 by omega]

theorem back_sh (f : ℕ → ℝ) (o r : ℕ) : sh f 8 (o + (r + 7)) = sh f 1 (o + r) ∧ sh f 8 (o + (r + 6)) = sh f 2 (o + r) := by
  unfold sh
  constructor
  · simp only [show (8 ≤ o + (r + 7)) ↔ (1 ≤ o + r) by omega, show o + (r + 7) - 8 = o + r - 1 by omega]
  · simp only [show (8 ≤ o + (r + 6)) ↔ (2 ≤ o + r) by omega, show o + (r + 6) - 8 = o + r - 2 by omega]

section
variable {o : ℕ} {w0 w1 w2 b : FVec Ideal S1x512 .f32} {wd : FVec Ideal S256x1024 .bf16} {cur : FVec Ideal S256x512 .f32}
  {e : FVec Ideal S264x512 .f32} {dx : FVec Ideal S256x1024 .f32}

theorem back1_eq (he : e = lift 264 512 (fun r l => sh (fun t => X t l) 8 (o + r))) :
    back1 e = lift 256 512 (fun r l => sh (fun t => X t l) 1 (o + r)) := by
  subst he
  rw [back1_lift]
  exact lift_congr fun r hr l hl => (back_sh _ _ _).1

theorem back2_eq (he : e = lift 264 512 (fun r l => sh (fun t => X t l) 8 (o + r))) :
    back2 e = lift 256 512 (fun r l => sh (fun t => X t l) 2 (o + r)) := by
  subst he
  rw [back2_lift]
  exact lift_congr fun r hr l hl => (back_sh _ _ _).2

theorem rowsY_eq (h0 : w0 = lift 1 512 (fun r l => W (0 + r) l)) (h1 : w1 = lift 1 512 (fun r l => W (1 + r) l))
    (h2 : w2 = lift 1 512 (fun r l => W (2 + r) l)) (hb : b = lift 1 512 (fun r l => B (0 + r) l))
    (hc : cur = lift 256 512 (fun r l => X (o + r) l))
    (he : e = lift 264 512 (fun r l => sh (fun t => X t l) 8 (o + r))) :
    rowsY w0 w1 w2 b cur e = lift 256 512 (fun r l => yB X W B (o + r) l) := by
  unfold rowsY
  rw [back1_eq he, back2_eq he]
  subst h0 h1 h2 hb hc
  simp only [shapeCast_lift]
  exact (taps_lift _ _ _ _ _ _ _).trans rfl

theorem rowsD_eq (h0 : w0 = lift 1 512 (fun r l => W (0 + r) l)) (h1 : w1 = lift 1 512 (fun r l => W (1 + r) l))
    (h2 : w2 = lift 1 512 (fun r l => W (2 + r) l)) (hb : b = lift 1 512 (fun r l => B (0 + r) l))
    (hd : wd = lift 256 1024 (fun r l => WD (0 + r) l))
    (hc : cur = lift 256 512 (fun r l => X (o + r) l))
    (he : e = lift 264 512 (fun r l => sh (fun t => X t l) 8 (o + r)))
    (hx : dx = lift 256 1024 (fun r l => DX (o + r) l)) :
    rowsD w0 w1 w2 b wd cur e dx = lift 256 512 (fun r l => dB X DX WD W B (o + r) l) := by
  unfold rowsD
  rw [rowsY_eq h0 h1 h2 hb hc he]
  subst hd hx
  rw [shapeCast_lift, dact_lift, gate_lift, val_lift, dconv_lift]
  simp only [Nat.zero_add]
  rfl

theorem rowsS_eq (h0 : w0 = lift 1 512 (fun r l => W (0 + r) l)) (h1 : w1 = lift 1 512 (fun r l => W (1 + r) l))
    (h2 : w2 = lift 1 512 (fun r l => W (2 + r) l)) (hb : b = lift 1 512 (fun r l => B (0 + r) l))
    (hd : wd = lift 256 1024 (fun r l => WD (0 + r) l))
    (hc : cur = lift 256 512 (fun r l => X (o + r) l))
    (he : e = lift 264 512 (fun r l => sh (fun t => X t l) 8 (o + r)))
    (hx : dx = lift 256 1024 (fun r l => DX (o + r) l)) :
    rowsS w0 w1 w2 b wd cur e dx = lift 256 512 (fun r l => dB X DX WD W B (o + r) l) := by
  unfold rowsS
  rw [rowsD_eq h0 h1 h2 hb hd hc he hx, shapeCast_lift]

end

theorem rowsU_eq {o : ℕ} {w0 w1 w2 : FVec Ideal S1x512 .f32} {e : FVec Ideal S264x512 .f32} {d : ℕ → ℕ → ℝ} (ho : o + 256 ≤ 2048)
    (h0 : w0 = lift 1 512 (fun r l => W (0 + r) l)) (h1 : w1 = lift 1 512 (fun r l => W (1 + r) l))
    (h2 : w2 = lift 1 512 (fun r l => W (2 + r) l))
    (he : e = lift 264 512 (fun r l => if o + r < 2048 then d (o + r) l else 0)) :
    rowsU w0 w1 w2 e = lift 256 512 (fun r l => unconv (W 0 l) (W 1 l) (W 2 l) (fun t => d t l) (o + r)) := by
  unfold rowsU
  subst h0 h1 h2 he
  simp only [shapeCast_lift]
  rw [duRows_lift]
  refine lift_congr fun r hr l hl => ?_
  unfold unconv ahead
  simp only [show o + r < 2048 by omega, if_true, ← Nat.add_assoc, Nat.zero_add, Nat.add_zero]

/-! ## Pieces of an array -/

/-- A piece of the array of the real numbers `g`. -/
theorem piece {φ : FTy} {n k a b o : ℕ} (inb) {v : Shape.Idx ⟨2, ![a, b]⟩ → Ideal φ} {g : ℕ → ℕ → ℝ}
    (h : v = (lift a b (fun r l => g (o + r) l) : FVec Ideal ⟨2, ![a, b]⟩ φ)) (x : Shape.Idx ⟨2, ![a, b]⟩) :
    v x = (lift n k g : FVec Ideal ⟨2, ![n, k]⟩ φ) ((Rect.unit (s := ⟨2, ![n, k]⟩) ![o, 0] ![a, b] inb).emb x) := by
  subst h
  have h0 := Rect.idx_unit_val (s := ⟨2, ![n, k]⟩) ![o, 0] ![a, b] inb x 0
  have h1 := Rect.idx_unit_val (s := ⟨2, ![n, k]⟩) ![o, 0] ![a, b] inb x 1
  exact congrArg₂ (fun r l => ((g r l : ℝ) : EReal)) h0.symm (h1.trans (Nat.zero_add _)).symm

/-- A load of part of an array of real numbers. -/
theorem ld32 {n k a b o : ℕ} (inb) {v : Vec Ideal ⟨2, ![n, k]⟩ .f32} {g : ℕ → ℕ → ℝ}
    (h : v = (lift n k g : FVec Ideal ⟨2, ![n, k]⟩ .f32)) :
    (View.ld v (Rect.unit (s := ⟨2, ![n, k]⟩) ![o, 0] ![a, b] inb) : FVec Ideal ⟨2, ![a, b]⟩ .f32)
      = lift (φ := .f32) a b (fun r l => g (o + r) l) := by
  subst h
  funext x
  exact (piece inb rfl x).symm

/-- A load of part of a bf16 array of real numbers. -/
theorem ld16 {n k a b o : ℕ} (inb) {v : Vec Ideal ⟨2, ![n, k]⟩ .bf16} {g : ℕ → ℕ → ℝ}
    (h : v = (lift n k g : FVec Ideal ⟨2, ![n, k]⟩ .bf16)) :
    (View.ld v (Rect.unit (s := ⟨2, ![n, k]⟩) ![o, 0] ![a, b] inb) : FVec Ideal ⟨2, ![a, b]⟩ .bf16)
      = lift (φ := .bf16) a b (fun r l => g (o + r) l) := by
  subst h
  funext x
  exact (piece inb rfl x).symm

/-! ## Stores of whole rows, one below the other -/

section
variable {e : EltTy} {n k a o : ℕ}

/-- What the stores `L` leave in the rows before `hi` is `G`. -/
def RowsTo (G : Vec Ideal ⟨2, ![n, k]⟩ e) (L : List (View.Piece (Elt Ideal) ⟨2, ![n, k]⟩ e)) (hi : ℕ) : Prop :=
  ∀ y : Shape.Idx ⟨2, ![n, k]⟩, (y 0).val < hi → View.canon L y = G y

theorem RowsTo.nil (G : Vec Ideal ⟨2, ![n, k]⟩ e) : RowsTo G [] 0 := fun y h => absurd h (Nat.not_lt_zero _)

theorem RowsTo.cons {G : Vec Ideal ⟨2, ![n, k]⟩ e} {L : List (View.Piece (Elt Ideal) ⟨2, ![n, k]⟩ e)} (inb)
    {v : Vec Ideal ⟨2, ![a, k]⟩ e}
    (hv : ∀ x, v x = G ((Rect.unit (s := ⟨2, ![n, k]⟩) ![o, 0] ![a, k] inb).emb x)) (h : RowsTo G L o) :
    RowsTo G (⟨Rect.unit (s := ⟨2, ![n, k]⟩) ![o, 0] ![a, k] inb, v⟩ :: L) (o + a) := by
  intro y hy
  by_cases hm : y ∈ (Rect.unit (s := ⟨2, ![n, k]⟩) ![o, 0] ![a, k] inb).set
  · obtain ⟨x, rfl⟩ := (Rect.unit (s := ⟨2, ![n, k]⟩) ![o, 0] ![a, k] inb).toLoadRect.exists_idx_of_mem hm
    exact (View.canon_cons_emb (Rect.unit (s := ⟨2, ![n, k]⟩) ![o, 0] ![a, k] inb) v L x).trans (hv x)
  · refine (View.canon_cons_of_not_mem ⟨Rect.unit (s := ⟨2, ![n, k]⟩) ![o, 0] ![a, k] inb, v⟩ L hm).trans (h y ?_)
    by_contra hc
    refine hm (Rect.mem_set_unit.mpr fun i => ?_)
    match i with
    | ⟨0, _⟩ => exact ⟨Nat.le_of_not_lt hc, hy⟩
    | ⟨1, _⟩ => exact ⟨Nat.zero_le _, by simpa using (y 1).isLt⟩

theorem RowsTo.eq {G : Vec Ideal ⟨2, ![n, k]⟩ e} {L : List (View.Piece (Elt Ideal) ⟨2, ![n, k]⟩ e)} (h : RowsTo G L n) :
    View.canon L = G := funext fun y => h y (y 0).isLt

end

/-! ## Sums of eight chunks -/

/-- A sum over 2048 rows, 256 at a time. -/
theorem sum_chunks (f : ℕ → ℝ) (z : ℝ) :
    z + (∑ r ∈ Finset.range 256, f (0 + r)) + (∑ r ∈ Finset.range 256, f (256 + r)) + (∑ r ∈ Finset.range 256, f (512 + r))
      + (∑ r ∈ Finset.range 256, f (768 + r)) + (∑ r ∈ Finset.range 256, f (1024 + r)) + (∑ r ∈ Finset.range 256, f (1280 + r))
      + (∑ r ∈ Finset.range 256, f (1536 + r)) + (∑ r ∈ Finset.range 256, f (1792 + r))
      = z + ∑ r ∈ Finset.range 2048, f r := by
  rw [show 2048 = 1792 + 256 from rfl, Finset.sum_range_add, show 1792 = 1536 + 256 from rfl, Finset.sum_range_add,
    show 1536 = 1280 + 256 from rfl, Finset.sum_range_add, show 1280 = 1024 + 256 from rfl, Finset.sum_range_add,
    show 1024 = 768 + 256 from rfl, Finset.sum_range_add, show 768 = 512 + 256 from rfl, Finset.sum_range_add,
    show 512 = 256 + 256 from rfl, Finset.sum_range_add]
  simp only [Nat.zero_add]
  ring

end Cert.Conv
end
-- ==== Proof.Sums.lean ====
/-
The sums over one block of the convolution's backward pass: the eight chunks of 256 rows of the gradient of the taps, of
the bias and of the down projection's weights.
-/
module

public import proofs.«01_k».proof.Proof.Block

@[expose] public section

set_option maxRecDepth 16384

noncomputable section

namespace Cert.Conv

open Idealize.ShloMosaic Idealize.SL.Sem Cert.KernelIdeal Cert.KernelIdeal.Gen

section Ops
variable {F : FTy → Type} [FloatOps F]
variable (x0 : Vec F S2048x512 .f32) (x1 : Vec F S2048x1024 .f32) (x2 : Vec F S256x1024 .bf16) (x3 : Vec F S3x512 .f32)
  (x4 : Vec F S1x512 .f32)

/-- The chunk's rows of the input. -/
def curAt {o : ℕ} (h : ∀ a, (![o, 0] : Fin 2 → ℕ) a + (![256, 512] : Fin 2 → ℕ) a ≤ S2048x512.size a) : Vec F S256x512 .f32 :=
  View.ld x0 (Rect.unit ![o, 0] ![256, 512] h)

/-- The first chunk's rows with eight rows of zeros before them. -/
def extAt0 (h : ∀ a, (![0, 0] : Fin 2 → ℕ) a + (![256, 512] : Fin 2 → ℕ) a ≤ S2048x512.size a) : FVec F S264x512 .f32 :=
  extFirst (curAt x0 h)

/-- A later chunk's rows with the eight rows before them. -/
def extAt {o p : ℕ} (hp : ∀ a, (![p, 0] : Fin 2 → ℕ) a + (![8, 512] : Fin 2 → ℕ) a ≤ S2048x512.size a)
    (h : ∀ a, (![o, 0] : Fin 2 → ℕ) a + (![256, 512] : Fin 2 → ℕ) a ≤ S2048x512.size a) : FVec F S264x512 .f32 :=
  extNext (View.ld x0 (Rect.unit ![p, 0] ![8, 512] hp)) (curAt x0 h)

/-- The convolution's rows of a chunk. -/
def yAt {o : ℕ} (h : ∀ a, (![o, 0] : Fin 2 → ℕ) a + (![256, 512] : Fin 2 → ℕ) a ≤ S2048x512.size a) (e : FVec F S264x512 .f32) :
    FVec F S256x512 .f32 :=
  rowsY (View.ld x3 (Rect.unit ![0, 0] ![1, 512] inb_S3x512_S1x512_0_0)) (View.ld x3 (Rect.unit ![1, 0] ![1, 512] inb_S3x512_S1x512_1_0))
    (View.ld x3 (Rect.unit ![2, 0] ![1, 512] inb_S3x512_S1x512_2_0)) (View.ld x4 (Rect.unit ![0, 0] ![1, 512] inb_S1x512_S1x512_0_0))
    (curAt x0 h) e

/-- The gradient's rows of a chunk. -/
def dAt {o : ℕ} (h : ∀ a, (![o, 0] : Fin 2 → ℕ) a + (![256, 512] : Fin 2 → ℕ) a ≤ S2048x512.size a)
    (hx : ∀ a, (![o, 0] : Fin 2 → ℕ) a + (![256, 1024] : Fin 2 → ℕ) a ≤ S2048x1024.size a) (e : FVec F S264x512 .f32) :
    FVec F S256x512 .f32 :=
  rowsD (View.ld x3 (Rect.unit ![0, 0] ![1, 512] inb_S3x512_S1x512_0_0)) (View.ld x3 (Rect.unit ![1, 0] ![1, 512] inb_S3x512_S1x512_1_0))
    (View.ld x3 (Rect.unit ![2, 0] ![1, 512] inb_S3x512_S1x512_2_0)) (View.ld x4 (Rect.unit ![0, 0] ![1, 512] inb_S1x512_S1x512_0_0))
    (View.ld x2 (Rect.unit ![0, 0] ![256, 1024] inb_S256x1024_S256x1024_0_0)) (curAt x0 h) e
    (View.ld x1 (Rect.unit ![o, 0] ![256, 1024] hx))

/-- Eight chunks' column sums. -/
def sum8 (z : FVec F S1x512 .f32) (f0 f1 f2 f3 f4 f5 f6 f7 : FVec F S256x512 .f32) : FVec F S1x512 .f32 :=
  colAcc (colAcc (colAcc (colAcc (colAcc (colAcc (colAcc (colAcc z f0) f1) f2) f3) f4) f5) f6) f7

/-- The gradient of the oldest tap. -/
def dw0At : FVec F S1x512 .f32 :=
  sum8 (broadcast S1x512 (Scalar.ofBits .f32 0x00000000#32))
    (mulf (dAt x0 x1 x2 x3 x4 inb_S2048x512_S256x512_0_0 inb_S2048x1024_S256x1024_0_0 (extAt0 x0 inb_S2048x512_S256x512_0_0)) (back2 (extAt0 x0 inb_S2048x512_S256x512_0_0)))
    (mulf (dAt x0 x1 x2 x3 x4 inb_S2048x512_S256x512_256_0 inb_S2048x1024_S256x1024_256_0 (extAt x0 inb_S2048x512_S8x512_248_0 inb_S2048x512_S256x512_256_0)) (back2 (extAt x0 inb_S2048x512_S8x512_248_0 inb_S2048x512_S256x512_256_0)))
    (mulf (dAt x0 x1 x2 x3 x4 inb_S2048x512_S256x512_512_0 inb_S2048x1024_S256x1024_512_0 (extAt x0 inb_S2048x512_S8x512_504_0 inb_S2048x512_S256x512_512_0)) (back2 (extAt x0 inb_S2048x512_S8x512_504_0 inb_S2048x512_S256x512_512_0)))
    (mulf (dAt x0 x1 x2 x3 x4 inb_S2048x512_S256x512_768_0 inb_S2048x1024_S256x1024_768_0 (extAt x0 inb_S2048x512_S8x512_760_0 inb_S2048x512_S256x512_768_0)) (back2 (extAt x0 inb_S2048x512_S8x512_760_0 inb_S2048x512_S256x512_768_0)))
    (mulf (dAt x0 x1 x2 x3 x4 inb_S2048x512_S256x512_1024_0 inb_S2048x1024_S256x1024_1024_0 (extAt x0 inb_S2048x512_S8x512_1016_0 inb_S2048x512_S256x512_1024_0)) (back2 (extAt x0 inb_S2048x512_S8x512_1016_0 inb_S2048x512_S256x512_1024_0)))
    (mulf (dAt x0 x1 x2 x3 x4 inb_S2048x512_S256x512_1280_0 inb_S2048x1024_S256x1024_1280_0 (extAt x0 inb_S2048x512_S8x512_1272_0 inb_S2048x512_S256x512_1280_0)) (back2 (extAt x0 inb_S2048x512_S8x512_1272_0 inb_S2048x512_S256x512_1280_0)))
    (mulf (dAt x0 x1 x2 x3 x4 inb_S2048x512_S256x512_1536_0 inb_S2048x1024_S256x1024_1536_0 (extAt x0 inb_S2048x512_S8x512_1528_0 inb_S2048x512_S256x512_1536_0)) (back2 (extAt x0 inb_S2048x512_S8x512_1528_0 inb_S2048x512_S256x512_1536_0)))
    (mulf (dAt x0 x1 x2 x3 x4 inb_S2048x512_S256x512_1792_0 inb_S2048x1024_S256x1024_1792_0 (extAt x0 inb_S2048x512_S8x512_1784_0 inb_S2048x512_S256x512_1792_0)) (back2 (extAt x0 inb_S2048x512_S8x512_1784_0 inb_S2048x512_S256x512_1792_0)))

/-- The gradient of the middle tap. -/
def dw1At : FVec F S1x512 .f32 :=
  sum8 (broadcast S1x512 (Scalar.ofBits .f32 0x00000000#32))
    (mulf (dAt x0 x1 x2 x3 x4 inb_S2048x512_S256x512_0_0 inb_S2048x1024_S256x1024_0_0 (extAt0 x0 inb_S2048x512_S256x512_0_0)) (back1 (extAt0 x0 inb_S2048x512_S256x512_0_0)))
    (mulf (dAt x0 x1 x2 x3 x4 inb_S2048x512_S256x512_256_0 inb_S2048x1024_S256x1024_256_0 (extAt x0 inb_S2048x512_S8x512_248_0 inb_S2048x512_S256x512_256_0)) (back1 (extAt x0 inb_S2048x512_S8x512_248_0 inb_S2048x512_S256x512_256_0)))
    (mulf (dAt x0 x1 x2 x3 x4 inb_S2048x512_S256x512_512_0 inb_S2048x1024_S256x1024_512_0 (extAt x0 inb_S2048x512_S8x512_504_0 inb_S2048x512_S256x512_512_0)) (back1 (extAt x0 inb_S2048x512_S8x512_504_0 inb_S2048x512_S256x512_512_0)))
    (mulf (dAt x0 x1 x2 x3 x4 inb_S2048x512_S256x512_768_0 inb_S2048x1024_S256x1024_768_0 (extAt x0 inb_S2048x512_S8x512_760_0 inb_S2048x512_S256x512_768_0)) (back1 (extAt x0 inb_S2048x512_S8x512_760_0 inb_S2048x512_S256x512_768_0)))
    (mulf (dAt x0 x1 x2 x3 x4 inb_S2048x512_S256x512_1024_0 inb_S2048x1024_S256x1024_1024_0 (extAt x0 inb_S2048x512_S8x512_1016_0 inb_S2048x512_S256x512_1024_0)) (back1 (extAt x0 inb_S2048x512_S8x512_1016_0 inb_S2048x512_S256x512_1024_0)))
    (mulf (dAt x0 x1 x2 x3 x4 inb_S2048x512_S256x512_1280_0 inb_S2048x1024_S256x1024_1280_0 (extAt x0 inb_S2048x512_S8x512_1272_0 inb_S2048x512_S256x512_1280_0)) (back1 (extAt x0 inb_S2048x512_S8x512_1272_0 inb_S2048x512_S256x512_1280_0)))
    (mulf (dAt x0 x1 x2 x3 x4 inb_S2048x512_S256x512_1536_0 inb_S2048x1024_S256x1024_1536_0 (extAt x0 inb_S2048x512_S8x512_1528_0 inb_S2048x512_S256x512_1536_0)) (back1 (extAt x0 inb_S2048x512_S8x512_1528_0 inb_S2048x512_S256x512_1536_0)))
    (mulf (dAt x0 x1 x2 x3 x4 inb_S2048x512_S256x512_1792_0 inb_S2048x1024_S256x1024_1792_0 (extAt x0 inb_S2048x512_S8x512_1784_0 inb_S2048x512_S256x512_1792_0)) (back1 (extAt x0 inb_S2048x512_S8x512_1784_0 inb_S2048x512_S256x512_1792_0)))

/-- The gradient of the newest tap. -/
def dw2At : FVec F S1x512 .f32 :=
  sum8 (broadcast S1x512 (Scalar.ofBits .f32 0x00000000#32))
    (mulf (dAt x0 x1 x2 x3 x4 inb_S2048x512_S256x512_0_0 inb_S2048x1024_S256x1024_0_0 (extAt0 x0 inb_S2048x512_S256x512_0_0)) (shapeCast S256x512 (curAt x0 inb_S2048x512_S256x512_0_0) shapeCasts_S256x512_S256x512))
    (mulf (dAt x0 x1 x2 x3 x4 inb_S2048x512_S256x512_256_0 inb_S2048x1024_S256x1024_256_0 (extAt x0 inb_S2048x512_S8x512_248_0 inb_S2048x512_S256x512_256_0)) (shapeCast S256x512 (curAt x0 inb_S2048x512_S256x512_256_0) shapeCasts_S256x512_S256x512))
    (mulf (dAt x0 x1 x2 x3 x4 inb_S2048x512_S256x512_512_0 inb_S2048x1024_S256x1024_512_0 (extAt x0 inb_S2048x512_S8x512_504_0 inb_S2048x512_S256x512_512_0)) (shapeCast S256x512 (curAt x0 inb_S2048x512_S256x512_512_0) shapeCasts_S256x512_S256x512))
    (mulf (dAt x0 x1 x2 x3 x4 inb_S2048x512_S256x512_768_0 inb_S2048x1024_S256x1024_768_0 (extAt x0 inb_S2048x512_S8x512_760_0 inb_S2048x512_S256x512_768_0)) (shapeCast S256x512 (curAt x0 inb_S2048x512_S256x512_768_0) shapeCasts_S256x512_S256x512))
    (mulf (dAt x0 x1 x2 x3 x4 inb_S2048x512_S256x512_1024_0 inb_S2048x1024_S256x1024_1024_0 (extAt x0 inb_S2048x512_S8x512_1016_0 inb_S2048x512_S256x512_1024_0)) (shapeCast S256x512 (curAt x0 inb_S2048x512_S256x512_1024_0) shapeCasts_S256x512_S256x512))
    (mulf (dAt x0 x1 x2 x3 x4 inb_S2048x512_S256x512_1280_0 inb_S2048x1024_S256x1024_1280_0 (extAt x0 inb_S2048x512_S8x512_1272_0 inb_S2048x512_S256x512_1280_0)) (shapeCast S256x512 (curAt x0 inb_S2048x512_S256x512_1280_0) shapeCasts_S256x512_S256x512))
    (mulf (dAt x0 x1 x2 x3 x4 inb_S2048x512_S256x512_1536_0 inb_S2048x1024_S256x1024_1536_0 (extAt x0 inb_S2048x512_S8x512_1528_0 inb_S2048x512_S256x512_1536_0)) (shapeCast S256x512 (curAt x0 inb_S2048x512_S256x512_1536_0) shapeCasts_S256x512_S256x512))
    (mulf (dAt x0 x1 x2 x3 x4 inb_S2048x512_S256x512_1792_0 inb_S2048x1024_S256x1024_1792_0 (extAt x0 inb_S2048x512_S8x512_1784_0 inb_S2048x512_S256x512_1792_0)) (shapeCast S256x512 (curAt x0 inb_S2048x512_S256x512_1792_0) shapeCasts_S256x512_S256x512))

/-- The gradient of the bias. -/
def dbAt : FVec F S1x512 .f32 :=
  sum8 (broadcast S1x512 (Scalar.ofBits .f32 0x00000000#32))
    (dAt x0 x1 x2 x3 x4 inb_S2048x512_S256x512_0_0 inb_S2048x1024_S256x1024_0_0 (extAt0 x0 inb_S2048x512_S256x512_0_0))
    (dAt x0 x1 x2 x3 x4 inb_S2048x512_S256x512_256_0 inb_S2048x1024_S256x1024_256_0 (extAt x0 inb_S2048x512_S8x512_248_0 inb_S2048x512_S256x512_256_0))
    (dAt x0 x1 x2 x3 x4 inb_S2048x512_S256x512_512_0 inb_S2048x1024_S256x1024_512_0 (extAt x0 inb_S2048x512_S8x512_504_0 inb_S2048x512_S256x512_512_0))
    (dAt x0 x1 x2 x3 x4 inb_S2048x512_S256x512_768_0 inb_S2048x1024_S256x1024_768_0 (extAt x0 inb_S2048x512_S8x512_760_0 inb_S2048x512_S256x512_768_0))
    (dAt x0 x1 x2 x3 x4 inb_S2048x512_S256x512_1024_0 inb_S2048x1024_S256x1024_1024_0 (extAt x0 inb_S2048x512_S8x512_1016_0 inb_S2048x512_S256x512_1024_0))
    (dAt x0 x1 x2 x3 x4 inb_S2048x512_S256x512_1280_0 inb_S2048x1024_S256x1024_1280_0 (extAt x0 inb_S2048x512_S8x512_1272_0 inb_S2048x512_S256x512_1280_0))
    (dAt x0 x1 x2 x3 x4 inb_S2048x512_S256x512_1536_0 inb_S2048x1024_S256x1024_1536_0 (extAt x0 inb_S2048x512_S8x512_1528_0 inb_S2048x512_S256x512_1536_0))
    (dAt x0 x1 x2 x3 x4 inb_S2048x512_S256x512_1792_0 inb_S2048x1024_S256x1024_1792_0 (extAt x0 inb_S2048x512_S8x512_1784_0 inb_S2048x512_S256x512_1792_0))

/-- The gradient of the down projection's weights. -/
def dwdAt : FVec F S256x1024 .f32 :=
  dwdAcc (dwdAcc (dwdAcc (dwdAcc (dwdAcc (dwdAcc (dwdAcc (dwdAcc (broadcast S256x1024 (Scalar.ofBits .f32 0x00000000#32))
    (gate (yAt x0 x3 x4 inb_S2048x512_S256x512_0_0 (extAt0 x0 inb_S2048x512_S256x512_0_0))) (val (yAt x0 x3 x4 inb_S2048x512_S256x512_0_0 (extAt0 x0 inb_S2048x512_S256x512_0_0)))
    (View.ld x1 (Rect.unit ![0, 0] ![256, 1024] inb_S2048x1024_S256x1024_0_0)))
    (gate (yAt x0 x3 x4 inb_S2048x512_S256x512_256_0 (extAt x0 inb_S2048x512_S8x512_248_0 inb_S2048x512_S256x512_256_0))) (val (yAt x0 x3 x4 inb_S2048x512_S256x512_256_0 (extAt x0 inb_S2048x512_S8x512_248_0 inb_S2048x512_S256x512_256_0)))
    (View.ld x1 (Rect.unit ![256, 0] ![256, 1024] inb_S2048x1024_S256x1024_256_0)))
    (gate (yAt x0 x3 x4 inb_S2048x512_S256x512_512_0 (extAt x0 inb_S2048x512_S8x512_504_0 inb_S2048x512_S256x512_512_0))) (val (yAt x0 x3 x4 inb_S2048x512_S256x512_512_0 (extAt x0 inb_S2048x512_S8x512_504_0 inb_S2048x512_S256x512_512_0)))
    (View.ld x1 (Rect.unit ![512, 0] ![256, 1024] inb_S2048x1024_S256x1024_512_0)))
    (gate (yAt x0 x3 x4 inb_S2048x512_S256x512_768_0 (extAt x0 inb_S2048x512_S8x512_760_0 inb_S2048x512_S256x512_768_0))) (val (yAt x0 x3 x4 inb_S2048x512_S256x512_768_0 (extAt x0 inb_S2048x512_S8x512_760_0 inb_S2048x512_S256x512_768_0)))
    (View.ld x1 (Rect.unit ![768, 0] ![256, 1024] inb_S2048x1024_S256x1024_768_0)))
    (gate (yAt x0 x3 x4 inb_S2048x512_S256x512_1024_0 (extAt x0 inb_S2048x512_S8x512_1016_0 inb_S2048x512_S256x512_1024_0))) (val (yAt x0 x3 x4 inb_S2048x512_S256x512_1024_0 (extAt x0 inb_S2048x512_S8x512_1016_0 inb_S2048x512_S256x512_1024_0)))
    (View.ld x1 (Rect.unit ![1024, 0] ![256, 1024] inb_S2048x1024_S256x1024_1024_0)))
    (gate (yAt x0 x3 x4 inb_S2048x512_S256x512_1280_0 (extAt x0 inb_S2048x512_S8x512_1272_0 inb_S2048x512_S256x512_1280_0))) (val (yAt x0 x3 x4 inb_S2048x512_S256x512_1280_0 (extAt x0 inb_S2048x512_S8x512_1272_0 inb_S2048x512_S256x512_1280_0)))
    (View.ld x1 (Rect.unit ![1280, 0] ![256, 1024] inb_S2048x1024_S256x1024_1280_0)))
    (gate (yAt x0 x3 x4 inb_S2048x512_S256x512_1536_0 (extAt x0 inb_S2048x512_S8x512_1528_0 inb_S2048x512_S256x512_1536_0))) (val (yAt x0 x3 x4 inb_S2048x512_S256x512_1536_0 (extAt x0 inb_S2048x512_S8x512_1528_0 inb_S2048x512_S256x512_1536_0)))
    (View.ld x1 (Rect.unit ![1536, 0] ![256, 1024] inb_S2048x1024_S256x1024_1536_0)))
    (gate (yAt x0 x3 x4 inb_S2048x512_S256x512_1792_0 (extAt x0 inb_S2048x512_S8x512_1784_0 inb_S2048x512_S256x512_1792_0))) (val (yAt x0 x3 x4 inb_S2048x512_S256x512_1792_0 (extAt x0 inb_S2048x512_S8x512_1784_0 inb_S2048x512_S256x512_1792_0)))
    (View.ld x1 (Rect.unit ![1792, 0] ![256, 1024] inb_S2048x1024_S256x1024_1792_0))

end Ops

/-! ## On real numbers -/

section
variable (X DX WD W B : ℕ → ℕ → ℝ)

/-- The gradient of a tap. -/
def dwB (k l : ℕ) : ℝ := ∑ r ∈ Finset.range 2048, dB X DX WD W B r l * sh (fun t => X t l) (2 - k) r

/-- The gradient of the bias. -/
def dbB (l : ℕ) : ℝ := ∑ r ∈ Finset.range 2048, dB X DX WD W B r l

/-- The gradient of the down projection's weights. -/
def wdB (q d : ℕ) : ℝ := ∑ r ∈ Finset.range 2048, actB X W B r q * DX r d

end

theorem colAcc_eq {acc : FVec Ideal S1x512 .f32} {x : FVec Ideal S256x512 .f32} {A : ℕ → ℝ} {f : ℕ → ℕ → ℝ}
    (ha : acc = lift 1 512 (fun _ l => A l)) (hx : x = lift 256 512 f) :
    colAcc acc x = lift 1 512 (fun _ l => A l + ∑ r ∈ Finset.range 256, f r l) := by
  subst ha hx
  exact colAcc_lift _ _

theorem mulf_eq {x y : FVec Ideal S256x512 .f32} {f g : ℕ → ℕ → ℝ} (hx : x = lift 256 512 f) (hy : y = lift 256 512 g) :
    mulf x y = lift 256 512 (fun r l => f r l * g r l) := by
  subst hx hy
  exact mulf_lift _ _

theorem zeros_eq {a b : ℕ} : (broadcast ⟨2, ![a, b]⟩ (Scalar.ofBits .f32 0x00000000#32) : FVec Ideal ⟨2, ![a, b]⟩ .f32)
    = lift a b (fun _ _ => 0) := by
  funext j
  unfold lift
  pointwise
  rfl

theorem addf_eq {a b : ℕ} {x y : FVec Ideal ⟨2, ![a, b]⟩ .f32} {f g : ℕ → ℕ → ℝ} (hx : x = lift a b f) (hy : y = lift a b g) :
    addf x y = lift a b (fun r l => f r l + g r l) := by
  subst hx hy
  funext j
  exact (EReal.coe_add _ _).symm

theorem cast_eq {φ : FTy} {a b : ℕ} {x : FVec Ideal ⟨2, ![a, b]⟩ φ} {f : ℕ → ℕ → ℝ} (hx : x = lift a b f) (h) :
    shapeCast ⟨2, ![a, b]⟩ x h = lift a b f := by
  subst hx
  exact shapeCast_lift _ _

theorem truncf_eq {a b : ℕ} {x : FVec Ideal ⟨2, ![a, b]⟩ .f32} {f : ℕ → ℕ → ℝ} (hx : x = lift a b f) (h) :
    (truncf .bf16 x h : FVec Ideal ⟨2, ![a, b]⟩ .bf16) = lift a b f := by
  subst hx
  rfl

/-- A load of part of stored real numbers. -/
theorem readCov_lift {sig : RefSig} {κ : Kind} {sp : Space} {n k a b o : ℕ} (v : View sig κ sp ⟨2, ![n, k]⟩ .f32)
    {L : List (View.Piece (Elt Ideal) ⟨2, ![n, k]⟩ .f32)} {g : ℕ → ℕ → ℝ} (h : View.canon L = lift (φ := .f32) n k g) (inb) :
    (v.readCov L (Rect.unit (s := ⟨2, ![n, k]⟩) ![o, 0] ![a, b] inb).toLoadRect : FVec Ideal ⟨2, ![a, b]⟩ .f32)
      = lift (φ := .f32) a b (fun r l => g (o + r) l) := by
  rw [View.readCov_eq_canon', h]
  funext x
  exact (piece (o := o) inb rfl x).symm

theorem sum8_eq {z : FVec Ideal S1x512 .f32} {f0 f1 f2 f3 f4 f5 f6 f7 : FVec Ideal S256x512 .f32} {f : ℕ → ℕ → ℝ}
    (hz : z = lift 1 512 (fun _ _ => 0))
    (h0 : f0 = lift 256 512 (fun r l => f (0 + r) l)) (h1 : f1 = lift 256 512 (fun r l => f (256 + r) l))
    (h2 : f2 = lift 256 512 (fun r l => f (512 + r) l)) (h3 : f3 = lift 256 512 (fun r l => f (768 + r) l))
    (h4 : f4 = lift 256 512 (fun r l => f (1024 + r) l)) (h5 : f5 = lift 256 512 (fun r l => f (1280 + r) l))
    (h6 : f6 = lift 256 512 (fun r l => f (1536 + r) l)) (h7 : f7 = lift 256 512 (fun r l => f (1792 + r) l)) :
    sum8 z f0 f1 f2 f3 f4 f5 f6 f7 = lift 1 512 (fun _ l => ∑ r ∈ Finset.range 2048, f r l) := by
  refine (colAcc_eq (colAcc_eq (colAcc_eq (colAcc_eq (colAcc_eq (colAcc_eq (colAcc_eq (colAcc_eq hz h0) h1) h2) h3) h4) h5) h6) h7).trans
    (lift_congr fun r _ l _ => ?_)
  exact (sum_chunks (fun r => f r l) 0).trans (zero_add _)

theorem dwdAcc_eq {acc : FVec Ideal S256x1024 .f32} {y : FVec Ideal S256x512 .f32} {dx : FVec Ideal S256x1024 .f32} {o : ℕ}
    {A X DX W B : ℕ → ℕ → ℝ} (ha : acc = lift 256 1024 A) (hy : y = lift 256 512 (fun r l => yB X W B (o + r) l))
    (hx : dx = lift 256 1024 (fun r l => DX (o + r) l)) :
    dwdAcc acc (gate y) (val y) dx
      = lift 256 1024 (fun q d => A q d + ∑ r ∈ Finset.range 256, actB X W B (o + r) q * DX (o + r) d) := by
  subst ha hy hx
  rw [gate_lift, val_lift, dwdAcc_lift]
  rfl

section
variable {x0 : Vec Ideal S2048x512 .f32} {x1 : Vec Ideal S2048x1024 .f32} {x2 : Vec Ideal S256x1024 .bf16} {x3 : Vec Ideal S3x512 .f32}
  {x4 : Vec Ideal S1x512 .f32} {X DX WD W B : ℕ → ℕ → ℝ}

theorem extAt0_eq (h0 : x0 = lift (φ := .f32) 2048 512 X) (h) :
    extAt0 x0 h = lift 264 512 (fun r l => sh (fun t => X t l) 8 (0 + r)) := extFirst_lift (ld32 h h0)

theorem extAt_eq (h0 : x0 = lift (φ := .f32) 2048 512 X) {p : ℕ} (hp) (h) :
    extAt (o := p + 8) (p := p) x0 hp h = lift 264 512 (fun r l => sh (fun t => X t l) 8 (p + 8 + r)) :=
  extNext_lift (ld32 hp h0) (ld32 h h0)

theorem yAt_eq (h0 : x0 = lift (φ := .f32) 2048 512 X) (h3 : x3 = lift (φ := .f32) 3 512 W) (h4 : x4 = lift (φ := .f32) 1 512 B)
    {o : ℕ} (h) {e : FVec Ideal S264x512 .f32} (he : e = lift 264 512 (fun r l => sh (fun t => X t l) 8 (o + r))) :
    yAt x0 x3 x4 (o := o) h e = lift 256 512 (fun r l => yB X W B (o + r) l) :=
  rowsY_eq (ld32 _ h3) (ld32 _ h3) (ld32 _ h3) (ld32 _ h4) (ld32 h h0) he

theorem dAt_eq (h0 : x0 = lift (φ := .f32) 2048 512 X) (h1 : x1 = lift (φ := .f32) 2048 1024 DX)
    (h2 : x2 = lift (φ := .bf16) 256 1024 WD) (h3 : x3 = lift (φ := .f32) 3 512 W) (h4 : x4 = lift (φ := .f32) 1 512 B)
    {o : ℕ} (h) (hx) {e : FVec Ideal S264x512 .f32} (he : e = lift 264 512 (fun r l => sh (fun t => X t l) 8 (o + r))) :
    dAt x0 x1 x2 x3 x4 (o := o) h hx e = lift 256 512 (fun r l => dB X DX WD W B (o + r) l) :=
  rowsD_eq (ld32 _ h3) (ld32 _ h3) (ld32 _ h3) (ld32 _ h4) (ld16 _ h2) (ld32 h h0) he (ld32 hx h1)

variable (h0 : x0 = lift (φ := .f32) 2048 512 X) (h1 : x1 = lift (φ := .f32) 2048 1024 DX)
  (h2 : x2 = lift (φ := .bf16) 256 1024 WD) (h3 : x3 = lift (φ := .f32) 3 512 W) (h4 : x4 = lift (φ := .f32) 1 512 B)
include h0 h1 h2 h3 h4

theorem dw0At_eq : dw0At x0 x1 x2 x3 x4 = lift 1 512 (fun _ l => dwB X DX WD W B 0 l) :=
  sum8_eq (f := fun r l => dB X DX WD W B r l * sh (fun t => X t l) 2 r) zeros_eq
    (mulf_eq (dAt_eq h0 h1 h2 h3 h4 _ _ (extAt0_eq h0 _)) (back2_eq (extAt0_eq h0 _)))
    (mulf_eq (dAt_eq h0 h1 h2 h3 h4 _ _ (extAt_eq (p := 248) h0 _ _)) (back2_eq (extAt_eq (p := 248) h0 _ _)))
    (mulf_eq (dAt_eq h0 h1 h2 h3 h4 _ _ (extAt_eq (p := 504) h0 _ _)) (back2_eq (extAt_eq (p := 504) h0 _ _)))
    (mulf_eq (dAt_eq h0 h1 h2 h3 h4 _ _ (extAt_eq (p := 760) h0 _ _)) (back2_eq (extAt_eq (p := 760) h0 _ _)))
    (mulf_eq (dAt_eq h0 h1 h2 h3 h4 _ _ (extAt_eq (p := 1016) h0 _ _)) (back2_eq (extAt_eq (p := 1016) h0 _ _)))
    (mulf_eq (dAt_eq h0 h1 h2 h3 h4 _ _ (extAt_eq (p := 1272) h0 _ _)) (back2_eq (extAt_eq (p := 1272) h0 _ _)))
    (mulf_eq (dAt_eq h0 h1 h2 h3 h4 _ _ (extAt_eq (p := 1528) h0 _ _)) (back2_eq (extAt_eq (p := 1528) h0 _ _)))
    (mulf_eq (dAt_eq h0 h1 h2 h3 h4 _ _ (extAt_eq (p := 1784) h0 _ _)) (back2_eq (extAt_eq (p := 1784) h0 _ _)))

theorem dw1At_eq : dw1At x0 x1 x2 x3 x4 = lift 1 512 (fun _ l => dwB X DX WD W B 1 l) :=
  sum8_eq (f := fun r l => dB X DX WD W B r l * sh (fun t => X t l) 1 r) zeros_eq
    (mulf_eq (dAt_eq h0 h1 h2 h3 h4 _ _ (extAt0_eq h0 _)) (back1_eq (extAt0_eq h0 _)))
    (mulf_eq (dAt_eq h0 h1 h2 h3 h4 _ _ (extAt_eq (p := 248) h0 _ _)) (back1_eq (extAt_eq (p := 248) h0 _ _)))
    (mulf_eq (dAt_eq h0 h1 h2 h3 h4 _ _ (extAt_eq (p := 504) h0 _ _)) (back1_eq (extAt_eq (p := 504) h0 _ _)))
    (mulf_eq (dAt_eq h0 h1 h2 h3 h4 _ _ (extAt_eq (p := 760) h0 _ _)) (back1_eq (extAt_eq (p := 760) h0 _ _)))
    (mulf_eq (dAt_eq h0 h1 h2 h3 h4 _ _ (extAt_eq (p := 1016) h0 _ _)) (back1_eq (extAt_eq (p := 1016) h0 _ _)))
    (mulf_eq (dAt_eq h0 h1 h2 h3 h4 _ _ (extAt_eq (p := 1272) h0 _ _)) (back1_eq (extAt_eq (p := 1272) h0 _ _)))
    (mulf_eq (dAt_eq h0 h1 h2 h3 h4 _ _ (extAt_eq (p := 1528) h0 _ _)) (back1_eq (extAt_eq (p := 1528) h0 _ _)))
    (mulf_eq (dAt_eq h0 h1 h2 h3 h4 _ _ (extAt_eq (p := 1784) h0 _ _)) (back1_eq (extAt_eq (p := 1784) h0 _ _)))

theorem dw2At_eq : dw2At x0 x1 x2 x3 x4 = lift 1 512 (fun _ l => dwB X DX WD W B 2 l) :=
  sum8_eq (f := fun r l => dB X DX WD W B r l * X r l) zeros_eq
    (mulf_eq (dAt_eq h0 h1 h2 h3 h4 _ _ (extAt0_eq h0 _)) (cast_eq (ld32 _ h0) _))
    (mulf_eq (dAt_eq h0 h1 h2 h3 h4 _ _ (extAt_eq (p := 248) h0 _ _)) (cast_eq (ld32 _ h0) _))
    (mulf_eq (dAt_eq h0 h1 h2 h3 h4 _ _ (extAt_eq (p := 504) h0 _ _)) (cast_eq (ld32 _ h0) _))
    (mulf_eq (dAt_eq h0 h1 h2 h3 h4 _ _ (extAt_eq (p := 760) h0 _ _)) (cast_eq (ld32 _ h0) _))
    (mulf_eq (dAt_eq h0 h1 h2 h3 h4 _ _ (extAt_eq (p := 1016) h0 _ _)) (cast_eq (ld32 _ h0) _))
    (mulf_eq (dAt_eq h0 h1 h2 h3 h4 _ _ (extAt_eq (p := 1272) h0 _ _)) (cast_eq (ld32 _ h0) _))
    (mulf_eq (dAt_eq h0 h1 h2 h3 h4 _ _ (extAt_eq (p := 1528) h0 _ _)) (cast_eq (ld32 _ h0) _))
    (mulf_eq (dAt_eq h0 h1 h2 h3 h4 _ _ (extAt_eq (p := 1784) h0 _ _)) (cast_eq (ld32 _ h0) _))

theorem dbAt_eq : dbAt x0 x1 x2 x3 x4 = lift 1 512 (fun _ l => dbB X DX WD W B l) :=
  sum8_eq (f := fun r l => dB X DX WD W B r l) zeros_eq
    (dAt_eq h0 h1 h2 h3 h4 _ _ (extAt0_eq h0 _))
    (dAt_eq h0 h1 h2 h3 h4 _ _ (extAt_eq (p := 248) h0 _ _))
    (dAt_eq h0 h1 h2 h3 h4 _ _ (extAt_eq (p := 504) h0 _ _))
    (dAt_eq h0 h1 h2 h3 h4 _ _ (extAt_eq (p := 760) h0 _ _))
    (dAt_eq h0 h1 h2 h3 h4 _ _ (extAt_eq (p := 1016) h0 _ _))
    (dAt_eq h0 h1 h2 h3 h4 _ _ (extAt_eq (p := 1272) h0 _ _))
    (dAt_eq h0 h1 h2 h3 h4 _ _ (extAt_eq (p := 1528) h0 _ _))
    (dAt_eq h0 h1 h2 h3 h4 _ _ (extAt_eq (p := 1784) h0 _ _))

omit h2 in
theorem dwdAt_eq : dwdAt x0 x1 x3 x4 = lift 256 1024 (fun q d => wdB X DX W B q d) := by
  refine (dwdAcc_eq (dwdAcc_eq (dwdAcc_eq (dwdAcc_eq (dwdAcc_eq (dwdAcc_eq (dwdAcc_eq (dwdAcc_eq zeros_eq (yAt_eq h0 h3 h4 _ (extAt0_eq h0 _)) (ld32 _ h1)) (yAt_eq h0 h3 h4 _ (extAt_eq (p := 248) h0 _ _)) (ld32 _ h1)) (yAt_eq h0 h3 h4 _ (extAt_eq (p := 504) h0 _ _)) (ld32 _ h1)) (yAt_eq h0 h3 h4 _ (extAt_eq (p := 760) h0 _ _)) (ld32 _ h1)) (yAt_eq h0 h3 h4 _ (extAt_eq (p := 1016) h0 _ _)) (ld32 _ h1)) (yAt_eq h0 h3 h4 _ (extAt_eq (p := 1272) h0 _ _)) (ld32 _ h1)) (yAt_eq h0 h3 h4 _ (extAt_eq (p := 1528) h0 _ _)) (ld32 _ h1)) (yAt_eq h0 h3 h4 _ (extAt_eq (p := 1784) h0 _ _)) (ld32 _ h1)).trans (lift_congr fun q _ d _ => ?_)
  exact (sum_chunks (fun r => actB X W B r q * DX r d) 0).trans (zero_add _)

end

end Cert.Conv
end
-- ==== Proof.CaseA.lean ====
/-
The first batch row's block: what the five results hold after it, on real numbers.
-/
module

public import proofs.«01_k».proof.Proof.Gen.KernelIdeal.Value
public import proofs.«01_k».proof.Proof.Sums
public import Idealize.ShloMosaic.Lib.Tactic
public import Idealize.ShloMosaic.Lib.Tactic.RunNames

@[expose] public section

set_option maxRecDepth 16384

noncomputable section

open Idealize.ShloMosaic Idealize.ShloMosaic.TcCoe Idealize.SL.Sem

namespace Cert.KernelIdeal.Conv
open Idealize.ShloMosaic.Tactic

open Cert.KernelIdeal Cert.KernelIdeal.Gen Cert.Conv

variable (c : Dev nD) (i : grid0.Coords) (arg2 : Memref sig .tc .vmem S2048x512 .f32) (harg2 : arg2.IsWhole) (arg3 : Memref sig .tc .vmem S2048x1024 .f32) (harg3 : arg3.IsWhole) (arg4 : Memref sig .tc .vmem S256x1024 .bf16) (harg4 : arg4.IsWhole) (arg5 : Memref sig .tc .vmem S3x512 .f32) (harg5 : arg5.IsWhole) (arg6 : Memref sig .tc .vmem S1x512 .f32) (harg6 : arg6.IsWhole) (arg7 : Memref sig .tc .vmem S2048x512 .bf16) (harg7 : arg7.IsWhole) (arg8 : Memref sig .tc .vmem S3x512 .f32) (harg8 : arg8.IsWhole) (arg9 : Memref sig .tc .vmem S1x512 .f32) (harg9 : arg9.IsWhole) (arg10 : Memref sig .tc .vmem S256x1024 .bf16) (harg10 : arg10.IsWhole) (arg11 : Memref sig .tc .vmem S2056x512 .f32) (harg11 : arg11.IsWhole) (arg12 : Memref sig .tc .vmem S256x1024 .f32) (harg12 : arg12.IsWhole)
variable (hc0 : cond0_0 i) (hc1 : ¬cond0_1 i) (hc2 : ¬cond0_2 i)
  (x0 : Vec Ideal S2048x512 .f32) (x1 : Vec Ideal S2048x1024 .f32) (x2 : Vec Ideal S256x1024 .bf16) (x3 : Vec Ideal S3x512 .f32)
  (x4 : Vec Ideal S1x512 .f32)
  {X DX WD W B : ℕ → ℕ → ℝ}
  (h0 : x0 = lift (φ := .f32) 2048 512 X) (h1 : x1 = lift (φ := .f32) 2048 1024 DX) (h2 : x2 = lift (φ := .bf16) 256 1024 WD)
  (h3 : x3 = lift (φ := .f32) 3 512 W) (h4 : x4 = lift (φ := .f32) 1 512 B)
include h0 h1 h2 h3 h4

set_option maxHeartbeats 1000000 in
/-- The rows of the convolution's gradient with eight rows of zeros below them. -/
theorem scratchA :
    View.canon (kernelRun0_A c i arg2 harg2 arg3 harg3 arg4 harg4 arg5 harg5 arg6 harg6 arg7 harg7 arg8 harg8 arg9 harg9 arg10 harg10 arg11 harg11 arg12 harg12 hc0 hc1 hc2 x0 x1 x2 x3 x4).2.2.2.2.2.1
      = lift (φ := .f32) 2056 512 (fun r l => if r < 2048 then dB X DX WD W B r l else 0) := by
  unfold kernelRun0_A
  dsimp only
  sl_unfold_words
  simp only [View.readAt_eq_ld, harg2.read_unread, harg3.read_unread, harg4.read_unread, harg5.read_unread, harg6.read_unread,
    harg8.read_unread, harg9.read_unread, harg12.read_unread]
  have hp : ∀ (o : ℕ) (v : FVec Ideal S256x512 .f32) (hv : v = lift 256 512 (fun r l => dB X DX WD W B (o + r) l)) (ho : o + 256 ≤ 2048) (inb),
      ∀ x, v x = (lift (φ := .f32) 2056 512 (fun r l => if r < 2048 then dB X DX WD W B r l else 0)) ((Rect.unit (s := ⟨2, ![2056, 512]⟩) ![o, 0] ![256, 512] inb).emb x) := by
    intro o v hv ho inb
    refine piece inb (hv.trans (lift_congr fun r hr l hl => ?_))
    rw [if_pos (by omega)]
  refine RowsTo.eq (RowsTo.cons (o := 2048) (a := 8) _ (piece _ ?_) (RowsTo.cons _ (hp _ _ ?_ (by norm_num) _) (RowsTo.cons _ (hp _ _ ?_ (by norm_num) _) (RowsTo.cons _ (hp _ _ ?_ (by norm_num) _)
    (RowsTo.cons _ (hp _ _ ?_ (by norm_num) _) (RowsTo.cons _ (hp _ _ ?_ (by norm_num) _) (RowsTo.cons _ (hp _ _ ?_ (by norm_num) _)
    (RowsTo.cons _ (hp _ _ ?_ (by norm_num) _) (RowsTo.cons (o := 0) _ (hp _ _ ?_ (by norm_num) _) (RowsTo.nil _))))))))))
  · refine (cast_eq zeros_eq _).trans (lift_congr fun r _ l _ => ?_)
    rw [if_neg (by omega)]
  · have h := cast_eq (dAt_eq h0 h1 h2 h3 h4 (o := 1792) inb_S2048x512_S256x512_1792_0 inb_S2048x1024_S256x1024_1792_0 (extAt_eq (p := 1784) h0 inb_S2048x512_S8x512_1784_0 inb_S2048x512_S256x512_1792_0))
      shapeCasts_S256x512_S256x512
    simp only [dw0At, dw1At, dw2At, dbAt, dwdAt, sum8, colAcc, dwdAcc, dAt, yAt, extAt, extAt0, curAt, rowsU, duRows, rowsS,
      rowsD, rowsY, gate, val, ones, Conv.logistic, dact, dconv, taps, back1, back2, extFirst, extNext, ext] at h
    simp only [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129,
      k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173,
      k0_pay174, k0_pay175, k0_pay176, k0_pay177]
    exact h
  · have h := cast_eq (dAt_eq h0 h1 h2 h3 h4 (o := 1536) inb_S2048x512_S256x512_1536_0 inb_S2048x1024_S256x1024_1536_0 (extAt_eq (p := 1528) h0 inb_S2048x512_S8x512_1528_0 inb_S2048x512_S256x512_1536_0))
      shapeCasts_S256x512_S256x512
    simp only [dw0At, dw1At, dw2At, dbAt, dwdAt, sum8, colAcc, dwdAcc, dAt, yAt, extAt, extAt0, curAt, rowsU, duRows, rowsS,
      rowsD, rowsY, gate, val, ones, Conv.logistic, dact, dconv, taps, back1, back2, extFirst, extNext, ext] at h
    simp only [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129,
      k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173,
      k0_pay174, k0_pay175, k0_pay176, k0_pay177]
    exact h
  · have h := cast_eq (dAt_eq h0 h1 h2 h3 h4 (o := 1280) inb_S2048x512_S256x512_1280_0 inb_S2048x1024_S256x1024_1280_0 (extAt_eq (p := 1272) h0 inb_S2048x512_S8x512_1272_0 inb_S2048x512_S256x512_1280_0))
      shapeCasts_S256x512_S256x512
    simp only [dw0At, dw1At, dw2At, dbAt, dwdAt, sum8, colAcc, dwdAcc, dAt, yAt, extAt, extAt0, curAt, rowsU, duRows, rowsS,
      rowsD, rowsY, gate, val, ones, Conv.logistic, dact, dconv, taps, back1, back2, extFirst, extNext, ext] at h
    simp only [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129,
      k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173,
      k0_pay174, k0_pay175, k0_pay176, k0_pay177]
    exact h
  · have h := cast_eq (dAt_eq h0 h1 h2 h3 h4 (o := 1024) inb_S2048x512_S256x512_1024_0 inb_S2048x1024_S256x1024_1024_0 (extAt_eq (p := 1016) h0 inb_S2048x512_S8x512_1016_0 inb_S2048x512_S256x512_1024_0))
      shapeCasts_S256x512_S256x512
    simp only [dw0At, dw1At, dw2At, dbAt, dwdAt, sum8, colAcc, dwdAcc, dAt, yAt, extAt, extAt0, curAt, rowsU, duRows, rowsS,
      rowsD, rowsY, gate, val, ones, Conv.logistic, dact, dconv, taps, back1, back2, extFirst, extNext, ext] at h
    simp only [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129,
      k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173,
      k0_pay174, k0_pay175, k0_pay176, k0_pay177]
    exact h
  · have h := cast_eq (dAt_eq h0 h1 h2 h3 h4 (o := 768) inb_S2048x512_S256x512_768_0 inb_S2048x1024_S256x1024_768_0 (extAt_eq (p := 760) h0 inb_S2048x512_S8x512_760_0 inb_S2048x512_S256x512_768_0))
      shapeCasts_S256x512_S256x512
    simp only [dw0At, dw1At, dw2At, dbAt, dwdAt, sum8, colAcc, dwdAcc, dAt, yAt, extAt, extAt0, curAt, rowsU, duRows, rowsS,
      rowsD, rowsY, gate, val, ones, Conv.logistic, dact, dconv, taps, back1, back2, extFirst, extNext, ext] at h
    simp only [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129,
      k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173,
      k0_pay174, k0_pay175, k0_pay176, k0_pay177]
    exact h
  · have h := cast_eq (dAt_eq h0 h1 h2 h3 h4 (o := 512) inb_S2048x512_S256x512_512_0 inb_S2048x1024_S256x1024_512_0 (extAt_eq (p := 504) h0 inb_S2048x512_S8x512_504_0 inb_S2048x512_S256x512_512_0))
      shapeCasts_S256x512_S256x512
    simp only [dw0At, dw1At, dw2At, dbAt, dwdAt, sum8, colAcc, dwdAcc, dAt, yAt, extAt, extAt0, curAt, rowsU, duRows, rowsS,
      rowsD, rowsY, gate, val, ones, Conv.logistic, dact, dconv, taps, back1, back2, extFirst, extNext, ext] at h
    simp only [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129,
      k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173,
      k0_pay174, k0_pay175, k0_pay176, k0_pay177]
    exact h
  · have h := cast_eq (dAt_eq h0 h1 h2 h3 h4 (o := 256) inb_S2048x512_S256x512_256_0 inb_S2048x1024_S256x1024_256_0 (extAt_eq (p := 248) h0 inb_S2048x512_S8x512_248_0 inb_S2048x512_S256x512_256_0))
      shapeCasts_S256x512_S256x512
    simp only [dw0At, dw1At, dw2At, dbAt, dwdAt, sum8, colAcc, dwdAcc, dAt, yAt, extAt, extAt0, curAt, rowsU, duRows, rowsS,
      rowsD, rowsY, gate, val, ones, Conv.logistic, dact, dconv, taps, back1, back2, extFirst, extNext, ext] at h
    simp only [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129,
      k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173,
      k0_pay174, k0_pay175, k0_pay176, k0_pay177]
    exact h
  · have h := cast_eq (dAt_eq h0 h1 h2 h3 h4 (o := 0) inb_S2048x512_S256x512_0_0 inb_S2048x1024_S256x1024_0_0 (extAt0_eq h0 inb_S2048x512_S256x512_0_0))
      shapeCasts_S256x512_S256x512
    simp only [dw0At, dw1At, dw2At, dbAt, dwdAt, sum8, colAcc, dwdAcc, dAt, yAt, extAt, extAt0, curAt, rowsU, duRows, rowsS,
      rowsD, rowsY, gate, val, ones, Conv.logistic, dact, dconv, taps, back1, back2, extFirst, extNext, ext] at h
    simp only [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129,
      k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173,
      k0_pay174, k0_pay175, k0_pay176, k0_pay177]
    exact h

set_option maxHeartbeats 1000000 in
/-- The block of the input's gradient. -/
theorem out5A :
    out0_A_5 c i arg2 harg2 arg3 harg3 arg4 harg4 arg5 harg5 arg6 harg6 arg7 harg7 arg8 harg8 arg9 harg9 arg10 harg10 arg11 harg11 arg12 harg12 hc0 hc1 hc2 x0 x1 x2 x3 x4
      = lift (φ := .bf16) 2048 512 (fun r l => unconv (W 0 l) (W 1 l) (W 2 l) (fun t => dB X DX WD W B t l) r) := by
  have hs := scratchA c i arg2 harg2 arg3 harg3 arg4 harg4 arg5 harg5 arg6 harg6 arg7 harg7 arg8 harg8 arg9 harg9 arg10 harg10 arg11 harg11 arg12 harg12 hc0 hc1 hc2 x0 x1 x2 x3 x4 h0 h1 h2 h3 h4
  unfold kernelRun0_A at hs
  dsimp only at hs
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 arg12 harg12 hc0 hc1 hc2 x0 x1 x2 x3 x4)]
  unfold kernelRun0_A
  dsimp only
  sl_unfold_run_values
  simp only [View.readAt_eq_ld, harg2.read_unread, harg3.read_unread, harg4.read_unread, harg5.read_unread, harg6.read_unread,
    harg8.read_unread, harg9.read_unread, harg12.read_unread]
  refine RowsTo.eq (RowsTo.cons _ (piece _ ?_) (RowsTo.cons _ (piece _ ?_) (RowsTo.cons _ (piece _ ?_)
    (RowsTo.cons _ (piece _ ?_) (RowsTo.cons _ (piece _ ?_) (RowsTo.cons _ (piece _ ?_)
    (RowsTo.cons _ (piece _ ?_) (RowsTo.cons (o := 0) _ (piece _ ?_) (RowsTo.nil _)))))))))
  · have h := rowsU_eq (o := 1792) (by norm_num) (ld32 inb_S3x512_S1x512_0_0 h3) (ld32 inb_S3x512_S1x512_1_0 h3) (ld32 inb_S3x512_S1x512_2_0 h3)
      (readCov_lift arg11.view hs inb_S2056x512_S264x512_1792_0)
    simp only [rowsU, duRows] at h
    simp only [k0_pay8, k0_pay9, k0_pay10, k0_pay166, k0_pay167, k0_pay168, k0_pay169, k0_pay170, k0_pay171, k0_pay172, k0_pay173,
      k0_pay174, k0_pay175, k0_pay176, k0_pay177]
    exact h
  · have h := rowsU_eq (o := 1536) (by norm_num) (ld32 inb_S3x512_S1x512_0_0 h3) (ld32 inb_S3x512_S1x512_1_0 h3) (ld32 inb_S3x512_S1x512_2_0 h3)
      (readCov_lift arg11.view hs inb_S2056x512_S264x512_1536_0)
    simp only [rowsU, duRows] at h
    simp only [k0_pay8, k0_pay9, k0_pay10, k0_pay166, k0_pay167, k0_pay168, k0_pay169, k0_pay170, k0_pay171, k0_pay172, k0_pay173,
      k0_pay174, k0_pay175, k0_pay176, k0_pay177]
    exact h
  · have h := rowsU_eq (o := 1280) (by norm_num) (ld32 inb_S3x512_S1x512_0_0 h3) (ld32 inb_S3x512_S1x512_1_0 h3) (ld32 inb_S3x512_S1x512_2_0 h3)
      (readCov_lift arg11.view hs inb_S2056x512_S264x512_1280_0)
    simp only [rowsU, duRows] at h
    simp only [k0_pay8, k0_pay9, k0_pay10, k0_pay166, k0_pay167, k0_pay168, k0_pay169, k0_pay170, k0_pay171, k0_pay172, k0_pay173,
      k0_pay174, k0_pay175, k0_pay176, k0_pay177]
    exact h
  · have h := rowsU_eq (o := 1024) (by norm_num) (ld32 inb_S3x512_S1x512_0_0 h3) (ld32 inb_S3x512_S1x512_1_0 h3) (ld32 inb_S3x512_S1x512_2_0 h3)
      (readCov_lift arg11.view hs inb_S2056x512_S264x512_1024_0)
    simp only [rowsU, duRows] at h
    simp only [k0_pay8, k0_pay9, k0_pay10, k0_pay166, k0_pay167, k0_pay168, k0_pay169, k0_pay170, k0_pay171, k0_pay172, k0_pay173,
      k0_pay174, k0_pay175, k0_pay176, k0_pay177]
    exact h
  · have h := rowsU_eq (o := 768) (by norm_num) (ld32 inb_S3x512_S1x512_0_0 h3) (ld32 inb_S3x512_S1x512_1_0 h3) (ld32 inb_S3x512_S1x512_2_0 h3)
      (readCov_lift arg11.view hs inb_S2056x512_S264x512_768_0)
    simp only [rowsU, duRows] at h
    simp only [k0_pay8, k0_pay9, k0_pay10, k0_pay166, k0_pay167, k0_pay168, k0_pay169, k0_pay170, k0_pay171, k0_pay172, k0_pay173,
      k0_pay174, k0_pay175, k0_pay176, k0_pay177]
    exact h
  · have h := rowsU_eq (o := 512) (by norm_num) (ld32 inb_S3x512_S1x512_0_0 h3) (ld32 inb_S3x512_S1x512_1_0 h3) (ld32 inb_S3x512_S1x512_2_0 h3)
      (readCov_lift arg11.view hs inb_S2056x512_S264x512_512_0)
    simp only [rowsU, duRows] at h
    simp only [k0_pay8, k0_pay9, k0_pay10, k0_pay166, k0_pay167, k0_pay168, k0_pay169, k0_pay170, k0_pay171, k0_pay172, k0_pay173,
      k0_pay174, k0_pay175, k0_pay176, k0_pay177]
    exact h
  · have h := rowsU_eq (o := 256) (by norm_num) (ld32 inb_S3x512_S1x512_0_0 h3) (ld32 inb_S3x512_S1x512_1_0 h3) (ld32 inb_S3x512_S1x512_2_0 h3)
      (readCov_lift arg11.view hs inb_S2056x512_S264x512_256_0)
    simp only [rowsU, duRows] at h
    simp only [k0_pay8, k0_pay9, k0_pay10, k0_pay166, k0_pay167, k0_pay168, k0_pay169, k0_pay170, k0_pay171, k0_pay172, k0_pay173,
      k0_pay174, k0_pay175, k0_pay176, k0_pay177]
    exact h
  · have h := rowsU_eq (o := 0) (by norm_num) (ld32 inb_S3x512_S1x512_0_0 h3) (ld32 inb_S3x512_S1x512_1_0 h3) (ld32 inb_S3x512_S1x512_2_0 h3)
      (readCov_lift arg11.view hs inb_S2056x512_S264x512_0_0)
    simp only [rowsU, duRows] at h
    simp only [k0_pay8, k0_pay9, k0_pay10, k0_pay166, k0_pay167, k0_pay168, k0_pay169, k0_pay170, k0_pay171, k0_pay172, k0_pay173,
      k0_pay174, k0_pay175, k0_pay176, k0_pay177]
    exact h

set_option maxHeartbeats 1000000 in
/-- The gradient of the taps. -/
theorem out6A :
    out0_A_6 c i arg2 harg2 arg3 harg3 arg4 harg4 arg5 harg5 arg6 harg6 arg7 harg7 arg8 harg8 arg9 harg9 arg10 harg10 arg11 harg11 arg12 harg12 hc0 hc1 hc2 x0 x1 x2 x3 x4 = lift (φ := .f32) 3 512 (fun k l => dwB X DX WD W B k l) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 hc0 hc1 hc2 x0 x1 x2 x3 x4)]
  unfold kernelRun0_A
  dsimp only
  sl_unfold_run_values
  simp only [View.readAt_eq_ld, harg2.read_unread, harg3.read_unread, harg4.read_unread, harg5.read_unread, harg6.read_unread,
    harg8.read_unread, harg9.read_unread, harg12.read_unread]
  refine RowsTo.eq (RowsTo.cons (o := 2) (a := 1) _ (piece _ ?_) (RowsTo.cons (o := 1) (a := 1) _ (piece _ ?_) (RowsTo.cons (o := 0) (a := 1) _ (piece _ ?_) (RowsTo.nil _))))
  · have h := (dw2At_eq h0 h1 h2 h3 h4)
    simp only [dw0At, dw1At, dw2At, dbAt, dwdAt, sum8, colAcc, dwdAcc, dAt, yAt, extAt, extAt0, curAt, rowsU, duRows, rowsS,
      rowsD, rowsY, gate, val, ones, Conv.logistic, dact, dconv, taps, back1, back2, extFirst, extNext, ext] at h
    simp only [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129,
      k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173,
      k0_pay174, k0_pay175, k0_pay176, k0_pay177]
    refine h.trans (lift_congr fun r hr l _ => ?_)
    obtain rfl : r = 0 := by omega
    rfl
  · have h := (dw1At_eq h0 h1 h2 h3 h4)
    simp only [dw0At, dw1At, dw2At, dbAt, dwdAt, sum8, colAcc, dwdAcc, dAt, yAt, extAt, extAt0, curAt, rowsU, duRows, rowsS,
      rowsD, rowsY, gate, val, ones, Conv.logistic, dact, dconv, taps, back1, back2, extFirst, extNext, ext] at h
    simp only [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129,
      k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173,
      k0_pay174, k0_pay175, k0_pay176, k0_pay177]
    refine h.trans (lift_congr fun r hr l _ => ?_)
    obtain rfl : r = 0 := by omega
    rfl
  · have h := (dw0At_eq h0 h1 h2 h3 h4)
    simp only [dw0At, dw1At, dw2At, dbAt, dwdAt, sum8, colAcc, dwdAcc, dAt, yAt, extAt, extAt0, curAt, rowsU, duRows, rowsS,
      rowsD, rowsY, gate, val, ones, Conv.logistic, dact, dconv, taps, back1, back2, extFirst, extNext, ext] at h
    simp only [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129,
      k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173,
      k0_pay174, k0_pay175, k0_pay176, k0_pay177]
    refine h.trans (lift_congr fun r hr l _ => ?_)
    obtain rfl : r = 0 := by omega
    rfl

set_option maxHeartbeats 1000000 in
/-- The gradient of the bias. -/
theorem out7A :
    out0_A_7 c i arg2 harg2 arg3 harg3 arg4 harg4 arg5 harg5 arg6 harg6 arg7 harg7 arg8 harg8 arg9 harg9 arg10 harg10 arg11 harg11 arg12 harg12 hc0 hc1 hc2 x0 x1 x2 x3 x4 = lift (φ := .f32) 1 512 (fun _ l => dbB X DX WD W B l) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 hc0 hc1 hc2 x0 x1 x2 x3 x4)]
  unfold kernelRun0_A
  dsimp only
  sl_unfold_words
  sl_unfold_run_values
  simp only [View.readAt_eq_ld, harg2.read_unread, harg3.read_unread, harg4.read_unread, harg5.read_unread, harg6.read_unread,
    harg8.read_unread, harg9.read_unread, harg12.read_unread]
  refine RowsTo.eq (RowsTo.cons (o := 0) _ (piece _ ?_) (RowsTo.nil _))
  have h := dbAt_eq h0 h1 h2 h3 h4
  simp only [dw0At, dw1At, dw2At, dbAt, dwdAt, sum8, colAcc, dwdAcc, dAt, yAt, extAt, extAt0, curAt, rowsU, duRows, rowsS, rowsD,
    rowsY, gate, val, ones, Conv.logistic, dact, dconv, taps, back1, back2, extFirst, extNext, ext] at h
  simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96,
    k0_pay97, k0_pay98, k0_pay99, k0_pay100, k0_pay101, k0_pay102, k0_pay103, k0_pay104, k0_pay105, k0_pay106, k0_pay107,
    k0_pay108, k0_pay109, k0_pay110, k0_pay111, k0_pay112, k0_pay113, k0_pay114, k0_pay115, k0_pay116, k0_pay117, k0_pay118,
    k0_pay119, k0_pay120, k0_pay121, k0_pay122, k0_pay123, k0_pay124, k0_pay125, k0_pay126, k0_pay127, k0_pay128, k0_pay129,
    k0_pay130, k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150, k0_pay151,
    k0_pay152, k0_pay153, k0_pay154, k0_pay155, k0_pay156, k0_pay157, k0_pay158, k0_pay159, k0_pay160, k0_pay161, k0_pay162,
    k0_pay163, k0_pay164, k0_pay165, k0_pay166, k0_pay167, k0_pay168, k0_pay169, k0_pay170, k0_pay171, k0_pay172, k0_pay173,
    k0_pay174, k0_pay175, k0_pay176, k0_pay177]
  refine h.trans (lift_congr fun r hr l _ => ?_)
  rfl

set_option maxHeartbeats 1000000 in
/-- The running gradient of the down projection's weights. -/
theorem sout1A :
    sout0_A_1 c i arg2 harg2 arg3 harg3 arg4 harg4 arg5 harg5 arg6 harg6 arg7 harg7 arg8 harg8 arg9 harg9 arg10 harg10 arg11 harg11 arg12 harg12 hc0 hc1 hc2 x0 x1 x2 x3 x4 = lift (φ := .f32) 256 1024 (fun q d => wdB X DX W B q d) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 hc2 x0 x1 x2 x3 x4)]
  unfold kernelRun0_A
  dsimp only
  sl_unfold_words
  sl_unfold_run_values
  simp only [View.readAt_eq_ld, harg2.read_unread, harg3.read_unread, harg4.read_unread, harg5.read_unread, harg6.read_unread,
    harg8.read_unread, harg9.read_unread, harg12.read_unread]
  refine RowsTo.eq (RowsTo.cons (o := 0) _ (piece _ ?_) (RowsTo.nil _))
  have h := cast_eq (dwdAt_eq h0 h1 h3 h4) shapeCasts_S256x1024_S256x1024
  simp only [dw0At, dw1At, dw2At, dbAt, dwdAt, sum8, colAcc, dwdAcc, dAt, yAt, extAt, extAt0, curAt, rowsU, duRows, rowsS, rowsD,
    rowsY, gate, val, ones, Conv.logistic, dact, dconv, taps, back1, back2, extFirst, extNext, ext] at h
  simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96,
    k0_pay97, k0_pay98, k0_pay99, k0_pay100, k0_pay101, k0_pay102, k0_pay103, k0_pay104, k0_pay105, k0_pay106, k0_pay107,
    k0_pay108, k0_pay109, k0_pay110, k0_pay111, k0_pay112, k0_pay113, k0_pay114, k0_pay115, k0_pay116, k0_pay117, k0_pay118,
    k0_pay119, k0_pay120, k0_pay121, k0_pay122, k0_pay123, k0_pay124, k0_pay125, k0_pay126, k0_pay127, k0_pay128, k0_pay129,
    k0_pay130, k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150, k0_pay151,
    k0_pay152, k0_pay153, k0_pay154, k0_pay155, k0_pay156, k0_pay157, k0_pay158, k0_pay159, k0_pay160, k0_pay161, k0_pay162,
    k0_pay163, k0_pay164, k0_pay165, k0_pay166, k0_pay167, k0_pay168, k0_pay169, k0_pay170, k0_pay171, k0_pay172, k0_pay173,
    k0_pay174, k0_pay175, k0_pay176, k0_pay177]
  refine h.trans (lift_congr fun r hr l _ => ?_)
  rw [Nat.zero_add]

end Cert.KernelIdeal.Conv
end
-- ==== Proof.CaseB.lean ====
/-
The later batch row's block: what the five results hold after it, on real numbers.
-/
module

public import proofs.«01_k».proof.Proof.Gen.KernelIdeal.Value
public import proofs.«01_k».proof.Proof.Sums
public import Idealize.ShloMosaic.Lib.Tactic
public import Idealize.ShloMosaic.Lib.Tactic.RunNames

@[expose] public section

set_option maxRecDepth 16384

noncomputable section

open Idealize.ShloMosaic Idealize.ShloMosaic.TcCoe Idealize.SL.Sem

namespace Cert.KernelIdeal.Conv
open Idealize.ShloMosaic.Tactic

open Cert.KernelIdeal Cert.KernelIdeal.Gen Cert.Conv

variable (c : Dev nD) (i : grid0.Coords) (arg2 : Memref sig .tc .vmem S2048x512 .f32) (harg2 : arg2.IsWhole) (arg3 : Memref sig .tc .vmem S2048x1024 .f32) (harg3 : arg3.IsWhole) (arg4 : Memref sig .tc .vmem S256x1024 .bf16) (harg4 : arg4.IsWhole) (arg5 : Memref sig .tc .vmem S3x512 .f32) (harg5 : arg5.IsWhole) (arg6 : Memref sig .tc .vmem S1x512 .f32) (harg6 : arg6.IsWhole) (arg7 : Memref sig .tc .vmem S2048x512 .bf16) (harg7 : arg7.IsWhole) (arg8 : Memref sig .tc .vmem S3x512 .f32) (harg8 : arg8.IsWhole) (arg9 : Memref sig .tc .vmem S1x512 .f32) (harg9 : arg9.IsWhole) (arg10 : Memref sig .tc .vmem S256x1024 .bf16) (harg10 : arg10.IsWhole) (arg11 : Memref sig .tc .vmem S2056x512 .f32) (harg11 : arg11.IsWhole) (arg12 : Memref sig .tc .vmem S256x1024 .f32) (harg12 : arg12.IsWhole)
variable (hc0 : ¬cond0_0 i) (hc1 : cond0_1 i) (hc2 : cond0_2 i)
  (x0 : Vec Ideal S2048x512 .f32) (x1 : Vec Ideal S2048x1024 .f32) (x2 : Vec Ideal S256x1024 .bf16) (x3 : Vec Ideal S3x512 .f32)
  (x4 : Vec Ideal S1x512 .f32) (xo6 : Vec Ideal S3x512 .f32) (xo7 : Vec Ideal S1x512 .f32) (xs1 : Vec Ideal S256x1024 .f32)
  {X DX WD W B : ℕ → ℕ → ℝ} {A6 A7 A8 : ℕ → ℕ → ℝ}
  (h0 : x0 = lift (φ := .f32) 2048 512 X) (h1 : x1 = lift (φ := .f32) 2048 1024 DX) (h2 : x2 = lift (φ := .bf16) 256 1024 WD)
  (h3 : x3 = lift (φ := .f32) 3 512 W) (h4 : x4 = lift (φ := .f32) 1 512 B)
  (h6 : xo6 = lift (φ := .f32) 3 512 A6) (h7 : xo7 = lift (φ := .f32) 1 512 A7) (h8 : xs1 = lift (φ := .f32) 256 1024 A8)
include h0 h1 h2 h3 h4 h6 h7 h8

set_option maxHeartbeats 1000000 in
/-- The rows of the convolution's gradient with eight rows of zeros below them. -/
theorem scratchB :
    View.canon (kernelRun0_B c i arg2 harg2 arg3 harg3 arg4 harg4 arg5 harg5 arg6 harg6 arg7 harg7 arg8 harg8 arg9 harg9 arg10 harg10 arg11 harg11 arg12 harg12 hc0 hc1 hc2 x0 x1 x2 x3 x4 xo6 xo7 xs1).2.2.2.2.2.1
      = lift (φ := .f32) 2056 512 (fun r l => if r < 2048 then dB X DX WD W B r l else 0) := by
  unfold kernelRun0_B
  dsimp only
  sl_unfold_words
  simp only [View.readAt_eq_ld, harg2.read_unread, harg3.read_unread, harg4.read_unread, harg5.read_unread, harg6.read_unread,
    harg8.read_unread, harg9.read_unread, harg12.read_unread]
  have hp : ∀ (o : ℕ) (v : FVec Ideal S256x512 .f32) (hv : v = lift 256 512 (fun r l => dB X DX WD W B (o + r) l)) (ho : o + 256 ≤ 2048) (inb),
      ∀ x, v x = (lift (φ := .f32) 2056 512 (fun r l => if r < 2048 then dB X DX WD W B r l else 0)) ((Rect.unit (s := ⟨2, ![2056, 512]⟩) ![o, 0] ![256, 512] inb).emb x) := by
    intro o v hv ho inb
    refine piece inb (hv.trans (lift_congr fun r hr l hl => ?_))
    rw [if_pos (by omega)]
  refine RowsTo.eq (RowsTo.cons (o := 2048) (a := 8) _ (piece _ ?_) (RowsTo.cons _ (hp _ _ ?_ (by norm_num) _) (RowsTo.cons _ (hp _ _ ?_ (by norm_num) _) (RowsTo.cons _ (hp _ _ ?_ (by norm_num) _)
    (RowsTo.cons _ (hp _ _ ?_ (by norm_num) _) (RowsTo.cons _ (hp _ _ ?_ (by norm_num) _) (RowsTo.cons _ (hp _ _ ?_ (by norm_num) _)
    (RowsTo.cons _ (hp _ _ ?_ (by norm_num) _) (RowsTo.cons (o := 0) _ (hp _ _ ?_ (by norm_num) _) (RowsTo.nil _))))))))))
  · refine (cast_eq zeros_eq _).trans (lift_congr fun r _ l _ => ?_)
    rw [if_neg (by omega)]
  · have h := cast_eq (dAt_eq h0 h1 h2 h3 h4 (o := 1792) inb_S2048x512_S256x512_1792_0 inb_S2048x1024_S256x1024_1792_0 (extAt_eq (p := 1784) h0 inb_S2048x512_S8x512_1784_0 inb_S2048x512_S256x512_1792_0))
      shapeCasts_S256x512_S256x512
    simp only [dw0At, dw1At, dw2At, dbAt, dwdAt, sum8, colAcc, dwdAcc, dAt, yAt, extAt, extAt0, curAt, rowsU, duRows, rowsS,
      rowsD, rowsY, gate, val, ones, Conv.logistic, dact, dconv, taps, back1, back2, extFirst, extNext, ext] at h
    simp only [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129,
      k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173,
      k0_pay174, k0_pay175, k0_pay176, k0_pay177]
    exact h
  · have h := cast_eq (dAt_eq h0 h1 h2 h3 h4 (o := 1536) inb_S2048x512_S256x512_1536_0 inb_S2048x1024_S256x1024_1536_0 (extAt_eq (p := 1528) h0 inb_S2048x512_S8x512_1528_0 inb_S2048x512_S256x512_1536_0))
      shapeCasts_S256x512_S256x512
    simp only [dw0At, dw1At, dw2At, dbAt, dwdAt, sum8, colAcc, dwdAcc, dAt, yAt, extAt, extAt0, curAt, rowsU, duRows, rowsS,
      rowsD, rowsY, gate, val, ones, Conv.logistic, dact, dconv, taps, back1, back2, extFirst, extNext, ext] at h
    simp only [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129,
      k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173,
      k0_pay174, k0_pay175, k0_pay176, k0_pay177]
    exact h
  · have h := cast_eq (dAt_eq h0 h1 h2 h3 h4 (o := 1280) inb_S2048x512_S256x512_1280_0 inb_S2048x1024_S256x1024_1280_0 (extAt_eq (p := 1272) h0 inb_S2048x512_S8x512_1272_0 inb_S2048x512_S256x512_1280_0))
      shapeCasts_S256x512_S256x512
    simp only [dw0At, dw1At, dw2At, dbAt, dwdAt, sum8, colAcc, dwdAcc, dAt, yAt, extAt, extAt0, curAt, rowsU, duRows, rowsS,
      rowsD, rowsY, gate, val, ones, Conv.logistic, dact, dconv, taps, back1, back2, extFirst, extNext, ext] at h
    simp only [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129,
      k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173,
      k0_pay174, k0_pay175, k0_pay176, k0_pay177]
    exact h
  · have h := cast_eq (dAt_eq h0 h1 h2 h3 h4 (o := 1024) inb_S2048x512_S256x512_1024_0 inb_S2048x1024_S256x1024_1024_0 (extAt_eq (p := 1016) h0 inb_S2048x512_S8x512_1016_0 inb_S2048x512_S256x512_1024_0))
      shapeCasts_S256x512_S256x512
    simp only [dw0At, dw1At, dw2At, dbAt, dwdAt, sum8, colAcc, dwdAcc, dAt, yAt, extAt, extAt0, curAt, rowsU, duRows, rowsS,
      rowsD, rowsY, gate, val, ones, Conv.logistic, dact, dconv, taps, back1, back2, extFirst, extNext, ext] at h
    simp only [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129,
      k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173,
      k0_pay174, k0_pay175, k0_pay176, k0_pay177]
    exact h
  · have h := cast_eq (dAt_eq h0 h1 h2 h3 h4 (o := 768) inb_S2048x512_S256x512_768_0 inb_S2048x1024_S256x1024_768_0 (extAt_eq (p := 760) h0 inb_S2048x512_S8x512_760_0 inb_S2048x512_S256x512_768_0))
      shapeCasts_S256x512_S256x512
    simp only [dw0At, dw1At, dw2At, dbAt, dwdAt, sum8, colAcc, dwdAcc, dAt, yAt, extAt, extAt0, curAt, rowsU, duRows, rowsS,
      rowsD, rowsY, gate, val, ones, Conv.logistic, dact, dconv, taps, back1, back2, extFirst, extNext, ext] at h
    simp only [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129,
      k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173,
      k0_pay174, k0_pay175, k0_pay176, k0_pay177]
    exact h
  · have h := cast_eq (dAt_eq h0 h1 h2 h3 h4 (o := 512) inb_S2048x512_S256x512_512_0 inb_S2048x1024_S256x1024_512_0 (extAt_eq (p := 504) h0 inb_S2048x512_S8x512_504_0 inb_S2048x512_S256x512_512_0))
      shapeCasts_S256x512_S256x512
    simp only [dw0At, dw1At, dw2At, dbAt, dwdAt, sum8, colAcc, dwdAcc, dAt, yAt, extAt, extAt0, curAt, rowsU, duRows, rowsS,
      rowsD, rowsY, gate, val, ones, Conv.logistic, dact, dconv, taps, back1, back2, extFirst, extNext, ext] at h
    simp only [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129,
      k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173,
      k0_pay174, k0_pay175, k0_pay176, k0_pay177]
    exact h
  · have h := cast_eq (dAt_eq h0 h1 h2 h3 h4 (o := 256) inb_S2048x512_S256x512_256_0 inb_S2048x1024_S256x1024_256_0 (extAt_eq (p := 248) h0 inb_S2048x512_S8x512_248_0 inb_S2048x512_S256x512_256_0))
      shapeCasts_S256x512_S256x512
    simp only [dw0At, dw1At, dw2At, dbAt, dwdAt, sum8, colAcc, dwdAcc, dAt, yAt, extAt, extAt0, curAt, rowsU, duRows, rowsS,
      rowsD, rowsY, gate, val, ones, Conv.logistic, dact, dconv, taps, back1, back2, extFirst, extNext, ext] at h
    simp only [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129,
      k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173,
      k0_pay174, k0_pay175, k0_pay176, k0_pay177]
    exact h
  · have h := cast_eq (dAt_eq h0 h1 h2 h3 h4 (o := 0) inb_S2048x512_S256x512_0_0 inb_S2048x1024_S256x1024_0_0 (extAt0_eq h0 inb_S2048x512_S256x512_0_0))
      shapeCasts_S256x512_S256x512
    simp only [dw0At, dw1At, dw2At, dbAt, dwdAt, sum8, colAcc, dwdAcc, dAt, yAt, extAt, extAt0, curAt, rowsU, duRows, rowsS,
      rowsD, rowsY, gate, val, ones, Conv.logistic, dact, dconv, taps, back1, back2, extFirst, extNext, ext] at h
    simp only [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129,
      k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173,
      k0_pay174, k0_pay175, k0_pay176, k0_pay177]
    exact h

set_option maxHeartbeats 1000000 in
/-- The block of the input's gradient. -/
theorem out5B :
    out0_B_5 c i arg2 harg2 arg3 harg3 arg4 harg4 arg5 harg5 arg6 harg6 arg7 harg7 arg8 harg8 arg9 harg9 arg10 harg10 arg11 harg11 arg12 harg12 hc0 hc1 hc2 x0 x1 x2 x3 x4 xo6 xo7 xs1
      = lift (φ := .bf16) 2048 512 (fun r l => unconv (W 0 l) (W 1 l) (W 2 l) (fun t => dB X DX WD W B t l) r) := by
  have hs := scratchB c i arg2 harg2 arg3 harg3 arg4 harg4 arg5 harg5 arg6 harg6 arg7 harg7 arg8 harg8 arg9 harg9 arg10 harg10 arg11 harg11 arg12 harg12 hc0 hc1 hc2 x0 x1 x2 x3 x4 xo6 xo7 xs1 h0 h1 h2 h3 h4 h6 h7 h8
  unfold kernelRun0_B at hs
  dsimp only at hs
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 arg12 harg12 hc0 hc1 hc2 x0 x1 x2 x3 x4 xo6 xo7 xs1)]
  unfold kernelRun0_B
  dsimp only
  sl_unfold_run_values
  simp only [View.readAt_eq_ld, harg2.read_unread, harg3.read_unread, harg4.read_unread, harg5.read_unread, harg6.read_unread,
    harg8.read_unread, harg9.read_unread, harg12.read_unread]
  refine RowsTo.eq (RowsTo.cons _ (piece _ ?_) (RowsTo.cons _ (piece _ ?_) (RowsTo.cons _ (piece _ ?_)
    (RowsTo.cons _ (piece _ ?_) (RowsTo.cons _ (piece _ ?_) (RowsTo.cons _ (piece _ ?_)
    (RowsTo.cons _ (piece _ ?_) (RowsTo.cons (o := 0) _ (piece _ ?_) (RowsTo.nil _)))))))))
  · have h := rowsU_eq (o := 1792) (by norm_num) (ld32 inb_S3x512_S1x512_0_0 h3) (ld32 inb_S3x512_S1x512_1_0 h3) (ld32 inb_S3x512_S1x512_2_0 h3)
      (readCov_lift arg11.view hs inb_S2056x512_S264x512_1792_0)
    simp only [rowsU, duRows] at h
    simp only [k0_pay8, k0_pay9, k0_pay10, k0_pay166, k0_pay167, k0_pay168, k0_pay169, k0_pay170, k0_pay171, k0_pay172, k0_pay173,
      k0_pay174, k0_pay175, k0_pay176, k0_pay177]
    exact h
  · have h := rowsU_eq (o := 1536) (by norm_num) (ld32 inb_S3x512_S1x512_0_0 h3) (ld32 inb_S3x512_S1x512_1_0 h3) (ld32 inb_S3x512_S1x512_2_0 h3)
      (readCov_lift arg11.view hs inb_S2056x512_S264x512_1536_0)
    simp only [rowsU, duRows] at h
    simp only [k0_pay8, k0_pay9, k0_pay10, k0_pay166, k0_pay167, k0_pay168, k0_pay169, k0_pay170, k0_pay171, k0_pay172, k0_pay173,
      k0_pay174, k0_pay175, k0_pay176, k0_pay177]
    exact h
  · have h := rowsU_eq (o := 1280) (by norm_num) (ld32 inb_S3x512_S1x512_0_0 h3) (ld32 inb_S3x512_S1x512_1_0 h3) (ld32 inb_S3x512_S1x512_2_0 h3)
      (readCov_lift arg11.view hs inb_S2056x512_S264x512_1280_0)
    simp only [rowsU, duRows] at h
    simp only [k0_pay8, k0_pay9, k0_pay10, k0_pay166, k0_pay167, k0_pay168, k0_pay169, k0_pay170, k0_pay171, k0_pay172, k0_pay173,
      k0_pay174, k0_pay175, k0_pay176, k0_pay177]
    exact h
  · have h := rowsU_eq (o := 1024) (by norm_num) (ld32 inb_S3x512_S1x512_0_0 h3) (ld32 inb_S3x512_S1x512_1_0 h3) (ld32 inb_S3x512_S1x512_2_0 h3)
      (readCov_lift arg11.view hs inb_S2056x512_S264x512_1024_0)
    simp only [rowsU, duRows] at h
    simp only [k0_pay8, k0_pay9, k0_pay10, k0_pay166, k0_pay167, k0_pay168, k0_pay169, k0_pay170, k0_pay171, k0_pay172, k0_pay173,
      k0_pay174, k0_pay175, k0_pay176, k0_pay177]
    exact h
  · have h := rowsU_eq (o := 768) (by norm_num) (ld32 inb_S3x512_S1x512_0_0 h3) (ld32 inb_S3x512_S1x512_1_0 h3) (ld32 inb_S3x512_S1x512_2_0 h3)
      (readCov_lift arg11.view hs inb_S2056x512_S264x512_768_0)
    simp only [rowsU, duRows] at h
    simp only [k0_pay8, k0_pay9, k0_pay10, k0_pay166, k0_pay167, k0_pay168, k0_pay169, k0_pay170, k0_pay171, k0_pay172, k0_pay173,
      k0_pay174, k0_pay175, k0_pay176, k0_pay177]
    exact h
  · have h := rowsU_eq (o := 512) (by norm_num) (ld32 inb_S3x512_S1x512_0_0 h3) (ld32 inb_S3x512_S1x512_1_0 h3) (ld32 inb_S3x512_S1x512_2_0 h3)
      (readCov_lift arg11.view hs inb_S2056x512_S264x512_512_0)
    simp only [rowsU, duRows] at h
    simp only [k0_pay8, k0_pay9, k0_pay10, k0_pay166, k0_pay167, k0_pay168, k0_pay169, k0_pay170, k0_pay171, k0_pay172, k0_pay173,
      k0_pay174, k0_pay175, k0_pay176, k0_pay177]
    exact h
  · have h := rowsU_eq (o := 256) (by norm_num) (ld32 inb_S3x512_S1x512_0_0 h3) (ld32 inb_S3x512_S1x512_1_0 h3) (ld32 inb_S3x512_S1x512_2_0 h3)
      (readCov_lift arg11.view hs inb_S2056x512_S264x512_256_0)
    simp only [rowsU, duRows] at h
    simp only [k0_pay8, k0_pay9, k0_pay10, k0_pay166, k0_pay167, k0_pay168, k0_pay169, k0_pay170, k0_pay171, k0_pay172, k0_pay173,
      k0_pay174, k0_pay175, k0_pay176, k0_pay177]
    exact h
  · have h := rowsU_eq (o := 0) (by norm_num) (ld32 inb_S3x512_S1x512_0_0 h3) (ld32 inb_S3x512_S1x512_1_0 h3) (ld32 inb_S3x512_S1x512_2_0 h3)
      (readCov_lift arg11.view hs inb_S2056x512_S264x512_0_0)
    simp only [rowsU, duRows] at h
    simp only [k0_pay8, k0_pay9, k0_pay10, k0_pay166, k0_pay167, k0_pay168, k0_pay169, k0_pay170, k0_pay171, k0_pay172, k0_pay173,
      k0_pay174, k0_pay175, k0_pay176, k0_pay177]
    exact h

set_option maxHeartbeats 1000000 in
/-- The gradient of the taps. -/
theorem out6B :
    out0_B_6 c i arg2 harg2 arg3 harg3 arg4 harg4 arg5 harg5 arg6 harg6 arg7 harg7 arg8 harg8 arg9 harg9 arg10 harg10 arg11 harg11 arg12 harg12 hc0 hc1 hc2 x0 x1 x2 x3 x4 xo6 xo7 xs1 = lift (φ := .f32) 3 512 (fun k l => A6 k l + dwB X DX WD W B k l) := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 hc0 hc1 hc2 x0 x1 x2 x3 x4 xo6 xo7 xs1)]
  unfold kernelRun0_B
  dsimp only
  sl_unfold_run_values
  simp only [View.readAt_eq_ld, harg2.read_unread, harg3.read_unread, harg4.read_unread, harg5.read_unread, harg6.read_unread,
    harg8.read_unread, harg9.read_unread, harg12.read_unread]
  refine RowsTo.eq (RowsTo.cons (o := 2) (a := 1) _ (piece _ ?_) (RowsTo.cons (o := 1) (a := 1) _ (piece _ ?_) (RowsTo.cons (o := 0) (a := 1) _ (piece _ ?_) (RowsTo.nil _))))
  · have h := (addf_eq (cast_eq (ld32 inb_S3x512_S1x512_2_0 h6) shapeCasts_S1x512_S1x512) (dw2At_eq h0 h1 h2 h3 h4))
    simp only [dw0At, dw1At, dw2At, dbAt, dwdAt, sum8, colAcc, dwdAcc, dAt, yAt, extAt, extAt0, curAt, rowsU, duRows, rowsS,
      rowsD, rowsY, gate, val, ones, Conv.logistic, dact, dconv, taps, back1, back2, extFirst, extNext, ext] at h
    simp only [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129,
      k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173,
      k0_pay174, k0_pay175, k0_pay176, k0_pay177]
    refine h.trans (lift_congr fun r hr l _ => ?_)
    obtain rfl : r = 0 := by omega
    rfl
  · have h := (addf_eq (cast_eq (ld32 inb_S3x512_S1x512_1_0 h6) shapeCasts_S1x512_S1x512) (dw1At_eq h0 h1 h2 h3 h4))
    simp only [dw0At, dw1At, dw2At, dbAt, dwdAt, sum8, colAcc, dwdAcc, dAt, yAt, extAt, extAt0, curAt, rowsU, duRows, rowsS,
      rowsD, rowsY, gate, val, ones, Conv.logistic, dact, dconv, taps, back1, back2, extFirst, extNext, ext] at h
    simp only [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129,
      k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173,
      k0_pay174, k0_pay175, k0_pay176, k0_pay177]
    refine h.trans (lift_congr fun r hr l _ => ?_)
    obtain rfl : r = 0 := by omega
    rfl
  · have h := (addf_eq (cast_eq (ld32 inb_S3x512_S1x512_0_0 h6) shapeCasts_S1x512_S1x512) (dw0At_eq h0 h1 h2 h3 h4))
    simp only [dw0At, dw1At, dw2At, dbAt, dwdAt, sum8, colAcc, dwdAcc, dAt, yAt, extAt, extAt0, curAt, rowsU, duRows, rowsS,
      rowsD, rowsY, gate, val, ones, Conv.logistic, dact, dconv, taps, back1, back2, extFirst, extNext, ext] at h
    simp only [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59, k0_pay60,
      k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84,
      k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107,
      k0_pay108, k0_pay109, k0_pay110, k0_pay111, k0_pay112, k0_pay113, k0_pay114, k0_pay115, k0_pay116, k0_pay117, k0_pay118,
      k0_pay119, k0_pay120, k0_pay121, k0_pay122, k0_pay123, k0_pay124, k0_pay125, k0_pay126, k0_pay127, k0_pay128, k0_pay129,
      k0_pay130, k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173,
      k0_pay174, k0_pay175, k0_pay176, k0_pay177]
    refine h.trans (lift_congr fun r hr l _ => ?_)
    obtain rfl : r = 0 := by omega
    rfl

set_option maxHeartbeats 1000000 in
/-- The gradient of the bias. -/
theorem out7B :
    out0_B_7 c i arg2 harg2 arg3 harg3 arg4 harg4 arg5 harg5 arg6 harg6 arg7 harg7 arg8 harg8 arg9 harg9 arg10 harg10 arg11 harg11 arg12 harg12 hc0 hc1 hc2 x0 x1 x2 x3 x4 xo6 xo7 xs1 = lift (φ := .f32) 1 512 (fun r l => A7 r l + dbB X DX WD W B l) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 hc0 hc1 hc2 x0 x1 x2 x3 x4 xo6 xo7 xs1)]
  unfold kernelRun0_B
  dsimp only
  sl_unfold_words
  sl_unfold_run_values
  simp only [View.readAt_eq_ld, harg2.read_unread, harg3.read_unread, harg4.read_unread, harg5.read_unread, harg6.read_unread,
    harg8.read_unread, harg9.read_unread, harg12.read_unread]
  refine RowsTo.eq (RowsTo.cons (o := 0) _ (piece _ ?_) (RowsTo.nil _))
  have h := addf_eq (cast_eq (ld32 inb_S1x512_S1x512_0_0 h7) shapeCasts_S1x512_S1x512) (dbAt_eq h0 h1 h2 h3 h4)
  simp only [dw0At, dw1At, dw2At, dbAt, dwdAt, sum8, colAcc, dwdAcc, dAt, yAt, extAt, extAt0, curAt, rowsU, duRows, rowsS, rowsD,
    rowsY, gate, val, ones, Conv.logistic, dact, dconv, taps, back1, back2, extFirst, extNext, ext] at h
  simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96,
    k0_pay97, k0_pay98, k0_pay99, k0_pay100, k0_pay101, k0_pay102, k0_pay103, k0_pay104, k0_pay105, k0_pay106, k0_pay107,
    k0_pay108, k0_pay109, k0_pay110, k0_pay111, k0_pay112, k0_pay113, k0_pay114, k0_pay115, k0_pay116, k0_pay117, k0_pay118,
    k0_pay119, k0_pay120, k0_pay121, k0_pay122, k0_pay123, k0_pay124, k0_pay125, k0_pay126, k0_pay127, k0_pay128, k0_pay129,
    k0_pay130, k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150, k0_pay151,
    k0_pay152, k0_pay153, k0_pay154, k0_pay155, k0_pay156, k0_pay157, k0_pay158, k0_pay159, k0_pay160, k0_pay161, k0_pay162,
    k0_pay163, k0_pay164, k0_pay165, k0_pay166, k0_pay167, k0_pay168, k0_pay169, k0_pay170, k0_pay171, k0_pay172, k0_pay173,
    k0_pay174, k0_pay175, k0_pay176, k0_pay177]
  refine h.trans (lift_congr fun r hr l _ => ?_)
  simp only [Nat.zero_add]

set_option maxHeartbeats 1000000 in
/-- The gradient of the down projection's weights. -/
theorem out8B :
    out0_B_8 c i arg2 harg2 arg3 harg3 arg4 harg4 arg5 harg5 arg6 harg6 arg7 harg7 arg8 harg8 arg9 harg9 arg10 harg10 arg11 harg11 arg12 harg12 hc0 hc1 hc2 x0 x1 x2 x3 x4 xo6 xo7 xs1 = lift (φ := .bf16) 256 1024 (fun q d => A8 q d + wdB X DX W B q d) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 hc1 hc2 x0 x1 x2 x3 x4 xo6 xo7 xs1)]
  unfold kernelRun0_B
  dsimp only
  sl_unfold_words
  sl_unfold_run_values
  simp only [View.readAt_eq_ld, harg2.read_unread, harg3.read_unread, harg4.read_unread, harg5.read_unread, harg6.read_unread,
    harg8.read_unread, harg9.read_unread, harg12.read_unread]
  refine RowsTo.eq (RowsTo.cons (o := 0) _ (piece _ ?_) (RowsTo.nil _))
  have hv := (cast_eq (addf_eq (ld32 inb_S256x1024_S256x1024_0_0 h8) (dwdAt_eq h0 h1 h3 h4)) shapeCasts_S256x1024_S256x1024).trans
    (lift_congr (g := fun r l => (fun q d => A8 q d + wdB X DX W B q d) (0 + r) l) fun r _ l _ => by simp only [Nat.zero_add])
  have hc := RowsTo.eq (RowsTo.cons (o := 0) inb_S256x1024_S256x1024_0_0 (piece _ hv)
    (RowsTo.nil (n := 256) (k := 1024) (e := .f32) (lift (φ := .f32) 256 1024 (fun q d => A8 q d + wdB X DX W B q d))))
  have h := truncf_eq (readCov_lift arg12.view hc inb_S256x1024_S256x1024_0_0) bitsLt_bf16_f32
  simp only [dw0At, dw1At, dw2At, dbAt, dwdAt, sum8, colAcc, dwdAcc, dAt, yAt, extAt, extAt0, curAt, rowsU, duRows, rowsS, rowsD,
    rowsY, gate, val, ones, Conv.logistic, dact, dconv, taps, back1, back2, extFirst, extNext, ext] at h
  simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96,
    k0_pay97, k0_pay98, k0_pay99, k0_pay100, k0_pay101, k0_pay102, k0_pay103, k0_pay104, k0_pay105, k0_pay106, k0_pay107,
    k0_pay108, k0_pay109, k0_pay110, k0_pay111, k0_pay112, k0_pay113, k0_pay114, k0_pay115, k0_pay116, k0_pay117, k0_pay118,
    k0_pay119, k0_pay120, k0_pay121, k0_pay122, k0_pay123, k0_pay124, k0_pay125, k0_pay126, k0_pay127, k0_pay128, k0_pay129,
    k0_pay130, k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150, k0_pay151,
    k0_pay152, k0_pay153, k0_pay154, k0_pay155, k0_pay156, k0_pay157, k0_pay158, k0_pay159, k0_pay160, k0_pay161, k0_pay162,
    k0_pay163, k0_pay164, k0_pay165, k0_pay166, k0_pay167, k0_pay168, k0_pay169, k0_pay170, k0_pay171, k0_pay172, k0_pay173,
    k0_pay174, k0_pay175, k0_pay176, k0_pay177]
  exact h

end Cert.KernelIdeal.Conv
end
-- ==== Proof.Input.lean ====
/-
The blocks each point reads, on real numbers: the rows of one batch row and the columns of one block, gate half then
value half, of the arguments.
-/
module

public import proofs.«01_k».proof.Proof.CaseA
public import proofs.«01_k».proof.Proof.CaseB
public import Idealize.ShloMosaic.Lib.StableHlo.ReadAt

@[expose] public section

set_option maxRecDepth 16384

noncomputable section

open Idealize.ShloMosaic Idealize.ShloMosaic.TcCoe Idealize.SL.Sem

namespace Cert.KernelIdeal.Conv

open Cert.KernelIdeal Cert.KernelIdeal.Gen Cert.Conv

variable (m : (ℓ : Loc nD τ sig) → Buf (Elt Ideal) ℓ) (c : Dev nD)

/-- The block indices at a point. -/
theorem indices : ∀ t : Fin cfg0.N,
    (win0_0.index t 0 = t.val % 2 ∧ win0_0.index t 1 = t.val / 2) ∧ (win0_1.index t 0 = t.val % 2 ∧ win0_1.index t 1 = 0)
    ∧ (win0_2.index t 0 = t.val / 2 ∧ win0_2.index t 1 = 0) ∧ (win0_3.index t 0 = 0 ∧ win0_3.index t 1 = t.val / 2)
    ∧ (win0_4.index t 0 = 0 ∧ win0_4.index t 1 = t.val / 2) :=
  (by decide +kernel : ∀ t : Fin grid0.N, _)

/-- The argument's column of the column `l` of block `j`: 256 columns of the gate half, then the same 256 of the value half. -/
def col (j l : ℕ) : ℕ := l / 256 * 2816 + j * 256 + l % 256

section
variable (U DX WD CW CB : ℕ → ℕ → ℝ) (t : ℕ)

/-- The input's block at point `t`. -/
def Xt (r l : ℕ) : ℝ := U (2048 * (t % 2) + r) (col (t / 2) l)

/-- The rows of the result's gradient at point `t`. -/
def Dt (r d : ℕ) : ℝ := DX (2048 * (t % 2) + r) d

/-- The down projection's weights at point `t`. -/
def Pt (q d : ℕ) : ℝ := WD (256 * (t / 2) + q) d

/-- The taps, or the bias, at point `t`. -/
def Wt (k l : ℕ) : ℝ := CW k (col (t / 2) l)

end

variable {U DX WD CW CB : ℕ → ℕ → ℝ}

theorem iblk1 (h : m ((c : Thread nD τ).loc main_arg1) = lift (φ := .f32) 4096 1024 DX) (t : Fin cfg0.N) :
    (iblk m c 1 t : Vec Ideal S2048x1024 .f32) = lift (φ := .f32) 2048 1024 (Dt DX t.val) := by
  have hi := (indices t).2.1
  funext j
  unfold iblk
  rw [View.read_apply]
  show V m c main_arg1 _ = _
  rw [V_main_arg1, h]
  unfold lift
  refine congrArg₂ (fun r d => ((DX r d : ℝ) : EReal)) ?_ ?_
  · show win0_1.index t 0 * 2048 + 1 * (j 0).val = _; rw [hi.1]; omega
  · show win0_1.index t 1 * 1024 + 1 * (j 1).val = _; rw [hi.2]; omega

theorem iblk2 (h : m ((c : Thread nD τ).loc main_arg2) = lift (φ := .f32) 2816 1024 WD) (t : Fin cfg0.N) :
    (iblk m c 2 t : Vec Ideal S256x1024 .bf16) = lift (φ := .bf16) 256 1024 (Pt WD t.val) := by
  have hi := (indices t).2.2.1
  funext j
  unfold iblk
  rw [View.read_apply]
  show V m c main_v3 _ = _
  unfold V
  after_reads_at
  show m ((c : Thread nD τ).loc main_arg2) _ = _
  rw [h]
  unfold lift
  refine congrArg₂ (fun r d => ((WD r d : ℝ) : EReal)) ?_ ?_
  · show win0_2.index t 0 * 256 + 1 * (j 0).val = _; rw [hi.1]; omega
  · show win0_2.index t 1 * 1024 + 1 * (j 1).val = _; rw [hi.2]; omega

/-- The argument's column of the column `x` of the array ordered by block. -/
def perm (x : ℕ) : ℕ := x / 256 % 2 * 2816 + x / 512 * 256 + x % 256

theorem perm_col (j l : ℕ) (h : l < 512) : perm (j * 512 + l) = col j l := by
  unfold perm col
  omega

theorem entry0 (h : m ((c : Thread nD τ).loc main_arg0) = lift (φ := .f32) 4096 5632 U) (y : S4096x5632.Idx) :
    V m c main_v2 y = ((U (y 0).val (perm (y 1).val) : ℝ) : EReal) := by
  unfold V
  after_reads_at
  exact (congrFun h _).trans rfl

theorem iblk0 (h : m ((c : Thread nD τ).loc main_arg0) = lift (φ := .f32) 4096 5632 U) (t : Fin cfg0.N) :
    (iblk m c 0 t : Vec Ideal S2048x512 .f32) = lift (φ := .f32) 2048 512 (Xt U t.val) := by
  have hi := (indices t).1
  funext j
  have hl : (j 1).val < 512 := (j 1).isLt
  unfold iblk
  rw [View.read_apply]
  refine (entry0 m c h _).trans ?_
  refine congrArg₂ (fun r d => ((U r d : ℝ) : EReal)) ?_ ((congrArg perm ?_).trans (perm_col (t.val / 2) (j 1).val hl))
  · show win0_0.index t 0 * 2048 + 1 * (j 0).val = _
    rw [hi.1]; omega
  · show win0_0.index t 1 * 512 + 1 * (j 1).val = _
    rw [hi.2]; omega

theorem entry3 (h : m ((c : Thread nD τ).loc main_arg3) = lift (φ := .f32) 3 5632 CW) (y : S3x5632.Idx) :
    V m c main_v6 y = ((CW (y 0).val (perm (y 1).val) : ℝ) : EReal) := by
  unfold V
  after_reads_at
  exact (congrFun h _).trans rfl

theorem iblk3 (h : m ((c : Thread nD τ).loc main_arg3) = lift (φ := .f32) 3 5632 CW) (t : Fin cfg0.N) :
    (iblk m c 3 t : Vec Ideal S3x512 .f32) = lift (φ := .f32) 3 512 (Wt CW t.val) := by
  have hi := (indices t).2.2.2.1
  funext j
  have hl : (j 1).val < 512 := (j 1).isLt
  unfold iblk
  rw [View.read_apply]
  refine (entry3 m c h _).trans ?_
  refine congrArg₂ (fun r d => ((CW r d : ℝ) : EReal)) ?_ ((congrArg perm ?_).trans (perm_col (t.val / 2) (j 1).val hl))
  · show win0_3.index t 0 * 3 + 1 * (j 0).val = _
    rw [hi.1]; omega
  · show win0_3.index t 1 * 512 + 1 * (j 1).val = _
    rw [hi.2]; omega

theorem entry4 (h : m ((c : Thread nD τ).loc main_arg4) = lift (φ := .f32) 1 5632 CB) (y : S1x5632.Idx) :
    V m c main_v9 y = ((CB (y 0).val (perm (y 1).val) : ℝ) : EReal) := by
  unfold V
  after_reads_at
  exact (congrFun h _).trans rfl

theorem iblk4 (h : m ((c : Thread nD τ).loc main_arg4) = lift (φ := .f32) 1 5632 CB) (t : Fin cfg0.N) :
    (iblk m c 4 t : Vec Ideal S1x512 .f32) = lift (φ := .f32) 1 512 (Wt CB t.val) := by
  have hi := (indices t).2.2.2.2
  funext j
  have hl : (j 1).val < 512 := (j 1).isLt
  unfold iblk
  rw [View.read_apply]
  refine (entry4 m c h _).trans ?_
  refine congrArg₂ (fun r d => ((CB r d : ℝ) : EReal)) ?_ ((congrArg perm ?_).trans (perm_col (t.val / 2) (j 1).val hl))
  · show win0_4.index t 0 * 1 + 1 * (j 0).val = _
    rw [hi.1]; omega
  · show win0_4.index t 1 * 512 + 1 * (j 1).val = _
    rw [hi.2]; omega

end Cert.KernelIdeal.Conv
end
-- ==== Proof.Points.lean ====
/-
What each point leaves in the five results, and from it the four arrays the call ends with, on real numbers.
-/
module

public import proofs.«01_k».proof.Proof.Input

@[expose] public section

set_option maxRecDepth 16384

noncomputable section

open Idealize.ShloMosaic Idealize.ShloMosaic.TcCoe Idealize.SL.Sem

namespace Cert.KernelIdeal.Conv

open Cert.KernelIdeal Cert.KernelIdeal.Gen Cert.KernelIdeal.Value Cert.Conv

variable (m : (ℓ : Loc nD τ sig) → Buf (Elt Ideal) ℓ) (c : Dev nD)

section
variable (U DX WD CW CB : ℕ → ℕ → ℝ) (t : ℕ)

/-- The gradient of the input at point `t`. -/
def du (r l : ℕ) : ℝ :=
  unconv (Wt CW t 0 l) (Wt CW t 1 l) (Wt CW t 2 l)
    (fun s => dB (Xt U t) (Dt DX t) (Pt WD t) (Wt CW t) (Wt CB t) s l) r

/-- The gradient of the taps from point `t`. -/
def dw (k l : ℕ) : ℝ := dwB (Xt U t) (Dt DX t) (Pt WD t) (Wt CW t) (Wt CB t) k l

/-- The gradient of the bias from point `t`. -/
def db (l : ℕ) : ℝ := dbB (Xt U t) (Dt DX t) (Pt WD t) (Wt CW t) (Wt CB t) l

/-- The gradient of the down projection's weights from point `t`. -/
def dp (q d : ℕ) : ℝ := wdB (Xt U t) (Dt DX t) (Wt CW t) (Wt CB t) q d

end

variable {U DX WD CW CB : ℕ → ℕ → ℝ}
  (h0 : m ((c : Thread nD τ).loc main_arg0) = lift (φ := .f32) 4096 5632 U)
  (h1 : m ((c : Thread nD τ).loc main_arg1) = lift (φ := .f32) 4096 1024 DX)
  (h2 : m ((c : Thread nD τ).loc main_arg2) = lift (φ := .f32) 2816 1024 WD)
  (h3 : m ((c : Thread nD τ).loc main_arg3) = lift (φ := .f32) 3 5632 CW)
  (h4 : m ((c : Thread nD τ).loc main_arg4) = lift (φ := .f32) 1 5632 CB)
include h0 h1 h2 h3 h4

/-- After the first batch row's point. -/
theorem even (t : Fin cfg0.N) (ht : t.val % 2 = 0) :
    (outsAt0 m c t.val t.isLt).1 = lift (φ := .bf16) 2048 512 (du U DX WD CW CB t.val)
    ∧ (outsAt0 m c t.val t.isLt).2.1 = lift (φ := .f32) 3 512 (dw U DX WD CW CB t.val)
    ∧ (outsAt0 m c t.val t.isLt).2.2.1 = lift (φ := .f32) 1 512 (fun _ l => db U DX WD CW CB t.val l)
    ∧ (outsAt0 m c t.val t.isLt).2.2.2.2 = lift (φ := .f32) 256 1024 (dp U DX CW CB t.val) := by
  rw [outsAt0_A m c t ht (by omega) (by omega)]
  have e0 := iblk0 m c h0 t
  have e1 := iblk1 m c h1 t
  have e2 := iblk2 m c h2 t
  have e3 := iblk3 m c h3 t
  have e4 := iblk4 m c h4 t
  dsimp only
  exact ⟨out5A _ _ _ _ _ _ _ _ _ _ _ _ _ _ _ _ _ _ _ _ _ _ _ _ _ _ _ _ _ _ _ _ e0 e1 e2 e3 e4,
    out6A _ _ _ _ _ _ _ _ _ _ _ _ _ _ _ _ _ _ _ _ _ _ _ _ _ _ _ _ _ _ _ _ e0 e1 e2 e3 e4,
    out7A _ _ _ _ _ _ _ _ _ _ _ _ _ _ _ _ _ _ _ _ _ _ _ _ _ _ _ _ _ _ _ _ e0 e1 e2 e3 e4,
    sout1A _ _ _ _ _ _ _ _ _ _ _ _ _ _ _ _ _ _ _ _ _ _ _ _ _ _ _ _ _ _ _ _ e0 e1 e2 e3 e4⟩

/-- After the second batch row's point. -/
theorem odd (t : Fin cfg0.N) (ht : t.val % 2 = 1) :
    (outsAt0 m c t.val t.isLt).1 = lift (φ := .bf16) 2048 512 (du U DX WD CW CB t.val)
    ∧ (outsAt0 m c t.val t.isLt).2.1
      = lift (φ := .f32) 3 512 (fun k l => dw U DX WD CW CB (t.val - 1) k l + dw U DX WD CW CB t.val k l)
    ∧ (outsAt0 m c t.val t.isLt).2.2.1
      = lift (φ := .f32) 1 512 (fun _ l => db U DX WD CW CB (t.val - 1) l + db U DX WD CW CB t.val l)
    ∧ (outsAt0 m c t.val t.isLt).2.2.2.1
      = lift (φ := .bf16) 256 1024 (fun q d => dp U DX CW CB (t.val - 1) q d + dp U DX CW CB t.val q d) := by
  rw [outsAt0_B m c t (by omega) ht ht]
  have e0 := iblk0 m c h0 t
  have e1 := iblk1 m c h1 t
  have e2 := iblk2 m c h2 t
  have e3 := iblk3 m c h3 t
  have e4 := iblk4 m c h4 t
  obtain ⟨-, f6, f7, f8⟩ := even m c h0 h1 h2 h3 h4 ⟨t.val - 1, by have := t.isLt; omega⟩ (by show (t.val - 1) % 2 = 0; omega)
  dsimp only
  exact ⟨out5B _ _ _ _ _ _ _ _ _ _ _ _ _ _ _ _ _ _ _ _ _ _ _ _ _ _ _ _ _ _ _ _ _ _ _ e0 e1 e2 e3 e4 f6 f7 f8,
    out6B _ _ _ _ _ _ _ _ _ _ _ _ _ _ _ _ _ _ _ _ _ _ _ _ _ _ _ _ _ _ _ _ _ _ _ e0 e1 e2 e3 e4 f6 f7 f8,
    out7B _ _ _ _ _ _ _ _ _ _ _ _ _ _ _ _ _ _ _ _ _ _ _ _ _ _ _ _ _ _ _ _ _ _ _ e0 e1 e2 e3 e4 f6 f7 f8,
    out8B _ _ _ _ _ _ _ _ _ _ _ _ _ _ _ _ _ _ _ _ _ _ _ _ _ _ _ _ _ _ _ _ _ _ _ e0 e1 e2 e3 e4 f6 f7 f8⟩

/-- The gradient of the input. -/
theorem g5 : G5 m c = lift (φ := .bf16) 4096 5632 (fun i x => du U DX WD CW CB (i / 2048 + 2 * (x / 512)) (i % 2048) (x % 512)) := by
  funext i
  have hi : (i 0).val < 4096 := (i 0).isLt
  have hx : (i 1).val < 5632 := (i 1).isLt
  have hp : pt5Of i = (i 0).val / 2048 + 2 * ((i 1).val / 512) := by
    show 1 * ((i 0).val / 2048 - 0) + 2 * ((i 1).val / 512 - 0) = _
    omega
  have hlt : pt5Of i < cfg0.N := by
    have hN : cfg0.N = 22 := N_0
    rw [hN, hp]; omega
  unfold G5
  rw [dif_pos hlt, ← outsAt0_sweep m c (pt5Of i) hlt]
  have e : (outsAt0 m c (pt5Of i) hlt).1 = lift (φ := .bf16) 2048 512 (du U DX WD CW CB (pt5Of i)) := by
    rcases Nat.mod_two_eq_zero_or_one (pt5Of i) with h | h
    · exact (even m c h0 h1 h2 h3 h4 ⟨pt5Of i, hlt⟩ h).1
    · exact (odd m c h0 h1 h2 h3 h4 ⟨pt5Of i, hlt⟩ h).1
  rw [e, hp]
  rfl

/-- The gradient of the taps. -/
theorem g6 : G6 m c = lift (φ := .f32) 3 5632 (fun k x => dw U DX WD CW CB (2 * (x / 512)) k (x % 512)
    + dw U DX WD CW CB (2 * (x / 512) + 1) k (x % 512)) := by
  funext i
  have hi : (i 0).val < 3 := (i 0).isLt
  have hx : (i 1).val < 5632 := (i 1).isLt
  have hp : pt6Of i = 2 * ((i 1).val / 512) + 1 := by
    show 2 * (11 * ((i 0).val / 3 - 0) + 1 * ((i 1).val / 512 - 0)) + 1 = _
    omega
  have hlt : pt6Of i < cfg0.N := by
    have hN : cfg0.N = 22 := N_0
    rw [hN, hp]; omega
  unfold G6
  rw [dif_pos hlt, ← outsAt0_sweep m c (pt6Of i) hlt, (odd m c h0 h1 h2 h3 h4 ⟨pt6Of i, hlt⟩ (by show pt6Of i % 2 = 1; omega)).2.1]
  show ((dw U DX WD CW CB (pt6Of i - 1) ((i 0).val % 3) ((i 1).val % 512)
    + dw U DX WD CW CB (pt6Of i) ((i 0).val % 3) ((i 1).val % 512) : ℝ) : EReal) = _
  rw [hp, Nat.mod_eq_of_lt hi]
  rfl

/-- The gradient of the bias. -/
theorem g7 : G7 m c = lift (φ := .f32) 1 5632 (fun _ x => db U DX WD CW CB (2 * (x / 512)) (x % 512)
    + db U DX WD CW CB (2 * (x / 512) + 1) (x % 512)) := by
  funext i
  have hi : (i 0).val < 1 := (i 0).isLt
  have hx : (i 1).val < 5632 := (i 1).isLt
  have hp : pt7Of i = 2 * ((i 1).val / 512) + 1 := by
    show 2 * (11 * ((i 0).val / 1 - 0) + 1 * ((i 1).val / 512 - 0)) + 1 = _
    omega
  have hlt : pt7Of i < cfg0.N := by
    have hN : cfg0.N = 22 := N_0
    rw [hN, hp]; omega
  unfold G7
  rw [dif_pos hlt, ← outsAt0_sweep m c (pt7Of i) hlt, (odd m c h0 h1 h2 h3 h4 ⟨pt7Of i, hlt⟩ (by show pt7Of i % 2 = 1; omega)).2.2.1]
  show ((db U DX WD CW CB (pt7Of i - 1) ((i 1).val % 512) + db U DX WD CW CB (pt7Of i) ((i 1).val % 512) : ℝ) : EReal) = _
  rw [hp]
  rfl

/-- The gradient of the down projection's weights. -/
theorem g8 : G8 m c = lift (φ := .bf16) 2816 1024 (fun q d => dp U DX CW CB (2 * (q / 256)) (q % 256) d
    + dp U DX CW CB (2 * (q / 256) + 1) (q % 256) d) := by
  funext i
  have hi : (i 0).val < 2816 := (i 0).isLt
  have hx : (i 1).val < 1024 := (i 1).isLt
  have hp : pt8Of i = 2 * ((i 0).val / 256) + 1 := by
    show 2 * (1 * ((i 0).val / 256 - 0) + 1 * ((i 1).val / 1024 - 0)) + 1 = _
    omega
  have hlt : pt8Of i < cfg0.N := by
    have hN : cfg0.N = 22 := N_0
    rw [hN, hp]; omega
  unfold G8
  rw [dif_pos hlt, ← outsAt0_sweep m c (pt8Of i) hlt, (odd m c h0 h1 h2 h3 h4 ⟨pt8Of i, hlt⟩ (by show pt8Of i % 2 = 1; omega)).2.2.2]
  show ((dp U DX CW CB (pt8Of i - 1) ((i 0).val % 256) ((i 1).val % 1024)
    + dp U DX CW CB (pt8Of i) ((i 0).val % 256) ((i 1).val % 1024) : ℝ) : EReal) = _
  rw [hp, Nat.mod_eq_of_lt hx]
  rfl

end Cert.KernelIdeal.Conv
end
-- ==== Proof.RefRows.lean ====
/-
The reference on real numbers, first part: the convolution, the gate, and the gradient that reaches the convolution.
-/
module

public import proofs.«01_k».proof.Proof.Gen.ReferenceIdeal.Read
public import proofs.«01_k».proof.Proof.Chunk

@[expose] public section

set_option maxRecDepth 16384

noncomputable section

open Idealize.ShloMosaic Idealize.ShloMosaic.TcCoe Idealize.SL.Sem

namespace Cert.ReferenceIdeal.Conv

open Cert.ReferenceIdeal Cert.ReferenceIdeal.Gen Cert.ReferenceIdeal.Read Cert.Conv

/-- An array of rank three whose entries are the real numbers `f batch row column`. -/
def lift3 (a b c : ℕ) (f : ℕ → ℕ → ℕ → ℝ) : FVec Ideal ⟨3, ![a, b, c]⟩ .f32 :=
  fun i => ((f (i 0).val (i 1).val (i 2).val : ℝ) : EReal)

/-- An array of rank one whose entries are the real numbers `f column`. -/
def lift1 (a : ℕ) (f : ℕ → ℝ) : FVec Ideal ⟨1, ![a]⟩ .f32 := fun i => ((f (i 0).val : ℝ) : EReal)

theorem lift3_congr {a b c : ℕ} {f g : ℕ → ℕ → ℕ → ℝ} (h : ∀ r, r < a → ∀ s, s < b → ∀ l, l < c → f r s l = g r s l) :
    lift3 a b c f = lift3 a b c g := by
  funext i
  exact congrArg (fun x : ℝ => (x : EReal)) (h _ (i 0).isLt _ (i 1).isLt _ (i 2).isLt)

section
variable (U DX WD CW CB : ℕ → ℕ → ℝ)

/-- The convolution's input of one batch row and column. -/
def uR (b x t : ℕ) : ℝ := U (2048 * b + t) x

/-- The convolution. -/
def yR (b t x : ℕ) : ℝ := conv (CW 0 x) (CW 1 x) (CW 2 x) (CB 0 x) (uR U b x) t

/-- The gradient of the activation. -/
def aR (b t q : ℕ) : ℝ := ∑ d ∈ Finset.range 1024, DX (2048 * b + t) d * WD q d

/-- The gradient of the convolution. -/
def dR (b t x : ℕ) : ℝ :=
  if x < 2816 then dGate (aR DX WD b t x) (yR U CW CB b t x) (yR U CW CB b t (2816 + x))
  else dVal (aR DX WD b t (x - 2816)) (yR U CW CB b t (x - 2816))

/-- The activation. -/
def actR (b t q : ℕ) : ℝ := yR U CW CB b t q * sg (yR U CW CB b t q) * yR U CW CB b t (2816 + q)

end

variable {U DX WD CW CB : ℕ → ℕ → ℝ} {x0 : FVec Ideal S4096x5632 .f32} {x1 : FVec Ideal S4096x1024 .f32}
  {x2 : FVec Ideal S2816x1024 .f32} {x3 : FVec Ideal S3x5632 .f32} {x4 : FVec Ideal S1x5632 .f32}

theorem v0_eq (h0 : x0 = lift 4096 5632 U) : val_main_v0 (F := Ideal) x0 = lift3 2 2048 5632 (fun b t x => U (2048 * b + t) x) := by
  subst h0
  funext i
  rw [val_main_v0_apply]
  have h0 : (i 0).val < 2 := (i 0).isLt
  have h1 : (i 1).val < 2048 := (i 1).isLt
  have h2 : (i 2).val < 5632 := (i 2).isLt
  refine congrArg₂ (fun r d => ((U r d : ℝ) : EReal)) ?_ ?_
  · show (((i 0).val * 2048 + (i 1).val) * 5632 + (i 2).val) / 5632 = _; omega
  · show (((i 0).val * 2048 + (i 1).val) * 5632 + (i 2).val) % 5632 = _; omega

theorem v1_eq (h1 : x1 = lift 4096 1024 DX) : val_main_v1 (F := Ideal) x1 = lift3 2 2048 1024 (fun b t d => DX (2048 * b + t) d) := by
  subst h1
  funext i
  rw [val_main_v1_apply]
  have h0 : (i 0).val < 2 := (i 0).isLt
  have h1 : (i 1).val < 2048 := (i 1).isLt
  have h2 : (i 2).val < 1024 := (i 2).isLt
  refine congrArg₂ (fun r d => ((DX r d : ℝ) : EReal)) ?_ ?_
  · show (((i 0).val * 2048 + (i 1).val) * 1024 + (i 2).val) / 1024 = _; omega
  · show (((i 0).val * 2048 + (i 1).val) * 1024 + (i 2).val) % 1024 = _; omega

theorem v3_eq (h0 : x0 = lift 4096 5632 U) :
    val_main_v3 (F := Ideal) x0 = lift3 2 2050 5632 (fun b t x => if t < 2 then 0 else U (2048 * b + (t - 2)) x) := by
  unfold val_main_v3
  rw [v0_eq h0]
  funext j
  idx_vars j
  unfold lift3
  pointwise [val_main_v2_apply, val_main_cst_apply]
  split_ifs <;> first | rfl | exact Ideal.ofBits_zero_f32

theorem v20_eq (h0 : x0 = lift 4096 5632 U) :
    val_main_v20 (F := Ideal) x0 = lift3 2 2048 5632 (fun b t x => uR U b x t) := by
  unfold val_main_v20
  rw [v3_eq h0]
  funext j
  idx_vars j
  unfold lift3
  pointwise
  rfl

theorem v13_eq (h0 : x0 = lift 4096 5632 U) :
    val_main_v13 (F := Ideal) x0 = lift3 2 2048 5632 (fun b t x => sh (uR U b x) 1 t) := by
  unfold val_main_v13
  rw [v3_eq h0]
  funext j
  idx_vars j
  unfold lift3
  pointwise
  unfold uR sh
  split_ifs <;> first | rfl | (exfalso; omega) | (congr 3; omega)

theorem v7_eq (h0 : x0 = lift 4096 5632 U) :
    val_main_v7 (F := Ideal) x0 = lift3 2 2048 5632 (fun b t x => sh (uR U b x) 2 t) := by
  unfold val_main_v7
  rw [v3_eq h0]
  funext j
  idx_vars j
  unfold lift3
  pointwise
  unfold uR sh
  split_ifs <;> first | rfl | (exfalso; omega) | (congr 3; omega)

theorem v8_eq (h3 : x3 = lift 3 5632 CW) : val_main_v8 (F := Ideal) x3 = lift3 1 1 5632 (fun _ _ x => CW 0 x) := by
  subst h3
  unfold val_main_v8 val_main_v6 val_main_v5
  funext j
  idx_vars j
  unfold lift3 lift
  pointwise

theorem v14_eq (h3 : x3 = lift 3 5632 CW) : val_main_v14 (F := Ideal) x3 = lift3 1 1 5632 (fun _ _ x => CW 1 x) := by
  subst h3
  unfold val_main_v14 val_main_v12 val_main_v11
  funext j
  idx_vars j
  unfold lift3 lift
  pointwise

theorem v21_eq (h3 : x3 = lift 3 5632 CW) : val_main_v21 (F := Ideal) x3 = lift3 1 1 5632 (fun _ _ x => CW 2 x) := by
  subst h3
  unfold val_main_v21 val_main_v19 val_main_v18
  funext j
  idx_vars j
  unfold lift3 lift
  pointwise

theorem v27_eq (h0 : x0 = lift 4096 5632 U) (h3 : x3 = lift 3 5632 CW) (h4 : x4 = lift 1 5632 CB) :
    val_main_v27 (F := Ideal) x0 x3 x4 = lift3 2 2048 5632 (yR U CW CB) := by
  unfold val_main_v27 val_main_v26 val_main_v25 val_main_v24 val_main_v23 val_main_v22 val_main_v17 val_main_v16 val_main_v15
    val_main_v10 val_main_v9
  rw [v8_eq h3, v14_eq h3, v21_eq h3, v7_eq h0, v13_eq h0, v20_eq h0, h4]
  funext j
  idx_vars j
  unfold lift3 lift
  pointwise
  unfold yR conv
  norm_cast
  ring

theorem v28_eq (h0 : x0 = lift 4096 5632 U) (h3 : x3 = lift 3 5632 CW) (h4 : x4 = lift 1 5632 CB) :
    val_main_v28 (F := Ideal) x0 x3 x4 = lift3 2 2048 2816 (yR U CW CB) := by
  unfold val_main_v28
  rw [v27_eq h0 h3 h4]
  funext j
  idx_vars j
  unfold lift3
  pointwise

theorem v29_eq (h0 : x0 = lift 4096 5632 U) (h3 : x3 = lift 3 5632 CW) (h4 : x4 = lift 1 5632 CB) :
    val_main_v29 (F := Ideal) x0 x3 x4 = lift3 2 2048 2816 (fun b t q => yR U CW CB b t (2816 + q)) := by
  unfold val_main_v29
  rw [v27_eq h0 h3 h4]
  funext j
  idx_vars j
  unfold lift3
  pointwise

theorem v30_2_eq (h0 : x0 = lift 4096 5632 U) (h3 : x3 = lift 3 5632 CW) (h4 : x4 = lift 1 5632 CB) :
    val_main_v30_2 (F := Ideal) x0 x3 x4 = lift3 2 2048 2816 (fun b t q => sg (yR U CW CB b t q)) := by
  unfold val_main_v30_2 val_main_call0_v4 val_main_call0_v3 val_main_call0_v2 val_main_call0_v1 val_main_call0_v0
    val_main_call0_cst val_main_call0_cst_0
  rw [v28_eq h0 h3 h4]
  funext j
  idx_vars j
  unfold lift3
  pointwise
  rw [show -((yR U CW CB j0 j1 j2 : ℝ) : EReal) = ((-yR U CW CB j0 j1 j2 : ℝ) : EReal) by push_cast; rfl, Ideal.exp_coe,
    show (1 : EReal) + ((Real.exp (-yR U CW CB j0 j1 j2) : ℝ) : EReal) = ((1 + Real.exp (-yR U CW CB j0 j1 j2) : ℝ) : EReal) by
      push_cast; rfl,
    Ideal.div_coe (one_add_exp_ne _), one_mul]
  rfl

theorem v30_1_eq (h0 : x0 = lift 4096 5632 U) (h3 : x3 = lift 3 5632 CW) (h4 : x4 = lift 1 5632 CB) :
    val_main_v30_1 (F := Ideal) x0 x3 x4
      = lift3 2 2048 2816 (fun b t q => sg (yR U CW CB b t q) * (1 - sg (yR U CW CB b t q))) := by
  unfold val_main_v30_1 val_main_call0_v7 val_main_call0_v6 val_main_call0_cst_1
  rw [v30_2_eq h0 h3 h4]
  funext j
  idx_vars j
  unfold lift3
  pointwise
  norm_cast

theorem v30_0_eq (h0 : x0 = lift 4096 5632 U) (h3 : x3 = lift 3 5632 CW) (h4 : x4 = lift 1 5632 CB) :
    val_main_v30_0 (F := Ideal) x0 x3 x4 = lift3 2 2048 2816 (fun b t q => yR U CW CB b t q * sg (yR U CW CB b t q)) := by
  unfold val_main_v30_0
  rw [v30_2_eq h0 h3 h4, v28_eq h0 h3 h4]
  funext j
  idx_vars j
  unfold lift3
  pointwise
  norm_cast

theorem v31_eq (h0 : x0 = lift 4096 5632 U) (h3 : x3 = lift 3 5632 CW) (h4 : x4 = lift 1 5632 CB) :
    val_main_v31 (F := Ideal) x0 x3 x4 = lift3 2 2048 2816 (actR U CW CB) := by
  unfold val_main_v31
  rw [v30_0_eq h0 h3 h4, v29_eq h0 h3 h4]
  funext j
  idx_vars j
  unfold lift3 actR
  pointwise
  norm_cast

theorem v35_eq (h1 : x1 = lift 4096 1024 DX) (h2 : x2 = lift 2816 1024 WD) :
    val_main_v35 (F := Ideal) x1 x2 = lift3 2 2048 2816 (aR DX WD) := by
  unfold val_main_v35
  rw [v1_eq h1, h2]
  funext j
  idx_vars j
  unfold lift3 lift aR
  pointwise
  simp only [← EReal.coe_mul]
  exact coe_sum_range 1024 (fun k => DX (2048 * j0.val + j1.val) k * WD j2.val k)

section
variable (h0 : x0 = lift 4096 5632 U) (h1 : x1 = lift 4096 1024 DX) (h2 : x2 = lift 2816 1024 WD) (h3 : x3 = lift 3 5632 CW)
  (h4 : x4 = lift 1 5632 CB)
include h0 h1 h2 h3 h4

theorem v36_eq : val_main_v36 (F := Ideal) x0 x1 x2 x3 x4
    = lift3 2 2048 2816 (fun b t q => dVal (aR DX WD b t q) (yR U CW CB b t q)) := by
  unfold val_main_v36
  rw [v30_0_eq h0 h3 h4, v35_eq h1 h2]
  funext j
  idx_vars j
  unfold lift3 dVal
  pointwise
  norm_cast
  ring

theorem v37_eq : val_main_v37 (F := Ideal) x0 x1 x2 x3 x4
    = lift3 2 2048 2816 (fun b t q => aR DX WD b t q * yR U CW CB b t (2816 + q)) := by
  unfold val_main_v37
  rw [v29_eq h0 h3 h4, v35_eq h1 h2]
  funext j
  idx_vars j
  unfold lift3
  pointwise
  norm_cast

theorem v38_eq : val_main_v38 (F := Ideal) x0 x1 x2 x3 x4
    = lift3 2 2048 2816 (fun b t q => dGate (aR DX WD b t q) (yR U CW CB b t q) (yR U CW CB b t (2816 + q))) := by
  unfold val_main_v38 val_main_call1_v2 val_main_call1_v1 val_main_call1_v0
  rw [v28_eq h0 h3 h4, v30_1_eq h0 h3 h4, v30_2_eq h0 h3 h4, v37_eq h0 h1 h2 h3 h4]
  funext j
  idx_vars j
  unfold lift3 dGate
  pointwise
  norm_cast
  ring

theorem v41_eq : val_main_v41 (F := Ideal) x0 x1 x2 x3 x4 = lift3 2 2048 5632 (dR U DX WD CW CB) := by
  unfold val_main_v41 val_main_v40 val_main_v39 val_main_cst_2 val_main_cst_1
  rw [v38_eq h0 h1 h2 h3 h4, v36_eq h0 h1 h2 h3 h4]
  funext j
  idx_vars j
  unfold lift3 dR
  pointwise
  have hj : j2.val < 5632 := j2.isLt
  by_cases h : j2.val < 2816
  · rw [dif_neg (by omega), dif_pos h, if_pos h, zero_add]
  · rw [dif_pos (by omega), dif_neg h, if_neg h, add_zero]

end

end Cert.ReferenceIdeal.Conv
end
-- ==== Proof.RefSums.lean ====
/-
The reference on real numbers, second part: its four results.
-/
module

public import proofs.«01_k».proof.Proof.RefRows
public import Idealize.ShloMosaic.Lib.IdealHost

@[expose] public section

set_option maxRecDepth 16384

noncomputable section

open Idealize.ShloMosaic Idealize.ShloMosaic.TcCoe Idealize.SL.Sem

namespace Cert.ReferenceIdeal.Conv

open Cert.ReferenceIdeal Cert.ReferenceIdeal.Gen Cert.ReferenceIdeal.Read Cert.Conv

/-- The sum over batch rows and time. -/
def tot (a b : ℕ) (f : ℕ → ℕ → ℕ → ℝ) (x : ℕ) : ℝ := ∑ r ∈ Finset.range a, ∑ t ∈ Finset.range b, f r t x

theorem coe_tot (a b : ℕ) (f : ℕ → ℕ → ℕ → ℝ) (x : ℕ) :
    (∑ k0 : Fin a, ∑ k1 : Fin b, ((f k0.val k1.val x : ℝ) : EReal)) = ((tot a b f x : ℝ) : EReal) := by
  unfold tot
  rw [← coe_sum_range a (fun r => ∑ t ∈ Finset.range b, f r t x)]
  exact Finset.sum_congr rfl fun k _ => coe_sum_range b (fun t => f k.val t x)

/-- The host's sum along a family of indices: those that reduce to `j`. -/
theorem hostSum {s t : Shape} {axes : List (Fin s.rank)} (h : s.ReducesTo axes t) (x : s.Idx → EReal) (z : EReal)
    (j : t.Idx) {κ : Type} [Fintype κ] (g : κ → s.Idx) (hg : Function.Injective g)
    (hp : ∀ i, h.drop i = j ↔ ∃ k, g k = i) : Ideal.hostReduceAdd h x z j = z + ∑ k, x (g k) :=
  congrArg (z + ·) (Finset.sum_filter_eq_sum_of_fiber (fun i => h.drop i = j) g hg hp x)

/-- A sum over the two leading axes, on real numbers. -/
theorem reduce01 {a b n : ℕ} (f : ℕ → ℕ → ℕ → ℝ) (init : FVec Ideal S_ .f32) (hz : ∀ i, init i = 0)
    (h : (⟨3, ![a, b, n]⟩ : Shape).ReducesTo [0, 1] ⟨1, ![n]⟩) (hu) :
    Host.reduceAdd (lift3 a b n f) init h hu = lift1 n (tot a b f) := by
  funext j
  rw [ValueIdx.hostReduceAdd_apply]
  refine (hostSum h _ _ j (fun k : Fin a × Fin b => ix3 k.1 k.2 (j 0))
    (fun _ _ e => Prod.ext (congrFun e 0) (congrFun e 1)) (fun i => ?_)).trans ?_
  · constructor
    · intro e
      refine ⟨(i 0, i 1), ?_⟩
      funext x; apply Fin.ext
      match x with
      | ⟨0, _⟩ => rfl
      | ⟨1, _⟩ => rfl
      | ⟨2, _⟩ => exact (congrArg Fin.val (congrFun e 0)).symm
    · rintro ⟨k, rfl⟩
      funext x
      apply Fin.ext
      match x with
      | ⟨0, _⟩ => rfl
  · rw [hz, zero_add, Fintype.sum_prod_type]
    exact coe_tot a b f (j 0).val

theorem tot_one (g : ℕ → ℝ) : tot 1 1 (fun _ _ x => g x) = g := by
  funext x
  unfold tot
  rw [Finset.sum_range_one, Finset.sum_range_one]

section
variable {U DX WD CW CB : ℕ → ℕ → ℝ} {x0 : FVec Ideal S4096x5632 .f32} {x1 : FVec Ideal S4096x1024 .f32}
  {x2 : FVec Ideal S2816x1024 .f32} {x3 : FVec Ideal S3x5632 .f32} {x4 : FVec Ideal S1x5632 .f32}
  (h0 : x0 = lift 4096 5632 U) (h1 : x1 = lift 4096 1024 DX) (h2 : x2 = lift 2816 1024 WD) (h3 : x3 = lift 3 5632 CW)
  (h4 : x4 = lift 1 5632 CB)
include h0 h1 h2 h3 h4

/-- The gradient of the bias. -/
theorem v45_eq : val_main_v45 (F := Ideal) x0 x1 x2 x3 x4
    = lift (φ := .f32) 1 5632 (fun _ x => tot 2 2048 (dR U DX WD CW CB) x) := by
  have e43 : val_main_v43 (F := Ideal) x0 x1 x2 x3 x4 = lift3 1 1 5632 (fun _ _ x => tot 2 2048 (dR U DX WD CW CB) x) := by
    unfold val_main_v43 val_main_v42
    rw [v41_eq h0 h1 h2 h3 h4, reduce01 _ (val_main_cst_3 (F := Ideal)) (fun _ => Ideal.ofBits_zero_f32)]
    funext j
    idx_vars j
    unfold lift3 lift1
    pointwise
  unfold val_main_v45 val_main_v44
  rw [e43, reduce01 _ (val_main_cst_4 (F := Ideal)) (fun _ => Ideal.ofBits_zero_f32), tot_one]
  funext j
  idx_vars j
  unfold lift lift1
  pointwise

/-- The gradient of tap 2. -/
theorem v53_eq : val_main_v53 (F := Ideal) x0 x1 x2 x3 x4
    = lift (φ := .f32) 1 5632 (fun _ x => tot 2 2048 (fun b t x => dR U DX WD CW CB b t x * uR U b x t) x) := by
  have e48 : val_main_v48 (F := Ideal) x0 x1 x2 x3 x4
      = lift3 2 2048 5632 (fun b t x => dR U DX WD CW CB b t x * uR U b x t) := by
    unfold val_main_v48
    rw [v41_eq h0 h1 h2 h3 h4, v20_eq h0]
    funext j
    idx_vars j
    unfold lift3
    pointwise
    norm_cast
  have e50 : val_main_v50 (F := Ideal) x0 x1 x2 x3 x4
      = lift3 1 1 5632 (fun _ _ x => tot 2 2048 (fun b t x => dR U DX WD CW CB b t x * uR U b x t) x) := by
    unfold val_main_v50 val_main_v49
    rw [e48, reduce01 _ (val_main_cst_5 (F := Ideal)) (fun _ => Ideal.ofBits_zero_f32)]
    funext j
    idx_vars j
    unfold lift3 lift1
    pointwise
  unfold val_main_v53 val_main_v51
  rw [e50, reduce01 _ (val_main_cst_6 (F := Ideal)) (fun _ => Ideal.ofBits_zero_f32), tot_one]
  funext j
  idx_vars j
  unfold lift lift1
  pointwise

/-- The gradient of tap 1. -/
theorem v63_eq : val_main_v63 (F := Ideal) x0 x1 x2 x3 x4
    = lift (φ := .f32) 1 5632 (fun _ x => tot 2 2048 (fun b t x => dR U DX WD CW CB b t x * sh (uR U b x) 1 t) x) := by
  have e57 : val_main_v57 (F := Ideal) x0 x1 x2 x3 x4
      = lift3 2 2048 5632 (fun b t x => dR U DX WD CW CB b t x * sh (uR U b x) 1 t) := by
    unfold val_main_v57
    rw [v41_eq h0 h1 h2 h3 h4, v13_eq h0]
    funext j
    idx_vars j
    unfold lift3
    pointwise
    norm_cast
  have e59 : val_main_v59 (F := Ideal) x0 x1 x2 x3 x4
      = lift3 1 1 5632 (fun _ _ x => tot 2 2048 (fun b t x => dR U DX WD CW CB b t x * sh (uR U b x) 1 t) x) := by
    unfold val_main_v59 val_main_v58
    rw [e57, reduce01 _ (val_main_cst_9 (F := Ideal)) (fun _ => Ideal.ofBits_zero_f32)]
    funext j
    idx_vars j
    unfold lift3 lift1
    pointwise
  unfold val_main_v63 val_main_v60
  rw [e59, reduce01 _ (val_main_cst_10 (F := Ideal)) (fun _ => Ideal.ofBits_zero_f32), tot_one]
  funext j
  idx_vars j
  unfold lift lift1
  pointwise

/-- The gradient of tap 0. -/
theorem v74_eq : val_main_v74 (F := Ideal) x0 x1 x2 x3 x4
    = lift (φ := .f32) 1 5632 (fun _ x => tot 2 2048 (fun b t x => dR U DX WD CW CB b t x * sh (uR U b x) 2 t) x) := by
  have e68 : val_main_v68 (F := Ideal) x0 x1 x2 x3 x4
      = lift3 2 2048 5632 (fun b t x => dR U DX WD CW CB b t x * sh (uR U b x) 2 t) := by
    unfold val_main_v68
    rw [v41_eq h0 h1 h2 h3 h4, v7_eq h0]
    funext j
    idx_vars j
    unfold lift3
    pointwise
    norm_cast
  have e70 : val_main_v70 (F := Ideal) x0 x1 x2 x3 x4
      = lift3 1 1 5632 (fun _ _ x => tot 2 2048 (fun b t x => dR U DX WD CW CB b t x * sh (uR U b x) 2 t) x) := by
    unfold val_main_v70 val_main_v69
    rw [e68, reduce01 _ (val_main_cst_13 (F := Ideal)) (fun _ => Ideal.ofBits_zero_f32)]
    funext j
    idx_vars j
    unfold lift3 lift1
    pointwise
  unfold val_main_v74 val_main_v71
  rw [e70, reduce01 _ (val_main_cst_14 (F := Ideal)) (fun _ => Ideal.ofBits_zero_f32), tot_one]
  funext j
  idx_vars j
  unfold lift lift1
  pointwise

/-- The gradient of the taps. -/
theorem v76_eq : val_main_v76 (F := Ideal) x0 x1 x2 x3 x4
    = lift (φ := .f32) 3 5632 (fun k x => tot 2 2048 (fun b t x => dR U DX WD CW CB b t x * sh (uR U b x) (2 - k) t) x) := by
  unfold val_main_v76 val_main_v75 val_main_v65 val_main_v64 val_main_v54 val_main_cst_16 val_main_cst_12 val_main_cst_8
  rw [v53_eq h0 h1 h2 h3 h4, v63_eq h0 h1 h2 h3 h4, v74_eq h0 h1 h2 h3 h4]
  have hs : ∀ b x t, sh (uR U b x) 0 t = uR U b x t := fun b x t => by unfold sh; simp
  funext j
  idx_vars j
  unfold lift
  pointwise
  fin_cases j0 <;> simp [hs]

/-- The gradient of the convolution's input. -/
theorem v79_eq : val_main_v79 (F := Ideal) x0 x1 x2 x3 x4
    = lift (φ := .f32) 4096 5632 (fun i x => unconv (CW 0 x) (CW 1 x) (CW 2 x) (fun t => dR U DX WD CW CB (i / 2048) t x) (i % 2048)) := by
  unfold val_main_v79 val_main_v78 val_main_v73 val_main_v72 val_main_v67 val_main_v66 val_main_v62 val_main_v61 val_main_v56
    val_main_v55 val_main_v52 val_main_v47 val_main_v46 val_main_cst_7 val_main_cst_11 val_main_cst_15
  rw [v41_eq h0 h1 h2 h3 h4, v8_eq h3, v14_eq h3, v21_eq h3]
  funext j
  idx_vars j
  unfold lift lift3
  pointwise
  have hb : j0.val / 2048 < 2 := by have := j0.isLt; omega
  have ht : j0.val % 2048 < 2048 := Nat.mod_lt _ (by decide)
  have e1 : 2 + j0.val % 2048 - 1 = j0.val % 2048 + 1 := by omega
  have e2 : 2 + j0.val % 2048 = j0.val % 2048 + 2 := by omega
  have c1 : (1 ≤ 2 + j0.val % 2048) := by omega
  unfold unconv ahead
  simp only [hb, ht, e1, e2, true_and, and_self, dite_true, c1]
  simp only [dite_eq_ite, show (1 ≤ j0.val % 2048 + 2) from by omega, true_and, show j0.val % 2048 + 2 - 1 = j0.val % 2048 + 1 from by omega]
  split_ifs <;> push_cast <;> simp

end

/-- The column `x` of the order by block: 256 columns of the gate half, then the same 256 of the value half. -/
def place (x : ℕ) : ℕ := x / 256 % 2 * 2816 + x / 512 * 256 + x % 256

theorem place_eq {f : ℕ → ℕ → ℝ} {r x : ℕ} {a b : ℕ} (ha : x / 256 % 2 = 0 → a = place x) (hb : x / 256 % 2 = 1 → b = place x) :
    (if h : x / 256 % 2 < 1 then ((f r a : ℝ) : EReal) else ((f r b : ℝ) : EReal)) = ((f r (place x) : ℝ) : EReal) := by
  split_ifs with h
  · rw [ha (by omega)]
  · rw [hb (by omega)]

section
variable {U DX WD CW CB : ℕ → ℕ → ℝ} {x0 : FVec Ideal S4096x5632 .f32} {x1 : FVec Ideal S4096x1024 .f32}
  {x2 : FVec Ideal S2816x1024 .f32} {x3 : FVec Ideal S3x5632 .f32} {x4 : FVec Ideal S1x5632 .f32}
  (h0 : x0 = lift 4096 5632 U) (h1 : x1 = lift 4096 1024 DX) (h2 : x2 = lift 2816 1024 WD) (h3 : x3 = lift 3 5632 CW)
  (h4 : x4 = lift 1 5632 CB)
include h0 h1 h2 h3 h4

/-- The first result. -/
theorem v88_eq : val_main_v88 (F := Ideal) x0 x1 x2 x3 x4
    = lift (φ := .bf16) 4096 5632 (fun i x => unconv (CW 0 (place x)) (CW 1 (place x)) (CW 2 (place x))
      (fun t => dR U DX WD CW CB (i / 2048) t (place x)) (i % 2048)) := by
  unfold val_main_v88 val_main_v87 val_main_v86 val_main_v85 val_main_v84 val_main_v83 val_main_v82 val_main_v81 val_main_v80
  rw [v79_eq h0 h1 h2 h3 h4]
  funext j
  idx_vars j
  unfold lift
  pointwise
  exact place_eq (f := (fun i x => unconv (CW 0 x) (CW 1 x) (CW 2 x) (fun t => dR U DX WD CW CB (i / 2048) t x) (i % 2048))) (r := j0.val) (x := j1.val)
    (fun h => by unfold place; omega) (fun h => by unfold place; omega)

/-- The second result. -/
theorem v96_eq : val_main_v96 (F := Ideal) x0 x1 x2 x3 x4
    = lift (φ := .f32) 3 5632 (fun k x => tot 2 2048 (fun b t x => dR U DX WD CW CB b t x * sh (uR U b x) (2 - k) t) (place x)) := by
  unfold val_main_v96 val_main_v95 val_main_v94 val_main_v93 val_main_v92 val_main_v91 val_main_v90 val_main_v89
  rw [v76_eq h0 h1 h2 h3 h4]
  funext j
  idx_vars j
  unfold lift
  pointwise
  exact place_eq (f := (fun k x => tot 2 2048 (fun b t x => dR U DX WD CW CB b t x * sh (uR U b x) (2 - k) t) x)) (r := j0.val) (x := j1.val)
    (fun h => by unfold place; omega) (fun h => by unfold place; omega)

/-- The third result. -/
theorem v104_eq : val_main_v104 (F := Ideal) x0 x1 x2 x3 x4
    = lift (φ := .f32) 1 5632 (fun _ x => tot 2 2048 (dR U DX WD CW CB) (place x)) := by
  unfold val_main_v104 val_main_v103 val_main_v102 val_main_v101 val_main_v100 val_main_v99 val_main_v98 val_main_v97
  rw [v45_eq h0 h1 h2 h3 h4]
  funext j
  idx_vars j
  unfold lift
  pointwise
  exact place_eq (f := (fun (_ : ℕ) x => tot 2 2048 (dR U DX WD CW CB) x)) (r := j0.val) (x := j1.val)
    (fun h => by unfold place; omega) (fun h => by unfold place; omega)

/-- The fourth result. -/
theorem v105_eq : val_main_v105 (F := Ideal) x0 x1 x3 x4
    = lift (φ := .bf16) 2816 1024 (fun q d => tot 2 2048 (fun b t d => DX (2048 * b + t) d * actR U CW CB b t q) d) := by
  unfold val_main_v105 val_main_v34 val_main_v33
  rw [v1_eq h1, v31_eq h0 h3 h4]
  funext j
  idx_vars j
  unfold lift lift3
  pointwise
  simp only [← EReal.coe_mul]
  exact coe_tot 2 2048 (fun b t d => DX (2048 * b + t) d * actR U CW CB b t j0.val) j1.val

end

end Cert.ReferenceIdeal.Conv
end
-- ==== Proof.Join.lean ====
/-
The kernel's real numbers are the reference's: point `b + 2 * j` works on batch row `b` and on the columns of block `j`,
and its column `l` is the argument's column `col j l`.
-/
module

public import proofs.«01_k».proof.Proof.Points
public import proofs.«01_k».proof.Proof.RefSums

@[expose] public section

set_option maxRecDepth 16384

noncomputable section

open Idealize.ShloMosaic Cert.Conv

namespace Cert.Join

open Cert.KernelIdeal.Conv Cert.ReferenceIdeal.Conv

variable (U DX WD CW CB : ℕ → ℕ → ℝ)

theorem conv_eq {b : ℕ} (hb : b < 2) (j r l : ℕ) :
    yB (Xt U (b + 2 * j)) (Wt CW (b + 2 * j)) (Wt CB (b + 2 * j)) r l = yR U CW CB b r (col j l) := by
  have h1 : (b + 2 * j) % 2 = b := by omega
  have h2 : (b + 2 * j) / 2 = j := by omega
  unfold yB yR Xt Wt uR
  rw [h1, h2]

theorem back_eq {b : ℕ} (hb : b < 2) (j r q : ℕ) :
    aB (Dt DX (b + 2 * j)) (Pt WD (b + 2 * j)) r q = aR DX WD b r (256 * j + q) := by
  have h1 : (b + 2 * j) % 2 = b := by omega
  have h2 : (b + 2 * j) / 2 = j := by omega
  unfold aB aR Dt Pt
  rw [h1, h2]

theorem dconv_eq {b j l : ℕ} (hb : b < 2) (hj : j < 11) (hl : l < 512) (r : ℕ) :
    dB (Xt U (b + 2 * j)) (Dt DX (b + 2 * j)) (Pt WD (b + 2 * j)) (Wt CW (b + 2 * j)) (Wt CB (b + 2 * j)) r l
      = dR U DX WD CW CB b r (col j l) := by
  unfold dB dR
  simp only [conv_eq U CW CB hb, back_eq DX WD hb]
  by_cases h : l < 256
  · have c1 : col j l = 256 * j + l := by unfold col; omega
    have c2 : col j (256 + l) = 2816 + (256 * j + l) := by unfold col; omega
    rw [if_pos h, if_pos (by omega), c1, c2]
  · have c1 : col j l = 2816 + (256 * j + (l - 256)) := by unfold col; omega
    have c2 : col j (l - 256) = 256 * j + (l - 256) := by unfold col; omega
    rw [if_neg h, if_neg (by omega), c1, c2, Nat.add_sub_cancel_left]

theorem act_eq {b j q : ℕ} (hb : b < 2) (hq : q < 256) (r : ℕ) :
    actB (Xt U (b + 2 * j)) (Wt CW (b + 2 * j)) (Wt CB (b + 2 * j)) r q = actR U CW CB b r (256 * j + q) := by
  have c1 : col j q = 256 * j + q := by unfold col; omega
  have c2 : col j (256 + q) = 2816 + (256 * j + q) := by unfold col; omega
  unfold actB actR
  simp only [conv_eq U CW CB hb, c1, c2]

theorem col_place {x : ℕ} (hx : x < 5632) : col (x / 512) (x % 512) = place x := by
  unfold col place; omega

theorem du_eq {i x : ℕ} (hi : i < 4096) (hx : x < 5632) :
    du U DX WD CW CB (i / 2048 + 2 * (x / 512)) (i % 2048) (x % 512)
      = unconv (CW 0 (place x)) (CW 1 (place x)) (CW 2 (place x))
          (fun t => dR U DX WD CW CB (i / 2048) t (place x)) (i % 2048) := by
  have hb : i / 2048 < 2 := by omega
  have h2 : (i / 2048 + 2 * (x / 512)) / 2 = x / 512 := by omega
  unfold du
  simp only [dconv_eq U DX WD CW CB hb (show x / 512 < 11 by omega) (show x % 512 < 512 by omega)]
  unfold Wt
  rw [h2, col_place hx]

theorem dw_eq {b x : ℕ} (hb : b < 2) (hx : x < 5632) (k : ℕ) :
    dw U DX WD CW CB (b + 2 * (x / 512)) k (x % 512)
      = ∑ t ∈ Finset.range 2048, dR U DX WD CW CB b t (place x) * sh (uR U b (place x)) (2 - k) t := by
  have h1 : (b + 2 * (x / 512)) % 2 = b := by omega
  have h2 : (b + 2 * (x / 512)) / 2 = x / 512 := by omega
  unfold dw dwB
  simp only [dconv_eq U DX WD CW CB hb (show x / 512 < 11 by omega) (show x % 512 < 512 by omega)]
  unfold Xt uR
  rw [h1, h2, col_place hx]

theorem db_eq {b x : ℕ} (hb : b < 2) (hx : x < 5632) :
    db U DX WD CW CB (b + 2 * (x / 512)) (x % 512) = ∑ t ∈ Finset.range 2048, dR U DX WD CW CB b t (place x) := by
  unfold db dbB
  simp only [dconv_eq U DX WD CW CB hb (show x / 512 < 11 by omega) (show x % 512 < 512 by omega)]
  rw [col_place hx]

theorem dp_eq {b : ℕ} (hb : b < 2) (q d : ℕ) :
    dp U DX CW CB (b + 2 * (q / 256)) (q % 256) d
      = ∑ t ∈ Finset.range 2048, DX (2048 * b + t) d * actR U CW CB b t q := by
  have h1 : (b + 2 * (q / 256)) % 2 = b := by omega
  have h3 : 256 * (q / 256) + q % 256 = q := by omega
  unfold dp wdB
  simp only [act_eq U CW CB hb (show q % 256 < 256 by omega), h3]
  unfold Dt
  rw [h1]
  exact Finset.sum_congr rfl fun t _ => mul_comm _ _

theorem tot_two (f : ℕ → ℕ → ℕ → ℝ) (x : ℕ) :
    tot 2 2048 f x = (∑ t ∈ Finset.range 2048, f 0 t x) + ∑ t ∈ Finset.range 2048, f 1 t x := by
  unfold tot
  rw [Finset.sum_range_succ, Finset.sum_range_one]

/-- The input's gradient. -/
theorem join_du : (lift 4096 5632 (fun i x => du U DX WD CW CB (i / 2048 + 2 * (x / 512)) (i % 2048) (x % 512))
      : FVec Ideal ⟨2, ![4096, 5632]⟩ .bf16)
    = lift 4096 5632 (fun i x => unconv (CW 0 (place x)) (CW 1 (place x)) (CW 2 (place x))
        (fun t => dR U DX WD CW CB (i / 2048) t (place x)) (i % 2048)) :=
  lift_congr fun i hi x hx => du_eq U DX WD CW CB hi hx

/-- The taps' gradient. -/
theorem join_dw : (lift 3 5632 (fun k x => dw U DX WD CW CB (2 * (x / 512)) k (x % 512)
        + dw U DX WD CW CB (2 * (x / 512) + 1) k (x % 512)) : FVec Ideal ⟨2, ![3, 5632]⟩ .f32)
    = lift 3 5632 (fun k x => tot 2 2048 (fun b t x => dR U DX WD CW CB b t x * sh (uR U b x) (2 - k) t) (place x)) :=
  lift_congr fun k hk x hx => by
    have e0 := dw_eq U DX WD CW CB (show 0 < 2 by decide) hx k
    have e1 := dw_eq U DX WD CW CB (show 1 < 2 by decide) hx k
    rw [Nat.zero_add] at e0
    rw [Nat.add_comm] at e1
    rw [tot_two, e0, e1]

/-- The bias's gradient. -/
theorem join_db : (lift 1 5632 (fun _ x => db U DX WD CW CB (2 * (x / 512)) (x % 512)
        + db U DX WD CW CB (2 * (x / 512) + 1) (x % 512)) : FVec Ideal ⟨2, ![1, 5632]⟩ .f32)
    = lift 1 5632 (fun _ x => tot 2 2048 (dR U DX WD CW CB) (place x)) :=
  lift_congr fun k hk x hx => by
    have e0 := db_eq U DX WD CW CB (show 0 < 2 by decide) hx
    have e1 := db_eq U DX WD CW CB (show 1 < 2 by decide) hx
    rw [Nat.zero_add] at e0
    rw [Nat.add_comm] at e1
    rw [tot_two, e0, e1]

/-- The down projection's gradient. -/
theorem join_dp : (lift 2816 1024 (fun q d => dp U DX CW CB (2 * (q / 256)) (q % 256) d
        + dp U DX CW CB (2 * (q / 256) + 1) (q % 256) d) : FVec Ideal ⟨2, ![2816, 1024]⟩ .bf16)
    = lift 2816 1024 (fun q d => tot 2 2048 (fun b t d => DX (2048 * b + t) d * actR U CW CB b t q) d) :=
  lift_congr fun q hq d hd => by
    have e0 := dp_eq U DX CW CB (show 0 < 2 by decide) q d
    have e1 := dp_eq U DX CW CB (show 1 < 2 by decide) q d
    rw [Nat.zero_add] at e0
    rw [Nat.add_comm] at e1
    rw [tot_two, e0, e1]

end Cert.Join

end
-- ==== Proof.Arr.lean ====
/-
Arrays of extended reals given by functions of natural numbers, and the order of columns by block.
-/
module

public import Idealize.ShloMosaic.Lib.Pointwise
public import Idealize.ShloMosaic.Lib.ValueIdx
public import Idealize.ShloMosaic.Lib.IdealHost
public import Idealize.ShloMosaic.PureOps.Ideal.Laws
public import Idealize.ShloMosaic.Lib.Pipeline.ValueKit

@[expose] public section

noncomputable section

namespace Cert.Arr

open Idealize.ShloMosaic

/-- The matrix with entries `f`. -/
def arr {φ : FTy} (a b : ℕ) (f : ℕ → ℕ → EReal) : FVec Ideal ⟨2, ![a, b]⟩ φ := fun j => f (j 0).val (j 1).val

/-- Every matrix has entries. -/
theorem exists_arr {φ : FTy} {a b : ℕ} (x : FVec Ideal ⟨2, ![a, b]⟩ φ) : ∃ f, x = arr a b f := by
  refine ⟨fun i k => if h : i < a ∧ k < b then x (ValueIdx.ix2 ⟨i, h.1⟩ ⟨k, h.2⟩) else 0, ?_⟩
  funext j
  have h0 : (j 0).val < a := (j 0).isLt
  have h1 : (j 1).val < b := (j 1).isLt
  unfold arr
  beta_reduce
  rw [dif_pos ⟨h0, h1⟩]
  congr 1
  funext d
  match d with
  | ⟨0, _⟩ => rfl
  | ⟨1, _⟩ => rfl

/-- A load of all of a buffer reads what the stores before it left. -/
theorem readCov_whole {S : Shape} {e : EltTy} {sig : RefSig} {κ : Kind} {sp : Space} (v : View sig κ sp S e)
    {off : Fin S.rank → ℕ} (inb : ∀ a, off a + S.size a ≤ S.size a) (L : List (View.Piece (Elt Ideal) S e)) (h : ∀ a, off a = 0) :
    v.readCov L (Rect.unit off S.size inb).toLoadRect = View.canon L := by
  rw [View.readCov_eq_canon']
  funext j
  exact congrFun (View.ld_unit_lit inb (View.canon L) h) j

/-- The column that stands at `x` when the columns are ordered by block: 256 columns of the first half, then the same
    256 of the second. -/
def place (x : ℕ) : ℕ := x / 256 % 2 * 2816 + x / 512 * 256 + x % 256

theorem place_eq {f : ℕ → EReal} {x : ℕ} {a b : ℕ} (ha : x / 256 % 2 = 0 → a = place x) (hb : x / 256 % 2 = 1 → b = place x) :
    (if h : x / 256 % 2 < 1 then f a else f b) = f (place x) := by
  split_ifs with h
  · rw [ha (by omega)]
  · rw [hb (by omega)]

/-- The mean square of a row of `n` entries, `n` as an f32 given by its bits `w`, plus one millionth. -/
def ms (n : ℕ) (w : BitVec 32) (x : ℕ → EReal) : EReal :=
  Ideal.div (∑ k : Fin n, x k.val * x k.val) (Ideal.ofBits .f32 w) + Ideal.ofBits .f32 0x358637BD#32

/-- One over the root mean square. -/
def rms (n : ℕ) (w : BitVec 32) (x : ℕ → EReal) : EReal := Ideal.rsqrt (ms n w x)

/-- The normed rows. -/
def normed (n : ℕ) (w : BitVec 32) (X G : ℕ → ℕ → EReal) (i d : ℕ) : EReal := X i d * rms n w (X i) * G 0 d

/-- A sum over `n` blocks of `k` terms each. -/
theorem sum_blocks (n k N : ℕ) (h : N = n * k) (f : ℕ → EReal) :
    ∑ s : Fin n, ∑ q : Fin k, f (k * s.val + q.val) = ∑ i : Fin N, f i.val := by
  subst h
  rw [← Fintype.sum_prod_type', ← finProdFinEquiv.sum_comp]
  exact Finset.sum_congr rfl fun p _ => congrArg f (add_comm _ _)

/-- The column that `place` puts at `y`. -/
def unplace (y : ℕ) : ℕ := y % 2816 / 256 * 512 + y / 2816 * 256 + y % 2816 % 256

theorem unplace_place : ∀ q : Fin 5632, unplace (place q.val) = q.val := by decide +kernel

theorem place_unplace : ∀ q : Fin 5632, place (unplace q.val) = q.val := by decide +kernel

/-- A sum over the columns, in either order. -/
theorem sum_place (f : ℕ → EReal) : ∑ q : Fin 5632, f (place q.val) = ∑ q : Fin 5632, f q.val := by
  refine Finset.sum_bij' (fun q _ => (⟨place q.val, by have := q.isLt; unfold place; omega⟩ : Fin 5632))
    (fun q _ => (⟨unplace q.val, by have := q.isLt; unfold unplace; omega⟩ : Fin 5632)) ?_ ?_ ?_ ?_ ?_
  · intro q _; exact Finset.mem_univ _
  · intro q _; exact Finset.mem_univ _
  · intro q _; exact Fin.ext (unplace_place q)
  · intro q _; exact Fin.ext (place_unplace q)
  · intro q _; rfl

end Cert.Arr

end
-- ==== Proof.Up.lean ====
/-
The normed rows and their product with the up projection's weights: the kernel's rows, 256 at a time, are the
reference's.
-/
module

public import proofs.«01_k».proof.Proof.Arr
public import proofs.«01_k».proof.Proof.Gen.UpIdeal.Value
public import proofs.«01_k».proof.Proof.Gen.UpRefIdeal.Read
public import Idealize.ShloMosaic.Lib.StableHlo.ReadAt

@[expose] public section

set_option maxRecDepth 16384

noncomputable section

open Idealize.ShloMosaic Idealize.ShloMosaic.TcCoe Idealize.SL.Sem

namespace Cert.UpRefIdeal.Norm

open Cert.UpRefIdeal Cert.UpRefIdeal.Gen Cert.UpRefIdeal.Read Cert.Arr

variable {X G W : ℕ → ℕ → EReal} {x0 : FVec Ideal S4096x1024 .f32} {x1 : FVec Ideal S1x1024 .f32}
  {x2 : FVec Ideal S1024x5632 .f32}

/-- The reference's normed rows. -/
theorem v12_eq (h0 : x0 = arr 4096 1024 X) (h1 : x1 = arr 1 1024 G) :
    val_main_v12 (F := Ideal) x0 x1 = arr (φ := .bf16) 4096 1024 (normed 1024 0x44800000#32 X G) := by
  unfold val_main_v12 val_main_v11 val_main_v10 val_main_v9 val_main_v8 val_main_v7 val_main_v6 val_main_v5 val_main_v4
    val_main_v3 val_main_v2 val_main_v1 val_main_v0 val_main_cst val_main_cst_0 val_main_cst_1
  rw [h0, h1]
  funext j
  idx_vars j
  unfold arr normed rms ms
  pointwise

/-- The normed rows again, before their product. -/
theorem v24_eq (h0 : x0 = arr 4096 1024 X) (h1 : x1 = arr 1 1024 G) :
    val_main_v24 (F := Ideal) x0 x1 = arr (φ := .f32) 4096 1024 (normed 1024 0x44800000#32 X G) := by
  unfold val_main_v24 val_main_v23 val_main_v22 val_main_v21 val_main_v20 val_main_v19 val_main_v18 val_main_v17
    val_main_v16 val_main_v15 val_main_v14 val_main_v13 val_main_cst_2 val_main_cst_3 val_main_cst_4
  rw [h0, h1]
  funext j
  idx_vars j
  unfold arr normed rms ms
  pointwise

/-- The reference's product. -/
theorem v33_eq (h0 : x0 = arr 4096 1024 X) (h1 : x1 = arr 1 1024 G) (h2 : x2 = arr 1024 5632 W) :
    val_main_v33 (F := Ideal) x0 x1 x2
      = arr (φ := .f32) 4096 5632 (fun i q => ∑ d : Fin 1024, normed 1024 0x44800000#32 X G i d.val * W d.val (place q)) := by
  unfold val_main_v33 val_main_v32 val_main_v31 val_main_v30 val_main_v29 val_main_v28 val_main_v27 val_main_v26 val_main_v25
  rw [v24_eq h0 h1, h2]
  funext j
  idx_vars j
  unfold arr
  pointwise
  exact place_eq (f := fun q => ∑ d : Fin 1024, normed 1024 0x44800000#32 X G j0.val d.val * W d.val q) (x := j1.val)
    (fun h => by unfold place; omega) (fun h => by unfold place; omega)

end Cert.UpRefIdeal.Norm

namespace Cert.UpIdeal.Norm

open Cert.UpIdeal Cert.UpIdeal.Gen Cert.Arr

variable (m : (ℓ : Loc nD τ sig) → Buf (Elt Ideal) ℓ) (c : Dev nD)

/-- The block indices at a point. -/
theorem indices : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) :=
  (by decide +kernel : ∀ t : Fin grid0.N, _)

variable {X G W : ℕ → ℕ → EReal}

theorem iblk0 (h : m ((c : Thread nD τ).loc main_arg0) = arr (φ := .f32) 4096 1024 X) (t : Fin cfg0.N) :
    (iblk m c 0 t : Vec Ideal S256x1024 .f32) = arr (φ := .f32) 256 1024 (fun r d => X (256 * t.val + r) d) := by
  have hi := (indices t).1
  funext j
  unfold iblk
  rw [View.read_apply]
  show V m c main_arg0 _ = _
  rw [V_main_arg0, h]
  unfold arr
  refine congrArg₂ X ?_ ?_
  · show win0_0.index t 0 * 256 + 1 * (j 0).val = _; rw [hi.1]; omega
  · show win0_0.index t 1 * 1024 + 1 * (j 1).val = _; rw [hi.2]; omega

theorem iblk1 (h : m ((c : Thread nD τ).loc main_arg1) = arr (φ := .f32) 1 1024 G) (t : Fin cfg0.N) :
    (iblk m c 1 t : Vec Ideal S1x1024 .f32) = arr (φ := .f32) 1 1024 G := by
  have hi := (indices t).2.1
  funext j
  unfold iblk
  rw [View.read_apply]
  show V m c main_arg1 _ = _
  rw [V_main_arg1, h]
  unfold arr
  refine congrArg₂ G ?_ ?_
  · show win0_1.index t 0 * 1 + 1 * (j 0).val = _; rw [hi.1]; omega
  · show win0_1.index t 1 * 1024 + 1 * (j 1).val = _; rw [hi.2]; omega

theorem entry2 (h : m ((c : Thread nD τ).loc main_arg2) = arr (φ := .f32) 1024 5632 W) (y : S1024x5632.Idx) :
    V m c main_v3 y = W (y 0).val (place (y 1).val) := by
  unfold V
  after_reads_at
  exact (congrFun h _).trans rfl

theorem iblk2 (h : m ((c : Thread nD τ).loc main_arg2) = arr (φ := .f32) 1024 5632 W) (t : Fin cfg0.N) :
    (iblk m c 2 t : Vec Ideal S1024x5632 .bf16) = arr (φ := .bf16) 1024 5632 (fun d q => W d (place q)) := by
  have hi := (indices t).2.2.1
  funext j
  unfold iblk
  rw [View.read_apply]
  refine (entry2 m c h _).trans ?_
  refine congrArg₂ (fun r d => W r (place d)) ?_ ?_
  · show win0_2.index t 0 * 1024 + 1 * (j 0).val = _; rw [hi.1]; omega
  · show win0_2.index t 1 * 5632 + 1 * (j 1).val = _; rw [hi.2]; omega

/-- The normed rows of a block. -/
theorem pay1 (X G : ℕ → ℕ → EReal) :
    k0_pay1 (arr (φ := .f32) 256 1024 X) (arr (φ := .f32) 1 1024 G) = arr (φ := .bf16) 256 1024 (normed 1024 0x44800000#32 X G) := by
  funext j
  idx_vars j
  unfold k0_pay1 arr normed rms ms
  pointwise

/-- Their product with the weights. -/
theorem pay2 (X G W : ℕ → ℕ → EReal) :
    k0_pay2 (arr (φ := .f32) 256 1024 X) (arr (φ := .f32) 1 1024 G) (arr (φ := .bf16) 1024 5632 W)
      = arr (φ := .f32) 256 5632 (fun i q => ∑ d : Fin 1024, normed 1024 0x44800000#32 X G i d.val * W d.val q) := by
  unfold k0_pay2
  rw [pay1]
  funext j
  idx_vars j
  unfold arr
  pointwise

variable (h0 : m ((c : Thread nD τ).loc main_arg0) = arr (φ := .f32) 4096 1024 X)
  (h1 : m ((c : Thread nD τ).loc main_arg1) = arr (φ := .f32) 1 1024 G)
  (h2 : m ((c : Thread nD τ).loc main_arg2) = arr (φ := .f32) 1024 5632 W)
include h0 h1

/-- The normed rows the kernel leaves. -/
theorem final3 : (dats m 0 c).arrAt 3 cfg0.N = arr (φ := .bf16) 4096 1024 (normed 1024 0x44800000#32 X G) := by
  refine (dats m 0 c).arrAt_eq_of_covers 3 _ (by decide +kernel) fun t hf y => ?_
  blk_simp
  rw [after0_3]
  frame_out
  rw [iblk0 m c h0 t, iblk1 m c h1 t, pay1]
  obtain ⟨e0, e1⟩ := (indices t).2.2.2.1
  have hq : ((win0_3.blk t).view.emb y 0).val = 256 * t.val + (y 0).val := by
    show win0_3.index t 0 * 256 + 1 * (y 0).val = _
    rw [e0]; omega
  have hd : ((win0_3.blk t).view.emb y 1).val = (y 1).val := by
    show win0_3.index t 1 * 1024 + 1 * (y 1).val = _
    rw [e1]; omega
  unfold arr
  rw [hq, hd]
  rfl

include h2

/-- The product the kernel leaves. -/
theorem final4 : (dats m 0 c).arrAt 4 cfg0.N
    = arr (φ := .f32) 4096 5632 (fun i q => ∑ d : Fin 1024, normed 1024 0x44800000#32 X G i d.val * W d.val (place q)) := by
  refine (dats m 0 c).arrAt_eq_of_covers 4 _ (by decide +kernel) fun t hf y => ?_
  blk_simp
  rw [after0_4]
  frame_out
  rw [iblk0 m c h0 t, iblk1 m c h1 t, iblk2 m c h2 t, pay2]
  obtain ⟨e0, e1⟩ := (indices t).2.2.2.2
  have hq : ((win0_4.blk t).view.emb y 0).val = 256 * t.val + (y 0).val := by
    show win0_4.index t 0 * 256 + 1 * (y 0).val = _
    rw [e0]; omega
  have hd : ((win0_4.blk t).view.emb y 1).val = (y 1).val := by
    show win0_4.index t 1 * 5632 + 1 * (y 1).val = _
    rw [e1]; omega
  unfold arr
  rw [hq, hd]
  rfl

end Cert.UpIdeal.Norm
end
-- ==== Proof.NormBwd.lean ====
/-
The gradient through a row's norm: two forms of it, the same on real numbers.
-/
module

public import proofs.«01_k».proof.Proof.Arr
public import proofs.«01_k».proof.Proof.Chunk

@[expose] public section

noncomputable section

namespace Cert.Arr

open Idealize.ShloMosaic Cert.Conv

/-- The gradient of the row `x` from that of its normed row, `y`: the part across the row taken off, then scaled. -/
def across (n : ℕ) (w : BitVec 32) (x y : ℕ → EReal) (d : ℕ) : EReal :=
  rms n w x * (y d - x d * rms n w x * Ideal.div (∑ k : Fin n, y k.val * (x k.val * rms n w x)) (Ideal.ofBits .f32 w))

/-- The gradient of the mean square. -/
def dms (n : ℕ) (w : BitVec 32) (x y : ℕ → EReal) : EReal :=
  Ideal.div ((∑ k : Fin n, x k.val * y k.val) * (Ideal.ofBits .f32 0xBF000000#32 * Ideal.div (rms n w x) (ms n w x)))
    (Ideal.ofBits .f32 w)

/-- The same gradient by the chain rule: through the product and through the mean square, a square having two factors. -/
def chain (n : ℕ) (w : BitVec 32) (x y : ℕ → EReal) (d : ℕ) : EReal :=
  y d * rms n w x + x d * dms n w x y + dms n w x y * x d

theorem half_f32 : (Ideal.ofBits .f32 0xBF000000#32 : EReal) = ((-(1 / 2) : ℝ) : EReal) := by
  simp [Ideal.ofBits, Ideal.ieee]
  rw [← EReal.coe_mul]
  norm_num

theorem eps_f32 : ∃ e : ℝ, 0 < e ∧ (Ideal.ofBits .f32 0x358637BD#32 : EReal) = ((e : ℝ) : EReal) := by
  refine ⟨_, ?_, by simp [Ideal.ofBits, Ideal.ieee]; rfl⟩
  positivity

theorem f1024 : (Ideal.ofBits .f32 0x44800000#32 : EReal) = ((1024 : ℝ) : EReal) := by
  simp [Ideal.ofBits, Ideal.ieee]
  rw [← EReal.coe_mul]
  norm_num

theorem f512 : (Ideal.ofBits .f32 0x44000000#32 : EReal) = ((512 : ℝ) : EReal) := by
  simp [Ideal.ofBits, Ideal.ieee]
  rw [← EReal.coe_mul]
  norm_num

/-- Both forms give the same real number. -/
theorem across_eq_chain (n : ℕ) (w : BitVec 32) (N : ℝ) (hw : (Ideal.ofBits .f32 w : EReal) = ((N : ℝ) : EReal)) (hN : 0 < N)
    (x y : ℕ → ℝ) (d : ℕ) :
    across n w (fun k => ((x k : ℝ) : EReal)) (fun k => ((y k : ℝ) : EReal)) d
      = chain n w (fun k => ((x k : ℝ) : EReal)) (fun k => ((y k : ℝ) : EReal)) d := by
  obtain ⟨e, he, hE⟩ := eps_f32
  have hv : 0 < (∑ k ∈ Finset.range n, x k * x k) * (1 / N) + e := by
    have : 0 ≤ ∑ k ∈ Finset.range n, x k * x k := Finset.sum_nonneg fun k _ => mul_self_nonneg _
    positivity
  have hm : ms n w (fun k => ((x k : ℝ) : EReal)) = (((∑ k ∈ Finset.range n, x k * x k) * (1 / N) + e : ℝ) : EReal) := by
    unfold ms
    rw [hE, hw, Ideal.div_coe hN.ne']
    simp only [← EReal.coe_mul]
    rw [coe_sum_range n (fun k => x k * x k)]
    norm_cast
  generalize hV : (∑ k ∈ Finset.range n, x k * x k) * (1 / N) + e = v at hv hm
  have hr : rms n w (fun k => ((x k : ℝ) : EReal)) = (((Real.sqrt v)⁻¹ : ℝ) : EReal) := by
    unfold rms
    rw [hm, Ideal.rsqrt_coe, if_neg (by linarith), if_neg (by linarith)]
  have hs : Real.sqrt v * Real.sqrt v = v := Real.mul_self_sqrt hv.le
  have hp : 0 < Real.sqrt v := Real.sqrt_pos.mpr hv
  unfold across chain dms
  rw [hm, hr, hw, half_f32, Ideal.div_coe hN.ne', Ideal.div_coe hN.ne', Ideal.div_coe hv.ne']
  simp only [← EReal.coe_mul]
  rw [coe_sum_range n (fun k => y k * (x k * (Real.sqrt v)⁻¹)), coe_sum_range n (fun k => x k * y k)]
  norm_cast
  have e1 : ∑ k ∈ Finset.range n, y k * (x k * (Real.sqrt v)⁻¹) = (∑ k ∈ Finset.range n, x k * y k) * (Real.sqrt v)⁻¹ := by
    rw [Finset.sum_mul]
    exact Finset.sum_congr rfl fun k _ => by ring
  rw [e1]
  generalize ∑ k ∈ Finset.range n, x k * y k = T
  generalize Real.sqrt v = s at hs hp
  subst hs
  field_simp
  ring

end Cert.Arr

end
-- ==== Proof.UpBwd.lean ====
/-
The gradient through the up projection and the norm before it: what the kernel leaves, and the reference's results.
-/
module

public import proofs.«01_k».proof.Proof.NormBwd
public import proofs.«01_k».proof.Proof.Gen.UpBwdIdeal.Value
public import proofs.«01_k».proof.Proof.Gen.UpBwdRefIdeal.Read
public import Idealize.ShloMosaic.Lib.StableHlo.ReadAt

@[expose] public section

set_option maxRecDepth 16384

noncomputable section

open Idealize.ShloMosaic Idealize.ShloMosaic.TcCoe Idealize.SL.Sem

namespace Cert.UpBwdRefIdeal.Norm

open Cert.UpBwdRefIdeal Cert.UpBwdRefIdeal.Gen Cert.UpBwdRefIdeal.Read Cert.Arr Cert.Conv

/-- The gradient of the normed rows. -/
def dy (U W : ℕ → ℕ → EReal) (i d : ℕ) : EReal := ∑ q : Fin 5632, U i q.val * W d q.val

variable {U W X G R : ℕ → ℕ → EReal} {x0 : FVec Ideal S4096x5632 .f32} {x1 : FVec Ideal S1024x5632 .f32}
  {x2 : FVec Ideal S4096x1024 .f32} {x3 : FVec Ideal S1x1024 .f32} {x4 : FVec Ideal S4096x1024 .f32}

theorem v16_eq (h0 : x0 = arr 4096 5632 U) (h1 : x1 = arr 1024 5632 W) :
    val_main_v16 (F := Ideal) x0 x1 = arr (φ := .f32) 4096 1024 (dy U W) := by
  unfold val_main_v16
  rw [h0, h1]
  funext j
  idx_vars j
  unfold arr dy
  pointwise

theorem v6_eq (h2 : x2 = arr 4096 1024 X) :
    val_main_v6 (F := Ideal) x2 = arr (φ := .f32) 4096 1 (fun i _ => ms 1024 0x44800000#32 (X i)) := by
  unfold val_main_v6 val_main_v5 val_main_v4 val_main_v3 val_main_v2 val_main_v1 val_main_v0 val_main_cst val_main_cst_0 val_main_cst_1
  rw [h2]
  funext j
  idx_vars j
  unfold arr ms
  pointwise

theorem v7_eq (h2 : x2 = arr 4096 1024 X) :
    val_main_v7 (F := Ideal) x2 = arr (φ := .f32) 4096 1 (fun i _ => rms 1024 0x44800000#32 (X i)) := by
  unfold val_main_v7
  rw [v6_eq h2]
  funext j
  idx_vars j
  unfold arr rms
  pointwise

/-- The reference's gradient of the scale. -/
theorem v19_eq (h0 : x0 = arr 4096 5632 U) (h1 : x1 = arr 1024 5632 W) (h2 : x2 = arr 4096 1024 X) :
    val_main_v19 (F := Ideal) x0 x1 x2
      = arr (φ := .f32) 1 1024 (fun _ d => ∑ i : Fin 4096, X i.val d * rms 1024 0x44800000#32 (X i.val) * dy U W i.val d) := by
  unfold val_main_v19 val_main_v18 val_main_v17 val_main_v12 val_main_v11 val_main_cst_3
  rw [v16_eq h0 h1, v7_eq h2, h2]
  funext j
  idx_vars j
  unfold arr
  pointwise

theorem v21_eq (h0 : x0 = arr 4096 5632 U) (h1 : x1 = arr 1024 5632 W) (h3 : x3 = arr 1 1024 G) :
    val_main_v21 (F := Ideal) x0 x1 x3 = arr (φ := .f32) 4096 1024 (fun i d => dy U W i d * G 0 d) := by
  unfold val_main_v21 val_main_v20
  rw [v16_eq h0 h1, h3]
  funext j
  idx_vars j
  unfold arr
  pointwise

/-- The reference's gradient of the rows. -/
theorem v36_eq (h0 : x0 = arr 4096 5632 U) (h1 : x1 = arr 1024 5632 W) (h2 : x2 = arr 4096 1024 X) (h3 : x3 = arr 1 1024 G)
    (h4 : x4 = arr 4096 1024 R) : val_main_v36 (F := Ideal) x0 x1 x2 x3 x4
      = arr (φ := .f32) 4096 1024 (fun i d => chain 1024 0x44800000#32 (X i) (fun k => dy U W i k * G 0 k) d + R i d) := by
  unfold val_main_v36 val_main_v35 val_main_v34 val_main_v33 val_main_v32 val_main_v31 val_main_v30 val_main_v29 val_main_v28
    val_main_v27 val_main_v26 val_main_v25 val_main_v24 val_main_v23 val_main_v22 val_main_v10 val_main_v9 val_main_v8
    val_main_cst_2 val_main_cst_4 val_main_cst_5 val_main_cst_6
  rw [v21_eq h0 h1 h3, v7_eq h2, v6_eq h2, h2, h4]
  funext j
  idx_vars j
  unfold arr chain dms
  pointwise
  simp only [Finset.univ_unique, Finset.sum_singleton]

/-- Of finite arguments the gradient of the normed rows is real. -/
theorem dy_real (u w : ℕ → ℕ → ℝ) (i d : ℕ) :
    dy (fun i k => ((u i k : ℝ) : EReal)) (fun i k => ((w i k : ℝ) : EReal)) i d
      = ((∑ q ∈ Finset.range 5632, u i q * w d q : ℝ) : EReal) := by
  unfold dy
  simp only [← EReal.coe_mul]
  exact coe_sum_range 5632 (fun q => u i q * w d q)

/-- The kernel's gradient of the rows is the reference's. -/
theorem join (u w x g : ℕ → ℕ → ℝ) (i d : ℕ) :
    across 1024 0x44800000#32 (fun k => ((x i k : ℝ) : EReal))
        (fun k => dy (fun i k => ((u i k : ℝ) : EReal)) (fun i k => ((w i k : ℝ) : EReal)) i k * ((g 0 k : ℝ) : EReal)) d
      = chain 1024 0x44800000#32 (fun k => ((x i k : ℝ) : EReal))
        (fun k => dy (fun i k => ((u i k : ℝ) : EReal)) (fun i k => ((w i k : ℝ) : EReal)) i k * ((g 0 k : ℝ) : EReal)) d := by
  simp only [dy_real, ← EReal.coe_mul]
  exact across_eq_chain 1024 _ 1024 f1024 (by norm_num) (fun k => x i k) (fun k => (∑ q ∈ Finset.range 5632, u i q * w k q) * g 0 k) d

end Cert.UpBwdRefIdeal.Norm

namespace Cert.UpBwdIdeal.Norm

open Cert.UpBwdIdeal Cert.UpBwdIdeal.Gen Cert.Arr Cert.UpBwdRefIdeal.Norm

variable (m : (ℓ : Loc nD τ sig) → Buf (Elt Ideal) ℓ) (c : Dev nD)

/-- The block indices at a point. -/
theorem indices : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0) :=
  (by decide +kernel : ∀ t : Fin grid0.N, _)

variable {U W X G R : ℕ → ℕ → EReal}

theorem entry0 (h : m ((c : Thread nD τ).loc main_arg0) = arr (φ := .f32) 4096 5632 U) (y : S4096x5632.Idx) :
    V m c main_v3 y = U (y 0).val (place (y 1).val) := by
  unfold V
  after_reads_at
  exact (congrFun h _).trans rfl

theorem iblk0 (h : m ((c : Thread nD τ).loc main_arg0) = arr (φ := .f32) 4096 5632 U) (t : Fin cfg0.N) :
    (iblk m c 0 t : Vec Ideal S512x5632 .bf16) = arr (φ := .bf16) 512 5632 (fun r q => U (512 * t.val + r) (place q)) := by
  have hi := (indices t).1
  funext j
  unfold iblk
  rw [View.read_apply]
  refine (entry0 m c h _).trans ?_
  refine congrArg₂ (fun r d => U r (place d)) ?_ ?_
  · show win0_0.index t 0 * 512 + 1 * (j 0).val = _; rw [hi.1]; omega
  · show win0_0.index t 1 * 5632 + 1 * (j 1).val = _; rw [hi.2]; omega

theorem entry1 (h : m ((c : Thread nD τ).loc main_arg1) = arr (φ := .f32) 1024 5632 W) (y : S1024x5632.Idx) :
    V m c main_v7 y = W (y 0).val (place (y 1).val) := by
  unfold V
  after_reads_at
  exact (congrFun h _).trans rfl

theorem iblk1 (h : m ((c : Thread nD τ).loc main_arg1) = arr (φ := .f32) 1024 5632 W) (t : Fin cfg0.N) :
    (iblk m c 1 t : Vec Ideal S1024x5632 .bf16) = arr (φ := .bf16) 1024 5632 (fun d q => W d (place q)) := by
  have hi := (indices t).2.1
  funext j
  unfold iblk
  rw [View.read_apply]
  refine (entry1 m c h _).trans ?_
  refine congrArg₂ (fun r d => W r (place d)) ?_ ?_
  · show win0_1.index t 0 * 1024 + 1 * (j 0).val = _; rw [hi.1]; omega
  · show win0_1.index t 1 * 5632 + 1 * (j 1).val = _; rw [hi.2]; omega

theorem iblk2 (h : m ((c : Thread nD τ).loc main_arg2) = arr (φ := .f32) 4096 1024 X) (t : Fin cfg0.N) :
    (iblk m c 2 t : Vec Ideal S512x1024 .f32) = arr (φ := .f32) 512 1024 (fun r d => X (512 * t.val + r) d) := by
  have hi := (indices t).2.2.1
  funext j
  unfold iblk
  rw [View.read_apply]
  show V m c main_arg2 _ = _
  rw [V_main_arg2, h]
  unfold arr
  refine congrArg₂ X ?_ ?_
  · show win0_2.index t 0 * 512 + 1 * (j 0).val = _; rw [hi.1]; omega
  · show win0_2.index t 1 * 1024 + 1 * (j 1).val = _; rw [hi.2]; omega

theorem iblk3 (h : m ((c : Thread nD τ).loc main_arg3) = arr (φ := .f32) 1 1024 G) (t : Fin cfg0.N) :
    (iblk m c 3 t : Vec Ideal S1x1024 .f32) = arr (φ := .f32) 1 1024 G := by
  have hi := (indices t).2.2.2.1
  funext j
  unfold iblk
  rw [View.read_apply]
  show V m c main_arg3 _ = _
  rw [V_main_arg3, h]
  unfold arr
  refine congrArg₂ G ?_ ?_
  · show win0_3.index t 0 * 1 + 1 * (j 0).val = _; rw [hi.1]; omega
  · show win0_3.index t 1 * 1024 + 1 * (j 1).val = _; rw [hi.2]; omega

theorem iblk4 (h : m ((c : Thread nD τ).loc main_arg4) = arr (φ := .f32) 4096 1024 R) (t : Fin cfg0.N) :
    (iblk m c 4 t : Vec Ideal S512x1024 .f32) = arr (φ := .f32) 512 1024 (fun r d => R (512 * t.val + r) d) := by
  have hi := (indices t).2.2.2.2.1
  funext j
  unfold iblk
  rw [View.read_apply]
  show V m c main_arg4 _ = _
  rw [V_main_arg4, h]
  unfold arr
  refine congrArg₂ R ?_ ?_
  · show win0_4.index t 0 * 512 + 1 * (j 0).val = _; rw [hi.1]; omega
  · show win0_4.index t 1 * 1024 + 1 * (j 1).val = _; rw [hi.2]; omega

/-- The gradient of a block's normed rows, its columns ordered by block. -/
theorem pay2 (U W : ℕ → ℕ → EReal) :
    k0_pay2 (arr (φ := .bf16) 512 5632 (fun r q => U r (place q))) (arr (φ := .bf16) 1024 5632 (fun d q => W d (place q)))
      = arr (φ := .f32) 512 1024 (dy U W) := by
  funext j
  idx_vars j
  unfold k0_pay2 arr dy
  pointwise
  exact sum_place (fun q => U j0.val q * W j1.val q)

theorem pay3 (X : ℕ → ℕ → EReal) : k0_pay3 (arr (φ := .f32) 512 1024 X)
    = arr (φ := .f32) 512 1 (fun i _ => rms 1024 0x44800000#32 (X i)) := by
  funext j
  idx_vars j
  unfold k0_pay3 arr rms ms
  pointwise

theorem pay4 (X : ℕ → ℕ → EReal) : k0_pay4 (arr (φ := .f32) 512 1024 X)
    = arr (φ := .f32) 512 1024 (fun i d => X i d * rms 1024 0x44800000#32 (X i)) := by
  unfold k0_pay4
  rw [pay3]
  funext j
  idx_vars j
  unfold arr
  pointwise

/-- A block's part of the gradient of the scale. -/
theorem pay5 (U W X : ℕ → ℕ → EReal) :
    k0_pay5 (arr (φ := .bf16) 512 5632 (fun r q => U r (place q))) (arr (φ := .bf16) 1024 5632 (fun d q => W d (place q)))
        (arr (φ := .f32) 512 1024 X)
      = arr (φ := .f32) 1 1024 (fun _ d => ∑ i : Fin 512, dy U W i.val d * (X i.val d * rms 1024 0x44800000#32 (X i.val))) := by
  unfold k0_pay5
  rw [pay2, pay4]
  funext j
  idx_vars j
  unfold arr
  pointwise

/-- The gradient of a block's rows. -/
theorem pay6 (U W X G R : ℕ → ℕ → EReal) :
    k0_pay6 (arr (φ := .bf16) 512 5632 (fun r q => U r (place q))) (arr (φ := .bf16) 1024 5632 (fun d q => W d (place q)))
        (arr (φ := .f32) 512 1024 X) (arr (φ := .f32) 1 1024 G) (arr (φ := .f32) 512 1024 R)
      = arr (φ := .f32) 512 1024
        (fun i d => across 1024 0x44800000#32 (X i) (fun k => dy U W i k * G 0 k) d + R i d) := by
  unfold k0_pay6
  rw [pay2, pay3, pay4]
  funext j
  idx_vars j
  unfold arr across
  pointwise

variable (h0 : m ((c : Thread nD τ).loc main_arg0) = arr (φ := .f32) 4096 5632 U)
  (h1 : m ((c : Thread nD τ).loc main_arg1) = arr (φ := .f32) 1024 5632 W)
  (h2 : m ((c : Thread nD τ).loc main_arg2) = arr (φ := .f32) 4096 1024 X)
  (h3 : m ((c : Thread nD τ).loc main_arg3) = arr (φ := .f32) 1 1024 G)
  (h4 : m ((c : Thread nD τ).loc main_arg4) = arr (φ := .f32) 4096 1024 R)
include h0 h1 h2

/-- A point's part of the gradient of the scale. -/
theorem part (t : Fin cfg0.N) : k0_pay5 (iblk m c 0 t) (iblk m c 1 t) (iblk m c 2 t)
    = arr (φ := .f32) 1 1024 (fun _ d => ∑ i : Fin 512, dy U W (512 * t.val + i.val) d
      * (X (512 * t.val + i.val) d * rms 1024 0x44800000#32 (X (512 * t.val + i.val)))) := by
  rw [iblk0 m c h0 t, iblk1 m c h1 t, iblk2 m c h2 t]
  exact pay5 (fun r q => U (512 * t.val + r) q) W (fun r d => X (512 * t.val + r) d)

/-- The gradient of the scale the kernel leaves. -/
theorem final6 : (dats m 0 c).arrAt 6 cfg0.N
    = arr (φ := .f32) 1 1024 (fun _ d => ∑ i : Fin 4096, dy U W i.val d * (X i.val d * rms 1024 0x44800000#32 (X i.val))) := by
  refine (dats m 0 c).arrAt_eq_of_after_last 6 t0_7 (by decide +kernel) _ fun j => ?_
  blk_simp
  rw [after0_6]
  rw [Pipeline.eq_sum_fin_of_reset_step_apply_last (fun n h => (outsAt0 m c n h).2) 8 (fun _ => 0)
    (fun t j => ∑ i : Fin 512, dy U W (512 * t.val + i.val) (j 1).val
      * (X (512 * t.val + i.val) (j 1).val * rms 1024 0x44800000#32 (X (512 * t.val + i.val))))
    (fun t h j => by
      rw [outsAt0_A m c t h (by have := t.isLt; have : cfg0.N = 8 := N_0; omega)]
      frame_out
      rw [part m c h0 h1 h2 t]
      simp [arr])
    (fun t h j => by
      rw [outsAt0_B m c t h (by omega)]
      frame_out
      unfold k0_pay1
      rw [part m c h0 h1 h2 t]
      rw [shapeCast_self]
      rfl)
    (by decide +kernel) t0_7 rfl _]
  have e := sum_blocks 8 512 4096 rfl
    (fun i => dy U W i (j 1).val * (X i (j 1).val * rms 1024 0x44800000#32 (X i)))
  exact (zero_add (M := EReal) _).trans e

include h3 h4

/-- The gradient of the rows the kernel leaves. -/
theorem final5 : (dats m 0 c).arrAt 5 cfg0.N = arr (φ := .f32) 4096 1024
    (fun i d => across 1024 0x44800000#32 (X i) (fun k => dy U W i k * G 0 k) d + R i d) := by
  refine (dats m 0 c).arrAt_eq_of_covers 5 _ (by decide +kernel) fun t hf y => ?_
  blk_simp
  rw [after0_5]
  have e : (outsAt0 m c t.val t.isLt).1 = k0_pay6 (iblk m c 0 t) (iblk m c 1 t) (iblk m c 2 t) (iblk m c 3 t) (iblk m c 4 t) := by
    by_cases h : t.val % 8 = 0
    · rw [outsAt0_A m c t h (by have h' : t.val < 8 := t.isLt; omega)]
      frame_out
    · rw [outsAt0_B m c t h (by omega)]
      frame_out
  rw [e, iblk0 m c h0 t, iblk1 m c h1 t, iblk2 m c h2 t, iblk3 m c h3 t, iblk4 m c h4 t]
  rw [pay6 (fun r q => U (512 * t.val + r) q) W (fun r d => X (512 * t.val + r) d) G (fun r d => R (512 * t.val + r) d)]
  obtain ⟨e0, e1⟩ := (indices t).2.2.2.2.2.1
  have hq : ((win0_5.blk t).view.emb y 0).val = 512 * t.val + (y 0).val := by
    show win0_5.index t 0 * 512 + 1 * (y 0).val = _
    rw [e0]; omega
  have hd : ((win0_5.blk t).view.emb y 1).val = (y 1).val := by
    show win0_5.index t 1 * 1024 + 1 * (y 1).val = _
    rw [e1]; omega
  unfold arr
  rw [hq, hd]
  rfl

end Cert.UpBwdIdeal.Norm
end
-- ==== Proof.UpW.lean ====
/-
The gradient of the up projection's weights: what the kernel leaves is the reference's product, summed over four runs
of rows.
-/
module

public import proofs.«01_k».proof.Proof.Arr
public import proofs.«01_k».proof.Proof.Gen.UpWIdeal.Value
public import proofs.«01_k».proof.Proof.Gen.UpWRefIdeal.Read
public import Idealize.ShloMosaic.Lib.StableHlo.ReadAt

@[expose] public section

set_option maxRecDepth 16384

noncomputable section

open Idealize.ShloMosaic Idealize.ShloMosaic.TcCoe Idealize.SL.Sem

namespace Cert.UpWRefIdeal.Product

open Cert.UpWRefIdeal Cert.UpWRefIdeal.Gen Cert.UpWRefIdeal.Read Cert.Arr

/-- The reference's product. -/
theorem v12_eq {U H : ℕ → ℕ → EReal} {x0 : FVec Ideal S4096x5632 .f32} {x1 : FVec Ideal S4096x1024 .f32}
    (h0 : x0 = arr 4096 5632 U) (h1 : x1 = arr 4096 1024 H) : val_main_v12 (F := Ideal) x0 x1
      = arr (φ := .f32) 5632 1024 (fun q d => ∑ r : Fin 4096, U r.val (place q) * H r.val d) := by
  have e3 : val_main_v3 (F := Ideal) x0 x1
      = arr (φ := .f32) 1024 5632 (fun d q => ∑ r : Fin 4096, U r.val q * H r.val d) := by
    unfold val_main_v3 val_main_v2
    rw [h0, h1]
    funext j
    idx_vars j
    unfold arr
    pointwise
  unfold val_main_v12 val_main_v11 val_main_v10 val_main_v9 val_main_v8 val_main_v7 val_main_v6 val_main_v5 val_main_v4
  rw [e3]
  funext j
  idx_vars j
  unfold arr
  pointwise
  exact place_eq (f := fun q => ∑ r : Fin 4096, U r.val q * H r.val j1.val) (x := j0.val)
    (fun h => by unfold place; omega) (fun h => by unfold place; omega)

end Cert.UpWRefIdeal.Product

namespace Cert.UpWIdeal.Product

open Cert.UpWIdeal Cert.UpWIdeal.Gen Cert.Arr

variable (m : (ℓ : Loc nD τ sig) → Buf (Elt Ideal) ℓ) (c : Dev nD)

/-- The block indices at a point. -/
theorem indices : ∀ t : Fin cfg0.N,
    (win0_0.index t 0 = t.val % 4 ∧ win0_0.index t 1 = t.val / 4) ∧ (win0_1.index t 0 = t.val % 4 ∧ win0_1.index t 1 = 0)
    ∧ (win0_2.index t 0 = t.val / 4 ∧ win0_2.index t 1 = 0) :=
  (by decide +kernel : ∀ t : Fin grid0.N, _)

variable {U H : ℕ → ℕ → EReal}

theorem entry0 (h : m ((c : Thread nD τ).loc main_arg0) = arr (φ := .f32) 4096 5632 U) (y : S4096x5632.Idx) :
    V m c main_v3 y = U (y 0).val (place (y 1).val) := by
  unfold V
  after_reads_at
  exact (congrFun h _).trans rfl

theorem iblk0 (h : m ((c : Thread nD τ).loc main_arg0) = arr (φ := .f32) 4096 5632 U) (t : Fin cfg0.N) :
    (iblk m c 0 t : Vec Ideal S1024x2816 .bf16)
      = arr (φ := .bf16) 1024 2816 (fun r l => U (1024 * (t.val % 4) + r) (place (2816 * (t.val / 4) + l))) := by
  have hi := (indices t).1
  funext j
  unfold iblk
  rw [View.read_apply]
  refine (entry0 m c h _).trans ?_
  refine congrArg₂ (fun r d => U r (place d)) ?_ ?_
  · show win0_0.index t 0 * 1024 + 1 * (j 0).val = _
    rw [hi.1]; omega
  · show win0_0.index t 1 * 2816 + 1 * (j 1).val = _
    rw [hi.2]; omega

theorem iblk1 (h : m ((c : Thread nD τ).loc main_arg1) = arr (φ := .f32) 4096 1024 H) (t : Fin cfg0.N) :
    (iblk m c 1 t : Vec Ideal S1024x1024 .bf16) = arr (φ := .bf16) 1024 1024 (fun r d => H (1024 * (t.val % 4) + r) d) := by
  have hi := (indices t).2.1
  funext j
  unfold iblk
  rw [View.read_apply]
  show V m c main_v4 _ = _
  unfold V
  after_reads_at
  show m ((c : Thread nD τ).loc main_arg1) _ = _
  rw [h]
  unfold arr
  refine congrArg₂ H ?_ ?_
  · show win0_1.index t 0 * 1024 + 1 * (j 0).val = _; rw [hi.1]; omega
  · show win0_1.index t 1 * 1024 + 1 * (j 1).val = _; rw [hi.2]; omega

/-- The products of the 1024 rows of a point. -/
def part (U H : ℕ → ℕ → EReal) (t q d : ℕ) : EReal :=
  ∑ r : Fin 1024, U (1024 * (t % 4) + r.val) (place (2816 * (t / 4) + q)) * H (1024 * (t % 4) + r.val) d

theorem pay1 (h0 : m ((c : Thread nD τ).loc main_arg0) = arr (φ := .f32) 4096 5632 U)
    (h1 : m ((c : Thread nD τ).loc main_arg1) = arr (φ := .f32) 4096 1024 H) (t : Fin cfg0.N) :
    k0_pay1 (iblk m c 0 t) (iblk m c 1 t) = arr (φ := .f32) 2816 1024 (part U H t.val) := by
  refine (congrArg₂ k0_pay1 (iblk0 m c h0 t) (iblk1 m c h1 t)).trans ?_
  funext j
  idx_vars j
  unfold k0_pay1 arr part
  pointwise

/-- What the kernel leaves. -/
theorem final (h0 : m ((c : Thread nD τ).loc main_arg0) = arr (φ := .f32) 4096 5632 U)
    (h1 : m ((c : Thread nD τ).loc main_arg1) = arr (φ := .f32) 4096 1024 H) :
    (dats m 0 c).arrAt 2 cfg0.N = arr (φ := .f32) 5632 1024 (fun q d => ∑ r : Fin 4096, U r.val (place q) * H r.val d) := by
  refine (dats m 0 c).arrAt_eq_of_covers 2 _ (by decide +kernel) fun t hf y => ?_
  blk_simp
  rw [after0_2]
  rw [Pipeline.eq_sum_fin_of_reset_step_apply_of_flush (fun n h => outsAt0 m c n h) 4 (fun _ => 0)
    (fun t j => part U H t.val (j 0).val (j 1).val)
    (fun t h j => by
      rw [outsAt0_A m c t h (by omega)]
      frame_out
      rw [pay1 m c h0 h1 t]
      simp [arr])
    (fun t h j => by
      rw [outsAt0_B m c t h (by omega)]
      frame_out
      unfold k0_pay2
      rw [pay1 m c h0 h1 t]
      rw [shapeCast_self]
      rfl)
    t ((flush0_2 t).mp hf) _]
  obtain ⟨e0, e1⟩ := (indices t).2.2
  have hq : ((win0_2.blk t).view.emb y 0).val = 2816 * (t.val / 4) + (y 0).val := by
    show win0_2.index t 0 * 2816 + 1 * (y 0).val = _
    rw [e0]; omega
  have hd : ((win0_2.blk t).view.emb y 1).val = (y 1).val := by
    show win0_2.index t 1 * 1024 + 1 * (y 1).val = _
    rw [e1]; omega
  rw [zero_add]
  unfold arr part
  rw [hq, hd]
  beta_reduce
  have e := sum_blocks 4 1024 4096 rfl (fun r => U r (place (2816 * (t.val / 4) + (y 0).val)) * H r (y 1).val)
  refine Eq.trans (b := ∑ s : Fin 4, ∑ q : Fin 1024, U (1024 * s.val + q.val) (place (2816 * (t.val / 4) + (y 0).val))
    * H (1024 * s.val + q.val) (y 1).val) ?_ e
  refine Fin.sum_fin_congr fun s => Fin.sum_fin_congr fun r => ?_
  have e2 : (4 * (t.val / 4) + s.val) % 4 = s.val := by omega
  have e3 : (4 * (t.val / 4) + s.val) / 4 = t.val / 4 := by omega
  show U (1024 * ((4 * (t.val / 4) + s.val) % 4) + r.val) (place (2816 * ((4 * (t.val / 4) + s.val) / 4) + (y 0).val))
    * H (1024 * ((4 * (t.val / 4) + s.val) % 4) + r.val) (y 1).val = _
  rw [e2, e3]

end Cert.UpWIdeal.Product
end
-- ==== Proof.UpClaims.lean ====
/-
The claims about the up projection's three calls: the frames of their references, and the results equal to the
references'.
-/
module

public import proofs.«01_k».proof.Defs
public import proofs.«01_k».proof.Proof.Finite
public import proofs.«01_k».proof.Proof.Up
public import proofs.«01_k».proof.Proof.UpBwd
public import proofs.«01_k».proof.Proof.UpW
public import proofs.«01_k».proof.Proof.Gen.UpRefIdeal.Run
public import proofs.«01_k».proof.Proof.Gen.UpBwdRefIdeal.Run
public import proofs.«01_k».proof.Proof.Gen.UpWRefIdeal.Run
public import Idealize.ShloMosaic.Adequacy
public import Idealize.ShloMosaic.Init

@[expose] public section

noncomputable section

open Idealize.ShloMosaic Idealize.ShloMosaic.TcCoe Idealize.SL.Sem Cert.Arr Cert.Conv

namespace Cert.Pre_finite_up_bwd

/-- The precondition's broadcasts. -/
theorem bcasts : Facts where
  bcast_S_S4096x5632 := by decide
  bcast_S_S1024x5632 := by decide
  bcast_S_S4096x1024 := by decide
  bcast_S_S1x1024 := by decide

end Cert.Pre_finite_up_bwd

namespace Cert.Proof

/-- An array of finite entries holds the real numbers of some function of row and column. -/
theorem reals {a b : ℕ} (x : FVec Ideal ⟨2, ![a, b]⟩ .f32)
    (h : Cert.Pre_all_finite.S_.BroadcastsInDim ⟨2, ![a, b]⟩ (![] : Fin 0 → Fin (⟨2, ![a, b]⟩ : Shape).rank))
    (hx : cmpf .olt (Host.absf x) (broadcastInDim ⟨2, ![a, b]⟩ ![] h
      (constant (F := Ideal) Cert.Pre_all_finite.S_ .f32 0x7F800000#32)) = fun _ => 1#1) :
    ∃ f : ℕ → ℕ → ℝ, x = arr (φ := .f32) a b (fun r c => ((f r c : ℝ) : EReal)) :=
  Cert.Pre_all_finite.real_of_finite x h hx

attribute [local instance] Cert.Pre_finite_up_bwd.bcasts

theorem frame_up_ref : Cert.quiescent_UpRefIdeal := fun m g _ =>
  (θ_run Cert.UpRefIdeal.defs _ _).mono (fun r h => ⟨fun c => (h c).2.2, sem_eq_zero_of_no_sems (by decide) r.2⟩)
    (Cert.UpRefIdeal.Value.run (F := Ideal) m g)

theorem frame_up_bwd_ref : Cert.quiescent_UpBwdRefIdeal := fun m g _ =>
  (θ_run Cert.UpBwdRefIdeal.defs _ _).mono (fun r h => ⟨fun c => (h c).2.2, sem_eq_zero_of_no_sems (by decide) r.2⟩)
    (Cert.UpBwdRefIdeal.Value.run (F := Ideal) m g)

theorem frame_up_w_ref : Cert.quiescent_UpWRefIdeal := fun m g _ =>
  (θ_run Cert.UpWRefIdeal.defs _ _).mono (fun r h => ⟨fun c => (h c).2, sem_eq_zero_of_no_sems (by decide) r.2⟩)
    (Cert.UpWRefIdeal.Value.run (F := Ideal) m g)

/-- The normed rows and their projection are the reference's. -/
theorem up_eq : Cert.algebraic_UpIdeal_UpRefIdeal := by
  intro m g m' g' _ hag
  refine ⟨fun c => (Cert.UpIdeal.Gen.dats m 0 c).arrAt 3 Cert.UpIdeal.cfg0.N,
    fun c => (Cert.UpIdeal.Gen.dats m 0 c).arrAt 4 Cert.UpIdeal.cfg0.N, Cert.UpIdeal.Value.run_blocks m g, ?_⟩
  refine (θ_run Cert.UpRefIdeal.defs _ _).mono (fun r h c => ?_) (Cert.UpRefIdeal.Value.run (F := Ideal) m' g')
  obtain ⟨e0, e1, ea⟩ := h c
  obtain ⟨a0, a1, a2⟩ := hag c
  obtain ⟨X, h0⟩ := exists_arr (m ((c : Thread Cert.UpIdeal.nD Cert.UpIdeal.τ).loc Cert.UpIdeal.main_arg0))
  obtain ⟨G, h1⟩ := exists_arr (m ((c : Thread Cert.UpIdeal.nD Cert.UpIdeal.τ).loc Cert.UpIdeal.main_arg1))
  obtain ⟨W, h2⟩ := exists_arr (m ((c : Thread Cert.UpIdeal.nD Cert.UpIdeal.τ).loc Cert.UpIdeal.main_arg2))
  refine ⟨e0.trans ?_, e1.trans ?_, ea⟩
  · refine (Cert.UpRefIdeal.Read.val_main_v12_eq _ _).trans ?_
    exact (Cert.UpRefIdeal.Norm.v12_eq (a0.trans h0) (a1.trans h1)).trans (Cert.UpIdeal.Norm.final3 m c h0 h1).symm
  · refine (Cert.UpRefIdeal.Read.val_main_v33_eq _ _ _).trans ?_
    exact (Cert.UpRefIdeal.Norm.v33_eq (a0.trans h0) (a1.trans h1) (a2.trans h2)).trans
      (Cert.UpIdeal.Norm.final4 m c h0 h1 h2).symm

/-- The gradient of the weights is the reference's. -/
theorem up_w_eq : Cert.algebraic_UpWIdeal_UpWRefIdeal := by
  intro m g m' g' _ hag
  refine ⟨fun c => (Cert.UpWIdeal.Gen.dats m 0 c).arrAt 2 Cert.UpWIdeal.cfg0.N, Cert.UpWIdeal.Value.run_blocks m g, ?_⟩
  refine (θ_run Cert.UpWRefIdeal.defs _ _).mono (fun r h c => ?_) (Cert.UpWRefIdeal.Value.run (F := Ideal) m' g')
  obtain ⟨e0, ea⟩ := h c
  obtain ⟨a0, a1⟩ := hag c
  obtain ⟨U, h0⟩ := exists_arr (m ((c : Thread Cert.UpWIdeal.nD Cert.UpWIdeal.τ).loc Cert.UpWIdeal.main_arg0))
  obtain ⟨H, h1⟩ := exists_arr (m ((c : Thread Cert.UpWIdeal.nD Cert.UpWIdeal.τ).loc Cert.UpWIdeal.main_arg1))
  refine ⟨e0.trans ?_, ea⟩
  refine (Cert.UpWRefIdeal.Read.val_main_v12_eq _ _).trans ?_
  exact (Cert.UpWRefIdeal.Product.v12_eq (a0.trans h0) (a1.trans h1)).trans (Cert.UpWIdeal.Product.final m c h0 h1).symm

/-- From finite arguments the gradients of the rows and of the scale are the reference's. -/
theorem up_bwd_eq : Cert.algebraic_UpBwdIdeal_UpBwdRefIdeal_pre_finite_up_bwd := by
  intro m g m' g' hpre hag
  refine ⟨fun c => (Cert.UpBwdIdeal.Gen.dats m 0 c).arrAt 5 Cert.UpBwdIdeal.cfg0.N,
    fun c => (Cert.UpBwdIdeal.Gen.dats m 0 c).arrAt 6 Cert.UpBwdIdeal.cfg0.N, Cert.UpBwdIdeal.Value.run_blocks m g, ?_⟩
  refine (θ_run Cert.UpBwdRefIdeal.defs _ _).mono (fun r h c => ?_) (Cert.UpBwdRefIdeal.Value.run (F := Ideal) m' g')
  obtain ⟨e0, e1, ea⟩ := h c
  obtain ⟨p0, p1, p2, p3⟩ := hpre c
  obtain ⟨a0, a1, a2, a3, a4⟩ := hag c
  obtain ⟨u, h0⟩ := reals _ _ p0
  obtain ⟨w, h1⟩ := reals _ _ p1
  obtain ⟨x, h2⟩ := reals _ _ p2
  obtain ⟨k, h3⟩ := reals _ _ p3
  obtain ⟨R, h4⟩ := exists_arr (m ((c : Thread Cert.UpBwdIdeal.nD Cert.UpBwdIdeal.τ).loc Cert.UpBwdIdeal.main_arg4))
  refine ⟨e0.trans ?_, e1.trans ?_, ea⟩
  · refine (Cert.UpBwdRefIdeal.Read.val_main_v36_eq _ _).trans ?_
    refine (Cert.UpBwdRefIdeal.Norm.v36_eq (a0.trans h0) (a1.trans h1) (a2.trans h2) (a3.trans h3) (a4.trans h4)).trans ?_
    refine Eq.trans ?_ (Cert.UpBwdIdeal.Norm.final5 m c h0 h1 h2 h3 h4).symm
    funext j
    exact congrArg (· + R (j 0).val (j 1).val) (Cert.UpBwdRefIdeal.Norm.join u w x k (j 0).val (j 1).val).symm
  · refine (Cert.UpBwdRefIdeal.Read.val_main_v19_eq _ _ _).trans ?_
    refine (Cert.UpBwdRefIdeal.Norm.v19_eq (a0.trans h0) (a1.trans h1) (a2.trans h2)).trans ?_
    refine Eq.trans ?_ (Cert.UpBwdIdeal.Norm.final6 m c h0 h1 h2).symm
    funext j
    exact Fin.sum_fin_congr fun i => mul_comm _ _

end Cert.Proof

end
-- ==== Proof.Cols.lean ====
/-
A buffer filled by stores of runs of columns.
-/
module

public import proofs.«01_k».proof.Proof.Arr

@[expose] public section

noncomputable section

namespace Cert.Arr

open Idealize.ShloMosaic

variable {n k a o : ℕ}

/-- What the stores `L` leave in the columns before `hi` is `f`. -/
def ColsTo (f : ℕ → ℕ → EReal) (L : List (View.Piece (Elt Ideal) ⟨2, ![n, k]⟩ .bf16)) (hi : ℕ) : Prop :=
  ∀ y : Shape.Idx ⟨2, ![n, k]⟩, (y 1).val < hi → View.canon L y = arr (φ := .bf16) n k f y

theorem ColsTo.nil (f : ℕ → ℕ → EReal) : ColsTo (n := n) (k := k) f [] 0 := fun y h => absurd h (Nat.not_lt_zero _)

theorem ColsTo.cons {f g : ℕ → ℕ → EReal} {L : List (View.Piece (Elt Ideal) ⟨2, ![n, k]⟩ .bf16)} (inb)
    {v : Vec Ideal ⟨2, ![n, a]⟩ .bf16} (hv : v = arr (φ := .bf16) n a g) (hg : ∀ i q, q < a → g i q = f i (o + q))
    (h : ColsTo f L o) :
    ColsTo f (⟨Rect.unit (s := ⟨2, ![n, k]⟩) ![0, o] ![n, a] inb, v⟩ :: L) (o + a) := by
  intro y hy
  by_cases hm : y ∈ (Rect.unit (s := ⟨2, ![n, k]⟩) ![0, o] ![n, a] inb).set
  · obtain ⟨x, rfl⟩ := (Rect.unit (s := ⟨2, ![n, k]⟩) ![0, o] ![n, a] inb).toLoadRect.exists_idx_of_mem hm
    refine (View.canon_cons_emb (Rect.unit (s := ⟨2, ![n, k]⟩) ![0, o] ![n, a] inb) v L x).trans ?_
    rw [hv]
    refine (hg (x 0).val (x 1).val (x 1).isLt).trans ?_
    refine congrArg₂ f ?_ ?_
    · show (x 0).val = 0 + 1 * (x 0).val; omega
    · show o + (x 1).val = o + 1 * (x 1).val; omega
  · refine (View.canon_cons_of_not_mem ⟨Rect.unit (s := ⟨2, ![n, k]⟩) ![0, o] ![n, a] inb, v⟩ L hm).trans (h y ?_)
    by_contra hc
    refine hm (Rect.mem_set_unit.mpr fun i => ?_)
    match i with
    | ⟨0, _⟩ => exact ⟨Nat.zero_le _, by simpa using (y 0).isLt⟩
    | ⟨1, _⟩ => exact ⟨Nat.le_of_not_lt hc, hy⟩

theorem ColsTo.eq {f : ℕ → ℕ → EReal} {L : List (View.Piece (Elt Ideal) ⟨2, ![n, k]⟩ .bf16)} (h : ColsTo f L k) :
    View.canon L = arr (φ := .bf16) n k f := funext fun y => h y (y 1).isLt

/-- Two arrays side by side, the first `k` columns wide. -/
def pair (k : ℕ) (f g : ℕ → ℕ → EReal) (i q : ℕ) : EReal := if q < k then f i q else g i (q - k)

end Cert.Arr

end
-- ==== Proof.Heads.lean ====
/-
The two heads, each normed, side by side, and their product with the output projection's weights: the kernel's rows,
512 at a time, are the reference's.
-/
module

public import proofs.«01_k».proof.Proof.Arr
public import proofs.«01_k».proof.Proof.Cols
public import proofs.«01_k».proof.Proof.Gen.HeadsIdeal.Value
public import proofs.«01_k».proof.Proof.Gen.HeadsRefIdeal.Read
public import Idealize.ShloMosaic.Lib.StableHlo.ReadAt

@[expose] public section

set_option maxRecDepth 16384

noncomputable section

open Idealize.ShloMosaic Idealize.ShloMosaic.TcCoe Idealize.SL.Sem

namespace Cert.HeadsRefIdeal.Norm

open Cert.HeadsRefIdeal Cert.HeadsRefIdeal.Gen Cert.HeadsRefIdeal.Read Cert.Arr

variable {A B G H W R : ℕ → ℕ → EReal} {x0 x1 : FVec Ideal S4096x512 .f32} {x2 x3 : FVec Ideal S1x512 .f32}
  {x4 : FVec Ideal S1024x1024 .f32} {x5 : FVec Ideal S4096x1024 .f32}

theorem v11_eq (h0 : x0 = arr 4096 512 A) (h2 : x2 = arr 1 512 G) :
    val_main_v11 (F := Ideal) x0 x2 = arr (φ := .f32) 4096 512 (normed 512 0x44000000#32 A G) := by
  unfold val_main_v11 val_main_v10 val_main_v9 val_main_v8 val_main_v7 val_main_v6 val_main_v5 val_main_v4 val_main_v3 val_main_v2 val_main_v1 val_main_v0
    val_main_cst val_main_cst_0 val_main_cst_1
  rw [h0, h2]
  funext j
  idx_vars j
  unfold arr normed rms ms
  pointwise

theorem v23_eq (h1 : x1 = arr 4096 512 B) (h3 : x3 = arr 1 512 H) :
    val_main_v23 (F := Ideal) x1 x3 = arr (φ := .f32) 4096 512 (normed 512 0x44000000#32 B H) := by
  unfold val_main_v23 val_main_v22 val_main_v21 val_main_v20 val_main_v19 val_main_v18 val_main_v17 val_main_v16 val_main_v15 val_main_v14 val_main_v13 val_main_v12
    val_main_cst_2 val_main_cst_3 val_main_cst_4
  rw [h1, h3]
  funext j
  idx_vars j
  unfold arr normed rms ms
  pointwise

theorem v24_eq (h0 : x0 = arr 4096 512 A) (h1 : x1 = arr 4096 512 B) (h2 : x2 = arr 1 512 G)
    (h3 : x3 = arr 1 512 H) :
    val_main_v24 (F := Ideal) x0 x1 x2 x3
      = arr (φ := .f32) 4096 1024 (pair 512 (normed 512 0x44000000#32 A G) (normed 512 0x44000000#32 B H)) := by
  unfold val_main_v24
  rw [v11_eq h0 h2, v23_eq h1 h3]
  funext j
  idx_vars j
  unfold arr pair
  pointwise
  split_ifs <;> first | rfl | (exfalso; omega) | (congr 1; omega)

/-- The reference's two normed heads. -/
theorem v25_eq (h0 : x0 = arr 4096 512 A) (h1 : x1 = arr 4096 512 B) (h2 : x2 = arr 1 512 G)
    (h3 : x3 = arr 1 512 H) :
    val_main_v25 (F := Ideal) x0 x1 x2 x3
      = arr (φ := .bf16) 4096 1024 (pair 512 (normed 512 0x44000000#32 A G) (normed 512 0x44000000#32 B H)) := by
  unfold val_main_v25
  rw [v24_eq h0 h1 h2 h3]
  rfl

/-- The reference's rows after the projection. -/
theorem v27_eq (h0 : x0 = arr 4096 512 A) (h1 : x1 = arr 4096 512 B) (h2 : x2 = arr 1 512 G)
    (h3 : x3 = arr 1 512 H) (h4 : x4 = arr 1024 1024 W) (h5 : x5 = arr 4096 1024 R) :
    val_main_v27 (F := Ideal) x0 x1 x2 x3 x4 x5 = arr (φ := .f32) 4096 1024
      (fun i d => R i d + ∑ q : Fin 1024, pair 512 (normed 512 0x44000000#32 A G) (normed 512 0x44000000#32 B H) i q.val * W q.val d) := by
  unfold val_main_v27 val_main_v26
  rw [v24_eq h0 h1 h2 h3, h4, h5]
  funext j
  idx_vars j
  unfold arr
  pointwise

end Cert.HeadsRefIdeal.Norm

namespace Cert.HeadsIdeal.Norm

open Cert.HeadsIdeal Cert.HeadsIdeal.Gen Cert.Arr

variable (m : (ℓ : Loc nD τ sig) → Buf (Elt Ideal) ℓ) (c : Dev nD)

/-- The block indices at a point. -/
theorem indices : ∀ t : Fin cfg0.N,
    (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0) :=
  (by decide +kernel : ∀ t : Fin grid0.N, _)

variable {A B G H W R : ℕ → ℕ → EReal}

theorem iblk0 (h : m ((c : Thread nD τ).loc main_arg0) = arr (φ := .f32) 4096 512 A) (t : Fin cfg0.N) :
    (iblk m c 0 t : Vec Ideal S512x512 .f32) = arr (φ := .f32) 512 512 (fun r d => A (512 * t.val + r) d) := by
  have hi := (indices t).1
  funext j
  unfold iblk
  rw [View.read_apply]
  show V m c main_arg0 _ = _
  rw [V_main_arg0, h]
  unfold arr
  refine congrArg₂ A ?_ ?_
  · show win0_0.index t 0 * 512 + 1 * (j 0).val = _; rw [hi.1]; omega
  · show win0_0.index t 1 * 512 + 1 * (j 1).val = _; rw [hi.2]; omega

theorem iblk1 (h : m ((c : Thread nD τ).loc main_arg1) = arr (φ := .f32) 4096 512 B) (t : Fin cfg0.N) :
    (iblk m c 1 t : Vec Ideal S512x512 .f32) = arr (φ := .f32) 512 512 (fun r d => B (512 * t.val + r) d) := by
  have hi := (indices t).2.1
  funext j
  unfold iblk
  rw [View.read_apply]
  show V m c main_arg1 _ = _
  rw [V_main_arg1, h]
  unfold arr
  refine congrArg₂ B ?_ ?_
  · show win0_1.index t 0 * 512 + 1 * (j 0).val = _; rw [hi.1]; omega
  · show win0_1.index t 1 * 512 + 1 * (j 1).val = _; rw [hi.2]; omega

theorem iblk2 (h : m ((c : Thread nD τ).loc main_arg2) = arr (φ := .f32) 1 512 G) (t : Fin cfg0.N) :
    (iblk m c 2 t : Vec Ideal S1x512 .f32) = arr (φ := .f32) 1 512 G := by
  have hi := (indices t).2.2.1
  funext j
  unfold iblk
  rw [View.read_apply]
  show V m c main_arg2 _ = _
  rw [V_main_arg2, h]
  unfold arr
  refine congrArg₂ G ?_ ?_
  · show win0_2.index t 0 * 1 + 1 * (j 0).val = _; rw [hi.1]; omega
  · show win0_2.index t 1 * 512 + 1 * (j 1).val = _; rw [hi.2]; omega

theorem iblk3 (h : m ((c : Thread nD τ).loc main_arg3) = arr (φ := .f32) 1 512 H) (t : Fin cfg0.N) :
    (iblk m c 3 t : Vec Ideal S1x512 .f32) = arr (φ := .f32) 1 512 H := by
  have hi := (indices t).2.2.2.1
  funext j
  unfold iblk
  rw [View.read_apply]
  show V m c main_arg3 _ = _
  rw [V_main_arg3, h]
  unfold arr
  refine congrArg₂ H ?_ ?_
  · show win0_3.index t 0 * 1 + 1 * (j 0).val = _; rw [hi.1]; omega
  · show win0_3.index t 1 * 512 + 1 * (j 1).val = _; rw [hi.2]; omega

theorem iblk4 (h : m ((c : Thread nD τ).loc main_arg4) = arr (φ := .f32) 1024 1024 W) (t : Fin cfg0.N) :
    (iblk m c 4 t : Vec Ideal S1024x1024 .bf16) = arr (φ := .bf16) 1024 1024 W := by
  have hi := (indices t).2.2.2.2.1
  funext j
  unfold iblk
  rw [View.read_apply]
  show V m c main_v0 _ = _
  unfold V
  after_reads_at
  show m ((c : Thread nD τ).loc main_arg4) _ = _
  rw [h]
  unfold arr
  refine congrArg₂ W ?_ ?_
  · show win0_4.index t 0 * 1024 + 1 * (j 0).val = _; rw [hi.1]; omega
  · show win0_4.index t 1 * 1024 + 1 * (j 1).val = _; rw [hi.2]; omega

theorem iblk5 (h : m ((c : Thread nD τ).loc main_arg5) = arr (φ := .f32) 4096 1024 R) (t : Fin cfg0.N) :
    (iblk m c 5 t : Vec Ideal S512x1024 .f32) = arr (φ := .f32) 512 1024 (fun r d => R (512 * t.val + r) d) := by
  have hi := (indices t).2.2.2.2.2.1
  funext j
  unfold iblk
  rw [View.read_apply]
  show V m c main_arg5 _ = _
  rw [V_main_arg5, h]
  unfold arr
  refine congrArg₂ R ?_ ?_
  · show win0_5.index t 0 * 512 + 1 * (j 0).val = _; rw [hi.1]; omega
  · show win0_5.index t 1 * 1024 + 1 * (j 1).val = _; rw [hi.2]; omega

theorem pay2 (A G : ℕ → ℕ → EReal) : k0_pay2 (arr (φ := .f32) 512 512 A) (arr (φ := .f32) 1 512 G)
    = arr (φ := .bf16) 512 512 (normed 512 0x44000000#32 A G) := by
  funext j
  idx_vars j
  unfold k0_pay2 arr normed rms ms
  pointwise

theorem pay3 (A G : ℕ → ℕ → EReal) : k0_pay3 (arr (φ := .f32) 512 512 A) (arr (φ := .f32) 1 512 G)
    = arr (φ := .bf16) 512 512 (normed 512 0x44000000#32 A G) := by
  funext j
  idx_vars j
  unfold k0_pay3 arr normed rms ms
  pointwise

theorem pay1 (R U W : ℕ → ℕ → EReal) :
    k0_pay1 (arr (φ := .f32) 512 1024 R) (k0_pay4 (arr (φ := .bf16) 512 1024 U)) (arr (φ := .bf16) 1024 1024 W)
      = arr (φ := .f32) 512 1024 (fun i d => R i d + ∑ q : Fin 1024, U i q.val * W q.val d) := by
  funext j
  idx_vars j
  unfold k0_pay1 k0_pay4 arr
  pointwise

/-- The two normed heads stored side by side. -/
theorem pieces (A B G H : ℕ → ℕ → EReal) : View.canon (Val := Elt Ideal) (e := .bf16)
      [⟨Rect.unit ![0, 512] ![512, 512] inb_S512x1024_S512x512_0_512, k0_pay3 (F := Ideal) (arr (φ := .f32) 512 512 B) (arr (φ := .f32) 1 512 H)⟩,
        ⟨Rect.unit ![0, 0] ![512, 512] inb_S512x1024_S512x512_0_0, k0_pay2 (F := Ideal) (arr (φ := .f32) 512 512 A) (arr (φ := .f32) 1 512 G)⟩]
      = arr (φ := .bf16) 512 1024 (pair 512 (normed 512 0x44000000#32 A G) (normed 512 0x44000000#32 B H)) := by
  refine ColsTo.eq (ColsTo.cons (o := 512) _ (pay3 B H) ?_ (ColsTo.cons (o := 0) _ (pay2 A G) ?_ (ColsTo.nil _)))
  all_goals
    intro i q hq
    unfold pair
    split_ifs <;> first | (exfalso; omega) | (congr 1; omega)

variable (h0 : m ((c : Thread nD τ).loc main_arg0) = arr (φ := .f32) 4096 512 A)
  (h1 : m ((c : Thread nD τ).loc main_arg1) = arr (φ := .f32) 4096 512 B)
  (h2 : m ((c : Thread nD τ).loc main_arg2) = arr (φ := .f32) 1 512 G)
  (h3 : m ((c : Thread nD τ).loc main_arg3) = arr (φ := .f32) 1 512 H)
  (h4 : m ((c : Thread nD τ).loc main_arg4) = arr (φ := .f32) 1024 1024 W)
  (h5 : m ((c : Thread nD τ).loc main_arg5) = arr (φ := .f32) 4096 1024 R)
include h0 h1 h2 h3

/-- A point's normed heads. -/
theorem headsAt (t : Fin cfg0.N) : View.canon (Val := Elt Ideal) (e := .bf16)
      [⟨Rect.unit ![0, 512] ![512, 512] inb_S512x1024_S512x512_0_512, k0_pay3 (F := Ideal) (iblk m c 1 t) (iblk m c 3 t)⟩,
        ⟨Rect.unit ![0, 0] ![512, 512] inb_S512x1024_S512x512_0_0, k0_pay2 (F := Ideal) (iblk m c 0 t) (iblk m c 2 t)⟩]
      = arr (φ := .bf16) 512 1024 (fun i q => pair 512 (normed 512 0x44000000#32 A G) (normed 512 0x44000000#32 B H) (512 * t.val + i) q) := by
  rw [iblk0 m c h0 t, iblk1 m c h1 t, iblk2 m c h2 t, iblk3 m c h3 t]
  exact pieces _ _ _ _

/-- The normed heads the kernel leaves. -/
theorem final6 : (dats m 0 c).arrAt 6 cfg0.N = arr (φ := .bf16) 4096 1024 (pair 512 (normed 512 0x44000000#32 A G) (normed 512 0x44000000#32 B H)) := by
  refine (dats m 0 c).arrAt_eq_of_covers 6 _ (by decide +kernel) fun t hf y => ?_
  blk_simp
  rw [after0_6]
  unfold outsAt0
  frame_out
  rw [headsAt m c h0 h1 h2 h3 t]
  obtain ⟨e0, e1⟩ := (indices t).2.2.2.2.2.2.1
  have hq : ((win0_6.blk t).view.emb y 0).val = 512 * t.val + (y 0).val := by
    show win0_6.index t 0 * 512 + 1 * (y 0).val = _
    rw [e0]; omega
  have hd : ((win0_6.blk t).view.emb y 1).val = (y 1).val := by
    show win0_6.index t 1 * 1024 + 1 * (y 1).val = _
    rw [e1]; omega
  unfold arr
  rw [hq, hd]

/-- A point's normed heads, read back. -/
theorem readAt (t : Fin cfg0.N) (v : View sig .tc .vmem S512x1024 .bf16) : v.readCov (Val := Elt Ideal)
      [⟨Rect.unit ![0, 512] ![512, 512] inb_S512x1024_S512x512_0_512, k0_pay3 (F := Ideal) (iblk m c 1 t) (iblk m c 3 t)⟩,
        ⟨Rect.unit ![0, 0] ![512, 512] inb_S512x1024_S512x512_0_0, k0_pay2 (F := Ideal) (iblk m c 0 t) (iblk m c 2 t)⟩]
      (Rect.unit (s := S512x1024) ![0, 0] ![512, 1024] inb_S512x1024_S512x1024_0_0).toLoadRect
      = arr (φ := .bf16) 512 1024 (fun i q => pair 512 (normed 512 0x44000000#32 A G) (normed 512 0x44000000#32 B H) (512 * t.val + i) q) :=
  (readCov_whole (S := S512x1024) v inb_S512x1024_S512x1024_0_0 _ (by decide)).trans (headsAt m c h0 h1 h2 h3 t)

include h4 h5

/-- The rows the kernel leaves. -/
theorem final7 : (dats m 0 c).arrAt 7 cfg0.N = arr (φ := .f32) 4096 1024
    (fun i d => R i d + ∑ q : Fin 1024, pair 512 (normed 512 0x44000000#32 A G) (normed 512 0x44000000#32 B H) i q.val * W q.val d) := by
  refine (dats m 0 c).arrAt_eq_of_covers 7 _ (by decide +kernel) fun t hf y => ?_
  blk_simp
  rw [after0_7]
  unfold outsAt0
  frame_out
  rw [readAt m c h0 h1 h2 h3 t, iblk4 m c h4 t, iblk5 m c h5 t]
  rw [pay1 (fun r d => R (512 * t.val + r) d) (fun i q => pair 512 (normed 512 0x44000000#32 A G) (normed 512 0x44000000#32 B H) (512 * t.val + i) q) W]
  obtain ⟨e0, e1⟩ := (indices t).2.2.2.2.2.2.2
  have hq : ((win0_7.blk t).view.emb y 0).val = 512 * t.val + (y 0).val := by
    show win0_7.index t 0 * 512 + 1 * (y 0).val = _
    rw [e0]; omega
  have hd : ((win0_7.blk t).view.emb y 1).val = (y 1).val := by
    show win0_7.index t 1 * 1024 + 1 * (y 1).val = _
    rw [e1]; omega
  unfold arr
  rw [hq, hd]

end Cert.HeadsIdeal.Norm
end
-- ==== Proof.HeadsBwd.lean ====
/-
The gradient through the output projection and the norms of the two heads before it: what the kernel leaves, and the
reference's results.
-/
module

public import proofs.«01_k».proof.Proof.NormBwd
public import proofs.«01_k».proof.Proof.Cols
public import proofs.«01_k».proof.Proof.Gen.HeadsBwdIdeal.Value
public import proofs.«01_k».proof.Proof.Gen.HeadsBwdRefIdeal.Read
public import Idealize.ShloMosaic.Lib.StableHlo.ReadAt

@[expose] public section

set_option maxRecDepth 16384

noncomputable section

open Idealize.ShloMosaic Idealize.ShloMosaic.TcCoe Idealize.SL.Sem

namespace Cert.HeadsBwdRefIdeal.Norm

open Cert.HeadsBwdRefIdeal Cert.HeadsBwdRefIdeal.Gen Cert.HeadsBwdRefIdeal.Read Cert.Arr Cert.Conv

/-- The gradient of the normed heads, side by side. -/
def back (X W : ℕ → ℕ → EReal) (i q : ℕ) : EReal := ∑ k : Fin 1024, X i k.val * W q k.val

variable {X W O S M G H : ℕ → ℕ → EReal} {x0 : FVec Ideal S4096x1024 .f32} {x1 : FVec Ideal S1024x1024 .f32}
  {x2 : FVec Ideal S4096x1024 .f32} {x3 x4 : FVec Ideal S4096x512 .f32} {x5 x6 : FVec Ideal S1x512 .f32}

theorem v33_eq (h0 : x0 = arr 4096 1024 X) (h1 : x1 = arr 1024 1024 W) :
    val_main_v33 (F := Ideal) x0 x1 = arr (φ := .f32) 4096 512 (back X W) := by
  unfold val_main_v33 val_main_v32
  rw [h0, h1]
  funext j
  idx_vars j
  unfold arr back
  pointwise

theorem v34_eq (h0 : x0 = arr 4096 1024 X) (h1 : x1 = arr 1024 1024 W) :
    val_main_v34 (F := Ideal) x0 x1 = arr (φ := .f32) 4096 512 (fun i q => back X W i (512 + q)) := by
  unfold val_main_v34 val_main_v32
  rw [h0, h1]
  funext j
  idx_vars j
  unfold arr back
  pointwise

theorem v6_eq (h3 : x3 = arr 4096 512 S) :
    val_main_v6 (F := Ideal) x3 = arr (φ := .f32) 4096 1 (fun i _ => ms 512 0x44000000#32 (S i)) := by
  unfold val_main_v6 val_main_v5 val_main_v4 val_main_v3 val_main_v2 val_main_v1 val_main_v0 val_main_cst val_main_cst_0 val_main_cst_1
  rw [h3]
  funext j
  idx_vars j
  unfold arr ms
  pointwise

theorem v7_eq (h3 : x3 = arr 4096 512 S) :
    val_main_v7 (F := Ideal) x3 = arr (φ := .f32) 4096 1 (fun i _ => rms 512 0x44000000#32 (S i)) := by
  unfold val_main_v7
  rw [v6_eq h3]
  funext j
  idx_vars j
  unfold arr rms
  pointwise

theorem v21_eq (h4 : x4 = arr 4096 512 M) :
    val_main_v21 (F := Ideal) x4 = arr (φ := .f32) 4096 1 (fun i _ => ms 512 0x44000000#32 (M i)) := by
  unfold val_main_v21 val_main_v20 val_main_v19 val_main_v18 val_main_v17 val_main_v16 val_main_v15 val_main_cst_3 val_main_cst_4 val_main_cst_5
  rw [h4]
  funext j
  idx_vars j
  unfold arr ms
  pointwise

theorem v22_eq (h4 : x4 = arr 4096 512 M) :
    val_main_v22 (F := Ideal) x4 = arr (φ := .f32) 4096 1 (fun i _ => rms 512 0x44000000#32 (M i)) := by
  unfold val_main_v22
  rw [v21_eq h4]
  funext j
  idx_vars j
  unfold arr rms
  pointwise

/-- The reference's gradient of the first head's scale. -/
theorem v56_eq (h0 : x0 = arr 4096 1024 X) (h1 : x1 = arr 1024 1024 W) (h3 : x3 = arr 4096 512 S) :
    val_main_v56 (F := Ideal) x0 x1 x3 = arr (φ := .f32) 1 512 (fun _ d => ∑ i : Fin 4096,
      S i.val d * rms 512 0x44000000#32 (S i.val) * back X W i.val d) := by
  unfold val_main_v56 val_main_v55 val_main_v54 val_main_v12 val_main_v11 val_main_cst_11
  rw [v33_eq h0 h1, v7_eq h3, h3]
  funext j
  idx_vars j
  unfold arr
  pointwise

/-- The reference's gradient of the second head's scale. -/
theorem v37_eq (h0 : x0 = arr 4096 1024 X) (h1 : x1 = arr 1024 1024 W) (h4 : x4 = arr 4096 512 M) :
    val_main_v37 (F := Ideal) x0 x1 x4 = arr (φ := .f32) 1 512 (fun _ d => ∑ i : Fin 4096,
      M i.val d * rms 512 0x44000000#32 (M i.val) * back X W i.val (512 + d)) := by
  unfold val_main_v37 val_main_v36 val_main_v35 val_main_v27 val_main_v26 val_main_cst_7
  rw [v34_eq h0 h1, v22_eq h4, h4]
  funext j
  idx_vars j
  unfold arr
  pointwise

theorem v58_eq (h0 : x0 = arr 4096 1024 X) (h1 : x1 = arr 1024 1024 W) (h5 : x5 = arr 1 512 G) :
    val_main_v58 (F := Ideal) x0 x1 x5 = arr (φ := .f32) 4096 512 (fun i d => back X W i d * G 0 d) := by
  unfold val_main_v58 val_main_v57
  rw [v33_eq h0 h1, h5]
  funext j
  idx_vars j
  unfold arr
  pointwise

/-- The reference's gradient of the first head. -/
theorem v72_eq (h0 : x0 = arr 4096 1024 X) (h1 : x1 = arr 1024 1024 W) (h3 : x3 = arr 4096 512 S)
    (h5 : x5 = arr 1 512 G) :
    val_main_v72 (F := Ideal) x0 x1 x3 x5 = arr (φ := .f32) 4096 512
      (fun i d => chain 512 0x44000000#32 (S i) (fun k => back X W i k * G 0 k) d) := by
  unfold val_main_v72 val_main_v71 val_main_v70 val_main_v69 val_main_v68 val_main_v67 val_main_v66 val_main_v65 val_main_v64 val_main_v63 val_main_v62 val_main_v61 val_main_v60 val_main_v59 val_main_v10 val_main_v9 val_main_v8 val_main_cst_2 val_main_cst_12 val_main_cst_13 val_main_cst_14
  rw [v58_eq h0 h1 h5, v7_eq h3, v6_eq h3, h3]
  funext j
  idx_vars j
  unfold arr chain dms
  pointwise
  simp only [Finset.univ_unique, Finset.sum_singleton]

theorem v39_eq (h0 : x0 = arr 4096 1024 X) (h1 : x1 = arr 1024 1024 W) (h6 : x6 = arr 1 512 H) :
    val_main_v39 (F := Ideal) x0 x1 x6 = arr (φ := .f32) 4096 512 (fun i d => back X W i (512 + d) * H 0 d) := by
  unfold val_main_v39 val_main_v38
  rw [v34_eq h0 h1, h6]
  funext j
  idx_vars j
  unfold arr
  pointwise

/-- The reference's gradient of the second head. -/
theorem v53_eq (h0 : x0 = arr 4096 1024 X) (h1 : x1 = arr 1024 1024 W) (h4 : x4 = arr 4096 512 M)
    (h6 : x6 = arr 1 512 H) :
    val_main_v53 (F := Ideal) x0 x1 x4 x6 = arr (φ := .f32) 4096 512
      (fun i d => chain 512 0x44000000#32 (M i) (fun k => back X W i (512 + k) * H 0 k) d) := by
  unfold val_main_v53 val_main_v52 val_main_v51 val_main_v50 val_main_v49 val_main_v48 val_main_v47 val_main_v46 val_main_v45 val_main_v44 val_main_v43 val_main_v42 val_main_v41 val_main_v40 val_main_v25 val_main_v24 val_main_v23 val_main_cst_6 val_main_cst_8 val_main_cst_9 val_main_cst_10
  rw [v39_eq h0 h1 h6, v22_eq h4, v21_eq h4, h4]
  funext j
  idx_vars j
  unfold arr chain dms
  pointwise
  simp only [Finset.univ_unique, Finset.sum_singleton]

/-- The reference's gradient of the weights. -/
theorem v76_eq (h0 : x0 = arr 4096 1024 X) (h2 : x2 = arr 4096 1024 O) :
    val_main_v76 (F := Ideal) x0 x2 = arr (φ := .bf16) 1024 1024 (fun q d => ∑ i : Fin 4096, X i.val d * O i.val q) := by
  unfold val_main_v76 val_main_v75 val_main_v74
  rw [h0, h2]
  funext j
  idx_vars j
  unfold arr
  pointwise

theorem back_real (x w : ℕ → ℕ → ℝ) (i q : ℕ) :
    back (fun i c => ((x i c : ℝ) : EReal)) (fun i c => ((w i c : ℝ) : EReal)) i q
      = ((∑ k ∈ Finset.range 1024, x i k * w q k : ℝ) : EReal) := by
  unfold back
  simp only [← EReal.coe_mul]
  exact coe_sum_range 1024 (fun k => x i k * w q k)

/-- The kernel's gradient of a head is the reference's; the head's columns start at `o`. -/
theorem join (o : ℕ) (x w s g : ℕ → ℕ → ℝ) (i d : ℕ) :
    across 512 0x44000000#32 (fun c => ((s i c : ℝ) : EReal))
        (fun c => back (fun i c => ((x i c : ℝ) : EReal)) (fun i c => ((w i c : ℝ) : EReal)) i (o + c) * ((g 0 c : ℝ) : EReal)) d
      = chain 512 0x44000000#32 (fun c => ((s i c : ℝ) : EReal))
        (fun c => back (fun i c => ((x i c : ℝ) : EReal)) (fun i c => ((w i c : ℝ) : EReal)) i (o + c) * ((g 0 c : ℝ) : EReal)) d := by
  simp only [back_real, ← EReal.coe_mul]
  exact across_eq_chain 512 _ 512 f512 (by norm_num) (fun c => s i c)
    (fun c => (∑ k ∈ Finset.range 1024, x i k * w (o + c) k) * g 0 c) d

end Cert.HeadsBwdRefIdeal.Norm

namespace Cert.HeadsBwdIdeal.Norm

open Cert.HeadsBwdIdeal Cert.HeadsBwdIdeal.Gen Cert.Arr Cert.HeadsBwdRefIdeal.Norm

variable (m : (ℓ : Loc nD τ sig) → Buf (Elt Ideal) ℓ) (c : Dev nD)

/-- The block indices at a point. -/
theorem indices : ∀ t : Fin cfg0.N,
    (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = 0 ∧ win0_5.index t 1 = 0)
    ∧ (win0_6.index t 0 = 0 ∧ win0_6.index t 1 = 0)
    ∧ (win0_7.index t 0 = t.val ∧ win0_7.index t 1 = 0)
    ∧ (win0_8.index t 0 = t.val ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0) :=
  (by decide +kernel : ∀ t : Fin grid0.N, _)

variable {X W O S M G H : ℕ → ℕ → EReal}

theorem iblk0 (h : m ((c : Thread nD τ).loc main_arg0) = arr (φ := .f32) 4096 1024 X) (t : Fin cfg0.N) :
    (iblk m c 0 t : Vec Ideal S512x1024 .f32) = arr (φ := .f32) 512 1024 (fun r d => X (512 * t.val + r) d) := by
  have hi := (indices t).1
  funext j
  unfold iblk
  rw [View.read_apply]
  show V m c main_arg0 _ = _
  rw [V_main_arg0, h]
  unfold arr
  refine congrArg₂ X ?_ ?_
  · show win0_0.index t 0 * 512 + 1 * (j 0).val = _; rw [hi.1]; omega
  · show win0_0.index t 1 * 1024 + 1 * (j 1).val = _; rw [hi.2]; omega

theorem iblk1 (h : m ((c : Thread nD τ).loc main_arg1) = arr (φ := .f32) 1024 1024 W) (t : Fin cfg0.N) :
    (iblk m c 1 t : Vec Ideal S1024x1024 .bf16) = arr (φ := .bf16) 1024 1024 W := by
  have hi := (indices t).2.1
  funext j
  unfold iblk
  rw [View.read_apply]
  show V m c main_v0 _ = _
  unfold V
  after_reads_at
  show m ((c : Thread nD τ).loc main_arg1) _ = _
  rw [h]
  unfold arr
  refine congrArg₂ W ?_ ?_
  · show win0_1.index t 0 * 1024 + 1 * (j 0).val = _; rw [hi.1]; omega
  · show win0_1.index t 1 * 1024 + 1 * (j 1).val = _; rw [hi.2]; omega

theorem iblk2 (h : m ((c : Thread nD τ).loc main_arg2) = arr (φ := .f32) 4096 1024 O) (t : Fin cfg0.N) :
    (iblk m c 2 t : Vec Ideal S512x1024 .bf16) = arr (φ := .bf16) 512 1024 (fun r d => O (512 * t.val + r) d) := by
  have hi := (indices t).2.2.1
  funext j
  unfold iblk
  rw [View.read_apply]
  show V m c main_v1 _ = _
  unfold V
  after_reads_at
  show m ((c : Thread nD τ).loc main_arg2) _ = _
  rw [h]
  unfold arr
  refine congrArg₂ O ?_ ?_
  · show win0_2.index t 0 * 512 + 1 * (j 0).val = _; rw [hi.1]; omega
  · show win0_2.index t 1 * 1024 + 1 * (j 1).val = _; rw [hi.2]; omega

theorem iblk3 (h : m ((c : Thread nD τ).loc main_arg3) = arr (φ := .f32) 4096 512 S) (t : Fin cfg0.N) :
    (iblk m c 3 t : Vec Ideal S512x512 .f32) = arr (φ := .f32) 512 512 (fun r d => S (512 * t.val + r) d) := by
  have hi := (indices t).2.2.2.1
  funext j
  unfold iblk
  rw [View.read_apply]
  show V m c main_arg3 _ = _
  rw [V_main_arg3, h]
  unfold arr
  refine congrArg₂ S ?_ ?_
  · show win0_3.index t 0 * 512 + 1 * (j 0).val = _; rw [hi.1]; omega
  · show win0_3.index t 1 * 512 + 1 * (j 1).val = _; rw [hi.2]; omega

theorem iblk4 (h : m ((c : Thread nD τ).loc main_arg4) = arr (φ := .f32) 4096 512 M) (t : Fin cfg0.N) :
    (iblk m c 4 t : Vec Ideal S512x512 .f32) = arr (φ := .f32) 512 512 (fun r d => M (512 * t.val + r) d) := by
  have hi := (indices t).2.2.2.2.1
  funext j
  unfold iblk
  rw [View.read_apply]
  show V m c main_arg4 _ = _
  rw [V_main_arg4, h]
  unfold arr
  refine congrArg₂ M ?_ ?_
  · show win0_4.index t 0 * 512 + 1 * (j 0).val = _; rw [hi.1]; omega
  · show win0_4.index t 1 * 512 + 1 * (j 1).val = _; rw [hi.2]; omega

theorem iblk5 (h : m ((c : Thread nD τ).loc main_arg5) = arr (φ := .f32) 1 512 G) (t : Fin cfg0.N) :
    (iblk m c 5 t : Vec Ideal S1x512 .f32) = arr (φ := .f32) 1 512 G := by
  have hi := (indices t).2.2.2.2.2.1
  funext j
  unfold iblk
  rw [View.read_apply]
  show V m c main_arg5 _ = _
  rw [V_main_arg5, h]
  unfold arr
  refine congrArg₂ G ?_ ?_
  · show win0_5.index t 0 * 1 + 1 * (j 0).val = _; rw [hi.1]; omega
  · show win0_5.index t 1 * 512 + 1 * (j 1).val = _; rw [hi.2]; omega

theorem iblk6 (h : m ((c : Thread nD τ).loc main_arg6) = arr (φ := .f32) 1 512 H) (t : Fin cfg0.N) :
    (iblk m c 6 t : Vec Ideal S1x512 .f32) = arr (φ := .f32) 1 512 H := by
  have hi := (indices t).2.2.2.2.2.2.1
  funext j
  unfold iblk
  rw [View.read_apply]
  show V m c main_arg6 _ = _
  rw [V_main_arg6, h]
  unfold arr
  refine congrArg₂ H ?_ ?_
  · show win0_6.index t 0 * 1 + 1 * (j 0).val = _; rw [hi.1]; omega
  · show win0_6.index t 1 * 512 + 1 * (j 1).val = _; rw [hi.2]; omega

theorem pay6 (X W : ℕ → ℕ → EReal) : k0_pay6 (arr (φ := .f32) 512 1024 X) (arr (φ := .bf16) 1024 1024 W)
    = arr (φ := .f32) 512 1024 (back X W) := by
  funext j
  idx_vars j
  unfold k0_pay6 k0_pay5 arr back
  pointwise

theorem pay7 (X W : ℕ → ℕ → EReal) : k0_pay7 (arr (φ := .f32) 512 1024 X) (arr (φ := .bf16) 1024 1024 W)
    = arr (φ := .f32) 512 512 (back X W) := by
  unfold k0_pay7
  rw [pay6]
  funext j
  idx_vars j
  unfold arr
  pointwise

theorem pay12 (X W : ℕ → ℕ → EReal) : k0_pay12 (arr (φ := .f32) 512 1024 X) (arr (φ := .bf16) 1024 1024 W)
    = arr (φ := .f32) 512 512 (fun i q => back X W i (512 + q)) := by
  unfold k0_pay12
  rw [pay6]
  funext j
  idx_vars j
  unfold arr
  pointwise

theorem pay8 (S : ℕ → ℕ → EReal) : k0_pay8 (arr (φ := .f32) 512 512 S)
    = arr (φ := .f32) 512 1 (fun i _ => rms 512 0x44000000#32 (S i)) := by
  funext j
  idx_vars j
  unfold k0_pay8 arr rms ms
  pointwise

theorem pay14 (S : ℕ → ℕ → EReal) : k0_pay14 (k0_pay13 (arr (φ := .f32) 512 512 S))
    = arr (φ := .f32) 512 1 (fun i _ => rms 512 0x44000000#32 (S i)) := by
  funext j
  idx_vars j
  unfold k0_pay14 k0_pay13 arr rms ms
  pointwise

theorem pay9 (S : ℕ → ℕ → EReal) : k0_pay9 (arr (φ := .f32) 512 512 S)
    = arr (φ := .f32) 512 512 (fun i d => S i d * rms 512 0x44000000#32 (S i)) := by
  unfold k0_pay9
  rw [pay8]
  funext j
  idx_vars j
  unfold arr
  pointwise

theorem pay15 (S : ℕ → ℕ → EReal) : k0_pay15 (arr (φ := .f32) 512 512 S) (k0_pay13 (arr (φ := .f32) 512 512 S))
    = arr (φ := .f32) 512 512 (fun i d => S i d * rms 512 0x44000000#32 (S i)) := by
  unfold k0_pay15
  rw [pay14]
  funext j
  idx_vars j
  unfold arr
  pointwise

/-- The gradient of the first head, a block of its rows. -/
theorem pay10 (X W S G : ℕ → ℕ → EReal) :
    k0_pay10 (arr (φ := .f32) 512 1024 X) (arr (φ := .bf16) 1024 1024 W) (arr (φ := .f32) 512 512 S) (arr (φ := .f32) 1 512 G)
      = arr (φ := .f32) 512 512 (fun i d => across 512 0x44000000#32 (S i) (fun k => back X W i k * G 0 k) d) := by
  unfold k0_pay10
  rw [pay7, pay8, pay9]
  funext j
  idx_vars j
  unfold arr across
  pointwise

/-- The gradient of the second head, a block of its rows. -/
theorem pay16 (Y S G : ℕ → ℕ → EReal) :
    k0_pay16 (arr (φ := .f32) 512 512 Y) (arr (φ := .f32) 512 512 S) (arr (φ := .f32) 1 512 G) (k0_pay13 (arr (φ := .f32) 512 512 S))
      = arr (φ := .f32) 512 512 (fun i d => across 512 0x44000000#32 (S i) (fun k => Y i k * G 0 k) d) := by
  unfold k0_pay16
  rw [pay14, pay15]
  funext j
  idx_vars j
  unfold arr across
  pointwise

theorem pay11 (X W S : ℕ → ℕ → EReal) :
    k0_pay11 (arr (φ := .f32) 512 1024 X) (arr (φ := .bf16) 1024 1024 W) (arr (φ := .f32) 512 512 S)
      = arr (φ := .f32) 1 512 (fun _ d => ∑ i : Fin 512, back X W i.val d * (S i.val d * rms 512 0x44000000#32 (S i.val))) := by
  unfold k0_pay11
  rw [pay7, pay9]
  funext j
  idx_vars j
  unfold arr
  pointwise

theorem pay17 (Y S : ℕ → ℕ → EReal) :
    k0_pay17 (arr (φ := .f32) 512 512 Y) (arr (φ := .f32) 512 512 S) (k0_pay13 (arr (φ := .f32) 512 512 S))
      = arr (φ := .f32) 1 512 (fun _ d => ∑ i : Fin 512, Y i.val d * (S i.val d * rms 512 0x44000000#32 (S i.val))) := by
  unfold k0_pay17
  rw [pay15]
  funext j
  idx_vars j
  unfold arr
  pointwise

theorem pay1 (X O : ℕ → ℕ → EReal) :
    k0_pay1 (k0_pay5 (arr (φ := .f32) 512 1024 X)) (arr (φ := .bf16) 512 1024 O)
      = arr (φ := .f32) 1024 1024 (fun q d => ∑ i : Fin 512, O i.val q * X i.val d) := by
  funext j
  idx_vars j
  unfold k0_pay1 k0_pay5 arr
  pointwise

variable (h0 : m ((c : Thread nD τ).loc main_arg0) = arr (φ := .f32) 4096 1024 X)
  (h1 : m ((c : Thread nD τ).loc main_arg1) = arr (φ := .f32) 1024 1024 W)
  (h2 : m ((c : Thread nD τ).loc main_arg2) = arr (φ := .f32) 4096 1024 O)
  (h3 : m ((c : Thread nD τ).loc main_arg3) = arr (φ := .f32) 4096 512 S)
  (h4 : m ((c : Thread nD τ).loc main_arg4) = arr (φ := .f32) 4096 512 M)
  (h5 : m ((c : Thread nD τ).loc main_arg5) = arr (φ := .f32) 1 512 G)
  (h6 : m ((c : Thread nD τ).loc main_arg6) = arr (φ := .f32) 1 512 H)
include h0 h1

/-- A point's gradient of the second normed head. -/
theorem yAt (t : Fin cfg0.N) : k0_pay12 (F := Ideal) (iblk m c 0 t) (iblk m c 1 t)
    = arr (φ := .f32) 512 512 (fun i q => back X W (512 * t.val + i) (512 + q)) := by
  rw [iblk0 m c h0 t, iblk1 m c h1 t]
  exact pay12 (fun r d => X (512 * t.val + r) d) W

omit h1 in
include h2 in
/-- A point's part of the gradient of the weights. -/
theorem part11 (t : Fin cfg0.N) : k0_pay1 (F := Ideal) (k0_pay5 (iblk m c 0 t)) (iblk m c 2 t)
    = arr (φ := .f32) 1024 1024 (fun q d => ∑ i : Fin 512, O (512 * t.val + i.val) q * X (512 * t.val + i.val) d) := by
  rw [iblk0 m c h0 t, iblk2 m c h2 t]
  exact pay1 (fun r d => X (512 * t.val + r) d) (fun r d => O (512 * t.val + r) d)

omit h1 in
include h2 in
/-- The sums the kernel keeps, after the last point. -/
theorem kept (j : S1024x1024.Idx) : (outsAt0 m c t0_7.val t0_7.isLt).2.2.2.2.2 j
    = ∑ i : Fin 4096, O i.val (j 0).val * X i.val (j 1).val := by
  rw [Pipeline.eq_sum_fin_of_reset_step_apply_last (fun n h => (outsAt0 m c n h).2.2.2.2.2) 8 (fun _ => 0)
    (fun t j => ∑ i : Fin 512, O (512 * t.val + i.val) (j 0).val * X (512 * t.val + i.val) (j 1).val)
    (fun t h j => by
      have h' : t.val < 8 := t.isLt
      rw [outsAt0_A m c t h (by omega) h (by omega) h (by omega) (by omega)]
      frame_out
      unfold k0_pay2
      rw [shapeCast_self, part11 m c h0 h2 t]
      simp [arr])
    (fun t h j => by
      by_cases h7 : t.val % 8 = 7
      · rw [outsAt0_C m c t h (by omega) h (by omega) h (by omega) h7]
        frame_out
        unfold k0_pay3
        rw [shapeCast_self, part11 m c h0 h2 t]
        exact congrArg (fun z : FVec Ideal S1024x1024 .f32 => addf z _ j) (Memref.IsWhole.read_unread (Memref.isWhole_whole _) _)
      · rw [outsAt0_B m c t h (by omega) h (by omega) h (by omega) h7]
        frame_out
        unfold k0_pay3
        rw [shapeCast_self, part11 m c h0 h2 t]
        exact congrArg (fun z : FVec Ideal S1024x1024 .f32 => addf z _ j) (Memref.IsWhole.read_unread (Memref.isWhole_whole _) _))
    (by decide +kernel) t0_7 rfl _]
  have e := sum_blocks 8 512 4096 rfl (fun i => O i (j 0).val * X i (j 1).val)
  exact (zero_add (M := EReal) _).trans e

omit h0 h1 in
/-- The last point hands the kept sums over. -/
theorem last : (outsAt0 m c t0_7.val t0_7.isLt).2.2.2.2.1 = k0_pay4 (outsAt0 m c t0_7.val t0_7.isLt).2.2.2.2.2 := by
  rw [outsAt0_C m c t0_7 (by decide +kernel) (by decide +kernel) (by decide +kernel) (by decide +kernel) (by decide +kernel)
    (by decide +kernel) (by decide +kernel)]
  frame_out

omit h1 in
include h2 in
/-- The gradient of the weights the kernel leaves. -/
theorem final11 : (dats m 0 c).arrAt 11 cfg0.N
    = arr (φ := .bf16) 1024 1024 (fun q d => ∑ i : Fin 4096, O i.val q * X i.val d) := by
  refine (dats m 0 c).arrAt_eq_of_after_last 11 t0_7 (by decide +kernel) _ fun j => ?_
  blk_simp
  rw [after0_11, last m c]
  exact kept m c h0 h2 j

include h3 in
/-- The gradient of the first head's scale the kernel leaves. -/
theorem final9 : (dats m 0 c).arrAt 9 cfg0.N = arr (φ := .f32) 1 512 (fun _ d => ∑ i : Fin 4096,
    back X W i.val d * (S i.val d * rms 512 0x44000000#32 (S i.val))) := by
  have hp : ∀ t : Fin cfg0.N, k0_pay11 (F := Ideal) (iblk m c 0 t) (iblk m c 1 t) (iblk m c 3 t)
      = arr (φ := .f32) 1 512 (fun _ d => ∑ i : Fin 512, back X W (512 * t.val + i.val) d
        * (S (512 * t.val + i.val) d * rms 512 0x44000000#32 (S (512 * t.val + i.val)))) := fun t => by
    rw [iblk0 m c h0 t, iblk1 m c h1 t, iblk3 m c h3 t]
    exact pay11 (fun r d => X (512 * t.val + r) d) W (fun r d => S (512 * t.val + r) d)
  refine (dats m 0 c).arrAt_eq_of_after_last 9 t0_7 (by decide +kernel) _ fun j => ?_
  blk_simp
  rw [after0_9]
  rw [Pipeline.eq_sum_fin_of_reset_step_apply_last (fun n h => (outsAt0 m c n h).2.2.1) 8 (fun _ => 0)
    (fun t j => ∑ i : Fin 512, back X W (512 * t.val + i.val) (j 1).val
        * (S (512 * t.val + i.val) (j 1).val * rms 512 0x44000000#32 (S (512 * t.val + i.val))))
    (fun t h j => by
      have h' : t.val < 8 := t.isLt
      rw [outsAt0_A m c t h (by omega) h (by omega) h (by omega) (by omega)]
      frame_out
      rw [hp t]
      simp [arr])
    (fun t h j => by
      by_cases h7 : t.val % 8 = 7
      · rw [outsAt0_C m c t h (by omega) h (by omega) h (by omega) h7]
        frame_out
        unfold k0_pay18
        rw [shapeCast_self, hp t]
        rfl
      · rw [outsAt0_B m c t h (by omega) h (by omega) h (by omega) h7]
        frame_out
        unfold k0_pay18
        rw [shapeCast_self, hp t]
        rfl)
    (by decide +kernel) t0_7 rfl _]
  have e := sum_blocks 8 512 4096 rfl
    (fun i => back X W i (j 1).val * (S i (j 1).val * rms 512 0x44000000#32 (S i)))
  exact (zero_add (M := EReal) _).trans e

include h4 in
/-- The gradient of the second head's scale the kernel leaves. -/
theorem final10 : (dats m 0 c).arrAt 10 cfg0.N = arr (φ := .f32) 1 512 (fun _ d => ∑ i : Fin 4096,
    back X W i.val (512 + d) * (M i.val d * rms 512 0x44000000#32 (M i.val))) := by
  have hp : ∀ t : Fin cfg0.N, k0_pay17 (F := Ideal) (k0_pay12 (iblk m c 0 t) (iblk m c 1 t)) (iblk m c 4 t) (k0_pay13 (iblk m c 4 t))
      = arr (φ := .f32) 1 512 (fun _ d => ∑ i : Fin 512, back X W (512 * t.val + i.val) (512 + d)
        * (M (512 * t.val + i.val) d * rms 512 0x44000000#32 (M (512 * t.val + i.val)))) := fun t => by
    rw [yAt m c h0 h1 t, iblk4 m c h4 t]
    exact pay17 (fun i q => back X W (512 * t.val + i) (512 + q)) (fun r d => M (512 * t.val + r) d)
  refine (dats m 0 c).arrAt_eq_of_after_last 10 t0_7 (by decide +kernel) _ fun j => ?_
  blk_simp
  rw [after0_10]
  rw [Pipeline.eq_sum_fin_of_reset_step_apply_last (fun n h => (outsAt0 m c n h).2.2.2.1) 8 (fun _ => 0)
    (fun t j => ∑ i : Fin 512, back X W (512 * t.val + i.val) (512 + (j 1).val)
        * (M (512 * t.val + i.val) (j 1).val * rms 512 0x44000000#32 (M (512 * t.val + i.val))))
    (fun t h j => by
      have h' : t.val < 8 := t.isLt
      rw [outsAt0_A m c t h (by omega) h (by omega) h (by omega) (by omega)]
      frame_out
      rw [hp t]
      simp [arr])
    (fun t h j => by
      by_cases h7 : t.val % 8 = 7
      · rw [outsAt0_C m c t h (by omega) h (by omega) h (by omega) h7]
        frame_out
        unfold k0_pay19
        rw [shapeCast_self, hp t]
        rfl
      · rw [outsAt0_B m c t h (by omega) h (by omega) h (by omega) h7]
        frame_out
        unfold k0_pay19
        rw [shapeCast_self, hp t]
        rfl)
    (by decide +kernel) t0_7 rfl _]
  have e := sum_blocks 8 512 4096 rfl
    (fun i => back X W i (512 + (j 1).val) * (M i (j 1).val * rms 512 0x44000000#32 (M i)))
  exact (zero_add (M := EReal) _).trans e

include h3 h5 in
/-- The gradient of the first head the kernel leaves. -/
theorem final7 : (dats m 0 c).arrAt 7 cfg0.N = arr (φ := .f32) 4096 512
    (fun i d => across 512 0x44000000#32 (S i) (fun k => back X W i k * G 0 k) d) := by
  refine (dats m 0 c).arrAt_eq_of_covers 7 _ (by decide +kernel) fun t hf y => ?_
  blk_simp
  rw [after0_7]
  have e : (outsAt0 m c t.val t.isLt).1 = k0_pay10 (iblk m c 0 t) (iblk m c 1 t) (iblk m c 3 t) (iblk m c 5 t) := by
    have h' : t.val < 8 := t.isLt
    by_cases h : t.val % 8 = 0
    · rw [outsAt0_A m c t h (by omega) h (by omega) h (by omega) (by omega)]
      frame_out
    · by_cases h7 : t.val % 8 = 7
      · rw [outsAt0_C m c t h (by omega) h (by omega) h (by omega) h7]
        frame_out
      · rw [outsAt0_B m c t h (by omega) h (by omega) h (by omega) h7]
        frame_out
  rw [e, iblk0 m c h0 t, iblk1 m c h1 t, iblk3 m c h3 t, iblk5 m c h5 t]
  rw [pay10 (fun r d => X (512 * t.val + r) d) W (fun r d => S (512 * t.val + r) d) G]
  obtain ⟨e0, e1⟩ := (indices t).2.2.2.2.2.2.2.1
  have hq : ((win0_7.blk t).view.emb y 0).val = 512 * t.val + (y 0).val := by
    show win0_7.index t 0 * 512 + 1 * (y 0).val = _
    rw [e0]; omega
  have hd : ((win0_7.blk t).view.emb y 1).val = (y 1).val := by
    show win0_7.index t 1 * 512 + 1 * (y 1).val = _
    rw [e1]; omega
  unfold arr
  rw [hq, hd]
  rfl

include h4 h6 in
/-- The gradient of the second head the kernel leaves. -/
theorem final8 : (dats m 0 c).arrAt 8 cfg0.N = arr (φ := .f32) 4096 512
    (fun i d => across 512 0x44000000#32 (M i) (fun k => back X W i (512 + k) * H 0 k) d) := by
  refine (dats m 0 c).arrAt_eq_of_covers 8 _ (by decide +kernel) fun t hf y => ?_
  blk_simp
  rw [after0_8]
  have e : (outsAt0 m c t.val t.isLt).2.1 = k0_pay16 (k0_pay12 (iblk m c 0 t) (iblk m c 1 t)) (iblk m c 4 t) (iblk m c 6 t)
      (k0_pay13 (iblk m c 4 t)) := by
    have h' : t.val < 8 := t.isLt
    by_cases h : t.val % 8 = 0
    · rw [outsAt0_A m c t h (by omega) h (by omega) h (by omega) (by omega)]
      frame_out
    · by_cases h7 : t.val % 8 = 7
      · rw [outsAt0_C m c t h (by omega) h (by omega) h (by omega) h7]
        frame_out
      · rw [outsAt0_B m c t h (by omega) h (by omega) h (by omega) h7]
        frame_out
  rw [e, yAt m c h0 h1 t, iblk4 m c h4 t, iblk6 m c h6 t]
  rw [pay16 (fun i q => back X W (512 * t.val + i) (512 + q)) (fun r d => M (512 * t.val + r) d) H]
  obtain ⟨e0, e1⟩ := (indices t).2.2.2.2.2.2.2.2.1
  have hq : ((win0_8.blk t).view.emb y 0).val = 512 * t.val + (y 0).val := by
    show win0_8.index t 0 * 512 + 1 * (y 0).val = _
    rw [e0]; omega
  have hd : ((win0_8.blk t).view.emb y 1).val = (y 1).val := by
    show win0_8.index t 1 * 512 + 1 * (y 1).val = _
    rw [e1]; omega
  unfold arr
  rw [hq, hd]

end Cert.HeadsBwdIdeal.Norm
end
-- ==== Proof.In.lean ====
/-
The normed rows and their product with the input projections' weights: the kernel's rows, 512 at a time, are the
reference's.
-/
module

public import proofs.«01_k».proof.Proof.Arr
public import proofs.«01_k».proof.Proof.Gen.InIdeal.Value
public import proofs.«01_k».proof.Proof.Gen.InRefIdeal.Read
public import Idealize.ShloMosaic.Lib.StableHlo.ReadAt

@[expose] public section

set_option maxRecDepth 16384

noncomputable section

open Idealize.ShloMosaic Idealize.ShloMosaic.TcCoe Idealize.SL.Sem

namespace Cert.InRefIdeal.Norm

open Cert.InRefIdeal Cert.InRefIdeal.Gen Cert.InRefIdeal.Read Cert.Arr

variable {X G W : ℕ → ℕ → EReal} {x0 : FVec Ideal S4096x1024 .f32} {x1 : FVec Ideal S1x1024 .f32}
  {x2 : FVec Ideal S2304x1024 .f32}

theorem v11_eq (h0 : x0 = arr 4096 1024 X) (h1 : x1 = arr 1 1024 G) :
    val_main_v11 (F := Ideal) x0 x1 = arr (φ := .f32) 4096 1024 (normed 1024 0x44800000#32 X G) := by
  unfold val_main_v11 val_main_v10 val_main_v9 val_main_v8 val_main_v7 val_main_v6 val_main_v5 val_main_v4
    val_main_v3 val_main_v2 val_main_v1 val_main_v0 val_main_cst val_main_cst_0 val_main_cst_1
  rw [h0, h1]
  funext j
  idx_vars j
  unfold arr normed rms ms
  pointwise

/-- The reference's normed rows. -/
theorem v12_eq (h0 : x0 = arr 4096 1024 X) (h1 : x1 = arr 1 1024 G) :
    val_main_v12 (F := Ideal) x0 x1 = arr (φ := .bf16) 4096 1024 (normed 1024 0x44800000#32 X G) := by
  unfold val_main_v12
  rw [v11_eq h0 h1]
  rfl

/-- The reference's product. -/
theorem v14_eq (h0 : x0 = arr 4096 1024 X) (h1 : x1 = arr 1 1024 G) (h2 : x2 = arr 2304 1024 W) :
    val_main_v14 (F := Ideal) x0 x1 x2
      = arr (φ := .f32) 4096 2304 (fun i q => ∑ d : Fin 1024, normed 1024 0x44800000#32 X G i d.val * W q d.val) := by
  unfold val_main_v14 val_main_v13
  rw [v11_eq h0 h1, h2]
  funext j
  idx_vars j
  unfold arr
  pointwise

end Cert.InRefIdeal.Norm

namespace Cert.InIdeal.Norm

open Cert.InIdeal Cert.InIdeal.Gen Cert.Arr

variable (m : (ℓ : Loc nD τ sig) → Buf (Elt Ideal) ℓ) (c : Dev nD)

/-- The block indices at a point. -/
theorem indices : ∀ t : Fin cfg0.N,
    (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = t.val ∧ win0_3.index t 1 = 0)
    ∧ (win0_4.index t 0 = t.val ∧ win0_4.index t 1 = 0) :=
  (by decide +kernel : ∀ t : Fin grid0.N, _)

variable {X G W : ℕ → ℕ → EReal}

theorem iblk0 (h : m ((c : Thread nD τ).loc main_arg0) = arr (φ := .f32) 4096 1024 X) (t : Fin cfg0.N) :
    (iblk m c 0 t : Vec Ideal S512x1024 .f32) = arr (φ := .f32) 512 1024 (fun r d => X (512 * t.val + r) d) := by
  have hi := (indices t).1
  funext j
  unfold iblk
  rw [View.read_apply]
  show V m c main_arg0 _ = _
  rw [V_main_arg0, h]
  unfold arr
  refine congrArg₂ X ?_ ?_
  · show win0_0.index t 0 * 512 + 1 * (j 0).val = _; rw [hi.1]; omega
  · show win0_0.index t 1 * 1024 + 1 * (j 1).val = _; rw [hi.2]; omega

theorem iblk1 (h : m ((c : Thread nD τ).loc main_arg1) = arr (φ := .f32) 1 1024 G) (t : Fin cfg0.N) :
    (iblk m c 1 t : Vec Ideal S1x1024 .f32) = arr (φ := .f32) 1 1024 G := by
  have hi := (indices t).2.1
  funext j
  unfold iblk
  rw [View.read_apply]
  show V m c main_arg1 _ = _
  rw [V_main_arg1, h]
  unfold arr
  refine congrArg₂ G ?_ ?_
  · show win0_1.index t 0 * 1 + 1 * (j 0).val = _; rw [hi.1]; omega
  · show win0_1.index t 1 * 1024 + 1 * (j 1).val = _; rw [hi.2]; omega

theorem iblk2 (h : m ((c : Thread nD τ).loc main_arg2) = arr (φ := .f32) 2304 1024 W) (t : Fin cfg0.N) :
    (iblk m c 2 t : Vec Ideal S2304x1024 .bf16) = arr (φ := .bf16) 2304 1024 W := by
  have hi := (indices t).2.2.1
  funext j
  unfold iblk
  rw [View.read_apply]
  show V m c main_v0 _ = _
  unfold V
  after_reads_at
  show m ((c : Thread nD τ).loc main_arg2) _ = _
  rw [h]
  unfold arr
  refine congrArg₂ W ?_ ?_
  · show win0_2.index t 0 * 2304 + 1 * (j 0).val = _; rw [hi.1]; omega
  · show win0_2.index t 1 * 1024 + 1 * (j 1).val = _; rw [hi.2]; omega

/-- The normed rows of a block. -/
theorem pay1 (X G : ℕ → ℕ → EReal) :
    k0_pay1 (arr (φ := .f32) 512 1024 X) (arr (φ := .f32) 1 1024 G) = arr (φ := .bf16) 512 1024 (normed 1024 0x44800000#32 X G) := by
  funext j
  idx_vars j
  unfold k0_pay1 arr normed rms ms
  pointwise

/-- Their product with the weights. -/
theorem pay2 (X G W : ℕ → ℕ → EReal) :
    k0_pay2 (arr (φ := .f32) 512 1024 X) (arr (φ := .f32) 1 1024 G) (arr (φ := .bf16) 2304 1024 W)
      = arr (φ := .f32) 512 2304 (fun i q => ∑ d : Fin 1024, normed 1024 0x44800000#32 X G i d.val * W q d.val) := by
  unfold k0_pay2
  rw [pay1]
  funext j
  idx_vars j
  unfold arr
  pointwise

variable (h0 : m ((c : Thread nD τ).loc main_arg0) = arr (φ := .f32) 4096 1024 X)
  (h1 : m ((c : Thread nD τ).loc main_arg1) = arr (φ := .f32) 1 1024 G)
  (h2 : m ((c : Thread nD τ).loc main_arg2) = arr (φ := .f32) 2304 1024 W)
include h0 h1

/-- The normed rows the kernel leaves. -/
theorem final3 : (dats m 0 c).arrAt 3 cfg0.N = arr (φ := .bf16) 4096 1024 (normed 1024 0x44800000#32 X G) := by
  refine (dats m 0 c).arrAt_eq_of_covers 3 _ (by decide +kernel) fun t hf y => ?_
  blk_simp
  rw [after0_3]
  frame_out
  rw [iblk0 m c h0 t, iblk1 m c h1 t, pay1]
  obtain ⟨e0, e1⟩ := (indices t).2.2.2.1
  have hq : ((win0_3.blk t).view.emb y 0).val = 512 * t.val + (y 0).val := by
    show win0_3.index t 0 * 512 + 1 * (y 0).val = _
    rw [e0]; omega
  have hd : ((win0_3.blk t).view.emb y 1).val = (y 1).val := by
    show win0_3.index t 1 * 1024 + 1 * (y 1).val = _
    rw [e1]; omega
  unfold arr
  rw [hq, hd]
  rfl

include h2

/-- The product the kernel leaves. -/
theorem final4 : (dats m 0 c).arrAt 4 cfg0.N
    = arr (φ := .f32) 4096 2304 (fun i q => ∑ d : Fin 1024, normed 1024 0x44800000#32 X G i d.val * W q d.val) := by
  refine (dats m 0 c).arrAt_eq_of_covers 4 _ (by decide +kernel) fun t hf y => ?_
  blk_simp
  rw [after0_4]
  frame_out
  rw [iblk0 m c h0 t, iblk1 m c h1 t, iblk2 m c h2 t, pay2]
  obtain ⟨e0, e1⟩ := (indices t).2.2.2.2
  have hq : ((win0_4.blk t).view.emb y 0).val = 512 * t.val + (y 0).val := by
    show win0_4.index t 0 * 512 + 1 * (y 0).val = _
    rw [e0]; omega
  have hd : ((win0_4.blk t).view.emb y 1).val = (y 1).val := by
    show win0_4.index t 1 * 2304 + 1 * (y 1).val = _
    rw [e1]; omega
  unfold arr
  rw [hq, hd]
  rfl

end Cert.InIdeal.Norm
end
-- ==== Proof.InBwd.lean ====
/-
The gradient through the input projections and the norm before them: what the kernel leaves, and the reference's
results.
-/
module

public import proofs.«01_k».proof.Proof.NormBwd
public import proofs.«01_k».proof.Proof.Cols
public import proofs.«01_k».proof.Proof.Gen.InBwdIdeal.Value
public import proofs.«01_k».proof.Proof.Gen.InBwdRefIdeal.Read
public import Idealize.ShloMosaic.Lib.StableHlo.ReadAt

@[expose] public section

set_option maxRecDepth 16384

noncomputable section

open Idealize.ShloMosaic Idealize.ShloMosaic.TcCoe Idealize.SL.Sem

namespace Cert.InBwdRefIdeal.Norm

open Cert.InBwdRefIdeal Cert.InBwdRefIdeal.Gen Cert.InBwdRefIdeal.Read Cert.Arr Cert.Conv

/-- Six arrays side by side. -/
def side (Q K V₁ L E C : ℕ → ℕ → EReal) (i q : ℕ) : EReal :=
  if q < 512 then Q i q else if q < 1024 then K i (q - 512) else if q < 1536 then V₁ i (q - 1024)
    else if q < 1792 then L i (q - 1536) else if q < 1920 then E i (q - 1792) else C i (q - 1920)

/-- The gradient of the normed rows. -/
def dy (U W : ℕ → ℕ → EReal) (i d : ℕ) : EReal := ∑ q : Fin 2304, U i q.val * W q.val d

variable {Q K V₁ L E C W X G R : ℕ → ℕ → EReal} {x0 x1 x2 : FVec Ideal S4096x512 .f32} {x3 : FVec Ideal S4096x256 .f32}
  {x4 : FVec Ideal S4096x128 .f32} {x5 : FVec Ideal S4096x384 .f32} {x6 : FVec Ideal S2304x1024 .f32}
  {x7 : FVec Ideal S4096x1024 .f32} {x8 : FVec Ideal S1x1024 .f32} {x9 : FVec Ideal S4096x1024 .f32}

theorem v0_eq (h0 : x0 = arr 4096 512 Q) (h1 : x1 = arr 4096 512 K) (h2 : x2 = arr 4096 512 V₁)
    (h3 : x3 = arr 4096 256 L) (h4 : x4 = arr 4096 128 E) (h5 : x5 = arr 4096 384 C) :
    val_main_v0 (F := Ideal) x0 x1 x2 x3 x4 x5 = arr (φ := .f32) 4096 2304 (side Q K V₁ L E C) := by
  unfold val_main_v0
  rw [h0, h1, h2, h3, h4, h5]
  funext j
  idx_vars j
  unfold arr side
  pointwise
  split_ifs <;> first | rfl | (exfalso; omega) | (congr 1; omega)

theorem v18_eq (h0 : x0 = arr 4096 512 Q) (h1 : x1 = arr 4096 512 K) (h2 : x2 = arr 4096 512 V₁)
    (h3 : x3 = arr 4096 256 L) (h4 : x4 = arr 4096 128 E) (h5 : x5 = arr 4096 384 C)
    (h6 : x6 = arr 2304 1024 W) :
    val_main_v18 (F := Ideal) x0 x1 x2 x3 x4 x5 x6 = arr (φ := .f32) 4096 1024 (dy (side Q K V₁ L E C) W) := by
  unfold val_main_v18 val_main_v16
  rw [v0_eq h0 h1 h2 h3 h4 h5, h6]
  funext j
  idx_vars j
  unfold arr dy
  pointwise

theorem v7_eq (h7 : x7 = arr 4096 1024 X) :
    val_main_v7 (F := Ideal) x7 = arr (φ := .f32) 4096 1 (fun i _ => ms 1024 0x44800000#32 (X i)) := by
  unfold val_main_v7 val_main_v6 val_main_v5 val_main_v4 val_main_v3 val_main_v2 val_main_v1 val_main_cst val_main_cst_0 val_main_cst_1
  rw [h7]
  funext j
  idx_vars j
  unfold arr ms
  pointwise

theorem v8_eq (h7 : x7 = arr 4096 1024 X) :
    val_main_v8 (F := Ideal) x7 = arr (φ := .f32) 4096 1 (fun i _ => rms 1024 0x44800000#32 (X i)) := by
  unfold val_main_v8
  rw [v7_eq h7]
  funext j
  idx_vars j
  unfold arr rms
  pointwise

/-- The reference's gradient of the scale. -/
theorem v21_eq (h0 : x0 = arr 4096 512 Q) (h1 : x1 = arr 4096 512 K) (h2 : x2 = arr 4096 512 V₁)
    (h3 : x3 = arr 4096 256 L) (h4 : x4 = arr 4096 128 E) (h5 : x5 = arr 4096 384 C)
    (h6 : x6 = arr 2304 1024 W) (h7 : x7 = arr 4096 1024 X) :
    val_main_v21 (F := Ideal) x0 x1 x2 x3 x4 x5 x6 x7
      = arr (φ := .f32) 1 1024 (fun _ d => ∑ i : Fin 4096, X i.val d * rms 1024 0x44800000#32 (X i.val)
        * dy (side Q K V₁ L E C) W i.val d) := by
  unfold val_main_v21 val_main_v20 val_main_v19 val_main_v13 val_main_v12 val_main_cst_3
  rw [v18_eq h0 h1 h2 h3 h4 h5 h6, v8_eq h7, h7]
  funext j
  idx_vars j
  unfold arr
  pointwise

theorem v23_eq (h0 : x0 = arr 4096 512 Q) (h1 : x1 = arr 4096 512 K) (h2 : x2 = arr 4096 512 V₁)
    (h3 : x3 = arr 4096 256 L) (h4 : x4 = arr 4096 128 E) (h5 : x5 = arr 4096 384 C)
    (h6 : x6 = arr 2304 1024 W) (h8 : x8 = arr 1 1024 G) :
    val_main_v23 (F := Ideal) x0 x1 x2 x3 x4 x5 x6 x8
      = arr (φ := .f32) 4096 1024 (fun i d => dy (side Q K V₁ L E C) W i d * G 0 d) := by
  unfold val_main_v23 val_main_v22
  rw [v18_eq h0 h1 h2 h3 h4 h5 h6, h8]
  funext j
  idx_vars j
  unfold arr
  pointwise

/-- The reference's gradient of the rows. -/
theorem v39_eq (h0 : x0 = arr 4096 512 Q) (h1 : x1 = arr 4096 512 K) (h2 : x2 = arr 4096 512 V₁)
    (h3 : x3 = arr 4096 256 L) (h4 : x4 = arr 4096 128 E) (h5 : x5 = arr 4096 384 C)
    (h6 : x6 = arr 2304 1024 W) (h7 : x7 = arr 4096 1024 X) (h8 : x8 = arr 1 1024 G) (h9 : x9 = arr 4096 1024 R) :
    val_main_v39 (F := Ideal) x0 x1 x2 x3 x4 x5 x6 x7 x8 x9
      = arr (φ := .f32) 4096 1024
        (fun i d => chain 1024 0x44800000#32 (X i) (fun k => dy (side Q K V₁ L E C) W i k * G 0 k) d + R i d) := by
  unfold val_main_v39 val_main_v37 val_main_v36 val_main_v35 val_main_v34 val_main_v33 val_main_v32 val_main_v31 val_main_v30
    val_main_v29 val_main_v28 val_main_v27 val_main_v26 val_main_v25 val_main_v24 val_main_v11 val_main_v10 val_main_v9
    val_main_cst_2 val_main_cst_4 val_main_cst_5 val_main_cst_6
  rw [v23_eq h0 h1 h2 h3 h4 h5 h6 h8, v8_eq h7, v7_eq h7, h7, h9]
  funext j
  idx_vars j
  unfold arr chain dms
  pointwise
  simp only [Finset.univ_unique, Finset.sum_singleton]

/-- The reference's six arrays side by side. -/
theorem v38_eq (h0 : x0 = arr 4096 512 Q) (h1 : x1 = arr 4096 512 K) (h2 : x2 = arr 4096 512 V₁)
    (h3 : x3 = arr 4096 256 L) (h4 : x4 = arr 4096 128 E) (h5 : x5 = arr 4096 384 C) :
    val_main_v38 (F := Ideal) x0 x1 x2 x3 x4 x5 = arr (φ := .bf16) 4096 2304 (side Q K V₁ L E C) := by
  unfold val_main_v38
  rw [v0_eq h0 h1 h2 h3 h4 h5]
  rfl

theorem side_real (q k v l e p : ℕ → ℕ → ℝ) : ∃ u : ℕ → ℕ → ℝ, ∀ i c,
    side (fun i c => ((q i c : ℝ) : EReal)) (fun i c => ((k i c : ℝ) : EReal)) (fun i c => ((v i c : ℝ) : EReal))
      (fun i c => ((l i c : ℝ) : EReal)) (fun i c => ((e i c : ℝ) : EReal)) (fun i c => ((p i c : ℝ) : EReal)) i c
      = ((u i c : ℝ) : EReal) := by
  refine ⟨fun i c => if c < 512 then q i c else if c < 1024 then k i (c - 512) else if c < 1536 then v i (c - 1024)
    else if c < 1792 then l i (c - 1536) else if c < 1920 then e i (c - 1792) else p i (c - 1920), fun i c => ?_⟩
  unfold side
  beta_reduce
  split_ifs <;> rfl

/-- The kernel's gradient of the rows is the reference's. -/
theorem join (q k v l e p w x g : ℕ → ℕ → ℝ) (i d : ℕ) :
    across 1024 0x44800000#32 (fun c => ((x i c : ℝ) : EReal))
        (fun c => dy (side (fun i c => ((q i c : ℝ) : EReal)) (fun i c => ((k i c : ℝ) : EReal))
          (fun i c => ((v i c : ℝ) : EReal)) (fun i c => ((l i c : ℝ) : EReal)) (fun i c => ((e i c : ℝ) : EReal))
          (fun i c => ((p i c : ℝ) : EReal))) (fun i c => ((w i c : ℝ) : EReal)) i c * ((g 0 c : ℝ) : EReal)) d
      = chain 1024 0x44800000#32 (fun c => ((x i c : ℝ) : EReal))
        (fun c => dy (side (fun i c => ((q i c : ℝ) : EReal)) (fun i c => ((k i c : ℝ) : EReal))
          (fun i c => ((v i c : ℝ) : EReal)) (fun i c => ((l i c : ℝ) : EReal)) (fun i c => ((e i c : ℝ) : EReal))
          (fun i c => ((p i c : ℝ) : EReal))) (fun i c => ((w i c : ℝ) : EReal)) i c * ((g 0 c : ℝ) : EReal)) d := by
  obtain ⟨u, hu⟩ := side_real q k v l e p
  have hd : ∀ i d, dy (side (fun i c => ((q i c : ℝ) : EReal)) (fun i c => ((k i c : ℝ) : EReal))
      (fun i c => ((v i c : ℝ) : EReal)) (fun i c => ((l i c : ℝ) : EReal)) (fun i c => ((e i c : ℝ) : EReal))
      (fun i c => ((p i c : ℝ) : EReal))) (fun i c => ((w i c : ℝ) : EReal)) i d
      = ((∑ r ∈ Finset.range 2304, u i r * w r d : ℝ) : EReal) := fun i d => by
    unfold dy
    simp only [hu, ← EReal.coe_mul]
    exact coe_sum_range 2304 (fun r => u i r * w r d)
  simp only [hd, ← EReal.coe_mul]
  exact across_eq_chain 1024 _ 1024 f1024 (by norm_num) (fun c => x i c) (fun c => (∑ r ∈ Finset.range 2304, u i r * w r c) * g 0 c) d

end Cert.InBwdRefIdeal.Norm

namespace Cert.InBwdIdeal.Norm

open Cert.InBwdIdeal Cert.InBwdIdeal.Gen Cert.Arr Cert.InBwdRefIdeal.Norm

variable (m : (ℓ : Loc nD τ sig) → Buf (Elt Ideal) ℓ) (c : Dev nD)

/-- The block indices at a point. -/
theorem indices : ∀ t : Fin cfg0.N,
    (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = 0 ∧ win0_6.index t 1 = 0)
    ∧ (win0_7.index t 0 = t.val ∧ win0_7.index t 1 = 0)
    ∧ (win0_8.index t 0 = 0 ∧ win0_8.index t 1 = 0)
    ∧ (win0_9.index t 0 = t.val ∧ win0_9.index t 1 = 0)
    ∧ (win0_10.index t 0 = t.val ∧ win0_10.index t 1 = 0)
    ∧ (win0_11.index t 0 = t.val ∧ win0_11.index t 1 = 0)
    ∧ (win0_12.index t 0 = 0 ∧ win0_12.index t 1 = 0) :=
  (by decide +kernel : ∀ t : Fin grid0.N, _)

variable {Q K V₁ L E C W X G R : ℕ → ℕ → EReal}

theorem iblk0 (h : m ((c : Thread nD τ).loc main_arg0) = arr (φ := .f32) 4096 512 Q) (t : Fin cfg0.N) :
    (iblk m c 0 t : Vec Ideal S512x512 .bf16) = arr (φ := .bf16) 512 512 (fun r d => Q (512 * t.val + r) d) := by
  have hi := (indices t).1
  funext j
  unfold iblk
  rw [View.read_apply]
  show V m c main_v0 _ = _
  unfold V
  after_reads_at
  show m ((c : Thread nD τ).loc main_arg0) _ = _
  rw [h]
  unfold arr
  refine congrArg₂ Q ?_ ?_
  · show win0_0.index t 0 * 512 + 1 * (j 0).val = _; rw [hi.1]; omega
  · show win0_0.index t 1 * 512 + 1 * (j 1).val = _; rw [hi.2]; omega

theorem iblk1 (h : m ((c : Thread nD τ).loc main_arg1) = arr (φ := .f32) 4096 512 K) (t : Fin cfg0.N) :
    (iblk m c 1 t : Vec Ideal S512x512 .bf16) = arr (φ := .bf16) 512 512 (fun r d => K (512 * t.val + r) d) := by
  have hi := (indices t).2.1
  funext j
  unfold iblk
  rw [View.read_apply]
  show V m c main_v1 _ = _
  unfold V
  after_reads_at
  show m ((c : Thread nD τ).loc main_arg1) _ = _
  rw [h]
  unfold arr
  refine congrArg₂ K ?_ ?_
  · show win0_1.index t 0 * 512 + 1 * (j 0).val = _; rw [hi.1]; omega
  · show win0_1.index t 1 * 512 + 1 * (j 1).val = _; rw [hi.2]; omega

theorem iblk2 (h : m ((c : Thread nD τ).loc main_arg2) = arr (φ := .f32) 4096 512 V₁) (t : Fin cfg0.N) :
    (iblk m c 2 t : Vec Ideal S512x512 .bf16) = arr (φ := .bf16) 512 512 (fun r d => V₁ (512 * t.val + r) d) := by
  have hi := (indices t).2.2.1
  funext j
  unfold iblk
  rw [View.read_apply]
  show V m c main_v2 _ = _
  unfold V
  after_reads_at
  show m ((c : Thread nD τ).loc main_arg2) _ = _
  rw [h]
  unfold arr
  refine congrArg₂ V₁ ?_ ?_
  · show win0_2.index t 0 * 512 + 1 * (j 0).val = _; rw [hi.1]; omega
  · show win0_2.index t 1 * 512 + 1 * (j 1).val = _; rw [hi.2]; omega

theorem iblk3 (h : m ((c : Thread nD τ).loc main_arg3) = arr (φ := .f32) 4096 256 L) (t : Fin cfg0.N) :
    (iblk m c 3 t : Vec Ideal S512x256 .bf16) = arr (φ := .bf16) 512 256 (fun r d => L (512 * t.val + r) d) := by
  have hi := (indices t).2.2.2.1
  funext j
  unfold iblk
  rw [View.read_apply]
  show V m c main_v3 _ = _
  unfold V
  after_reads_at
  show m ((c : Thread nD τ).loc main_arg3) _ = _
  rw [h]
  unfold arr
  refine congrArg₂ L ?_ ?_
  · show win0_3.index t 0 * 512 + 1 * (j 0).val = _; rw [hi.1]; omega
  · show win0_3.index t 1 * 256 + 1 * (j 1).val = _; rw [hi.2]; omega

theorem iblk4 (h : m ((c : Thread nD τ).loc main_arg4) = arr (φ := .f32) 4096 128 E) (t : Fin cfg0.N) :
    (iblk m c 4 t : Vec Ideal S512x128 .bf16) = arr (φ := .bf16) 512 128 (fun r d => E (512 * t.val + r) d) := by
  have hi := (indices t).2.2.2.2.1
  funext j
  unfold iblk
  rw [View.read_apply]
  show V m c main_v4 _ = _
  unfold V
  after_reads_at
  show m ((c : Thread nD τ).loc main_arg4) _ = _
  rw [h]
  unfold arr
  refine congrArg₂ E ?_ ?_
  · show win0_4.index t 0 * 512 + 1 * (j 0).val = _; rw [hi.1]; omega
  · show win0_4.index t 1 * 128 + 1 * (j 1).val = _; rw [hi.2]; omega

theorem iblk5 (h : m ((c : Thread nD τ).loc main_arg5) = arr (φ := .f32) 4096 384 C) (t : Fin cfg0.N) :
    (iblk m c 5 t : Vec Ideal S512x384 .bf16) = arr (φ := .bf16) 512 384 (fun r d => C (512 * t.val + r) d) := by
  have hi := (indices t).2.2.2.2.2.1
  funext j
  unfold iblk
  rw [View.read_apply]
  show V m c main_v5 _ = _
  unfold V
  after_reads_at
  show m ((c : Thread nD τ).loc main_arg5) _ = _
  rw [h]
  unfold arr
  refine congrArg₂ C ?_ ?_
  · show win0_5.index t 0 * 512 + 1 * (j 0).val = _; rw [hi.1]; omega
  · show win0_5.index t 1 * 384 + 1 * (j 1).val = _; rw [hi.2]; omega

theorem iblk6 (h : m ((c : Thread nD τ).loc main_arg6) = arr (φ := .f32) 2304 1024 W) (t : Fin cfg0.N) :
    (iblk m c 6 t : Vec Ideal S2304x1024 .bf16) = arr (φ := .bf16) 2304 1024 W := by
  have hi := (indices t).2.2.2.2.2.2.1
  funext j
  unfold iblk
  rw [View.read_apply]
  show V m c main_v6 _ = _
  unfold V
  after_reads_at
  show m ((c : Thread nD τ).loc main_arg6) _ = _
  rw [h]
  unfold arr
  refine congrArg₂ W ?_ ?_
  · show win0_6.index t 0 * 2304 + 1 * (j 0).val = _; rw [hi.1]; omega
  · show win0_6.index t 1 * 1024 + 1 * (j 1).val = _; rw [hi.2]; omega

theorem iblk7 (h : m ((c : Thread nD τ).loc main_arg7) = arr (φ := .f32) 4096 1024 X) (t : Fin cfg0.N) :
    (iblk m c 7 t : Vec Ideal S512x1024 .f32) = arr (φ := .f32) 512 1024 (fun r d => X (512 * t.val + r) d) := by
  have hi := (indices t).2.2.2.2.2.2.2.1
  funext j
  unfold iblk
  rw [View.read_apply]
  show V m c main_arg7 _ = _
  rw [V_main_arg7, h]
  unfold arr
  refine congrArg₂ X ?_ ?_
  · show win0_7.index t 0 * 512 + 1 * (j 0).val = _; rw [hi.1]; omega
  · show win0_7.index t 1 * 1024 + 1 * (j 1).val = _; rw [hi.2]; omega

theorem iblk8 (h : m ((c : Thread nD τ).loc main_arg8) = arr (φ := .f32) 1 1024 G) (t : Fin cfg0.N) :
    (iblk m c 8 t : Vec Ideal S1x1024 .f32) = arr (φ := .f32) 1 1024 G := by
  have hi := (indices t).2.2.2.2.2.2.2.2.1
  funext j
  unfold iblk
  rw [View.read_apply]
  show V m c main_arg8 _ = _
  rw [V_main_arg8, h]
  unfold arr
  refine congrArg₂ G ?_ ?_
  · show win0_8.index t 0 * 1 + 1 * (j 0).val = _; rw [hi.1]; omega
  · show win0_8.index t 1 * 1024 + 1 * (j 1).val = _; rw [hi.2]; omega

theorem iblk9 (h : m ((c : Thread nD τ).loc main_arg9) = arr (φ := .f32) 4096 1024 R) (t : Fin cfg0.N) :
    (iblk m c 9 t : Vec Ideal S512x1024 .f32) = arr (φ := .f32) 512 1024 (fun r d => R (512 * t.val + r) d) := by
  have hi := (indices t).2.2.2.2.2.2.2.2.2.1
  funext j
  unfold iblk
  rw [View.read_apply]
  show V m c main_arg9 _ = _
  rw [V_main_arg9, h]
  unfold arr
  refine congrArg₂ R ?_ ?_
  · show win0_9.index t 0 * 512 + 1 * (j 0).val = _; rw [hi.1]; omega
  · show win0_9.index t 1 * 1024 + 1 * (j 1).val = _; rw [hi.2]; omega

theorem pay1 (X : ℕ → ℕ → EReal) : k0_pay1 (arr (φ := .f32) 512 1024 X)
    = arr (φ := .f32) 512 1 (fun i _ => rms 1024 0x44800000#32 (X i)) := by
  funext j
  idx_vars j
  unfold k0_pay1 arr rms ms
  pointwise

theorem pay2 (X : ℕ → ℕ → EReal) : k0_pay2 (arr (φ := .f32) 512 1024 X)
    = arr (φ := .f32) 512 1024 (fun i d => X i d * rms 1024 0x44800000#32 (X i)) := by
  unfold k0_pay2
  rw [pay1]
  funext j
  idx_vars j
  unfold arr
  pointwise

/-- A block's part of the gradient of the scale. -/
theorem pay3 (D X : ℕ → ℕ → EReal) : k0_pay3 (arr (φ := .f32) 512 1024 D) (arr (φ := .f32) 512 1024 X)
      = arr (φ := .f32) 1 1024 (fun _ d => ∑ i : Fin 512, D i.val d * (X i.val d * rms 1024 0x44800000#32 (X i.val))) := by
  unfold k0_pay3
  rw [pay2]
  funext j
  idx_vars j
  unfold arr
  pointwise

/-- The gradient of a block's rows. -/
theorem pay4 (D X G R : ℕ → ℕ → EReal) :
    k0_pay4 (arr (φ := .f32) 512 1024 D) (arr (φ := .f32) 512 1024 X) (arr (φ := .f32) 1 1024 G) (arr (φ := .f32) 512 1024 R)
      = arr (φ := .f32) 512 1024 (fun i d => across 1024 0x44800000#32 (X i) (fun k => D i k * G 0 k) d + R i d) := by
  unfold k0_pay4
  rw [pay1, pay2]
  funext j
  idx_vars j
  unfold arr across
  pointwise

/-- The gradient of a block's normed rows. -/
theorem pay12 (U W : ℕ → ℕ → EReal) :
    k0_pay12 (arr (φ := .bf16) 512 2304 U) (arr (φ := .bf16) 2304 1024 W) = arr (φ := .f32) 512 1024 (dy U W) := by
  funext j
  idx_vars j
  unfold k0_pay12 arr dy
  pointwise

variable (h0 : m ((c : Thread nD τ).loc main_arg0) = arr (φ := .f32) 4096 512 Q)
  (h1 : m ((c : Thread nD τ).loc main_arg1) = arr (φ := .f32) 4096 512 K)
  (h2 : m ((c : Thread nD τ).loc main_arg2) = arr (φ := .f32) 4096 512 V₁)
  (h3 : m ((c : Thread nD τ).loc main_arg3) = arr (φ := .f32) 4096 256 L)
  (h4 : m ((c : Thread nD τ).loc main_arg4) = arr (φ := .f32) 4096 128 E)
  (h5 : m ((c : Thread nD τ).loc main_arg5) = arr (φ := .f32) 4096 384 C)
  (h6 : m ((c : Thread nD τ).loc main_arg6) = arr (φ := .f32) 2304 1024 W)
  (h7 : m ((c : Thread nD τ).loc main_arg7) = arr (φ := .f32) 4096 1024 X)
  (h8 : m ((c : Thread nD τ).loc main_arg8) = arr (φ := .f32) 1 1024 G)
  (h9 : m ((c : Thread nD τ).loc main_arg9) = arr (φ := .f32) 4096 1024 R)
include h0 h1 h2 h3 h4 h5

omit h0 h1 h2 h3 h4 h5 in
/-- The six arrays stored side by side. -/
theorem pieces (Q K V₁ L E C : ℕ → ℕ → EReal) : View.canon (Val := Elt Ideal) (e := .bf16)
      [⟨Rect.unit ![0, 1920] ![512, 384] inb_S512x2304_S512x384_0_1920, k0_pay11 (F := Ideal) (arr (φ := .bf16) 512 384 C)⟩,
        ⟨Rect.unit ![0, 1792] ![512, 128] inb_S512x2304_S512x128_0_1792, k0_pay10 (F := Ideal) (arr (φ := .bf16) 512 128 E)⟩,
        ⟨Rect.unit ![0, 1536] ![512, 256] inb_S512x2304_S512x256_0_1536, k0_pay9 (F := Ideal) (arr (φ := .bf16) 512 256 L)⟩,
        ⟨Rect.unit ![0, 1024] ![512, 512] inb_S512x2304_S512x512_0_1024, k0_pay8 (F := Ideal) (arr (φ := .bf16) 512 512 V₁)⟩,
        ⟨Rect.unit ![0, 512] ![512, 512] inb_S512x2304_S512x512_0_512, k0_pay7 (F := Ideal) (arr (φ := .bf16) 512 512 K)⟩,
        ⟨Rect.unit ![0, 0] ![512, 512] inb_S512x2304_S512x512_0_0, k0_pay6 (F := Ideal) (arr (φ := .bf16) 512 512 Q)⟩]
      = arr (φ := .bf16) 512 2304 (side Q K V₁ L E C) := by
  refine ColsTo.eq (ColsTo.cons (o := 1920) _ (shapeCast_self _ _) ?_ (ColsTo.cons (o := 1792) _ (shapeCast_self _ _) ?_
    (ColsTo.cons (o := 1536) _ (shapeCast_self _ _) ?_ (ColsTo.cons (o := 1024) _ (shapeCast_self _ _) ?_
    (ColsTo.cons (o := 512) _ (shapeCast_self _ _) ?_ (ColsTo.cons (o := 0) _ (shapeCast_self _ _) ?_ (ColsTo.nil _)))))))
  all_goals
    intro i q hq
    unfold side
    split_ifs <;> first | (exfalso; omega) | (congr 1; omega)

theorem final10 : (dats m 0 c).arrAt 10 cfg0.N = arr (φ := .bf16) 4096 2304 (side Q K V₁ L E C) := by
  refine (dats m 0 c).arrAt_eq_of_covers 10 _ (by decide +kernel) fun t hf y => ?_
  blk_simp
  rw [after0_10]
  have e : (outsAt0 m c t.val t.isLt).1 = arr (φ := .bf16) 512 2304 (fun i q => side Q K V₁ L E C (512 * t.val + i) q) := by
    by_cases h : t.val % 8 = 0
    · rw [outsAt0_A m c t h (by have h' : t.val < 8 := t.isLt; omega)]
      frame_out
      rw [iblk0 m c h0 t, iblk1 m c h1 t, iblk2 m c h2 t, iblk3 m c h3 t, iblk4 m c h4 t, iblk5 m c h5 t]
      exact pieces _ _ _ _ _ _
    · rw [outsAt0_B m c t h (by omega)]
      frame_out
      rw [iblk0 m c h0 t, iblk1 m c h1 t, iblk2 m c h2 t, iblk3 m c h3 t, iblk4 m c h4 t, iblk5 m c h5 t]
      exact pieces _ _ _ _ _ _
  rw [e]
  obtain ⟨e0, e1⟩ := (indices t).2.2.2.2.2.2.2.2.2.2.1
  have hq : ((win0_10.blk t).view.emb y 0).val = 512 * t.val + (y 0).val := by
    show win0_10.index t 0 * 512 + 1 * (y 0).val = _
    rw [e0]; omega
  have hd : ((win0_10.blk t).view.emb y 1).val = (y 1).val := by
    show win0_10.index t 1 * 2304 + 1 * (y 1).val = _
    rw [e1]; omega
  unfold arr
  rw [hq, hd]

include h6

/-- The gradient of a point's normed rows: the six arrays read back side by side, times the weights. -/
theorem dyAt (t : Fin cfg0.N) (v : View sig .tc .vmem S512x2304 .bf16) : k0_pay12 (F := Ideal)
      (v.readCov (Val := Elt Ideal)
        [⟨Rect.unit ![0, 1920] ![512, 384] inb_S512x2304_S512x384_0_1920, k0_pay11 (F := Ideal) (iblk m c 5 t)⟩,
          ⟨Rect.unit ![0, 1792] ![512, 128] inb_S512x2304_S512x128_0_1792, k0_pay10 (F := Ideal) (iblk m c 4 t)⟩,
          ⟨Rect.unit ![0, 1536] ![512, 256] inb_S512x2304_S512x256_0_1536, k0_pay9 (F := Ideal) (iblk m c 3 t)⟩,
          ⟨Rect.unit ![0, 1024] ![512, 512] inb_S512x2304_S512x512_0_1024, k0_pay8 (F := Ideal) (iblk m c 2 t)⟩,
          ⟨Rect.unit ![0, 512] ![512, 512] inb_S512x2304_S512x512_0_512, k0_pay7 (F := Ideal) (iblk m c 1 t)⟩,
          ⟨Rect.unit ![0, 0] ![512, 512] inb_S512x2304_S512x512_0_0, k0_pay6 (F := Ideal) (iblk m c 0 t)⟩]
        (Rect.unit (s := S512x2304) ![0, 0] ![512, 2304] inb_S512x2304_S512x2304_0_0).toLoadRect) (iblk m c 6 t)
      = arr (φ := .f32) 512 1024 (fun i d => dy (side Q K V₁ L E C) W (512 * t.val + i) d) := by
  rw [iblk0 m c h0 t, iblk1 m c h1 t, iblk2 m c h2 t, iblk3 m c h3 t, iblk4 m c h4 t, iblk5 m c h5 t, iblk6 m c h6 t]
  exact (congrArg (fun z => k0_pay12 z (arr (φ := .bf16) 2304 1024 W))
    ((readCov_whole (S := S512x2304) v inb_S512x2304_S512x2304_0_0 _ (by decide)).trans (pieces _ _ _ _ _ _))).trans (pay12 _ W)

include h7

/-- A point's part of the gradient of the scale. -/
theorem part (t : Fin cfg0.N) :
    k0_pay3 (arr (φ := .f32) 512 1024 (fun i d => dy (side Q K V₁ L E C) W (512 * t.val + i) d)) (iblk m c 7 t)
    = arr (φ := .f32) 1 1024 (fun _ d => ∑ i : Fin 512, dy (side Q K V₁ L E C) W (512 * t.val + i.val) d
      * (X (512 * t.val + i.val) d * rms 1024 0x44800000#32 (X (512 * t.val + i.val)))) := by
  rw [iblk7 m c h7 t]
  exact pay3 _ (fun r d => X (512 * t.val + r) d)

/-- The gradient of the scale the kernel leaves. -/
theorem final12 : (dats m 0 c).arrAt 12 cfg0.N = arr (φ := .f32) 1 1024 (fun _ d => ∑ i : Fin 4096,
    dy (side Q K V₁ L E C) W i.val d * (X i.val d * rms 1024 0x44800000#32 (X i.val))) := by
  refine (dats m 0 c).arrAt_eq_of_after_last 12 t0_7 (by decide +kernel) _ fun j => ?_
  blk_simp
  rw [after0_12]
  rw [Pipeline.eq_sum_fin_of_reset_step_apply_last (fun n h => (outsAt0 m c n h).2.2) 8 (fun _ => 0)
    (fun t j => ∑ i : Fin 512, dy (side Q K V₁ L E C) W (512 * t.val + i.val) (j 1).val
      * (X (512 * t.val + i.val) (j 1).val * rms 1024 0x44800000#32 (X (512 * t.val + i.val))))
    (fun t h j => by
      rw [outsAt0_A m c t h (by have h' : t.val < 8 := t.isLt; omega)]
      frame_out
      rw [dyAt m c h0 h1 h2 h3 h4 h5 h6 t, part m c h0 h1 h2 h3 h4 h5 h6 h7 t]
      simp [arr])
    (fun t h j => by
      rw [outsAt0_B m c t h (by omega)]
      frame_out
      unfold k0_pay5
      rw [dyAt m c h0 h1 h2 h3 h4 h5 h6 t, part m c h0 h1 h2 h3 h4 h5 h6 h7 t]
      rw [shapeCast_self]
      rfl)
    (by decide +kernel) t0_7 rfl _]
  have e := sum_blocks 8 512 4096 rfl
    (fun i => dy (side Q K V₁ L E C) W i (j 1).val * (X i (j 1).val * rms 1024 0x44800000#32 (X i)))
  exact (zero_add (M := EReal) _).trans e

include h8 h9

/-- The gradient of the rows the kernel leaves. -/
theorem final11 : (dats m 0 c).arrAt 11 cfg0.N = arr (φ := .f32) 4096 1024
    (fun i d => across 1024 0x44800000#32 (X i) (fun k => dy (side Q K V₁ L E C) W i k * G 0 k) d + R i d) := by
  refine (dats m 0 c).arrAt_eq_of_covers 11 _ (by decide +kernel) fun t hf y => ?_
  blk_simp
  rw [after0_11]
  have e : (outsAt0 m c t.val t.isLt).2.1 = k0_pay4
      (arr (φ := .f32) 512 1024 (fun i d => dy (side Q K V₁ L E C) W (512 * t.val + i) d)) (iblk m c 7 t) (iblk m c 8 t) (iblk m c 9 t) := by
    by_cases h : t.val % 8 = 0
    · rw [outsAt0_A m c t h (by have h' : t.val < 8 := t.isLt; omega)]
      frame_out
      rw [dyAt m c h0 h1 h2 h3 h4 h5 h6 t]
    · rw [outsAt0_B m c t h (by omega)]
      frame_out
      rw [dyAt m c h0 h1 h2 h3 h4 h5 h6 t]
  rw [e, iblk7 m c h7 t, iblk8 m c h8 t, iblk9 m c h9 t]
  rw [pay4 (fun i d => dy (side Q K V₁ L E C) W (512 * t.val + i) d) (fun r d => X (512 * t.val + r) d) G
    (fun r d => R (512 * t.val + r) d)]
  obtain ⟨e0, e1⟩ := (indices t).2.2.2.2.2.2.2.2.2.2.2.1
  have hq : ((win0_11.blk t).view.emb y 0).val = 512 * t.val + (y 0).val := by
    show win0_11.index t 0 * 512 + 1 * (y 0).val = _
    rw [e0]; omega
  have hd : ((win0_11.blk t).view.emb y 1).val = (y 1).val := by
    show win0_11.index t 1 * 1024 + 1 * (y 1).val = _
    rw [e1]; omega
  unfold arr
  rw [hq, hd]

end Cert.InBwdIdeal.Norm
end
-- ==== Proof.InW.lean ====
/-
The gradient of the input projections' weights: what the kernel leaves is the reference's product, summed over four
runs of rows.
-/
module

public import proofs.«01_k».proof.Proof.Arr
public import proofs.«01_k».proof.Proof.Gen.InWIdeal.Value
public import proofs.«01_k».proof.Proof.Gen.InWRefIdeal.Read
public import Idealize.ShloMosaic.Lib.StableHlo.ReadAt

@[expose] public section

set_option maxRecDepth 16384

noncomputable section

open Idealize.ShloMosaic Idealize.ShloMosaic.TcCoe Idealize.SL.Sem

namespace Cert.InWRefIdeal.Product

open Cert.InWRefIdeal Cert.InWRefIdeal.Gen Cert.InWRefIdeal.Read Cert.Arr

/-- The reference's product. -/
theorem v5_eq {U H : ℕ → ℕ → EReal} {x0 : FVec Ideal S4096x2304 .f32} {x1 : FVec Ideal S4096x1024 .f32}
    (h0 : x0 = arr 4096 2304 U) (h1 : x1 = arr 4096 1024 H) : val_main_v5 (F := Ideal) x0 x1
      = arr (φ := .f32) 2304 1024 (fun q d => ∑ r : Fin 4096, U r.val q * H r.val d) := by
  unfold val_main_v5 val_main_v4 val_main_v3
  rw [h0, h1]
  funext j
  idx_vars j
  unfold arr
  pointwise

end Cert.InWRefIdeal.Product

namespace Cert.InWIdeal.Product

open Cert.InWIdeal Cert.InWIdeal.Gen Cert.Arr

variable (m : (ℓ : Loc nD τ sig) → Buf (Elt Ideal) ℓ) (c : Dev nD)

/-- The block indices at a point. -/
theorem indices : ∀ t : Fin cfg0.N,
    (win0_0.index t 0 = t.val ∧ win0_0.index t 1 = 0)
    ∧ (win0_1.index t 0 = t.val ∧ win0_1.index t 1 = 0)
    ∧ (win0_2.index t 0 = 0 ∧ win0_2.index t 1 = 0) :=
  (by decide +kernel : ∀ t : Fin grid0.N, _)

variable {U H : ℕ → ℕ → EReal}

theorem iblk0 (h : m ((c : Thread nD τ).loc main_arg0) = arr (φ := .f32) 4096 2304 U) (t : Fin cfg0.N) :
    (iblk m c 0 t : Vec Ideal S1024x2304 .bf16) = arr (φ := .bf16) 1024 2304 (fun r d => U (1024 * t.val + r) d) := by
  have hi := (indices t).1
  funext j
  unfold iblk
  rw [View.read_apply]
  show V m c main_v0 _ = _
  unfold V
  after_reads_at
  show m ((c : Thread nD τ).loc main_arg0) _ = _
  rw [h]
  unfold arr
  refine congrArg₂ U ?_ ?_
  · show win0_0.index t 0 * 1024 + 1 * (j 0).val = _; rw [hi.1]; omega
  · show win0_0.index t 1 * 2304 + 1 * (j 1).val = _; rw [hi.2]; omega

theorem iblk1 (h : m ((c : Thread nD τ).loc main_arg1) = arr (φ := .f32) 4096 1024 H) (t : Fin cfg0.N) :
    (iblk m c 1 t : Vec Ideal S1024x1024 .bf16) = arr (φ := .bf16) 1024 1024 (fun r d => H (1024 * t.val + r) d) := by
  have hi := (indices t).2.1
  funext j
  unfold iblk
  rw [View.read_apply]
  show V m c main_v1 _ = _
  unfold V
  after_reads_at
  show m ((c : Thread nD τ).loc main_arg1) _ = _
  rw [h]
  unfold arr
  refine congrArg₂ H ?_ ?_
  · show win0_1.index t 0 * 1024 + 1 * (j 0).val = _; rw [hi.1]; omega
  · show win0_1.index t 1 * 1024 + 1 * (j 1).val = _; rw [hi.2]; omega

/-- The products of the 1024 rows of a point. -/
def part (U H : ℕ → ℕ → EReal) (t q d : ℕ) : EReal :=
  ∑ r : Fin 1024, U (1024 * t + r.val) q * H (1024 * t + r.val) d

theorem pay1 (h0 : m ((c : Thread nD τ).loc main_arg0) = arr (φ := .f32) 4096 2304 U)
    (h1 : m ((c : Thread nD τ).loc main_arg1) = arr (φ := .f32) 4096 1024 H) (t : Fin cfg0.N) :
    k0_pay1 (iblk m c 0 t) (iblk m c 1 t) = arr (φ := .f32) 2304 1024 (part U H t.val) := by
  refine (congrArg₂ k0_pay1 (iblk0 m c h0 t) (iblk1 m c h1 t)).trans ?_
  funext j
  idx_vars j
  unfold k0_pay1 arr part
  pointwise

/-- What the kernel leaves. -/
theorem final (h0 : m ((c : Thread nD τ).loc main_arg0) = arr (φ := .f32) 4096 2304 U)
    (h1 : m ((c : Thread nD τ).loc main_arg1) = arr (φ := .f32) 4096 1024 H) :
    (dats m 0 c).arrAt 2 cfg0.N = arr (φ := .f32) 2304 1024 (fun q d => ∑ r : Fin 4096, U r.val q * H r.val d) := by
  refine (dats m 0 c).arrAt_eq_of_after_last 2 t0_3 (by decide +kernel) _ fun j => ?_
  blk_simp
  rw [after0_2]
  rw [Pipeline.eq_sum_fin_of_reset_step_apply_last (fun n h => outsAt0 m c n h) 4 (fun _ => 0)
    (fun t j => part U H t.val (j 0).val (j 1).val)
    (fun t h j => by
      rw [outsAt0_A m c t h (by have h' : t.val < 4 := t.isLt; omega)]
      frame_out
      rw [pay1 m c h0 h1 t]
      simp [arr])
    (fun t h j => by
      rw [outsAt0_B m c t h (by omega)]
      frame_out
      unfold k0_pay2
      rw [pay1 m c h0 h1 t]
      rw [shapeCast_self]
      rfl)
    (by decide +kernel) t0_3 rfl _]
  have e := sum_blocks 4 1024 4096 rfl (fun r => U r (j 0).val * H r (j 1).val)
  exact (zero_add (M := EReal) _).trans e

end Cert.InWIdeal.Product
end
-- ==== Proof.UkvBwd.lean ====
/-
The gradient through the projection of the compressed rows and the norm before it: what the kernel leaves, and the
reference's results.
-/
module

public import proofs.«01_k».proof.Proof.NormBwd
public import proofs.«01_k».proof.Proof.Cols
public import proofs.«01_k».proof.Proof.Gen.UkvBwdIdeal.Value
public import proofs.«01_k».proof.Proof.Gen.UkvBwdRefIdeal.Read
public import Idealize.ShloMosaic.Lib.StableHlo.ReadAt

@[expose] public section

set_option maxRecDepth 16384

noncomputable section

open Idealize.ShloMosaic Idealize.ShloMosaic.TcCoe Idealize.SL.Sem

namespace Cert.UkvBwdRefIdeal.Norm

open Cert.UkvBwdRefIdeal Cert.UkvBwdRefIdeal.Gen Cert.UkvBwdRefIdeal.Read Cert.Arr Cert.Conv

/-- The gradient of the normed rows. -/
def dn (U W : ℕ → ℕ → EReal) (i d : ℕ) : EReal := ∑ q : Fin 1024, U i q.val * W d q.val

/-- The compressed rows: 256 columns of the input projections' product. -/
def part (P : ℕ → ℕ → EReal) (i d : ℕ) : EReal := P i (1536 + d)

variable {K V₁ W P G C : ℕ → ℕ → EReal} {x0 x1 : FVec Ideal S4096x512 .f32} {x2 : FVec Ideal S256x1024 .f32}
  {x3 : FVec Ideal S4096x2304 .f32} {x4 : FVec Ideal S1x256 .f32} {x5 : FVec Ideal S4096x256 .f32}

theorem v0_eq (h0 : x0 = arr 4096 512 K) (h1 : x1 = arr 4096 512 V₁) :
    val_main_v0 (F := Ideal) x0 x1 = arr (φ := .f32) 4096 1024 (pair 512 K V₁) := by
  unfold val_main_v0
  rw [h0, h1]
  funext j
  idx_vars j
  unfold arr pair
  pointwise
  split_ifs <;> first | rfl | (exfalso; omega) | (congr 1; omega)

/-- The reference's gradient of the weights. -/
theorem v3_eq (h0 : x0 = arr 4096 512 K) (h1 : x1 = arr 4096 512 V₁) (h5 : x5 = arr 4096 256 C) :
    val_main_v3 (F := Ideal) x0 x1 x5
      = arr (φ := .f32) 256 1024 (fun q d => ∑ i : Fin 4096, pair 512 K V₁ i.val d * C i.val q) := by
  unfold val_main_v3 val_main_v2
  rw [v0_eq h0 h1, h5]
  funext j
  idx_vars j
  unfold arr
  pointwise

theorem v21_eq (h0 : x0 = arr 4096 512 K) (h1 : x1 = arr 4096 512 V₁) (h2 : x2 = arr 256 1024 W) :
    val_main_v21 (F := Ideal) x0 x1 x2 = arr (φ := .f32) 4096 256 (dn (pair 512 K V₁) W) := by
  unfold val_main_v21
  rw [v0_eq h0 h1, h2]
  funext j
  idx_vars j
  unfold arr dn
  pointwise

theorem v4_eq (h3 : x3 = arr 4096 2304 P) : val_main_v4 (F := Ideal) x3 = arr (φ := .f32) 4096 256 (part P) := by
  unfold val_main_v4
  rw [h3]
  funext j
  idx_vars j
  unfold arr part
  pointwise

theorem v11_eq (h3 : x3 = arr 4096 2304 P) :
    val_main_v11 (F := Ideal) x3 = arr (φ := .f32) 4096 1 (fun i _ => ms 256 0x43800000#32 (part P i)) := by
  unfold val_main_v11 val_main_v10 val_main_v9 val_main_v8 val_main_v7 val_main_v6 val_main_v5 val_main_cst val_main_cst_0
    val_main_cst_1
  rw [v4_eq h3]
  funext j
  idx_vars j
  unfold arr ms
  pointwise

theorem v12_eq (h3 : x3 = arr 4096 2304 P) :
    val_main_v12 (F := Ideal) x3 = arr (φ := .f32) 4096 1 (fun i _ => rms 256 0x43800000#32 (part P i)) := by
  unfold val_main_v12
  rw [v11_eq h3]
  funext j
  idx_vars j
  unfold arr rms
  pointwise

/-- The reference's gradient of the scale. -/
theorem v24_eq (h0 : x0 = arr 4096 512 K) (h1 : x1 = arr 4096 512 V₁) (h2 : x2 = arr 256 1024 W) (h3 : x3 = arr 4096 2304 P) :
    val_main_v24 (F := Ideal) x0 x1 x2 x3 = arr (φ := .f32) 1 256 (fun _ d => ∑ i : Fin 4096,
      part P i.val d * rms 256 0x43800000#32 (part P i.val) * dn (pair 512 K V₁) W i.val d) := by
  unfold val_main_v24 val_main_v23 val_main_v22 val_main_v17 val_main_v16 val_main_cst_3
  rw [v21_eq h0 h1 h2, v12_eq h3, v4_eq h3]
  funext j
  idx_vars j
  unfold arr
  pointwise

theorem v26_eq (h0 : x0 = arr 4096 512 K) (h1 : x1 = arr 4096 512 V₁) (h2 : x2 = arr 256 1024 W) (h4 : x4 = arr 1 256 G) :
    val_main_v26 (F := Ideal) x0 x1 x2 x4 = arr (φ := .f32) 4096 256 (fun i d => dn (pair 512 K V₁) W i d * G 0 d) := by
  unfold val_main_v26 val_main_v25
  rw [v21_eq h0 h1 h2, h4]
  funext j
  idx_vars j
  unfold arr
  pointwise

/-- The reference's gradient of the compressed rows. -/
theorem v41_eq (h0 : x0 = arr 4096 512 K) (h1 : x1 = arr 4096 512 V₁) (h2 : x2 = arr 256 1024 W) (h3 : x3 = arr 4096 2304 P)
    (h4 : x4 = arr 1 256 G) :
    val_main_v41 (F := Ideal) x0 x1 x2 x3 x4 = arr (φ := .bf16) 4096 256
      (fun i d => chain 256 0x43800000#32 (part P i) (fun k => dn (pair 512 K V₁) W i k * G 0 k) d) := by
  unfold val_main_v41 val_main_v40 val_main_v39 val_main_v38 val_main_v37 val_main_v36 val_main_v35 val_main_v34 val_main_v33 val_main_v32 val_main_v31 val_main_v30 val_main_v29 val_main_v28 val_main_v27
    val_main_v15 val_main_v14 val_main_v13 val_main_cst_2 val_main_cst_4 val_main_cst_5 val_main_cst_6
  rw [v26_eq h0 h1 h2 h4, v12_eq h3, v11_eq h3, v4_eq h3]
  funext j
  idx_vars j
  unfold arr chain dms
  pointwise
  simp only [Finset.univ_unique, Finset.sum_singleton]

theorem f256 : (Ideal.ofBits .f32 0x43800000#32 : EReal) = ((256 : ℝ) : EReal) := by
  simp [Ideal.ofBits, Ideal.ieee]
  rw [← EReal.coe_mul]
  norm_num

theorem pair_real (k v : ℕ → ℕ → ℝ) : ∃ u : ℕ → ℕ → ℝ, ∀ i c,
    pair 512 (fun i c => ((k i c : ℝ) : EReal)) (fun i c => ((v i c : ℝ) : EReal)) i c = ((u i c : ℝ) : EReal) := by
  refine ⟨fun i c => if c < 512 then k i c else v i (c - 512), fun i c => ?_⟩
  unfold pair
  beta_reduce
  split_ifs <;> rfl

/-- The kernel's gradient of the compressed rows is the reference's. -/
theorem join (k v w p g : ℕ → ℕ → ℝ) (i d : ℕ) :
    across 256 0x43800000#32 (part (fun i c => ((p i c : ℝ) : EReal)) i)
        (fun c => dn (pair 512 (fun i c => ((k i c : ℝ) : EReal)) (fun i c => ((v i c : ℝ) : EReal)))
          (fun i c => ((w i c : ℝ) : EReal)) i c * ((g 0 c : ℝ) : EReal)) d
      = chain 256 0x43800000#32 (part (fun i c => ((p i c : ℝ) : EReal)) i)
        (fun c => dn (pair 512 (fun i c => ((k i c : ℝ) : EReal)) (fun i c => ((v i c : ℝ) : EReal)))
          (fun i c => ((w i c : ℝ) : EReal)) i c * ((g 0 c : ℝ) : EReal)) d := by
  obtain ⟨u, hu⟩ := pair_real k v
  have hd : ∀ i d, dn (pair 512 (fun i c => ((k i c : ℝ) : EReal)) (fun i c => ((v i c : ℝ) : EReal)))
      (fun i c => ((w i c : ℝ) : EReal)) i d = ((∑ q ∈ Finset.range 1024, u i q * w d q : ℝ) : EReal) := fun i d => by
    unfold dn
    simp only [hu, ← EReal.coe_mul]
    exact coe_sum_range 1024 (fun q => u i q * w d q)
  simp only [hd, ← EReal.coe_mul]
  exact across_eq_chain 256 _ 256 f256 (by norm_num) (fun c => p i (1536 + c))
    (fun c => (∑ q ∈ Finset.range 1024, u i q * w c q) * g 0 c) d

end Cert.UkvBwdRefIdeal.Norm

namespace Cert.UkvBwdIdeal.Norm

open Cert.UkvBwdIdeal Cert.UkvBwdIdeal.Gen Cert.Arr
open Cert.UkvBwdRefIdeal.Norm (dn part)

variable (m : (ℓ : Loc nD τ sig) → Buf (Elt Ideal) ℓ) (c : Dev nD)

/-- The block indices at a point. -/
theorem indices : ∀ t : Fin cfg0.N,
    (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = t.val ∧ win0_3.index t 1 = 6)
    ∧ (win0_4.index t 0 = 0 ∧ win0_4.index t 1 = 0)
    ∧ (win0_5.index t 0 = t.val ∧ win0_5.index t 1 = 0)
    ∧ (win0_6.index t 0 = 0 ∧ win0_6.index t 1 = 0)
    ∧ (win0_7.index t 0 = t.val ∧ win0_7.index t 1 = 0)
    ∧ (win0_8.index t 0 = 0 ∧ win0_8.index t 1 = 0) :=
  (by decide +kernel : ∀ t : Fin grid0.N, _)

variable {K V₁ W P G C : ℕ → ℕ → EReal}

theorem iblk0 (h : m ((c : Thread nD τ).loc main_arg0) = arr (φ := .f32) 4096 512 K) (t : Fin cfg0.N) :
    (iblk m c 0 t : Vec Ideal S512x512 .bf16) = arr (φ := .bf16) 512 512 (fun r d => K (512 * t.val + r) d) := by
  have hi := (indices t).1
  funext j
  unfold iblk
  rw [View.read_apply]
  show V m c main_v0 _ = _
  unfold V
  after_reads_at
  show m ((c : Thread nD τ).loc main_arg0) _ = _
  rw [h]
  unfold arr
  refine congrArg₂ K ?_ ?_
  · show win0_0.index t 0 * 512 + 1 * (j 0).val = _; rw [hi.1]; omega
  · show win0_0.index t 1 * 512 + 1 * (j 1).val = _; rw [hi.2]; omega

theorem iblk1 (h : m ((c : Thread nD τ).loc main_arg1) = arr (φ := .f32) 4096 512 V₁) (t : Fin cfg0.N) :
    (iblk m c 1 t : Vec Ideal S512x512 .bf16) = arr (φ := .bf16) 512 512 (fun r d => V₁ (512 * t.val + r) d) := by
  have hi := (indices t).2.1
  funext j
  unfold iblk
  rw [View.read_apply]
  show V m c main_v1 _ = _
  unfold V
  after_reads_at
  show m ((c : Thread nD τ).loc main_arg1) _ = _
  rw [h]
  unfold arr
  refine congrArg₂ V₁ ?_ ?_
  · show win0_1.index t 0 * 512 + 1 * (j 0).val = _; rw [hi.1]; omega
  · show win0_1.index t 1 * 512 + 1 * (j 1).val = _; rw [hi.2]; omega

theorem iblk2 (h : m ((c : Thread nD τ).loc main_arg2) = arr (φ := .f32) 256 1024 W) (t : Fin cfg0.N) :
    (iblk m c 2 t : Vec Ideal S256x1024 .bf16) = arr (φ := .bf16) 256 1024 W := by
  have hi := (indices t).2.2.1
  funext j
  unfold iblk
  rw [View.read_apply]
  show V m c main_v2 _ = _
  unfold V
  after_reads_at
  show m ((c : Thread nD τ).loc main_arg2) _ = _
  rw [h]
  unfold arr
  refine congrArg₂ W ?_ ?_
  · show win0_2.index t 0 * 256 + 1 * (j 0).val = _; rw [hi.1]; omega
  · show win0_2.index t 1 * 1024 + 1 * (j 1).val = _; rw [hi.2]; omega

theorem iblk3 (h : m ((c : Thread nD τ).loc main_arg3) = arr (φ := .f32) 4096 2304 P) (t : Fin cfg0.N) :
    (iblk m c 3 t : Vec Ideal S512x256 .f32) = arr (φ := .f32) 512 256 (fun r d => P (512 * t.val + r) (1536 + d)) := by
  have hi := (indices t).2.2.2.1
  funext j
  unfold iblk
  rw [View.read_apply]
  show V m c main_arg3 _ = _
  rw [V_main_arg3, h]
  unfold arr
  refine congrArg₂ P ?_ ?_
  · show win0_3.index t 0 * 512 + 1 * (j 0).val = _; rw [hi.1]; omega
  · show win0_3.index t 1 * 256 + 1 * (j 1).val = _; rw [hi.2]; omega

theorem iblk4 (h : m ((c : Thread nD τ).loc main_arg4) = arr (φ := .f32) 1 256 G) (t : Fin cfg0.N) :
    (iblk m c 4 t : Vec Ideal S1x256 .f32) = arr (φ := .f32) 1 256 G := by
  have hi := (indices t).2.2.2.2.1
  funext j
  unfold iblk
  rw [View.read_apply]
  show V m c main_arg4 _ = _
  rw [V_main_arg4, h]
  unfold arr
  refine congrArg₂ G ?_ ?_
  · show win0_4.index t 0 * 1 + 1 * (j 0).val = _; rw [hi.1]; omega
  · show win0_4.index t 1 * 256 + 1 * (j 1).val = _; rw [hi.2]; omega

theorem iblk5 (h : m ((c : Thread nD τ).loc main_arg5) = arr (φ := .f32) 4096 256 C) (t : Fin cfg0.N) :
    (iblk m c 5 t : Vec Ideal S512x256 .bf16) = arr (φ := .bf16) 512 256 (fun r d => C (512 * t.val + r) d) := by
  have hi := (indices t).2.2.2.2.2.1
  funext j
  unfold iblk
  rw [View.read_apply]
  show V m c main_v3 _ = _
  unfold V
  after_reads_at
  show m ((c : Thread nD τ).loc main_arg5) _ = _
  rw [h]
  unfold arr
  refine congrArg₂ C ?_ ?_
  · show win0_5.index t 0 * 512 + 1 * (j 0).val = _; rw [hi.1]; omega
  · show win0_5.index t 1 * 256 + 1 * (j 1).val = _; rw [hi.2]; omega

theorem pay9 (P : ℕ → ℕ → EReal) : k0_pay9 (arr (φ := .f32) 512 256 P) = arr (φ := .f32) 512 1 (fun i _ => rms 256 0x43800000#32 (P i)) := by
  funext j
  idx_vars j
  unfold k0_pay9 arr rms ms
  pointwise

theorem pay10 (P : ℕ → ℕ → EReal) : k0_pay10 (arr (φ := .f32) 512 256 P)
    = arr (φ := .f32) 512 256 (fun i d => P i d * rms 256 0x43800000#32 (P i)) := by
  unfold k0_pay10
  rw [pay9]
  funext j
  idx_vars j
  unfold arr
  pointwise

theorem pay8 (D W : ℕ → ℕ → EReal) : k0_pay8 (arr (φ := .bf16) 512 1024 D) (arr (φ := .bf16) 256 1024 W) = arr (φ := .f32) 512 256 (dn D W) := by
  funext j
  idx_vars j
  unfold k0_pay8 arr dn
  pointwise

theorem pay11 (D W G : ℕ → ℕ → EReal) : k0_pay11 (arr (φ := .bf16) 512 1024 D) (arr (φ := .bf16) 256 1024 W) (arr (φ := .f32) 1 256 G)
    = arr (φ := .f32) 512 256 (fun i d => dn D W i d * G 0 d) := by
  unfold k0_pay11
  rw [pay8]
  funext j
  idx_vars j
  unfold arr
  pointwise

/-- The gradient of the compressed rows, a block of them. -/
theorem pay2 (D W P G : ℕ → ℕ → EReal) :
    k0_pay2 (k0_pay9 (arr (φ := .f32) 512 256 P)) (k0_pay11 (arr (φ := .bf16) 512 1024 D) (arr (φ := .bf16) 256 1024 W) (arr (φ := .f32) 1 256 G)) (k0_pay12 (arr (φ := .bf16) 512 1024 D) (arr (φ := .bf16) 256 1024 W) (arr (φ := .f32) 512 256 P) (arr (φ := .f32) 1 256 G))
      = arr (φ := .bf16) 512 256 (fun i d => across 256 0x43800000#32 (P i) (fun k => dn D W i k * G 0 k) d) := by
  unfold k0_pay2 k0_pay12
  rw [pay9, pay10, pay11]
  funext j
  idx_vars j
  unfold arr across
  pointwise

/-- A block's part of the gradient of the scale. -/
theorem pay1 (D W P : ℕ → ℕ → EReal) : k0_pay1 (k0_pay8 (arr (φ := .bf16) 512 1024 D) (arr (φ := .bf16) 256 1024 W)) (k0_pay10 (arr (φ := .f32) 512 256 P))
    = arr (φ := .f32) 1 256 (fun _ d => ∑ i : Fin 512, dn D W i.val d * (P i.val d * rms 256 0x43800000#32 (P i.val))) := by
  rw [pay8, pay10]
  funext j
  idx_vars j
  unfold k0_pay1 arr
  pointwise

/-- A block's part of the gradient of the weights. -/
theorem pay4 (D C : ℕ → ℕ → EReal) : k0_pay4 (arr (φ := .bf16) 512 1024 D) (arr (φ := .bf16) 512 256 C)
    = arr (φ := .f32) 256 1024 (fun q d => ∑ i : Fin 512, C i.val q * D i.val d) := by
  funext j
  idx_vars j
  unfold k0_pay4 arr
  pointwise

theorem pay6 (K : ℕ → ℕ → EReal) : k0_pay6 (arr (φ := .bf16) 512 512 K) = arr (φ := .bf16) 512 512 K := by
  unfold k0_pay6
  simp only [shapeCast_self]

theorem pay7 (K : ℕ → ℕ → EReal) : k0_pay7 (arr (φ := .bf16) 512 512 K) = arr (φ := .bf16) 512 512 K := by
  unfold k0_pay7
  simp only [shapeCast_self]

/-- The two gradients stored side by side. -/
theorem pieces (K V₁ : ℕ → ℕ → EReal) : View.canon (Val := Elt Ideal) (e := .bf16)
      [⟨Rect.unit ![0, 512] ![512, 512] inb_S512x1024_S512x512_0_512, k0_pay7 (F := Ideal) (arr (φ := .bf16) 512 512 V₁)⟩,
        ⟨Rect.unit ![0, 0] ![512, 512] inb_S512x1024_S512x512_0_0, k0_pay6 (F := Ideal) (arr (φ := .bf16) 512 512 K)⟩]
      = arr (φ := .bf16) 512 1024 (pair 512 K V₁) := by
  refine ColsTo.eq (ColsTo.cons (o := 512) _ (pay7 V₁) ?_ (ColsTo.cons (o := 0) _ (pay6 K) ?_ (ColsTo.nil _)))
  all_goals
    intro i q hq
    unfold pair
    split_ifs <;> first | (exfalso; omega) | (congr 1; omega)

variable (h0 : m ((c : Thread nD τ).loc main_arg0) = arr (φ := .f32) 4096 512 K)
  (h1 : m ((c : Thread nD τ).loc main_arg1) = arr (φ := .f32) 4096 512 V₁)
  (h2 : m ((c : Thread nD τ).loc main_arg2) = arr (φ := .f32) 256 1024 W)
  (h3 : m ((c : Thread nD τ).loc main_arg3) = arr (φ := .f32) 4096 2304 P)
  (h4 : m ((c : Thread nD τ).loc main_arg4) = arr (φ := .f32) 1 256 G)
  (h5 : m ((c : Thread nD τ).loc main_arg5) = arr (φ := .f32) 4096 256 C)
include h0 h1

/-- A point's two gradients, read back side by side. -/
theorem readAt (t : Fin cfg0.N) (v : View sig .tc .vmem S512x1024 .bf16) : v.readCov (Val := Elt Ideal)
      [⟨Rect.unit ![0, 512] ![512, 512] inb_S512x1024_S512x512_0_512, k0_pay7 (F := Ideal) (iblk m c 1 t)⟩,
        ⟨Rect.unit ![0, 0] ![512, 512] inb_S512x1024_S512x512_0_0, k0_pay6 (F := Ideal) (iblk m c 0 t)⟩]
      (Rect.unit (s := S512x1024) ![0, 0] ![512, 1024] inb_S512x1024_S512x1024_0_0).toLoadRect
      = arr (φ := .bf16) 512 1024 (fun i q => pair 512 K V₁ (512 * t.val + i) q) := by
  rw [iblk0 m c h0 t, iblk1 m c h1 t]
  exact (readCov_whole (S := S512x1024) v inb_S512x1024_S512x1024_0_0 _ (by decide)).trans (pieces _ _)

include h5 in
/-- The gradient of the weights the kernel leaves. -/
theorem final6 : (dats m 0 c).arrAt 6 cfg0.N
    = arr (φ := .f32) 256 1024 (fun q d => ∑ i : Fin 4096, C i.val q * pair 512 K V₁ i.val d) := by
  have hp : ∀ t : Fin cfg0.N, k0_pay4 (F := Ideal) (arr (φ := .bf16) 512 1024 (fun i q => pair 512 K V₁ (512 * t.val + i) q)) (iblk m c 5 t)
      = arr (φ := .f32) 256 1024 (fun q d => ∑ i : Fin 512, C (512 * t.val + i.val) q * pair 512 K V₁ (512 * t.val + i.val) d) := fun t => by
    rw [iblk5 m c h5 t]
    exact pay4 _ (fun r d => C (512 * t.val + r) d)
  refine (dats m 0 c).arrAt_eq_of_after_last 6 t0_7 (by decide +kernel) _ fun j => ?_
  blk_simp
  rw [after0_6]
  rw [Pipeline.eq_sum_fin_of_reset_step_apply_last (fun n h => (outsAt0 m c n h).1) 8 (fun _ => 0)
    (fun t j => ∑ i : Fin 512, C (512 * t.val + i.val) (j 0).val * pair 512 K V₁ (512 * t.val + i.val) (j 1).val)
    (fun t h j => by
      have h' : t.val < 8 := t.isLt
      rw [outsAt0_A m c t h (by omega) h (by omega)]
      frame_out
      rw [readAt m c h0 h1 t, hp t]
      simp [arr])
    (fun t h j => by
      rw [outsAt0_B m c t h (by omega) h (by omega)]
      frame_out
      unfold k0_pay5
      rw [readAt m c h0 h1 t, hp t, shapeCast_self]
      rfl)
    (by decide +kernel) t0_7 rfl _]
  have e := sum_blocks 8 512 4096 rfl (fun i => C i (j 0).val * pair 512 K V₁ i (j 1).val)
  exact (zero_add (M := EReal) _).trans e

include h2 h3 in
/-- The gradient of the scale the kernel leaves. -/
theorem final8 : (dats m 0 c).arrAt 8 cfg0.N = arr (φ := .f32) 1 256 (fun _ d => ∑ i : Fin 4096,
    dn (pair 512 K V₁) W i.val d * (part P i.val d * rms 256 0x43800000#32 (part P i.val))) := by
  have hp : ∀ t : Fin cfg0.N, k0_pay1 (F := Ideal)
      (k0_pay8 (arr (φ := .bf16) 512 1024 (fun i q => pair 512 K V₁ (512 * t.val + i) q)) (iblk m c 2 t)) (k0_pay10 (iblk m c 3 t))
      = arr (φ := .f32) 1 256 (fun _ d => ∑ i : Fin 512, dn (pair 512 K V₁) W (512 * t.val + i.val) d
        * (part P (512 * t.val + i.val) d * rms 256 0x43800000#32 (part P (512 * t.val + i.val)))) := fun t => by
    rw [iblk2 m c h2 t, iblk3 m c h3 t]
    exact pay1 _ W (fun r d => part P (512 * t.val + r) d)
  refine (dats m 0 c).arrAt_eq_of_after_last 8 t0_7 (by decide +kernel) _ fun j => ?_
  blk_simp
  rw [after0_8]
  rw [Pipeline.eq_sum_fin_of_reset_step_apply_last (fun n h => (outsAt0 m c n h).2.2) 8 (fun _ => 0)
    (fun t j => ∑ i : Fin 512, dn (pair 512 K V₁) W (512 * t.val + i.val) (j 1).val
        * (part P (512 * t.val + i.val) (j 1).val * rms 256 0x43800000#32 (part P (512 * t.val + i.val))))
    (fun t h j => by
      have h' : t.val < 8 := t.isLt
      rw [outsAt0_A m c t h (by omega) h (by omega)]
      frame_out
      rw [readAt m c h0 h1 t, hp t]
      simp [arr])
    (fun t h j => by
      rw [outsAt0_B m c t h (by omega) h (by omega)]
      frame_out
      unfold k0_pay3
      rw [readAt m c h0 h1 t, hp t, shapeCast_self]
      rfl)
    (by decide +kernel) t0_7 rfl _]
  have e := sum_blocks 8 512 4096 rfl
    (fun i => dn (pair 512 K V₁) W i (j 1).val * (part P i (j 1).val * rms 256 0x43800000#32 (part P i)))
  exact (zero_add (M := EReal) _).trans e

include h2 h3 h4 in
/-- The gradient of the compressed rows the kernel leaves. -/
theorem final7 : (dats m 0 c).arrAt 7 cfg0.N = arr (φ := .bf16) 4096 256
    (fun i d => across 256 0x43800000#32 (part P i) (fun k => dn (pair 512 K V₁) W i k * G 0 k) d) := by
  refine (dats m 0 c).arrAt_eq_of_covers 7 _ (by decide +kernel) fun t hf y => ?_
  blk_simp
  rw [after0_7]
  have e : (outsAt0 m c t.val t.isLt).2.1 = k0_pay2 (k0_pay9 (iblk m c 3 t))
      (k0_pay11 (arr (φ := .bf16) 512 1024 (fun i q => pair 512 K V₁ (512 * t.val + i) q)) (iblk m c 2 t) (iblk m c 4 t))
      (k0_pay12 (arr (φ := .bf16) 512 1024 (fun i q => pair 512 K V₁ (512 * t.val + i) q)) (iblk m c 2 t) (iblk m c 3 t) (iblk m c 4 t)) := by
    have h' : t.val < 8 := t.isLt
    by_cases h : t.val % 8 = 0
    · rw [outsAt0_A m c t h (by omega) h (by omega)]
      frame_out
      rw [readAt m c h0 h1 t]
    · rw [outsAt0_B m c t h (by omega) h (by omega)]
      frame_out
      rw [readAt m c h0 h1 t]
  rw [e, iblk2 m c h2 t, iblk3 m c h3 t, iblk4 m c h4 t]
  rw [pay2 (fun i q => pair 512 K V₁ (512 * t.val + i) q) W (fun r d => P (512 * t.val + r) (1536 + d)) G]
  obtain ⟨e0, e1⟩ := (indices t).2.2.2.2.2.2.2.1
  have hq : ((win0_7.blk t).view.emb y 0).val = 512 * t.val + (y 0).val := by
    show win0_7.index t 0 * 512 + 1 * (y 0).val = _
    rw [e0]; omega
  have hd : ((win0_7.blk t).view.emb y 1).val = (y 1).val := by
    show win0_7.index t 1 * 256 + 1 * (y 1).val = _
    rw [e1]; omega
  unfold arr
  rw [hq, hd]
  rfl

end Cert.UkvBwdIdeal.Norm
end
-- ==== Proof.Loss.lean ====
/-
The down projection, the last norm and the loss with its gradient: what the kernel leaves, and the reference's results.
-/
module

public import proofs.«01_k».proof.Proof.NormBwd
public import proofs.«01_k».proof.Proof.Block
public import proofs.«01_k».proof.Proof.Gen.LossIdeal.Value
public import proofs.«01_k».proof.Proof.Gen.LossRefIdeal.Read
public import Idealize.ShloMosaic.Lib.StableHlo.ReadAt

@[expose] public section

set_option maxRecDepth 16384

noncomputable section

open Idealize.ShloMosaic Idealize.ShloMosaic.TcCoe Idealize.SL.Sem

namespace Cert.LossRefIdeal.Norm

open Cert.LossRefIdeal Cert.LossRefIdeal.Gen Cert.LossRefIdeal.Read Cert.Arr Cert.Conv

/-- The rows: a product added to the rows before. -/
def down (A W R : ℕ → ℕ → EReal) (i d : ℕ) : EReal := R i d + ∑ k : Fin 2816, A i k.val * W k.val d

/-- The normed rows less the target. -/
def diff (Z G Y : ℕ → ℕ → EReal) (i d : ℕ) : EReal := normed 1024 0x44800000#32 Z G i d - Y i d

/-- A row's loss: the mean of the squares. -/
def row (Z G Y : ℕ → ℕ → EReal) (i : ℕ) : EReal :=
  Ideal.div (∑ k : Fin 1024, diff Z G Y i k.val * diff Z G Y i k.val) (Ideal.ofBits .f32 0x44800000#32)

/-- The gradient of the normed rows by the chain rule. -/
def der (Z G Y : ℕ → ℕ → EReal) (i d : ℕ) : EReal :=
  Ideal.div (Ideal.ofBits .f32 0x3F000000#32 * Ideal.ofBits .f32 0x3F800000#32) (Ideal.ofBits .f32 0x44800000#32)
    * (Ideal.ofBits .f32 0x40000000#32 * diff Z G Y i d)

/-- The gradient of the normed rows with one factor. -/
def scaled (Z G Y : ℕ → ℕ → EReal) (i d : ℕ) : EReal := diff Z G Y i d * Ideal.ofBits .f32 0x3A800000#32

variable {A W R G Y : ℕ → ℕ → EReal} {x0 : FVec Ideal S4096x2816 .f32} {x1 : FVec Ideal S2816x1024 .f32}
  {x2 x4 : FVec Ideal S4096x1024 .f32} {x3 : FVec Ideal S1x1024 .f32}

theorem v1_eq (h0 : x0 = arr 4096 2816 A) (h1 : x1 = arr 2816 1024 W) (h2 : x2 = arr 4096 1024 R) : val_main_v1 (F := Ideal) x0 x1 x2 = arr (φ := .f32) 4096 1024 (down A W R) := by
  unfold val_main_v1 val_main_v0
  rw [h0, h1, h2]
  funext j
  idx_vars j
  unfold arr down
  pointwise

theorem v8_eq (h0 : x0 = arr 4096 2816 A) (h1 : x1 = arr 2816 1024 W) (h2 : x2 = arr 4096 1024 R) :
    val_main_v8 (F := Ideal) x0 x1 x2 = arr (φ := .f32) 4096 1 (fun i _ => ms 1024 0x44800000#32 (down A W R i)) := by
  unfold val_main_v8 val_main_v7 val_main_v6 val_main_v5 val_main_v4 val_main_v3 val_main_v2 val_main_cst val_main_cst_0
    val_main_cst_1
  rw [v1_eq h0 h1 h2]
  funext j
  idx_vars j
  unfold arr ms
  pointwise

theorem v9_eq (h0 : x0 = arr 4096 2816 A) (h1 : x1 = arr 2816 1024 W) (h2 : x2 = arr 4096 1024 R) :
    val_main_v9 (F := Ideal) x0 x1 x2 = arr (φ := .f32) 4096 1 (fun i _ => rms 1024 0x44800000#32 (down A W R i)) := by
  unfold val_main_v9
  rw [v8_eq h0 h1 h2]
  funext j
  idx_vars j
  unfold arr rms
  pointwise

theorem v14_eq (h0 : x0 = arr 4096 2816 A) (h1 : x1 = arr 2816 1024 W) (h2 : x2 = arr 4096 1024 R) :
    val_main_v14 (F := Ideal) x0 x1 x2
      = arr (φ := .f32) 4096 1024 (fun i d => down A W R i d * rms 1024 0x44800000#32 (down A W R i)) := by
  unfold val_main_v14 val_main_v13
  rw [v9_eq h0 h1 h2, v1_eq h0 h1 h2]
  funext j
  idx_vars j
  unfold arr
  pointwise

theorem v17_eq (h0 : x0 = arr 4096 2816 A) (h1 : x1 = arr 2816 1024 W) (h2 : x2 = arr 4096 1024 R) (h3 : x3 = arr 1 1024 G)
    (h4 : x4 = arr 4096 1024 Y) :
    val_main_v17 (F := Ideal) x0 x1 x2 x3 x4 = arr (φ := .f32) 4096 1024 (diff (down A W R) G Y) := by
  unfold val_main_v17 val_main_v16 val_main_v15
  rw [v14_eq h0 h1 h2, h3, h4]
  funext j
  idx_vars j
  unfold arr diff normed
  pointwise

theorem v31_eq (h0 : x0 = arr 4096 2816 A) (h1 : x1 = arr 2816 1024 W) (h2 : x2 = arr 4096 1024 R) (h3 : x3 = arr 1 1024 G)
    (h4 : x4 = arr 4096 1024 Y) :
    val_main_v31 (F := Ideal) x0 x1 x2 x3 x4 = arr (φ := .f32) 4096 1024 (der (down A W R) G Y) := by
  unfold val_main_v31 val_main_v30 val_main_v29 val_main_v28 val_main_v27 val_main_v26 val_main_v20 val_main_v19
    val_main_cst_3 val_main_cst_8 val_main_cst_9 val_main_cst_10
  rw [v17_eq h0 h1 h2 h3 h4]
  funext j
  idx_vars j
  unfold arr der
  pointwise

/-- The reference's loss. -/
theorem v51_eq (h0 : x0 = arr 4096 2816 A) (h1 : x1 = arr 2816 1024 W) (h2 : x2 = arr 4096 1024 R) (h3 : x3 = arr 1 1024 G)
    (h4 : x4 = arr 4096 1024 Y) :
    val_main_v51 (F := Ideal) x0 x1 x2 x3 x4 = arr (φ := .f32) 1 128 (fun _ _ =>
      Ideal.ofBits .f32 0x3F000000#32 * ∑ i : Fin 4096, row (down A W R) G Y i.val) := by
  unfold val_main_v51 val_main_v25 val_main_v24 val_main_v23 val_main_v22 val_main_v21 val_main_v18
    val_main_cst_4 val_main_cst_5 val_main_cst_6 val_main_cst_7
  rw [v17_eq h0 h1 h2 h3 h4]
  funext j
  idx_vars j
  unfold arr row
  pointwise

/-- The reference's gradient of the scale. -/
theorem v34_eq (h0 : x0 = arr 4096 2816 A) (h1 : x1 = arr 2816 1024 W) (h2 : x2 = arr 4096 1024 R) (h3 : x3 = arr 1 1024 G)
    (h4 : x4 = arr 4096 1024 Y) :
    val_main_v34 (F := Ideal) x0 x1 x2 x3 x4 = arr (φ := .f32) 1 1024 (fun _ d => ∑ i : Fin 4096,
      down A W R i.val d * rms 1024 0x44800000#32 (down A W R i.val) * der (down A W R) G Y i.val d) := by
  unfold val_main_v34 val_main_v33 val_main_v32 val_main_cst_11
  rw [v31_eq h0 h1 h2 h3 h4, v14_eq h0 h1 h2]
  funext j
  idx_vars j
  unfold arr
  pointwise

theorem v36_eq (h0 : x0 = arr 4096 2816 A) (h1 : x1 = arr 2816 1024 W) (h2 : x2 = arr 4096 1024 R) (h3 : x3 = arr 1 1024 G)
    (h4 : x4 = arr 4096 1024 Y) :
    val_main_v36 (F := Ideal) x0 x1 x2 x3 x4
      = arr (φ := .f32) 4096 1024 (fun i d => der (down A W R) G Y i d * G 0 d) := by
  unfold val_main_v36 val_main_v35
  rw [v31_eq h0 h1 h2 h3 h4, h3]
  funext j
  idx_vars j
  unfold arr
  pointwise

/-- The reference's gradient of the rows. -/
theorem v50_eq (h0 : x0 = arr 4096 2816 A) (h1 : x1 = arr 2816 1024 W) (h2 : x2 = arr 4096 1024 R) (h3 : x3 = arr 1 1024 G)
    (h4 : x4 = arr 4096 1024 Y) :
    val_main_v50 (F := Ideal) x0 x1 x2 x3 x4 = arr (φ := .f32) 4096 1024
      (fun i d => chain 1024 0x44800000#32 (down A W R i) (fun k => der (down A W R) G Y i k * G 0 k) d) := by
  unfold val_main_v50 val_main_v49 val_main_v48 val_main_v47 val_main_v46 val_main_v45 val_main_v44 val_main_v43 val_main_v42 val_main_v41 val_main_v40 val_main_v39 val_main_v38 val_main_v37
    val_main_v12 val_main_v11 val_main_v10 val_main_cst_2 val_main_cst_12 val_main_cst_13 val_main_cst_14
  rw [v36_eq h0 h1 h2 h3 h4, v9_eq h0 h1 h2, v8_eq h0 h1 h2, v1_eq h0 h1 h2]
  funext j
  idx_vars j
  unfold arr chain dms
  pointwise
  simp only [Finset.univ_unique, Finset.sum_singleton]

/-! ## On real numbers -/

theorem f_half : (Ideal.ofBits .f32 0x3F000000#32 : EReal) = ((1 / 2 : ℝ) : EReal) := by
  simp [Ideal.ofBits, Ideal.ieee]
  rw [← EReal.coe_mul]
  norm_num

theorem f_one : (Ideal.ofBits .f32 0x3F800000#32 : EReal) = ((1 : ℝ) : EReal) := by
  simp [Ideal.ofBits, Ideal.ieee]
  rw [← EReal.coe_mul]
  norm_num

theorem f_two : (Ideal.ofBits .f32 0x40000000#32 : EReal) = ((2 : ℝ) : EReal) := by
  simp [Ideal.ofBits, Ideal.ieee]
  rw [← EReal.coe_mul]
  norm_num

theorem f_inv : (Ideal.ofBits .f32 0x3A800000#32 : EReal) = ((1 / 1024 : ℝ) : EReal) := by
  simp [Ideal.ofBits, Ideal.ieee]
  rw [← EReal.coe_mul]
  norm_num

/-- One over the root mean square of a row of real numbers is a real number. -/
theorem rms_real (x : ℕ → ℝ) : ∃ r : ℝ, rms 1024 0x44800000#32 (fun k => ((x k : ℝ) : EReal)) = ((r : ℝ) : EReal) := by
  obtain ⟨e, he, hE⟩ := eps_f32
  have hv : 0 < (∑ k ∈ Finset.range 1024, x k * x k) * (1 / 1024) + e := by
    have : 0 ≤ ∑ k ∈ Finset.range 1024, x k * x k := Finset.sum_nonneg fun k _ => mul_self_nonneg _
    positivity
  refine ⟨(Real.sqrt ((∑ k ∈ Finset.range 1024, x k * x k) * (1 / 1024) + e))⁻¹, ?_⟩
  unfold rms ms
  rw [hE, f1024, Ideal.div_coe (by norm_num)]
  simp only [← EReal.coe_mul]
  rw [coe_sum_range 1024 (fun k => x k * x k)]
  norm_cast
  rw [Ideal.rsqrt_coe, if_neg (by linarith), if_neg (by linarith)]

section
variable (a wd r g y : ℕ → ℕ → ℝ)

/-- The rows as real numbers. -/
def rows (i d : ℕ) : ℝ := r i d + ∑ k ∈ Finset.range 2816, a i k * wd k d

theorem down_coe : down (fun i k => ((a i k : ℝ) : EReal)) (fun i k => ((wd i k : ℝ) : EReal)) (fun i k => ((r i k : ℝ) : EReal))
    = fun i d => ((rows a wd r i d : ℝ) : EReal) := by
  funext i d
  unfold down rows
  simp only [← EReal.coe_mul]
  rw [coe_sum_range 2816 (fun k => a i k * wd k d)]
  norm_cast

theorem diff_real (z : ℕ → ℕ → ℝ) : ∃ f : ℕ → ℕ → ℝ,
    diff (fun i k => ((z i k : ℝ) : EReal)) (fun i k => ((g i k : ℝ) : EReal)) (fun i k => ((y i k : ℝ) : EReal))
      = fun i d => ((f i d : ℝ) : EReal) := by
  choose q hq using fun i => rms_real (fun k => z i k)
  refine ⟨fun i d => z i d * q i * g 0 d - y i d, ?_⟩
  funext i d
  unfold diff normed
  rw [hq]
  norm_cast

/-- The gradient of the normed rows is the same with one factor. -/
theorem der_eq (z : ℕ → ℕ → ℝ) (i d : ℕ) :
    der (fun i k => ((z i k : ℝ) : EReal)) (fun i k => ((g i k : ℝ) : EReal)) (fun i k => ((y i k : ℝ) : EReal)) i d
      = scaled (fun i k => ((z i k : ℝ) : EReal)) (fun i k => ((g i k : ℝ) : EReal)) (fun i k => ((y i k : ℝ) : EReal)) i d := by
  obtain ⟨f, hf⟩ := diff_real g y z
  unfold der scaled
  rw [hf, f_half, f_one, f_two, f1024, f_inv, Ideal.div_coe (by norm_num)]
  simp only [← EReal.coe_mul]
  exact congrArg _ (by ring)

theorem scaled_real (z : ℕ → ℕ → ℝ) : ∃ f : ℕ → ℕ → ℝ, ∀ i d,
    scaled (fun i k => ((z i k : ℝ) : EReal)) (fun i k => ((g i k : ℝ) : EReal)) (fun i k => ((y i k : ℝ) : EReal)) i d
      = ((f i d : ℝ) : EReal) := by
  obtain ⟨f, hf⟩ := diff_real g y z
  refine ⟨fun i d => f i d * (1 / 1024), fun i d => ?_⟩
  unfold scaled
  rw [hf, f_inv]
  norm_cast

theorem row_real (z : ℕ → ℕ → ℝ) : ∃ f : ℕ → ℝ, ∀ i,
    row (fun i k => ((z i k : ℝ) : EReal)) (fun i k => ((g i k : ℝ) : EReal)) (fun i k => ((y i k : ℝ) : EReal)) i
      = ((f i : ℝ) : EReal) := by
  obtain ⟨f, hf⟩ := diff_real g y z
  refine ⟨fun i => (∑ k ∈ Finset.range 1024, f i k * f i k) * (1 / 1024), fun i => ?_⟩
  unfold row
  rw [hf, f1024, Ideal.div_coe (by norm_num)]
  simp only [← EReal.coe_mul]
  rw [coe_sum_range 1024 (fun k => f i k * f i k)]
  norm_cast

end

/-- A factor goes into a sum of real numbers. -/
theorem mul_sum_coe (n : ℕ) (c : ℝ) (f : ℕ → ℝ) :
    ((c : ℝ) : EReal) * ∑ i : Fin n, ((f i.val : ℝ) : EReal) = ∑ i : Fin n, ((c * f i.val : ℝ) : EReal) := by
  rw [coe_sum_range n f, coe_sum_range n (fun i => c * f i), ← EReal.coe_mul, Finset.mul_sum]

/-- A sum over eight blocks of four runs of 128 rows. -/
theorem sum_runs (f : ℕ → EReal) :
    ∑ t : Fin 8, ∑ s : Fin 4, ∑ r : Fin 128, f (512 * t.val + 128 * s.val + r.val) = ∑ i : Fin 4096, f i.val := by
  rw [← sum_blocks 8 512 4096 rfl f]
  refine Finset.sum_congr rfl fun t _ => ?_
  rw [← sum_blocks 4 128 512 rfl (fun q => f (512 * t.val + q))]
  exact Finset.sum_congr rfl fun s _ => Finset.sum_congr rfl fun r _ => congrArg f (Nat.add_assoc _ _ _)

section
variable (a wd r g y : ℕ → ℕ → ℝ)

/-- The kernel's gradient of the rows is the reference's. -/
theorem join_dx (i d : ℕ) :
    across 1024 0x44800000#32 (down (fun i c => ((a i c : ℝ) : EReal)) (fun i c => ((wd i c : ℝ) : EReal)) (fun i c => ((r i c : ℝ) : EReal)) i)
        (fun k => scaled (down (fun i c => ((a i c : ℝ) : EReal)) (fun i c => ((wd i c : ℝ) : EReal)) (fun i c => ((r i c : ℝ) : EReal)))
          (fun i c => ((g i c : ℝ) : EReal)) (fun i c => ((y i c : ℝ) : EReal)) i k * ((g 0 k : ℝ) : EReal)) d
      = chain 1024 0x44800000#32 (down (fun i c => ((a i c : ℝ) : EReal)) (fun i c => ((wd i c : ℝ) : EReal)) (fun i c => ((r i c : ℝ) : EReal)) i)
        (fun k => der (down (fun i c => ((a i c : ℝ) : EReal)) (fun i c => ((wd i c : ℝ) : EReal)) (fun i c => ((r i c : ℝ) : EReal)))
          (fun i c => ((g i c : ℝ) : EReal)) (fun i c => ((y i c : ℝ) : EReal)) i k * ((g 0 k : ℝ) : EReal)) d := by
  obtain ⟨f, hf⟩ := scaled_real g y (rows a wd r)
  simp only [down_coe, der_eq, hf, ← EReal.coe_mul]
  exact across_eq_chain 1024 _ 1024 f1024 (by norm_num) (fun c => rows a wd r i c) (fun c => f i c * g 0 c) d

/-- The kernel's gradient of the scale is the reference's. -/
theorem join_dg (d : ℕ) :
    (∑ i : Fin 4096, scaled (down (fun i c => ((a i c : ℝ) : EReal)) (fun i c => ((wd i c : ℝ) : EReal)) (fun i c => ((r i c : ℝ) : EReal)))
          (fun i c => ((g i c : ℝ) : EReal)) (fun i c => ((y i c : ℝ) : EReal)) i.val d
        * (down (fun i c => ((a i c : ℝ) : EReal)) (fun i c => ((wd i c : ℝ) : EReal)) (fun i c => ((r i c : ℝ) : EReal)) i.val d
          * rms 1024 0x44800000#32 (down (fun i c => ((a i c : ℝ) : EReal)) (fun i c => ((wd i c : ℝ) : EReal)) (fun i c => ((r i c : ℝ) : EReal)) i.val)))
      = ∑ i : Fin 4096, down (fun i c => ((a i c : ℝ) : EReal)) (fun i c => ((wd i c : ℝ) : EReal)) (fun i c => ((r i c : ℝ) : EReal)) i.val d
          * rms 1024 0x44800000#32 (down (fun i c => ((a i c : ℝ) : EReal)) (fun i c => ((wd i c : ℝ) : EReal)) (fun i c => ((r i c : ℝ) : EReal)) i.val)
          * der (down (fun i c => ((a i c : ℝ) : EReal)) (fun i c => ((wd i c : ℝ) : EReal)) (fun i c => ((r i c : ℝ) : EReal)))
          (fun i c => ((g i c : ℝ) : EReal)) (fun i c => ((y i c : ℝ) : EReal)) i.val d := by
  simp only [down_coe, der_eq]
  exact Fin.sum_fin_congr fun i => mul_comm _ _

/-- The kernel's loss is the reference's. -/
theorem join_loss :
    (∑ t : Fin 8, ∑ s : Fin 4, Ideal.ofBits .f32 0x3F000000#32 * ∑ q : Fin 128,
        row (down (fun i c => ((a i c : ℝ) : EReal)) (fun i c => ((wd i c : ℝ) : EReal)) (fun i c => ((r i c : ℝ) : EReal)))
          (fun i c => ((g i c : ℝ) : EReal)) (fun i c => ((y i c : ℝ) : EReal)) (512 * t.val + 128 * s.val + q.val))
      = Ideal.ofBits .f32 0x3F000000#32 * ∑ i : Fin 4096,
        row (down (fun i c => ((a i c : ℝ) : EReal)) (fun i c => ((wd i c : ℝ) : EReal)) (fun i c => ((r i c : ℝ) : EReal)))
          (fun i c => ((g i c : ℝ) : EReal)) (fun i c => ((y i c : ℝ) : EReal)) i.val := by
  obtain ⟨f, hf⟩ := row_real g y (rows a wd r)
  simp only [down_coe, hf, f_half]
  rw [mul_sum_coe 4096 (1 / 2) f, ← sum_runs (fun i => ((1 / 2 * f i : ℝ) : EReal))]
  exact Finset.sum_congr rfl fun t _ => Finset.sum_congr rfl fun s _ =>
    mul_sum_coe 128 (1 / 2) (fun q => f (512 * t.val + 128 * s.val + q))

end

end Cert.LossRefIdeal.Norm

namespace Cert.LossIdeal.Norm

open Cert.LossIdeal Cert.LossIdeal.Gen Cert.Arr Cert.Conv
open Cert.LossRefIdeal.Norm (down diff row scaled sum_runs)

variable (m : (ℓ : Loc nD τ sig) → Buf (Elt Ideal) ℓ) (c : Dev nD)

/-- The block indices at a point. -/
theorem indices : ∀ t : Fin cfg0.N,
    (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = 0 ∧ win0_3.index t 1 = 0)
    ∧ (win0_4.index t 0 = t.val ∧ win0_4.index t 1 = 0)
    ∧ (win0_5.index t 0 = t.val ∧ win0_5.index t 1 = 0)
    ∧ (win0_6.index t 0 = 0 ∧ win0_6.index t 1 = 0)
    ∧ (win0_7.index t 0 = 0 ∧ win0_7.index t 1 = 0) :=
  (by decide +kernel : ∀ t : Fin grid0.N, _)

variable {A W R G Y : ℕ → ℕ → EReal}

theorem iblk0 (h : m ((c : Thread nD τ).loc main_arg0) = arr (φ := .f32) 4096 2816 A) (t : Fin cfg0.N) :
    (iblk m c 0 t : Vec Ideal S512x2816 .bf16) = arr (φ := .bf16) 512 2816 (fun r d => A (512 * t.val + r) d) := by
  have hi := (indices t).1
  funext j
  unfold iblk
  rw [View.read_apply]
  show V m c main_v0 _ = _
  unfold V
  after_reads_at
  show m ((c : Thread nD τ).loc main_arg0) _ = _
  rw [h]
  unfold arr
  refine congrArg₂ A ?_ ?_
  · show win0_0.index t 0 * 512 + 1 * (j 0).val = _; rw [hi.1]; omega
  · show win0_0.index t 1 * 2816 + 1 * (j 1).val = _; rw [hi.2]; omega

theorem iblk1 (h : m ((c : Thread nD τ).loc main_arg1) = arr (φ := .f32) 2816 1024 W) (t : Fin cfg0.N) :
    (iblk m c 1 t : Vec Ideal S2816x1024 .bf16) = arr (φ := .bf16) 2816 1024 W := by
  have hi := (indices t).2.1
  funext j
  unfold iblk
  rw [View.read_apply]
  show V m c main_v1 _ = _
  unfold V
  after_reads_at
  show m ((c : Thread nD τ).loc main_arg1) _ = _
  rw [h]
  unfold arr
  refine congrArg₂ W ?_ ?_
  · show win0_1.index t 0 * 2816 + 1 * (j 0).val = _; rw [hi.1]; omega
  · show win0_1.index t 1 * 1024 + 1 * (j 1).val = _; rw [hi.2]; omega

theorem iblk2 (h : m ((c : Thread nD τ).loc main_arg2) = arr (φ := .f32) 4096 1024 R) (t : Fin cfg0.N) :
    (iblk m c 2 t : Vec Ideal S512x1024 .f32) = arr (φ := .f32) 512 1024 (fun r d => R (512 * t.val + r) d) := by
  have hi := (indices t).2.2.1
  funext j
  unfold iblk
  rw [View.read_apply]
  show V m c main_arg2 _ = _
  rw [V_main_arg2, h]
  unfold arr
  refine congrArg₂ R ?_ ?_
  · show win0_2.index t 0 * 512 + 1 * (j 0).val = _; rw [hi.1]; omega
  · show win0_2.index t 1 * 1024 + 1 * (j 1).val = _; rw [hi.2]; omega

theorem iblk3 (h : m ((c : Thread nD τ).loc main_arg3) = arr (φ := .f32) 1 1024 G) (t : Fin cfg0.N) :
    (iblk m c 3 t : Vec Ideal S1x1024 .f32) = arr (φ := .f32) 1 1024 G := by
  have hi := (indices t).2.2.2.1
  funext j
  unfold iblk
  rw [View.read_apply]
  show V m c main_arg3 _ = _
  rw [V_main_arg3, h]
  unfold arr
  refine congrArg₂ G ?_ ?_
  · show win0_3.index t 0 * 1 + 1 * (j 0).val = _; rw [hi.1]; omega
  · show win0_3.index t 1 * 1024 + 1 * (j 1).val = _; rw [hi.2]; omega

theorem iblk4 (h : m ((c : Thread nD τ).loc main_arg4) = arr (φ := .f32) 4096 1024 Y) (t : Fin cfg0.N) :
    (iblk m c 4 t : Vec Ideal S512x1024 .f32) = arr (φ := .f32) 512 1024 (fun r d => Y (512 * t.val + r) d) := by
  have hi := (indices t).2.2.2.2.1
  funext j
  unfold iblk
  rw [View.read_apply]
  show V m c main_arg4 _ = _
  rw [V_main_arg4, h]
  unfold arr
  refine congrArg₂ Y ?_ ?_
  · show win0_4.index t 0 * 512 + 1 * (j 0).val = _; rw [hi.1]; omega
  · show win0_4.index t 1 * 1024 + 1 * (j 1).val = _; rw [hi.2]; omega

/-! ## A run of 128 rows -/

theorem pay2 (W : ℕ → ℕ → EReal) : k0_pay2 (arr (φ := .bf16) 2816 1024 W) = arr (φ := .bf16) 2816 1024 W := by
  unfold k0_pay2
  simp only [shapeCast_self]

theorem pay3 (A W R : ℕ → ℕ → EReal) : k0_pay3 (arr (φ := .bf16) 2816 1024 W) (arr (φ := .f32) 128 1024 R) (arr (φ := .bf16) 128 2816 A)
    = arr (φ := .f32) 128 1024 (down A W R) := by
  unfold k0_pay3
  rw [pay2]
  funext j
  idx_vars j
  unfold arr down
  pointwise

theorem pay4 (A W R : ℕ → ℕ → EReal) : k0_pay4 (arr (φ := .bf16) 2816 1024 W) (arr (φ := .f32) 128 1024 R) (arr (φ := .bf16) 128 2816 A)
    = arr (φ := .f32) 128 1024 (down A W R) := by
  unfold k0_pay4
  rw [pay2]
  funext j
  idx_vars j
  unfold arr down
  pointwise

theorem pay5 (A W R : ℕ → ℕ → EReal) : k0_pay5 (arr (φ := .bf16) 2816 1024 W) (arr (φ := .f32) 128 1024 R) (arr (φ := .bf16) 128 2816 A)
    = arr (φ := .f32) 128 1024 (down A W R) := by
  unfold k0_pay5
  rw [pay2]
  funext j
  idx_vars j
  unfold arr down
  pointwise

theorem pay6 (A W R : ℕ → ℕ → EReal) : k0_pay6 (arr (φ := .bf16) 2816 1024 W) (arr (φ := .f32) 128 1024 R) (arr (φ := .bf16) 128 2816 A)
    = arr (φ := .f32) 128 1024 (down A W R) := by
  unfold k0_pay6
  rw [pay2]
  funext j
  idx_vars j
  unfold arr down
  pointwise

theorem pay7 (A W R : ℕ → ℕ → EReal) : k0_pay7 (arr (φ := .bf16) 2816 1024 W) (arr (φ := .f32) 128 1024 R) (arr (φ := .bf16) 128 2816 A)
    = arr (φ := .f32) 128 1024 (fun i _ => rms 1024 0x44800000#32 (down A W R i)) := by
  unfold k0_pay7
  rw [pay3]
  funext j
  idx_vars j
  unfold arr rms ms
  pointwise

theorem pay8 (Z G Y : ℕ → ℕ → EReal) : k0_pay8 (arr (φ := .f32) 1 1024 G) (arr (φ := .f32) 128 1024 Z) (arr (φ := .f32) 128 1024 (fun i _ => rms 1024 0x44800000#32 (Z i))) (arr (φ := .f32) 128 1024 Y)
    = arr (φ := .f32) 128 1024 (diff Z G Y) := by
  unfold k0_pay8
  funext j
  idx_vars j
  unfold arr diff normed
  pointwise

theorem pay16 (Z G Y : ℕ → ℕ → EReal) : k0_pay16 (arr (φ := .f32) 1 1024 G) (arr (φ := .f32) 128 1024 Z) (arr (φ := .f32) 128 1024 Y)
    = arr (φ := .f32) 128 1024 (diff Z G Y) := by
  unfold k0_pay16
  funext j
  idx_vars j
  unfold arr diff normed rms ms
  pointwise

theorem pay25 (Z G Y : ℕ → ℕ → EReal) : k0_pay25 (arr (φ := .f32) 1 1024 G) (arr (φ := .f32) 128 1024 Z) (arr (φ := .f32) 128 1024 Y)
    = arr (φ := .f32) 128 1024 (diff Z G Y) := by
  unfold k0_pay25
  funext j
  idx_vars j
  unfold arr diff normed rms ms
  pointwise

theorem pay33 (Z G Y : ℕ → ℕ → EReal) : k0_pay33 (arr (φ := .f32) 1 1024 G) (arr (φ := .f32) 128 1024 Z) (arr (φ := .f32) 128 1024 Y)
    = arr (φ := .f32) 128 1024 (diff Z G Y) := by
  unfold k0_pay33
  funext j
  idx_vars j
  unfold arr diff normed rms ms
  pointwise

theorem pay9 (Z G Y : ℕ → ℕ → EReal) : k0_pay9 (arr (φ := .f32) 1 1024 G) (arr (φ := .f32) 128 1024 Z) (arr (φ := .f32) 128 1024 (fun i _ => rms 1024 0x44800000#32 (Z i))) (arr (φ := .f32) 128 1024 Y)
    = arr (φ := .f32) 1 1 (fun _ _ => 0 + Ideal.ofBits .f32 0x3F000000#32 * ∑ q : Fin 128, row Z G Y q.val) := by
  unfold k0_pay9
  rw [pay8]
  funext j
  idx_vars j
  unfold arr row
  pointwise

theorem pay17 (Z G Y : ℕ → ℕ → EReal) (p : EReal) : k0_pay17 (arr (φ := .f32) 1 1024 G) (arr (φ := .f32) 128 1024 Z) (arr (φ := .f32) 1 1 (fun _ _ => p)) (arr (φ := .f32) 128 1024 Y)
    = arr (φ := .f32) 1 1 (fun _ _ => p + Ideal.ofBits .f32 0x3F000000#32 * ∑ q : Fin 128, row Z G Y q.val) := by
  unfold k0_pay17
  rw [pay16]
  funext j
  idx_vars j
  unfold arr row
  pointwise

theorem pay26 (Z G Y : ℕ → ℕ → EReal) (p : EReal) : k0_pay26 (arr (φ := .f32) 1 1024 G) (arr (φ := .f32) 128 1024 Z) (arr (φ := .f32) 1 1 (fun _ _ => p)) (arr (φ := .f32) 128 1024 Y)
    = arr (φ := .f32) 1 1 (fun _ _ => p + Ideal.ofBits .f32 0x3F000000#32 * ∑ q : Fin 128, row Z G Y q.val) := by
  unfold k0_pay26
  rw [pay25]
  funext j
  idx_vars j
  unfold arr row
  pointwise

theorem pay34 (Z G Y : ℕ → ℕ → EReal) : k0_pay34 (arr (φ := .f32) 1 1024 G) (arr (φ := .f32) 128 1024 Z) (arr (φ := .f32) 128 1024 Y)
    = arr (φ := .f32) 1 1 (fun _ _ => Ideal.ofBits .f32 0x3F000000#32 * ∑ q : Fin 128, row Z G Y q.val) := by
  unfold k0_pay34
  rw [pay33]
  funext j
  idx_vars j
  unfold arr row
  pointwise

theorem pay41 (p q : EReal) : k0_pay41 (F := Ideal) (arr (φ := .f32) 1 1 (fun _ _ => p)) (arr (φ := .f32) 1 1 (fun _ _ => q))
    = arr (φ := .f32) 1 128 (fun _ _ => p + q) := by
  unfold k0_pay41
  funext j
  idx_vars j
  unfold arr
  pointwise

theorem pay10 (Z G Y : ℕ → ℕ → EReal) : k0_pay10 (arr (φ := .f32) 1 1024 G) (arr (φ := .f32) 128 1024 Z) (arr (φ := .f32) 128 1024 (fun i _ => rms 1024 0x44800000#32 (Z i))) (arr (φ := .f32) 128 1024 Y)
    = arr (φ := .f32) 128 1024 (scaled Z G Y) := by
  unfold k0_pay10
  rw [pay8]
  funext j
  idx_vars j
  unfold arr scaled
  pointwise

theorem pay18 (Z G Y : ℕ → ℕ → EReal) : k0_pay18 (arr (φ := .f32) 1 1024 G) (arr (φ := .f32) 128 1024 Z) (arr (φ := .f32) 128 1024 Y)
    = arr (φ := .f32) 128 1024 (scaled Z G Y) := by
  unfold k0_pay18
  rw [pay16]
  funext j
  idx_vars j
  unfold arr scaled
  pointwise

theorem pay27 (Z G Y : ℕ → ℕ → EReal) : k0_pay27 (arr (φ := .f32) 1 1024 G) (arr (φ := .f32) 128 1024 Z) (arr (φ := .f32) 128 1024 Y)
    = arr (φ := .f32) 128 1024 (scaled Z G Y) := by
  unfold k0_pay27
  rw [pay25]
  funext j
  idx_vars j
  unfold arr scaled
  pointwise

theorem pay35 (Z G Y : ℕ → ℕ → EReal) : k0_pay35 (arr (φ := .f32) 128 1024 (diff Z G Y))
    = arr (φ := .f32) 128 1024 (scaled Z G Y) := by
  unfold k0_pay35
  funext j
  idx_vars j
  unfold arr scaled
  pointwise

theorem pay11 (Z : ℕ → ℕ → EReal) : k0_pay11 (arr (φ := .f32) 128 1024 Z)
    = arr (φ := .f32) 128 1 (fun i _ => rms 1024 0x44800000#32 (Z i)) := by
  unfold k0_pay11
  funext j
  idx_vars j
  unfold arr rms ms
  pointwise

theorem pay12 (Z : ℕ → ℕ → EReal) : k0_pay12 (arr (φ := .f32) 128 1024 Z)
    = arr (φ := .f32) 128 1024 (fun i d => Z i d * rms 1024 0x44800000#32 (Z i)) := by
  unfold k0_pay12
  rw [pay11]
  funext j
  idx_vars j
  unfold arr
  pointwise

theorem pay19 (Z : ℕ → ℕ → EReal) : k0_pay19 (arr (φ := .f32) 128 1024 Z)
    = arr (φ := .f32) 128 1 (fun i _ => rms 1024 0x44800000#32 (Z i)) := by
  unfold k0_pay19
  funext j
  idx_vars j
  unfold arr rms ms
  pointwise

theorem pay20 (Z : ℕ → ℕ → EReal) : k0_pay20 (arr (φ := .f32) 128 1024 Z)
    = arr (φ := .f32) 128 1024 (fun i d => Z i d * rms 1024 0x44800000#32 (Z i)) := by
  unfold k0_pay20
  rw [pay19]
  funext j
  idx_vars j
  unfold arr
  pointwise

theorem pay36 (Z : ℕ → ℕ → EReal) : k0_pay36 (arr (φ := .f32) 128 1024 Z)
    = arr (φ := .f32) 128 1 (fun i _ => rms 1024 0x44800000#32 (Z i)) := by
  unfold k0_pay36
  funext j
  idx_vars j
  unfold arr rms ms
  pointwise

theorem pay37 (Z : ℕ → ℕ → EReal) : k0_pay37 (arr (φ := .f32) 128 1024 Z)
    = arr (φ := .f32) 128 1024 (fun i d => Z i d * rms 1024 0x44800000#32 (Z i)) := by
  unfold k0_pay37
  rw [pay36]
  funext j
  idx_vars j
  unfold arr
  pointwise

theorem pay29 (Z : ℕ → ℕ → EReal) : k0_pay29 (F := Ideal) (k0_pay28 (arr (φ := .f32) 128 1024 Z)) (Ideal.ofBits .f32 0x358637BD#32)
    = arr (φ := .f32) 128 1 (fun i _ => rms 1024 0x44800000#32 (Z i)) := by
  unfold k0_pay29 k0_pay28
  funext j
  idx_vars j
  unfold arr rms ms
  pointwise

theorem pay30 (Z : ℕ → ℕ → EReal) : k0_pay30 (F := Ideal) (arr (φ := .f32) 128 1024 Z) (k0_pay28 (arr (φ := .f32) 128 1024 Z)) (Ideal.ofBits .f32 0x358637BD#32)
    = arr (φ := .f32) 128 1024 (fun i d => Z i d * rms 1024 0x44800000#32 (Z i)) := by
  unfold k0_pay30
  rw [pay29]
  funext j
  idx_vars j
  unfold arr
  pointwise

theorem pay13 (Z G Y : ℕ → ℕ → EReal) : k0_pay13 (arr (φ := .f32) 1 1024 G) (arr (φ := .f32) 128 1024 Z) (arr (φ := .f32) 128 1024 (fun i _ => rms 1024 0x44800000#32 (Z i))) (arr (φ := .f32) 128 1024 Y)
    = arr (φ := .f32) 128 1024 (fun i d => across 1024 0x44800000#32 (Z i) (fun k => scaled Z G Y i k * G 0 k) d) := by
  unfold k0_pay13
  rw [pay10, pay11, pay12]
  funext j
  idx_vars j
  unfold arr across
  pointwise

theorem pay23 (Z G Y : ℕ → ℕ → EReal) : k0_pay23 (F := Ideal) (k0_pay19 (arr (φ := .f32) 128 1024 Z)) (k0_pay20 (arr (φ := .f32) 128 1024 Z)) (k0_pay21 (arr (φ := .f32) 1 1024 G) (arr (φ := .f32) 128 1024 Z) (arr (φ := .f32) 128 1024 Y)) (k0_pay22 (arr (φ := .f32) 1 1024 G) (arr (φ := .f32) 128 1024 Z) (arr (φ := .f32) 128 1024 Y)) (Ideal.ofBits .f32 0x44800000#32)
    = arr (φ := .f32) 128 1024 (fun i d => across 1024 0x44800000#32 (Z i) (fun k => scaled Z G Y i k * G 0 k) d) := by
  unfold k0_pay23 k0_pay22 k0_pay21
  rw [pay18, pay19, pay20]
  funext j
  idx_vars j
  unfold arr across
  pointwise

theorem pay31 (Z G Y : ℕ → ℕ → EReal) : k0_pay31 (F := Ideal) (arr (φ := .f32) 1 1024 G) (arr (φ := .f32) 128 1024 Z) (k0_pay27 (arr (φ := .f32) 1 1024 G) (arr (φ := .f32) 128 1024 Z) (arr (φ := .f32) 128 1024 Y)) (k0_pay28 (arr (φ := .f32) 128 1024 Z)) (Ideal.ofBits .f32 0x358637BD#32)
    = arr (φ := .f32) 128 1024 (fun i d => across 1024 0x44800000#32 (Z i) (fun k => scaled Z G Y i k * G 0 k) d) := by
  unfold k0_pay31
  rw [pay27, pay29, pay30]
  funext j
  idx_vars j
  unfold arr across
  pointwise

theorem pay38 (Z G Y : ℕ → ℕ → EReal) : k0_pay38 (arr (φ := .f32) 1 1024 G) (arr (φ := .f32) 128 1024 Z) (k0_pay33 (arr (φ := .f32) 1 1024 G) (arr (φ := .f32) 128 1024 Z) (arr (φ := .f32) 128 1024 Y))
    = arr (φ := .f32) 128 1024 (fun i d => across 1024 0x44800000#32 (Z i) (fun k => scaled Z G Y i k * G 0 k) d) := by
  unfold k0_pay38
  rw [pay33, pay35, pay36, pay37]
  funext j
  idx_vars j
  unfold arr across
  pointwise

theorem pay15 (Z G Y : ℕ → ℕ → EReal) : k0_pay15 (F := Ideal) (k0_pay14 (arr (φ := .f32) 1 1024 G) (arr (φ := .f32) 128 1024 Z) (arr (φ := .f32) 128 1024 (fun i _ => rms 1024 0x44800000#32 (Z i))) (arr (φ := .f32) 128 1024 Y))
    = arr (φ := .f32) 1 1024 (fun _ d => 0 + ∑ q : Fin 128, scaled Z G Y q.val d * (Z q.val d * rms 1024 0x44800000#32 (Z q.val))) := by
  unfold k0_pay15 k0_pay14
  rw [pay10, pay12]
  funext j
  idx_vars j
  unfold arr
  pointwise

theorem pay24 (Z G Y : ℕ → ℕ → EReal) (P : ℕ → EReal) : k0_pay24 (F := Ideal) (arr (φ := .f32) 1 1024 (fun _ d => P d)) (k0_pay18 (arr (φ := .f32) 1 1024 G) (arr (φ := .f32) 128 1024 Z) (arr (φ := .f32) 128 1024 Y)) (k0_pay20 (arr (φ := .f32) 128 1024 Z))
    = arr (φ := .f32) 1 1024 (fun _ d => P d + ∑ q : Fin 128, scaled Z G Y q.val d * (Z q.val d * rms 1024 0x44800000#32 (Z q.val))) := by
  unfold k0_pay24
  rw [pay18, pay20]
  funext j
  idx_vars j
  unfold arr
  pointwise

theorem pay32 (Z G Y : ℕ → ℕ → EReal) (P : ℕ → EReal) : k0_pay32 (F := Ideal) (arr (φ := .f32) 128 1024 Z) (arr (φ := .f32) 1 1024 (fun _ d => P d)) (k0_pay27 (arr (φ := .f32) 1 1024 G) (arr (φ := .f32) 128 1024 Z) (arr (φ := .f32) 128 1024 Y)) (k0_pay28 (arr (φ := .f32) 128 1024 Z)) (Ideal.ofBits .f32 0x358637BD#32)
    = arr (φ := .f32) 1 1024 (fun _ d => P d + ∑ q : Fin 128, scaled Z G Y q.val d * (Z q.val d * rms 1024 0x44800000#32 (Z q.val))) := by
  unfold k0_pay32
  rw [pay27, pay30]
  funext j
  idx_vars j
  unfold arr
  pointwise

theorem pay39 (Z G Y : ℕ → ℕ → EReal) (P : ℕ → EReal) : k0_pay39 (F := Ideal) (arr (φ := .f32) 128 1024 Z) (arr (φ := .f32) 1 1024 (fun _ d => P d)) (k0_pay33 (arr (φ := .f32) 1 1024 G) (arr (φ := .f32) 128 1024 Z) (arr (φ := .f32) 128 1024 Y))
    = arr (φ := .f32) 1 1024 (fun _ d => P d + ∑ q : Fin 128, scaled Z G Y q.val d * (Z q.val d * rms 1024 0x44800000#32 (Z q.val))) := by
  unfold k0_pay39
  rw [pay33, pay35, pay37]
  funext j
  idx_vars j
  unfold arr
  pointwise

/-! ## A point: four runs of 128 rows -/

/-- The rows of `f` from row `p + o`. -/
def run (f : ℕ → ℕ → EReal) (p o : ℕ) : ℕ → ℕ → EReal := fun r d => f (p + (o + r)) d

/-- A load of whole rows. -/
theorem ldRows {φ : FTy} {n k a o : ℕ} (inb) (g : ℕ → ℕ → EReal) (x : Shape.Idx ⟨2, ![a, k]⟩) :
    (arr n k g : FVec Ideal ⟨2, ![n, k]⟩ φ) ((Rect.unit (s := ⟨2, ![n, k]⟩) ![o, 0] ![a, k] inb).emb x)
      = (arr a k (fun r l => g (o + r) l) : FVec Ideal ⟨2, ![a, k]⟩ φ) x := by
  have e0 := Rect.idx_unit_val (s := ⟨2, ![n, k]⟩) ![o, 0] ![a, k] inb x 0
  have e1 := Rect.idx_unit_val (s := ⟨2, ![n, k]⟩) ![o, 0] ![a, k] inb x 1
  exact congrArg₂ g e0 (e1.trans (Nat.zero_add _))

/-- A piece of an array whose rows are the array's. -/
theorem rowsPiece {φ : FTy} {n k a o : ℕ} (inb) {v : FVec Ideal ⟨2, ![a, k]⟩ φ} {g : ℕ → ℕ → EReal}
    (h : v = arr a k (fun r l => g (o + r) l)) (x : Shape.Idx ⟨2, ![a, k]⟩) :
    v x = (arr n k g : FVec Ideal ⟨2, ![n, k]⟩ φ) ((Rect.unit (s := ⟨2, ![n, k]⟩) ![o, 0] ![a, k] inb).emb x) := by
  subst h
  exact (ldRows inb g x).symm

theorem four (g : ℕ → EReal) : 0 + g 0 + g 128 + g 256 + g 384 = ∑ s : Fin 4, g (128 * s.val) := by
  rw [Fin.sum_univ_four, zero_add (M := EReal)]
  rfl

section
variable (h0 : m ((c : Thread nD τ).loc main_arg0) = arr (φ := .f32) 4096 2816 A)
  (h1 : m ((c : Thread nD τ).loc main_arg1) = arr (φ := .f32) 2816 1024 W)
  (h2 : m ((c : Thread nD τ).loc main_arg2) = arr (φ := .f32) 4096 1024 R)
  (h3 : m ((c : Thread nD τ).loc main_arg3) = arr (φ := .f32) 1 1024 G)
  (h4 : m ((c : Thread nD τ).loc main_arg4) = arr (φ := .f32) 4096 1024 Y)

include h0 in
theorem ld0 (t : Fin cfg0.N) (o : ℕ) (inb) : (View.ld (iblk m c 0 t) (Rect.unit (s := S512x2816) ![o, 0] ![128, 2816] inb) : FVec Ideal S128x2816 .bf16)
    = arr (φ := .bf16) 128 2816 (run A (512 * t.val) o) := by
  rw [iblk0 m c h0 t]
  funext x
  exact ldRows inb (fun r d => A (512 * t.val + r) d) x

include h2 in
theorem ld2 (t : Fin cfg0.N) (o : ℕ) (inb) : (View.ld (iblk m c 2 t) (Rect.unit (s := S512x1024) ![o, 0] ![128, 1024] inb) : FVec Ideal S128x1024 .f32)
    = arr (φ := .f32) 128 1024 (run R (512 * t.val) o) := by
  rw [iblk2 m c h2 t]
  funext x
  exact ldRows inb (fun r d => R (512 * t.val + r) d) x

include h4 in
theorem ld4 (t : Fin cfg0.N) (o : ℕ) (inb) : (View.ld (iblk m c 4 t) (Rect.unit (s := S512x1024) ![o, 0] ![128, 1024] inb) : FVec Ideal S128x1024 .f32)
    = arr (φ := .f32) 128 1024 (run Y (512 * t.val) o) := by
  rw [iblk4 m c h4 t]
  funext x
  exact ldRows inb (fun r d => Y (512 * t.val + r) d) x

include h0 h1 h2

theorem z3 (t : Fin cfg0.N) : (k0_pay3 (F := Ideal) (iblk m c 1 t) (View.ld (iblk m c 2 t) (Rect.unit (s := S512x1024) ![0, 0] ![128, 1024] inb_S512x1024_S128x1024_0_0)) (View.ld (iblk m c 0 t) (Rect.unit (s := S512x2816) ![0, 0] ![128, 2816] inb_S512x2816_S128x2816_0_0)))
    = arr (φ := .f32) 128 1024 (run (down A W R) (512 * t.val) 0) := by
  rw [ld2 m c h2 t, ld0 m c h0 t, iblk1 m c h1 t]
  exact pay3 _ _ _

theorem z4 (t : Fin cfg0.N) : (k0_pay4 (F := Ideal) (iblk m c 1 t) (View.ld (iblk m c 2 t) (Rect.unit (s := S512x1024) ![128, 0] ![128, 1024] inb_S512x1024_S128x1024_128_0)) (View.ld (iblk m c 0 t) (Rect.unit (s := S512x2816) ![128, 0] ![128, 2816] inb_S512x2816_S128x2816_128_0)))
    = arr (φ := .f32) 128 1024 (run (down A W R) (512 * t.val) 128) := by
  rw [ld2 m c h2 t, ld0 m c h0 t, iblk1 m c h1 t]
  exact pay4 _ _ _

theorem z5 (t : Fin cfg0.N) : (k0_pay5 (F := Ideal) (iblk m c 1 t) (View.ld (iblk m c 2 t) (Rect.unit (s := S512x1024) ![256, 0] ![128, 1024] inb_S512x1024_S128x1024_256_0)) (View.ld (iblk m c 0 t) (Rect.unit (s := S512x2816) ![256, 0] ![128, 2816] inb_S512x2816_S128x2816_256_0)))
    = arr (φ := .f32) 128 1024 (run (down A W R) (512 * t.val) 256) := by
  rw [ld2 m c h2 t, ld0 m c h0 t, iblk1 m c h1 t]
  exact pay5 _ _ _

theorem z6 (t : Fin cfg0.N) : (k0_pay6 (F := Ideal) (iblk m c 1 t) (View.ld (iblk m c 2 t) (Rect.unit (s := S512x1024) ![384, 0] ![128, 1024] inb_S512x1024_S128x1024_384_0)) (View.ld (iblk m c 0 t) (Rect.unit (s := S512x2816) ![384, 0] ![128, 2816] inb_S512x2816_S128x2816_384_0)))
    = arr (φ := .f32) 128 1024 (run (down A W R) (512 * t.val) 384) := by
  rw [ld2 m c h2 t, ld0 m c h0 t, iblk1 m c h1 t]
  exact pay6 _ _ _

theorem z7 (t : Fin cfg0.N) : (k0_pay7 (F := Ideal) (iblk m c 1 t) (View.ld (iblk m c 2 t) (Rect.unit (s := S512x1024) ![0, 0] ![128, 1024] inb_S512x1024_S128x1024_0_0)) (View.ld (iblk m c 0 t) (Rect.unit (s := S512x2816) ![0, 0] ![128, 2816] inb_S512x2816_S128x2816_0_0)))
    = arr (φ := .f32) 128 1024 (fun i _ => rms 1024 0x44800000#32 ((run (down A W R) (512 * t.val) 0) i)) := by
  rw [ld2 m c h2 t, ld0 m c h0 t, iblk1 m c h1 t]
  exact pay7 _ _ _

include h3 h4

/-- The loss of a point's rows. -/
theorem lossAt (t : Fin cfg0.N) : k0_pay41 (F := Ideal) (k0_pay26 (iblk m c 3 t) (k0_pay5 (F := Ideal) (iblk m c 1 t) (View.ld (iblk m c 2 t) (Rect.unit (s := S512x1024) ![256, 0] ![128, 1024] inb_S512x1024_S128x1024_256_0)) (View.ld (iblk m c 0 t) (Rect.unit (s := S512x2816) ![256, 0] ![128, 2816] inb_S512x2816_S128x2816_256_0))) (k0_pay17 (iblk m c 3 t) (k0_pay4 (F := Ideal) (iblk m c 1 t) (View.ld (iblk m c 2 t) (Rect.unit (s := S512x1024) ![128, 0] ![128, 1024] inb_S512x1024_S128x1024_128_0)) (View.ld (iblk m c 0 t) (Rect.unit (s := S512x2816) ![128, 0] ![128, 2816] inb_S512x2816_S128x2816_128_0))) (k0_pay9 (iblk m c 3 t) (k0_pay3 (F := Ideal) (iblk m c 1 t) (View.ld (iblk m c 2 t) (Rect.unit (s := S512x1024) ![0, 0] ![128, 1024] inb_S512x1024_S128x1024_0_0)) (View.ld (iblk m c 0 t) (Rect.unit (s := S512x2816) ![0, 0] ![128, 2816] inb_S512x2816_S128x2816_0_0))) (k0_pay7 (F := Ideal) (iblk m c 1 t) (View.ld (iblk m c 2 t) (Rect.unit (s := S512x1024) ![0, 0] ![128, 1024] inb_S512x1024_S128x1024_0_0)) (View.ld (iblk m c 0 t) (Rect.unit (s := S512x2816) ![0, 0] ![128, 2816] inb_S512x2816_S128x2816_0_0))) (View.ld (iblk m c 4 t) (Rect.unit (s := S512x1024) ![0, 0] ![128, 1024] inb_S512x1024_S128x1024_0_0))) (View.ld (iblk m c 4 t) (Rect.unit (s := S512x1024) ![128, 0] ![128, 1024] inb_S512x1024_S128x1024_128_0))) (View.ld (iblk m c 4 t) (Rect.unit (s := S512x1024) ![256, 0] ![128, 1024] inb_S512x1024_S128x1024_256_0)))
      (k0_pay34 (iblk m c 3 t) (k0_pay6 (F := Ideal) (iblk m c 1 t) (View.ld (iblk m c 2 t) (Rect.unit (s := S512x1024) ![384, 0] ![128, 1024] inb_S512x1024_S128x1024_384_0)) (View.ld (iblk m c 0 t) (Rect.unit (s := S512x2816) ![384, 0] ![128, 2816] inb_S512x2816_S128x2816_384_0))) (View.ld (iblk m c 4 t) (Rect.unit (s := S512x1024) ![384, 0] ![128, 1024] inb_S512x1024_S128x1024_384_0)))
    = arr (φ := .f32) 1 128 (fun _ _ => 0 + Ideal.ofBits .f32 0x3F000000#32 * ∑ q : Fin 128, row (down A W R) G Y (512 * t.val + (0 + q.val)) + Ideal.ofBits .f32 0x3F000000#32 * ∑ q : Fin 128, row (down A W R) G Y (512 * t.val + (128 + q.val)) + Ideal.ofBits .f32 0x3F000000#32 * ∑ q : Fin 128, row (down A W R) G Y (512 * t.val + (256 + q.val)) + Ideal.ofBits .f32 0x3F000000#32 * ∑ q : Fin 128, row (down A W R) G Y (512 * t.val + (384 + q.val))) := by
  rw [z3 m c h0 h1 h2 t, z4 m c h0 h1 h2 t, z5 m c h0 h1 h2 t, z6 m c h0 h1 h2 t, z7 m c h0 h1 h2 t, iblk3 m c h3 t]
  simp only [ld4 m c h4 t]
  rw [pay9, pay17, pay26, pay34]
  exact pay41 _ _

/-- The gradient of the scale from a point's rows. -/
theorem scaleAt (t : Fin cfg0.N) : k0_pay39 (F := Ideal) (k0_pay6 (F := Ideal) (iblk m c 1 t) (View.ld (iblk m c 2 t) (Rect.unit (s := S512x1024) ![384, 0] ![128, 1024] inb_S512x1024_S128x1024_384_0)) (View.ld (iblk m c 0 t) (Rect.unit (s := S512x2816) ![384, 0] ![128, 2816] inb_S512x2816_S128x2816_384_0))) (k0_pay32 (F := Ideal) (k0_pay5 (F := Ideal) (iblk m c 1 t) (View.ld (iblk m c 2 t) (Rect.unit (s := S512x1024) ![256, 0] ![128, 1024] inb_S512x1024_S128x1024_256_0)) (View.ld (iblk m c 0 t) (Rect.unit (s := S512x2816) ![256, 0] ![128, 2816] inb_S512x2816_S128x2816_256_0))) (k0_pay24 (k0_pay15 (k0_pay14 (iblk m c 3 t) (k0_pay3 (F := Ideal) (iblk m c 1 t) (View.ld (iblk m c 2 t) (Rect.unit (s := S512x1024) ![0, 0] ![128, 1024] inb_S512x1024_S128x1024_0_0)) (View.ld (iblk m c 0 t) (Rect.unit (s := S512x2816) ![0, 0] ![128, 2816] inb_S512x2816_S128x2816_0_0))) (k0_pay7 (F := Ideal) (iblk m c 1 t) (View.ld (iblk m c 2 t) (Rect.unit (s := S512x1024) ![0, 0] ![128, 1024] inb_S512x1024_S128x1024_0_0)) (View.ld (iblk m c 0 t) (Rect.unit (s := S512x2816) ![0, 0] ![128, 2816] inb_S512x2816_S128x2816_0_0))) (View.ld (iblk m c 4 t) (Rect.unit (s := S512x1024) ![0, 0] ![128, 1024] inb_S512x1024_S128x1024_0_0)))) (k0_pay18 (iblk m c 3 t) (k0_pay4 (F := Ideal) (iblk m c 1 t) (View.ld (iblk m c 2 t) (Rect.unit (s := S512x1024) ![128, 0] ![128, 1024] inb_S512x1024_S128x1024_128_0)) (View.ld (iblk m c 0 t) (Rect.unit (s := S512x2816) ![128, 0] ![128, 2816] inb_S512x2816_S128x2816_128_0))) (View.ld (iblk m c 4 t) (Rect.unit (s := S512x1024) ![128, 0] ![128, 1024] inb_S512x1024_S128x1024_128_0))) (k0_pay20 (k0_pay4 (F := Ideal) (iblk m c 1 t) (View.ld (iblk m c 2 t) (Rect.unit (s := S512x1024) ![128, 0] ![128, 1024] inb_S512x1024_S128x1024_128_0)) (View.ld (iblk m c 0 t) (Rect.unit (s := S512x2816) ![128, 0] ![128, 2816] inb_S512x2816_S128x2816_128_0))))) (k0_pay27 (iblk m c 3 t) (k0_pay5 (F := Ideal) (iblk m c 1 t) (View.ld (iblk m c 2 t) (Rect.unit (s := S512x1024) ![256, 0] ![128, 1024] inb_S512x1024_S128x1024_256_0)) (View.ld (iblk m c 0 t) (Rect.unit (s := S512x2816) ![256, 0] ![128, 2816] inb_S512x2816_S128x2816_256_0))) (View.ld (iblk m c 4 t) (Rect.unit (s := S512x1024) ![256, 0] ![128, 1024] inb_S512x1024_S128x1024_256_0))) (k0_pay28 (k0_pay5 (F := Ideal) (iblk m c 1 t) (View.ld (iblk m c 2 t) (Rect.unit (s := S512x1024) ![256, 0] ![128, 1024] inb_S512x1024_S128x1024_256_0)) (View.ld (iblk m c 0 t) (Rect.unit (s := S512x2816) ![256, 0] ![128, 2816] inb_S512x2816_S128x2816_256_0)))) (FloatOps.ofBits (F := Ideal) .f32 0x358637BD#32)) (k0_pay33 (iblk m c 3 t) (k0_pay6 (F := Ideal) (iblk m c 1 t) (View.ld (iblk m c 2 t) (Rect.unit (s := S512x1024) ![384, 0] ![128, 1024] inb_S512x1024_S128x1024_384_0)) (View.ld (iblk m c 0 t) (Rect.unit (s := S512x2816) ![384, 0] ![128, 2816] inb_S512x2816_S128x2816_384_0))) (View.ld (iblk m c 4 t) (Rect.unit (s := S512x1024) ![384, 0] ![128, 1024] inb_S512x1024_S128x1024_384_0)))
    = arr (φ := .f32) 1 1024 (fun _ d => 0 + (∑ q : Fin 128, scaled (down A W R) G Y (512 * t.val + (0 + q.val)) d * (down A W R (512 * t.val + (0 + q.val)) d * rms 1024 0x44800000#32 (down A W R (512 * t.val + (0 + q.val))))) + (∑ q : Fin 128, scaled (down A W R) G Y (512 * t.val + (128 + q.val)) d * (down A W R (512 * t.val + (128 + q.val)) d * rms 1024 0x44800000#32 (down A W R (512 * t.val + (128 + q.val))))) + (∑ q : Fin 128, scaled (down A W R) G Y (512 * t.val + (256 + q.val)) d * (down A W R (512 * t.val + (256 + q.val)) d * rms 1024 0x44800000#32 (down A W R (512 * t.val + (256 + q.val))))) + (∑ q : Fin 128, scaled (down A W R) G Y (512 * t.val + (384 + q.val)) d * (down A W R (512 * t.val + (384 + q.val)) d * rms 1024 0x44800000#32 (down A W R (512 * t.val + (384 + q.val)))))) := by
  rw [z3 m c h0 h1 h2 t, z4 m c h0 h1 h2 t, z5 m c h0 h1 h2 t, z6 m c h0 h1 h2 t, z7 m c h0 h1 h2 t, iblk3 m c h3 t]
  simp only [ld4 m c h4 t]
  rw [pay15, pay24]
  refine (congrArg (fun p => k0_pay39 (F := Ideal) _ p _) (pay32 _ _ _ _)).trans ?_
  exact pay39 _ _ _ _

/-- The gradient of a point's rows. -/
theorem rowsAt (t : Fin cfg0.N) : View.canon (Val := Elt Ideal) (e := .f32)
      [⟨Rect.unit ![384, 0] ![128, 1024] inb_S512x1024_S128x1024_384_0, k0_pay38 (F := Ideal) (iblk m c 3 t) (k0_pay6 (F := Ideal) (iblk m c 1 t) (View.ld (iblk m c 2 t) (Rect.unit (s := S512x1024) ![384, 0] ![128, 1024] inb_S512x1024_S128x1024_384_0)) (View.ld (iblk m c 0 t) (Rect.unit (s := S512x2816) ![384, 0] ![128, 2816] inb_S512x2816_S128x2816_384_0))) (k0_pay33 (iblk m c 3 t) (k0_pay6 (F := Ideal) (iblk m c 1 t) (View.ld (iblk m c 2 t) (Rect.unit (s := S512x1024) ![384, 0] ![128, 1024] inb_S512x1024_S128x1024_384_0)) (View.ld (iblk m c 0 t) (Rect.unit (s := S512x2816) ![384, 0] ![128, 2816] inb_S512x2816_S128x2816_384_0))) (View.ld (iblk m c 4 t) (Rect.unit (s := S512x1024) ![384, 0] ![128, 1024] inb_S512x1024_S128x1024_384_0)))⟩,
       ⟨Rect.unit ![256, 0] ![128, 1024] inb_S512x1024_S128x1024_256_0, k0_pay31 (F := Ideal) (iblk m c 3 t) (k0_pay5 (F := Ideal) (iblk m c 1 t) (View.ld (iblk m c 2 t) (Rect.unit (s := S512x1024) ![256, 0] ![128, 1024] inb_S512x1024_S128x1024_256_0)) (View.ld (iblk m c 0 t) (Rect.unit (s := S512x2816) ![256, 0] ![128, 2816] inb_S512x2816_S128x2816_256_0))) (k0_pay27 (iblk m c 3 t) (k0_pay5 (F := Ideal) (iblk m c 1 t) (View.ld (iblk m c 2 t) (Rect.unit (s := S512x1024) ![256, 0] ![128, 1024] inb_S512x1024_S128x1024_256_0)) (View.ld (iblk m c 0 t) (Rect.unit (s := S512x2816) ![256, 0] ![128, 2816] inb_S512x2816_S128x2816_256_0))) (View.ld (iblk m c 4 t) (Rect.unit (s := S512x1024) ![256, 0] ![128, 1024] inb_S512x1024_S128x1024_256_0))) (k0_pay28 (k0_pay5 (F := Ideal) (iblk m c 1 t) (View.ld (iblk m c 2 t) (Rect.unit (s := S512x1024) ![256, 0] ![128, 1024] inb_S512x1024_S128x1024_256_0)) (View.ld (iblk m c 0 t) (Rect.unit (s := S512x2816) ![256, 0] ![128, 2816] inb_S512x2816_S128x2816_256_0)))) (FloatOps.ofBits (F := Ideal) .f32 0x358637BD#32)⟩,
       ⟨Rect.unit ![128, 0] ![128, 1024] inb_S512x1024_S128x1024_128_0, k0_pay23 (F := Ideal) (k0_pay19 (k0_pay4 (F := Ideal) (iblk m c 1 t) (View.ld (iblk m c 2 t) (Rect.unit (s := S512x1024) ![128, 0] ![128, 1024] inb_S512x1024_S128x1024_128_0)) (View.ld (iblk m c 0 t) (Rect.unit (s := S512x2816) ![128, 0] ![128, 2816] inb_S512x2816_S128x2816_128_0)))) (k0_pay20 (k0_pay4 (F := Ideal) (iblk m c 1 t) (View.ld (iblk m c 2 t) (Rect.unit (s := S512x1024) ![128, 0] ![128, 1024] inb_S512x1024_S128x1024_128_0)) (View.ld (iblk m c 0 t) (Rect.unit (s := S512x2816) ![128, 0] ![128, 2816] inb_S512x2816_S128x2816_128_0)))) (k0_pay21 (iblk m c 3 t) (k0_pay4 (F := Ideal) (iblk m c 1 t) (View.ld (iblk m c 2 t) (Rect.unit (s := S512x1024) ![128, 0] ![128, 1024] inb_S512x1024_S128x1024_128_0)) (View.ld (iblk m c 0 t) (Rect.unit (s := S512x2816) ![128, 0] ![128, 2816] inb_S512x2816_S128x2816_128_0))) (View.ld (iblk m c 4 t) (Rect.unit (s := S512x1024) ![128, 0] ![128, 1024] inb_S512x1024_S128x1024_128_0))) (k0_pay22 (iblk m c 3 t) (k0_pay4 (F := Ideal) (iblk m c 1 t) (View.ld (iblk m c 2 t) (Rect.unit (s := S512x1024) ![128, 0] ![128, 1024] inb_S512x1024_S128x1024_128_0)) (View.ld (iblk m c 0 t) (Rect.unit (s := S512x2816) ![128, 0] ![128, 2816] inb_S512x2816_S128x2816_128_0))) (View.ld (iblk m c 4 t) (Rect.unit (s := S512x1024) ![128, 0] ![128, 1024] inb_S512x1024_S128x1024_128_0))) (FloatOps.ofBits (F := Ideal) .f32 0x44800000#32)⟩,
       ⟨Rect.unit ![0, 0] ![128, 1024] inb_S512x1024_S128x1024_0_0, k0_pay13 (F := Ideal) (iblk m c 3 t) (k0_pay3 (F := Ideal) (iblk m c 1 t) (View.ld (iblk m c 2 t) (Rect.unit (s := S512x1024) ![0, 0] ![128, 1024] inb_S512x1024_S128x1024_0_0)) (View.ld (iblk m c 0 t) (Rect.unit (s := S512x2816) ![0, 0] ![128, 2816] inb_S512x2816_S128x2816_0_0))) (k0_pay7 (F := Ideal) (iblk m c 1 t) (View.ld (iblk m c 2 t) (Rect.unit (s := S512x1024) ![0, 0] ![128, 1024] inb_S512x1024_S128x1024_0_0)) (View.ld (iblk m c 0 t) (Rect.unit (s := S512x2816) ![0, 0] ![128, 2816] inb_S512x2816_S128x2816_0_0))) (View.ld (iblk m c 4 t) (Rect.unit (s := S512x1024) ![0, 0] ![128, 1024] inb_S512x1024_S128x1024_0_0))⟩]
    = arr (φ := .f32) 512 1024 (fun i d => across 1024 0x44800000#32 (down A W R (512 * t.val + i))
        (fun k => scaled (down A W R) G Y (512 * t.val + i) k * G 0 k) d) := by
  rw [z3 m c h0 h1 h2 t, z4 m c h0 h1 h2 t, z5 m c h0 h1 h2 t, z6 m c h0 h1 h2 t, z7 m c h0 h1 h2 t, iblk3 m c h3 t]
  simp only [ld4 m c h4 t]
  exact RowsTo.eq (RowsTo.cons (o := 384) (a := 128) _ (rowsPiece _ (pay38 _ _ _))
    (RowsTo.cons (o := 256) (a := 128) _ (rowsPiece _ (pay31 _ _ _))
    (RowsTo.cons (o := 128) (a := 128) _ (rowsPiece _ (pay23 _ _ _))
    (RowsTo.cons (o := 0) (a := 128) _ (rowsPiece _ (pay13 _ _ _)) (RowsTo.nil _)))))

/-- The gradient of the rows the kernel leaves. -/
theorem final5 : (dats m 0 c).arrAt 5 cfg0.N = arr (φ := .f32) 4096 1024 (fun i d => across 1024 0x44800000#32 (down A W R i)
    (fun k => scaled (down A W R) G Y i k * G 0 k) d) := by
  refine (dats m 0 c).arrAt_eq_of_covers 5 _ (by decide +kernel) fun t hf y => ?_
  blk_simp
  rw [after0_5]
  have e : (outsAt0 m c t.val t.isLt).1
      = arr (φ := .f32) 512 1024 (fun i d => across 1024 0x44800000#32 (down A W R (512 * t.val + i))
        (fun k => scaled (down A W R) G Y (512 * t.val + i) k * G 0 k) d) := by
    have h' : t.val < 8 := t.isLt
    by_cases h : t.val % 8 = 0
    · rw [outsAt0_A m c t h (by omega) h (by omega)]
      frame_out
      exact rowsAt m c h0 h1 h2 h3 h4 t
    · rw [outsAt0_B m c t h (by omega) h (by omega)]
      frame_out
      exact rowsAt m c h0 h1 h2 h3 h4 t
  rw [e]
  obtain ⟨e0, e1⟩ := (indices t).2.2.2.2.2.1
  have hq : ((win0_5.blk t).view.emb y 0).val = 512 * t.val + (y 0).val := by
    show win0_5.index t 0 * 512 + 1 * (y 0).val = _
    rw [e0]; omega
  have hd : ((win0_5.blk t).view.emb y 1).val = (y 1).val := by
    show win0_5.index t 1 * 1024 + 1 * (y 1).val = _
    rw [e1]; omega
  unfold arr
  rw [hq, hd]

/-- The gradient of the scale the kernel leaves. -/
theorem final6 : (dats m 0 c).arrAt 6 cfg0.N = arr (φ := .f32) 1 1024 (fun _ d => ∑ i : Fin 4096,
    scaled (down A W R) G Y i.val d * (down A W R i.val d * rms 1024 0x44800000#32 (down A W R i.val))) := by
  refine (dats m 0 c).arrAt_eq_of_after_last 6 t0_7 (by decide +kernel) _ fun j => ?_
  blk_simp
  rw [after0_6]
  rw [Pipeline.eq_sum_fin_of_reset_step_apply_last (fun n h => (outsAt0 m c n h).2.1) 8 (fun _ => 0)
    (fun t j => 0 + (∑ q : Fin 128, scaled (down A W R) G Y (512 * t.val + (0 + q.val)) (j 1).val * (down A W R (512 * t.val + (0 + q.val)) (j 1).val * rms 1024 0x44800000#32 (down A W R (512 * t.val + (0 + q.val))))) + (∑ q : Fin 128, scaled (down A W R) G Y (512 * t.val + (128 + q.val)) (j 1).val * (down A W R (512 * t.val + (128 + q.val)) (j 1).val * rms 1024 0x44800000#32 (down A W R (512 * t.val + (128 + q.val))))) + (∑ q : Fin 128, scaled (down A W R) G Y (512 * t.val + (256 + q.val)) (j 1).val * (down A W R (512 * t.val + (256 + q.val)) (j 1).val * rms 1024 0x44800000#32 (down A W R (512 * t.val + (256 + q.val))))) + (∑ q : Fin 128, scaled (down A W R) G Y (512 * t.val + (384 + q.val)) (j 1).val * (down A W R (512 * t.val + (384 + q.val)) (j 1).val * rms 1024 0x44800000#32 (down A W R (512 * t.val + (384 + q.val))))))
    (fun t h j => by
      have h' : t.val < 8 := t.isLt
      rw [outsAt0_A m c t h (by omega) h (by omega)]
      frame_out
      refine (congrFun (scaleAt m c h0 h1 h2 h3 h4 t) j).trans ?_
      simp [arr])
    (fun t h j => by
      rw [outsAt0_B m c t h (by omega) h (by omega)]
      frame_out
      unfold k0_pay40
      rw [shapeCast_self]
      exact congrArg (fun x => _ + x) (congrFun (scaleAt m c h0 h1 h2 h3 h4 t) j))
    (by decide +kernel) t0_7 rfl _]
  have e := sum_runs (fun i => scaled (down A W R) G Y i (j 1).val * (down A W R i (j 1).val * rms 1024 0x44800000#32 (down A W R i)))
  refine (zero_add (M := EReal) _).trans (Eq.trans ?_ e)
  refine Finset.sum_congr rfl fun t _ => ?_
  refine (four (fun o => ∑ q : Fin 128, scaled (down A W R) G Y (512 * t.val + (o + q.val)) (j 1).val
    * (down A W R (512 * t.val + (o + q.val)) (j 1).val * rms 1024 0x44800000#32 (down A W R (512 * t.val + (o + q.val)))))).trans ?_
  simp only [Nat.add_assoc]

/-- The loss the kernel leaves. -/
theorem final7 : (dats m 0 c).arrAt 7 cfg0.N = arr (φ := .f32) 1 128 (fun _ _ => ∑ t : Fin 8, ∑ s : Fin 4,
    Ideal.ofBits .f32 0x3F000000#32 * ∑ q : Fin 128, row (down A W R) G Y (512 * t.val + 128 * s.val + q.val)) := by
  refine (dats m 0 c).arrAt_eq_of_after_last 7 t0_7 (by decide +kernel) _ fun j => ?_
  blk_simp
  rw [after0_7]
  rw [Pipeline.eq_sum_fin_of_reset_step_apply_last (fun n h => (outsAt0 m c n h).2.2) 8 (fun _ => 0)
    (fun t j => 0 + Ideal.ofBits .f32 0x3F000000#32 * ∑ q : Fin 128, row (down A W R) G Y (512 * t.val + (0 + q.val)) + Ideal.ofBits .f32 0x3F000000#32 * ∑ q : Fin 128, row (down A W R) G Y (512 * t.val + (128 + q.val)) + Ideal.ofBits .f32 0x3F000000#32 * ∑ q : Fin 128, row (down A W R) G Y (512 * t.val + (256 + q.val)) + Ideal.ofBits .f32 0x3F000000#32 * ∑ q : Fin 128, row (down A W R) G Y (512 * t.val + (384 + q.val)))
    (fun t h j => by
      have h' : t.val < 8 := t.isLt
      rw [outsAt0_A m c t h (by omega) h (by omega)]
      frame_out
      refine (congrFun (lossAt m c h0 h1 h2 h3 h4 t) j).trans ?_
      simp [arr])
    (fun t h j => by
      rw [outsAt0_B m c t h (by omega) h (by omega)]
      frame_out
      unfold k0_pay1
      rw [shapeCast_self]
      exact congrArg (fun x => _ + x) (congrFun (lossAt m c h0 h1 h2 h3 h4 t) j))
    (by decide +kernel) t0_7 rfl _]
  refine (zero_add (M := EReal) _).trans ?_
  refine Finset.sum_congr rfl fun t _ => ?_
  refine (four (fun o => Ideal.ofBits .f32 0x3F000000#32 * ∑ q : Fin 128, row (down A W R) G Y (512 * t.val + (o + q.val)))).trans ?_
  simp only [Nat.add_assoc]

end

end Cert.LossIdeal.Norm

end
-- ==== Proof.MixClaims.lean ====
/-
The claims about the calls around the attention and the loss: the reference programs leave their arguments and every
counter at zero, and the kernels' results are the references'.
-/
module

public import proofs.«01_k».proof.Defs
public import proofs.«01_k».proof.Proof.UpClaims
public import proofs.«01_k».proof.Proof.Heads
public import proofs.«01_k».proof.Proof.Gen.HeadsIdeal.Value
public import proofs.«01_k».proof.Proof.Gen.HeadsRefIdeal.Run
public import proofs.«01_k».proof.Proof.Gen.HeadsRefIdeal.Read
public import proofs.«01_k».proof.Proof.HeadsBwd
public import proofs.«01_k».proof.Proof.Gen.HeadsBwdIdeal.Value
public import proofs.«01_k».proof.Proof.Gen.HeadsBwdRefIdeal.Run
public import proofs.«01_k».proof.Proof.Gen.HeadsBwdRefIdeal.Read
public import proofs.«01_k».proof.Proof.In
public import proofs.«01_k».proof.Proof.Gen.InIdeal.Value
public import proofs.«01_k».proof.Proof.Gen.InRefIdeal.Run
public import proofs.«01_k».proof.Proof.Gen.InRefIdeal.Read
public import proofs.«01_k».proof.Proof.InBwd
public import proofs.«01_k».proof.Proof.Gen.InBwdIdeal.Value
public import proofs.«01_k».proof.Proof.Gen.InBwdRefIdeal.Run
public import proofs.«01_k».proof.Proof.Gen.InBwdRefIdeal.Read
public import proofs.«01_k».proof.Proof.InW
public import proofs.«01_k».proof.Proof.Gen.InWIdeal.Value
public import proofs.«01_k».proof.Proof.Gen.InWRefIdeal.Run
public import proofs.«01_k».proof.Proof.Gen.InWRefIdeal.Read
public import proofs.«01_k».proof.Proof.UkvBwd
public import proofs.«01_k».proof.Proof.Gen.UkvBwdIdeal.Value
public import proofs.«01_k».proof.Proof.Gen.UkvBwdRefIdeal.Run
public import proofs.«01_k».proof.Proof.Gen.UkvBwdRefIdeal.Read
public import proofs.«01_k».proof.Proof.Loss
public import proofs.«01_k».proof.Proof.Gen.LossIdeal.Value
public import proofs.«01_k».proof.Proof.Gen.LossRefIdeal.Run
public import proofs.«01_k».proof.Proof.Gen.LossRefIdeal.Read

@[expose] public section

noncomputable section

open Idealize.ShloMosaic Idealize.ShloMosaic.TcCoe Idealize.SL.Sem Cert.Arr Cert.Conv

namespace Cert.Pre_finite_heads_bwd

/-- The precondition's broadcasts. -/
theorem bcasts : Facts where
  bcast_S_S4096x1024 := by decide
  bcast_S_S1024x1024 := by decide
  bcast_S_S4096x512 := by decide
  bcast_S_S1x512 := by decide

end Cert.Pre_finite_heads_bwd

namespace Cert.Pre_finite_in_bwd

/-- The precondition's broadcasts. -/
theorem bcasts : Facts where
  bcast_S_S4096x512 := by decide
  bcast_S_S4096x256 := by decide
  bcast_S_S4096x128 := by decide
  bcast_S_S4096x384 := by decide
  bcast_S_S2304x1024 := by decide
  bcast_S_S4096x1024 := by decide
  bcast_S_S1x1024 := by decide

end Cert.Pre_finite_in_bwd

namespace Cert.Pre_finite_ukv_bwd

/-- The precondition's broadcasts. -/
theorem bcasts : Facts where
  bcast_S_S4096x512 := by decide
  bcast_S_S256x1024 := by decide
  bcast_S_S4096x2304 := by decide
  bcast_S_S1x256 := by decide

end Cert.Pre_finite_ukv_bwd

namespace Cert.Pre_finite_loss

/-- The precondition's broadcasts. -/
theorem bcasts : Facts where
  bcast_S_S4096x2816 := by decide
  bcast_S_S2816x1024 := by decide
  bcast_S_S4096x1024 := by decide
  bcast_S_S1x1024 := by decide

end Cert.Pre_finite_loss

namespace Cert.Proof

attribute [local instance] Cert.Pre_finite_heads_bwd.bcasts Cert.Pre_finite_in_bwd.bcasts Cert.Pre_finite_ukv_bwd.bcasts Cert.Pre_finite_loss.bcasts

theorem frame_heads_ref : Cert.quiescent_HeadsRefIdeal := fun m g _ =>
  (θ_run Cert.HeadsRefIdeal.defs _ _).mono (fun r h => ⟨fun c => (h c).2.2, sem_eq_zero_of_no_sems (by decide) r.2⟩)
    (Cert.HeadsRefIdeal.Value.run (F := Ideal) m g)

theorem frame_heads_bwd_ref : Cert.quiescent_HeadsBwdRefIdeal := fun m g _ =>
  (θ_run Cert.HeadsBwdRefIdeal.defs _ _).mono (fun r h => ⟨fun c => (h c).2.2.2.2.2, sem_eq_zero_of_no_sems (by decide) r.2⟩)
    (Cert.HeadsBwdRefIdeal.Value.run (F := Ideal) m g)

theorem frame_in_ref : Cert.quiescent_InRefIdeal := fun m g _ =>
  (θ_run Cert.InRefIdeal.defs _ _).mono (fun r h => ⟨fun c => (h c).2.2, sem_eq_zero_of_no_sems (by decide) r.2⟩)
    (Cert.InRefIdeal.Value.run (F := Ideal) m g)

theorem frame_in_bwd_ref : Cert.quiescent_InBwdRefIdeal := fun m g _ =>
  (θ_run Cert.InBwdRefIdeal.defs _ _).mono (fun r h => ⟨fun c => (h c).2.2.2, sem_eq_zero_of_no_sems (by decide) r.2⟩)
    (Cert.InBwdRefIdeal.Value.run (F := Ideal) m g)

theorem frame_in_w_ref : Cert.quiescent_InWRefIdeal := fun m g _ =>
  (θ_run Cert.InWRefIdeal.defs _ _).mono (fun r h => ⟨fun c => (h c).2, sem_eq_zero_of_no_sems (by decide) r.2⟩)
    (Cert.InWRefIdeal.Value.run (F := Ideal) m g)

theorem frame_ukv_bwd_ref : Cert.quiescent_UkvBwdRefIdeal := fun m g _ =>
  (θ_run Cert.UkvBwdRefIdeal.defs _ _).mono (fun r h => ⟨fun c => (h c).2.2.2, sem_eq_zero_of_no_sems (by decide) r.2⟩)
    (Cert.UkvBwdRefIdeal.Value.run (F := Ideal) m g)

theorem frame_loss_ref : Cert.quiescent_LossRefIdeal := fun m g _ =>
  (θ_run Cert.LossRefIdeal.defs _ _).mono (fun r h => ⟨fun c => (h c).2.2.2, sem_eq_zero_of_no_sems (by decide) r.2⟩)
    (Cert.LossRefIdeal.Value.run (F := Ideal) m g)

/-- The normed heads side by side and their projection are the reference's. -/
theorem heads_eq : Cert.algebraic_HeadsIdeal_HeadsRefIdeal := by
  intro m g m' g' _ hag
  refine ⟨fun c => (Cert.HeadsIdeal.Gen.dats m 0 c).arrAt 6 Cert.HeadsIdeal.cfg0.N,
    fun c => (Cert.HeadsIdeal.Gen.dats m 0 c).arrAt 7 Cert.HeadsIdeal.cfg0.N, Cert.HeadsIdeal.Value.run_blocks m g, ?_⟩
  refine (θ_run Cert.HeadsRefIdeal.defs _ _).mono (fun r h c => ?_) (Cert.HeadsRefIdeal.Value.run (F := Ideal) m' g')
  obtain ⟨e0, e1, ea⟩ := h c
  obtain ⟨a0, a1, a2, a3, a4, a5⟩ := hag c
  obtain ⟨X0, h0⟩ := exists_arr (m ((c : Thread Cert.HeadsIdeal.nD Cert.HeadsIdeal.τ).loc Cert.HeadsIdeal.main_arg0))
  obtain ⟨X1, h1⟩ := exists_arr (m ((c : Thread Cert.HeadsIdeal.nD Cert.HeadsIdeal.τ).loc Cert.HeadsIdeal.main_arg1))
  obtain ⟨X2, h2⟩ := exists_arr (m ((c : Thread Cert.HeadsIdeal.nD Cert.HeadsIdeal.τ).loc Cert.HeadsIdeal.main_arg2))
  obtain ⟨X3, h3⟩ := exists_arr (m ((c : Thread Cert.HeadsIdeal.nD Cert.HeadsIdeal.τ).loc Cert.HeadsIdeal.main_arg3))
  obtain ⟨X4, h4⟩ := exists_arr (m ((c : Thread Cert.HeadsIdeal.nD Cert.HeadsIdeal.τ).loc Cert.HeadsIdeal.main_arg4))
  obtain ⟨X5, h5⟩ := exists_arr (m ((c : Thread Cert.HeadsIdeal.nD Cert.HeadsIdeal.τ).loc Cert.HeadsIdeal.main_arg5))
  refine ⟨e0.trans ?_, e1.trans ?_, ea⟩
  · refine (Cert.HeadsRefIdeal.Read.val_main_v25_eq ..).trans ?_
    refine (Cert.HeadsRefIdeal.Norm.v25_eq (a0.trans h0) (a1.trans h1) (a2.trans h2) (a3.trans h3)).trans ?_
    exact (Cert.HeadsIdeal.Norm.final6 m c h0 h1 h2 h3).symm
  · refine (Cert.HeadsRefIdeal.Read.val_main_v27_eq ..).trans ?_
    refine (Cert.HeadsRefIdeal.Norm.v27_eq (a0.trans h0) (a1.trans h1) (a2.trans h2) (a3.trans h3) (a4.trans h4) (a5.trans h5)).trans ?_
    exact (Cert.HeadsIdeal.Norm.final7 m c h0 h1 h2 h3 h4 h5).symm

/-- From finite arguments the gradients of the heads, of their scales and of the projection are the reference's. -/
theorem heads_bwd_eq : Cert.algebraic_HeadsBwdIdeal_HeadsBwdRefIdeal_pre_finite_heads_bwd := by
  intro m g m' g' hpre hag
  refine ⟨fun c => (Cert.HeadsBwdIdeal.Gen.dats m 0 c).arrAt 7 Cert.HeadsBwdIdeal.cfg0.N,
    fun c => (Cert.HeadsBwdIdeal.Gen.dats m 0 c).arrAt 8 Cert.HeadsBwdIdeal.cfg0.N,
    fun c => (Cert.HeadsBwdIdeal.Gen.dats m 0 c).arrAt 9 Cert.HeadsBwdIdeal.cfg0.N,
    fun c => (Cert.HeadsBwdIdeal.Gen.dats m 0 c).arrAt 10 Cert.HeadsBwdIdeal.cfg0.N,
    fun c => (Cert.HeadsBwdIdeal.Gen.dats m 0 c).arrAt 11 Cert.HeadsBwdIdeal.cfg0.N, Cert.HeadsBwdIdeal.Value.run_blocks m g, ?_⟩
  refine (θ_run Cert.HeadsBwdRefIdeal.defs _ _).mono (fun r h c => ?_) (Cert.HeadsBwdRefIdeal.Value.run (F := Ideal) m' g')
  obtain ⟨e0, e1, e2, e3, e4, ea⟩ := h c
  obtain ⟨p0, p1, p3, p4, p5, p6⟩ := hpre c
  obtain ⟨a0, a1, a2, a3, a4, a5, a6⟩ := hag c
  obtain ⟨x0, h0⟩ := reals _ _ p0
  obtain ⟨x1, h1⟩ := reals _ _ p1
  obtain ⟨X2, h2⟩ := exists_arr (m ((c : Thread Cert.HeadsBwdIdeal.nD Cert.HeadsBwdIdeal.τ).loc Cert.HeadsBwdIdeal.main_arg2))
  obtain ⟨x3, h3⟩ := reals _ _ p3
  obtain ⟨x4, h4⟩ := reals _ _ p4
  obtain ⟨x5, h5⟩ := reals _ _ p5
  obtain ⟨x6, h6⟩ := reals _ _ p6
  refine ⟨e0.trans ?_, e1.trans ?_, e2.trans ?_, e3.trans ?_, e4.trans ?_, ea⟩
  · refine (Cert.HeadsBwdRefIdeal.Read.val_main_v72_eq ..).trans ?_
    refine (Cert.HeadsBwdRefIdeal.Norm.v72_eq (a0.trans h0) (a1.trans h1) (a3.trans h3) (a5.trans h5)).trans ?_
    refine Eq.trans ?_ (Cert.HeadsBwdIdeal.Norm.final7 m c h0 h1 h3 h5).symm
    funext j
    have e := Cert.HeadsBwdRefIdeal.Norm.join 0 x0 x1 x3 x5 (j 0).val (j 1).val
    simp only [Nat.zero_add] at e
    exact e.symm
  · refine (Cert.HeadsBwdRefIdeal.Read.val_main_v53_eq ..).trans ?_
    refine (Cert.HeadsBwdRefIdeal.Norm.v53_eq (a0.trans h0) (a1.trans h1) (a4.trans h4) (a6.trans h6)).trans ?_
    refine Eq.trans ?_ (Cert.HeadsBwdIdeal.Norm.final8 m c h0 h1 h4 h6).symm
    funext j
    exact (Cert.HeadsBwdRefIdeal.Norm.join 512 x0 x1 x4 x6 (j 0).val (j 1).val).symm
  · refine (Cert.HeadsBwdRefIdeal.Read.val_main_v56_eq ..).trans ?_
    refine (Cert.HeadsBwdRefIdeal.Norm.v56_eq (a0.trans h0) (a1.trans h1) (a3.trans h3)).trans ?_
    refine Eq.trans ?_ (Cert.HeadsBwdIdeal.Norm.final9 m c h0 h1 h3).symm
    funext j
    exact Fin.sum_fin_congr fun i => mul_comm _ _
  · refine (Cert.HeadsBwdRefIdeal.Read.val_main_v37_eq ..).trans ?_
    refine (Cert.HeadsBwdRefIdeal.Norm.v37_eq (a0.trans h0) (a1.trans h1) (a4.trans h4)).trans ?_
    refine Eq.trans ?_ (Cert.HeadsBwdIdeal.Norm.final10 m c h0 h1 h4).symm
    funext j
    exact Fin.sum_fin_congr fun i => mul_comm _ _
  · refine (Cert.HeadsBwdRefIdeal.Read.val_main_v76_eq ..).trans ?_
    refine (Cert.HeadsBwdRefIdeal.Norm.v76_eq (a0.trans h0) (a2.trans h2)).trans ?_
    refine Eq.trans ?_ (Cert.HeadsBwdIdeal.Norm.final11 m c h0 h2).symm
    funext j
    exact Fin.sum_fin_congr fun i => mul_comm _ _

/-- The normed rows and their projection are the reference's. -/
theorem in_eq : Cert.algebraic_InIdeal_InRefIdeal := by
  intro m g m' g' _ hag
  refine ⟨fun c => (Cert.InIdeal.Gen.dats m 0 c).arrAt 3 Cert.InIdeal.cfg0.N,
    fun c => (Cert.InIdeal.Gen.dats m 0 c).arrAt 4 Cert.InIdeal.cfg0.N, Cert.InIdeal.Value.run_blocks m g, ?_⟩
  refine (θ_run Cert.InRefIdeal.defs _ _).mono (fun r h c => ?_) (Cert.InRefIdeal.Value.run (F := Ideal) m' g')
  obtain ⟨e0, e1, ea⟩ := h c
  obtain ⟨a0, a1, a2⟩ := hag c
  obtain ⟨X0, h0⟩ := exists_arr (m ((c : Thread Cert.InIdeal.nD Cert.InIdeal.τ).loc Cert.InIdeal.main_arg0))
  obtain ⟨X1, h1⟩ := exists_arr (m ((c : Thread Cert.InIdeal.nD Cert.InIdeal.τ).loc Cert.InIdeal.main_arg1))
  obtain ⟨X2, h2⟩ := exists_arr (m ((c : Thread Cert.InIdeal.nD Cert.InIdeal.τ).loc Cert.InIdeal.main_arg2))
  refine ⟨e0.trans ?_, e1.trans ?_, ea⟩
  · refine (Cert.InRefIdeal.Read.val_main_v12_eq ..).trans ?_
    refine (Cert.InRefIdeal.Norm.v12_eq (a0.trans h0) (a1.trans h1)).trans ?_
    exact (Cert.InIdeal.Norm.final3 m c h0 h1).symm
  · refine (Cert.InRefIdeal.Read.val_main_v14_eq ..).trans ?_
    refine (Cert.InRefIdeal.Norm.v14_eq (a0.trans h0) (a1.trans h1) (a2.trans h2)).trans ?_
    exact (Cert.InIdeal.Norm.final4 m c h0 h1 h2).symm

/-- From finite arguments the gradients of the rows and of the scale are the reference's. -/
theorem in_bwd_eq : Cert.algebraic_InBwdIdeal_InBwdRefIdeal_pre_finite_in_bwd := by
  intro m g m' g' hpre hag
  refine ⟨fun c => (Cert.InBwdIdeal.Gen.dats m 0 c).arrAt 10 Cert.InBwdIdeal.cfg0.N,
    fun c => (Cert.InBwdIdeal.Gen.dats m 0 c).arrAt 11 Cert.InBwdIdeal.cfg0.N,
    fun c => (Cert.InBwdIdeal.Gen.dats m 0 c).arrAt 12 Cert.InBwdIdeal.cfg0.N, Cert.InBwdIdeal.Value.run_blocks m g, ?_⟩
  refine (θ_run Cert.InBwdRefIdeal.defs _ _).mono (fun r h c => ?_) (Cert.InBwdRefIdeal.Value.run (F := Ideal) m' g')
  obtain ⟨e0, e1, e2, ea⟩ := h c
  obtain ⟨p0, p1, p2, p3, p4, p5, p6, p7, p8⟩ := hpre c
  obtain ⟨a0, a1, a2, a3, a4, a5, a6, a7, a8, a9⟩ := hag c
  obtain ⟨x0, h0⟩ := reals _ _ p0
  obtain ⟨x1, h1⟩ := reals _ _ p1
  obtain ⟨x2, h2⟩ := reals _ _ p2
  obtain ⟨x3, h3⟩ := reals _ _ p3
  obtain ⟨x4, h4⟩ := reals _ _ p4
  obtain ⟨x5, h5⟩ := reals _ _ p5
  obtain ⟨x6, h6⟩ := reals _ _ p6
  obtain ⟨x7, h7⟩ := reals _ _ p7
  obtain ⟨x8, h8⟩ := reals _ _ p8
  obtain ⟨X9, h9⟩ := exists_arr (m ((c : Thread Cert.InBwdIdeal.nD Cert.InBwdIdeal.τ).loc Cert.InBwdIdeal.main_arg9))
  refine ⟨e0.trans ?_, e1.trans ?_, e2.trans ?_, ea⟩
  · refine (Cert.InBwdRefIdeal.Read.val_main_v38_eq ..).trans ?_
    refine (Cert.InBwdRefIdeal.Norm.v38_eq (a0.trans h0) (a1.trans h1) (a2.trans h2) (a3.trans h3) (a4.trans h4) (a5.trans h5)).trans ?_
    exact (Cert.InBwdIdeal.Norm.final10 m c h0 h1 h2 h3 h4 h5).symm
  · refine (Cert.InBwdRefIdeal.Read.val_main_v39_eq ..).trans ?_
    refine (Cert.InBwdRefIdeal.Norm.v39_eq (a0.trans h0) (a1.trans h1) (a2.trans h2) (a3.trans h3) (a4.trans h4) (a5.trans h5) (a6.trans h6) (a7.trans h7) (a8.trans h8) (a9.trans h9)).trans ?_
    refine Eq.trans ?_ (Cert.InBwdIdeal.Norm.final11 m c h0 h1 h2 h3 h4 h5 h6 h7 h8 h9).symm
    funext j
    exact congrArg (· + X9 (j 0).val (j 1).val)
      (Cert.InBwdRefIdeal.Norm.join x0 x1 x2 x3 x4 x5 x6 x7 x8 (j 0).val (j 1).val).symm
  · refine (Cert.InBwdRefIdeal.Read.val_main_v21_eq ..).trans ?_
    refine (Cert.InBwdRefIdeal.Norm.v21_eq (a0.trans h0) (a1.trans h1) (a2.trans h2) (a3.trans h3) (a4.trans h4) (a5.trans h5) (a6.trans h6) (a7.trans h7)).trans ?_
    refine Eq.trans ?_ (Cert.InBwdIdeal.Norm.final12 m c h0 h1 h2 h3 h4 h5 h6 h7).symm
    funext j
    exact Fin.sum_fin_congr fun i => mul_comm _ _

/-- The gradient of the weights is the reference's. -/
theorem in_w_eq : Cert.algebraic_InWIdeal_InWRefIdeal := by
  intro m g m' g' _ hag
  refine ⟨fun c => (Cert.InWIdeal.Gen.dats m 0 c).arrAt 2 Cert.InWIdeal.cfg0.N, Cert.InWIdeal.Value.run_blocks m g, ?_⟩
  refine (θ_run Cert.InWRefIdeal.defs _ _).mono (fun r h c => ?_) (Cert.InWRefIdeal.Value.run (F := Ideal) m' g')
  obtain ⟨e0, ea⟩ := h c
  obtain ⟨a0, a1⟩ := hag c
  obtain ⟨X0, h0⟩ := exists_arr (m ((c : Thread Cert.InWIdeal.nD Cert.InWIdeal.τ).loc Cert.InWIdeal.main_arg0))
  obtain ⟨X1, h1⟩ := exists_arr (m ((c : Thread Cert.InWIdeal.nD Cert.InWIdeal.τ).loc Cert.InWIdeal.main_arg1))
  refine ⟨e0.trans ?_, ea⟩
  · refine (Cert.InWRefIdeal.Read.val_main_v5_eq ..).trans ?_
    refine (Cert.InWRefIdeal.Product.v5_eq (a0.trans h0) (a1.trans h1)).trans ?_
    exact (Cert.InWIdeal.Product.final m c h0 h1).symm

/-- From finite arguments the gradients of the weights, of the compressed rows and of the scale are the reference's. -/
theorem ukv_bwd_eq : Cert.algebraic_UkvBwdIdeal_UkvBwdRefIdeal_pre_finite_ukv_bwd := by
  intro m g m' g' hpre hag
  refine ⟨fun c => (Cert.UkvBwdIdeal.Gen.dats m 0 c).arrAt 6 Cert.UkvBwdIdeal.cfg0.N,
    fun c => (Cert.UkvBwdIdeal.Gen.dats m 0 c).arrAt 7 Cert.UkvBwdIdeal.cfg0.N,
    fun c => (Cert.UkvBwdIdeal.Gen.dats m 0 c).arrAt 8 Cert.UkvBwdIdeal.cfg0.N, Cert.UkvBwdIdeal.Value.run_blocks m g, ?_⟩
  refine (θ_run Cert.UkvBwdRefIdeal.defs _ _).mono (fun r h c => ?_) (Cert.UkvBwdRefIdeal.Value.run (F := Ideal) m' g')
  obtain ⟨e0, e1, e2, ea⟩ := h c
  obtain ⟨p0, p1, p2, p3, p4⟩ := hpre c
  obtain ⟨a0, a1, a2, a3, a4, a5⟩ := hag c
  obtain ⟨x0, h0⟩ := reals _ _ p0
  obtain ⟨x1, h1⟩ := reals _ _ p1
  obtain ⟨x2, h2⟩ := reals _ _ p2
  obtain ⟨x3, h3⟩ := reals _ _ p3
  obtain ⟨x4, h4⟩ := reals _ _ p4
  obtain ⟨X5, h5⟩ := exists_arr (m ((c : Thread Cert.UkvBwdIdeal.nD Cert.UkvBwdIdeal.τ).loc Cert.UkvBwdIdeal.main_arg5))
  refine ⟨e0.trans ?_, e1.trans ?_, e2.trans ?_, ea⟩
  · refine (Cert.UkvBwdRefIdeal.Read.val_main_v3_eq ..).trans ?_
    refine (Cert.UkvBwdRefIdeal.Norm.v3_eq (a0.trans h0) (a1.trans h1) (a5.trans h5)).trans ?_
    refine Eq.trans ?_ (Cert.UkvBwdIdeal.Norm.final6 m c h0 h1 h5).symm
    funext j
    exact Fin.sum_fin_congr fun i => mul_comm _ _
  · refine (Cert.UkvBwdRefIdeal.Read.val_main_v41_eq ..).trans ?_
    refine (Cert.UkvBwdRefIdeal.Norm.v41_eq (a0.trans h0) (a1.trans h1) (a2.trans h2) (a3.trans h3) (a4.trans h4)).trans ?_
    refine Eq.trans ?_ (Cert.UkvBwdIdeal.Norm.final7 m c h0 h1 h2 h3 h4).symm
    funext j
    exact (Cert.UkvBwdRefIdeal.Norm.join x0 x1 x2 x3 x4 (j 0).val (j 1).val).symm
  · refine (Cert.UkvBwdRefIdeal.Read.val_main_v24_eq ..).trans ?_
    refine (Cert.UkvBwdRefIdeal.Norm.v24_eq (a0.trans h0) (a1.trans h1) (a2.trans h2) (a3.trans h3)).trans ?_
    refine Eq.trans ?_ (Cert.UkvBwdIdeal.Norm.final8 m c h0 h1 h2 h3).symm
    funext j
    exact Fin.sum_fin_congr fun i => mul_comm _ _

/-- From finite arguments the loss and the gradients of the rows and of the scale are the reference's. -/
theorem loss_eq : Cert.algebraic_LossIdeal_LossRefIdeal_pre_finite_loss := by
  intro m g m' g' hpre hag
  refine ⟨fun c => (Cert.LossIdeal.Gen.dats m 0 c).arrAt 5 Cert.LossIdeal.cfg0.N,
    fun c => (Cert.LossIdeal.Gen.dats m 0 c).arrAt 6 Cert.LossIdeal.cfg0.N,
    fun c => (Cert.LossIdeal.Gen.dats m 0 c).arrAt 7 Cert.LossIdeal.cfg0.N, Cert.LossIdeal.Value.run_blocks m g, ?_⟩
  refine (θ_run Cert.LossRefIdeal.defs _ _).mono (fun r h c => ?_) (Cert.LossRefIdeal.Value.run (F := Ideal) m' g')
  obtain ⟨e0, e1, e2, ea⟩ := h c
  obtain ⟨p0, p1, p2, p3, p4⟩ := hpre c
  obtain ⟨a0, a1, a2, a3, a4⟩ := hag c
  obtain ⟨x0, h0⟩ := reals _ _ p0
  obtain ⟨x1, h1⟩ := reals _ _ p1
  obtain ⟨x2, h2⟩ := reals _ _ p2
  obtain ⟨x3, h3⟩ := reals _ _ p3
  obtain ⟨x4, h4⟩ := reals _ _ p4
  refine ⟨e0.trans ?_, e1.trans ?_, e2.trans ?_, ea⟩
  · refine (Cert.LossRefIdeal.Read.val_main_v50_eq ..).trans ?_
    refine (Cert.LossRefIdeal.Norm.v50_eq (a0.trans h0) (a1.trans h1) (a2.trans h2) (a3.trans h3) (a4.trans h4)).trans ?_
    refine Eq.trans ?_ (Cert.LossIdeal.Norm.final5 m c h0 h1 h2 h3 h4).symm
    funext j
    exact (Cert.LossRefIdeal.Norm.join_dx x0 x1 x2 x3 x4 (j 0).val (j 1).val).symm
  · refine (Cert.LossRefIdeal.Read.val_main_v34_eq ..).trans ?_
    refine (Cert.LossRefIdeal.Norm.v34_eq (a0.trans h0) (a1.trans h1) (a2.trans h2) (a3.trans h3) (a4.trans h4)).trans ?_
    refine Eq.trans ?_ (Cert.LossIdeal.Norm.final6 m c h0 h1 h2 h3 h4).symm
    funext j
    exact (Cert.LossRefIdeal.Norm.join_dg x0 x1 x2 x3 x4 (j 1).val).symm
  · refine (Cert.LossRefIdeal.Read.val_main_v51_eq ..).trans ?_
    refine (Cert.LossRefIdeal.Norm.v51_eq (a0.trans h0) (a1.trans h1) (a2.trans h2) (a3.trans h3) (a4.trans h4)).trans ?_
    refine Eq.trans ?_ (Cert.LossIdeal.Norm.final7 m c h0 h1 h2 h3 h4).symm
    funext j
    exact (Cert.LossRefIdeal.Norm.join_loss x0 x1 x2 x3 x4).symm

end Cert.Proof

end
-- ==== Proof.lean ====
/-
The proof of `Cert.Claim`: the frames of the kernels, of their idealizations and of the references, the idealizations
themselves, and the kernels' results equal to the references'. The other calls are in Proof/UpClaims.lean
and Proof/MixClaims.lean.

The four results of the convolution's kernel are real arrays by `g5`, `g6`, `g7` and `g8` (Proof/Points.lean), the reference's by `v88_eq`,
`v96_eq`, `v104_eq` and `v105_eq` (Proof/RefSums.lean), and the two families of numbers are the same (Proof/Join.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Finite
public import proofs.«01_k».proof.Proof.Join
public import proofs.«01_k».proof.Proof.Gen.Up.Frame
public import proofs.«01_k».proof.Proof.Gen.UpBwd.Frame
public import proofs.«01_k».proof.Proof.Gen.UpW.Frame
public import proofs.«01_k».proof.Proof.Gen.Heads.Frame
public import proofs.«01_k».proof.Proof.Gen.HeadsBwd.Frame
public import proofs.«01_k».proof.Proof.Gen.In.Frame
public import proofs.«01_k».proof.Proof.Gen.InBwd.Frame
public import proofs.«01_k».proof.Proof.Gen.InW.Frame
public import proofs.«01_k».proof.Proof.Gen.UkvBwd.Frame
public import proofs.«01_k».proof.Proof.Gen.Loss.Frame
public import proofs.«01_k».proof.Proof.UpClaims
public import proofs.«01_k».proof.Proof.MixClaims
public import Idealize.ShloMosaic.Adequacy
public import Idealize.ShloMosaic.Init

@[expose] public section

noncomputable section

namespace Cert.Proof

open Idealize.ShloMosaic Idealize.ShloMosaic.TcCoe Idealize.SL.Sem Cert.Conv

attribute [local instance] Cert.Pre_all_finite.bcasts

/-- The reference leaves its arguments and every counter at zero. -/
theorem frame_r (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c : Thread Cert.ReferenceIdeal.nD Cert.ReferenceIdeal.τ).loc Cert.ReferenceIdeal.main_arg0) = m ((c : Thread Cert.ReferenceIdeal.nD Cert.ReferenceIdeal.τ).loc Cert.ReferenceIdeal.main_arg0)
        ∧ r.2.mem ((c : Thread Cert.ReferenceIdeal.nD Cert.ReferenceIdeal.τ).loc Cert.ReferenceIdeal.main_arg1) = m ((c : Thread Cert.ReferenceIdeal.nD Cert.ReferenceIdeal.τ).loc Cert.ReferenceIdeal.main_arg1)
        ∧ r.2.mem ((c : Thread Cert.ReferenceIdeal.nD Cert.ReferenceIdeal.τ).loc Cert.ReferenceIdeal.main_arg2) = m ((c : Thread Cert.ReferenceIdeal.nD Cert.ReferenceIdeal.τ).loc Cert.ReferenceIdeal.main_arg2)
        ∧ r.2.mem ((c : Thread Cert.ReferenceIdeal.nD Cert.ReferenceIdeal.τ).loc Cert.ReferenceIdeal.main_arg3) = m ((c : Thread Cert.ReferenceIdeal.nD Cert.ReferenceIdeal.τ).loc Cert.ReferenceIdeal.main_arg3)
        ∧ r.2.mem ((c : Thread Cert.ReferenceIdeal.nD Cert.ReferenceIdeal.τ).loc Cert.ReferenceIdeal.main_arg4) = m ((c : Thread Cert.ReferenceIdeal.nD Cert.ReferenceIdeal.τ).loc Cert.ReferenceIdeal.main_arg4))
        ∧ r.2.sem = fun _ => 0) :=
  (θ_run Cert.ReferenceIdeal.defs _ _).mono
    (fun r h => ⟨fun c => (h c).2.2.2.2, sem_eq_zero_of_no_sems (by decide) r.2⟩)
    (Cert.ReferenceIdeal.Value.run (F := Ideal) m g)

/-- From finite arguments the kernel's gradients are the reference's. -/
theorem gradients : Cert.algebraic_KernelIdeal_ReferenceIdeal_pre_all_finite := by
  intro m g m' g' hpre hag
  refine ⟨Cert.KernelIdeal.Value.G5 m, Cert.KernelIdeal.Value.G6 m, Cert.KernelIdeal.Value.G7 m,
    Cert.KernelIdeal.Value.G8 m, Cert.KernelIdeal.Value.run m g, ?_⟩
  refine (θ_run Cert.ReferenceIdeal.defs _ _).mono (fun r h c => ?_) (Cert.ReferenceIdeal.Value.run (F := Ideal) m' g')
  obtain ⟨e0, e1, e2, e3, ea⟩ := h c
  obtain ⟨p0, p1, p2, p3, p4⟩ := hpre c
  obtain ⟨a0, a1, a2, a3, a4⟩ := hag c
  obtain ⟨U, h0⟩ := Cert.Pre_all_finite.real_of_finite _ _ p0
  obtain ⟨DX, h1⟩ := Cert.Pre_all_finite.real_of_finite _ _ p1
  obtain ⟨WD, h2⟩ := Cert.Pre_all_finite.real_of_finite _ _ p2
  obtain ⟨CW, h3⟩ := Cert.Pre_all_finite.real_of_finite _ _ p3
  obtain ⟨CB, h4⟩ := Cert.Pre_all_finite.real_of_finite _ _ p4
  have k0 := a0.trans h0
  have k1 := a1.trans h1
  have k2 := a2.trans h2
  have k3 := a3.trans h3
  have k4 := a4.trans h4
  refine ⟨e0.trans ?_, e1.trans ?_, e2.trans ?_, e3.trans ?_, ea⟩
  · refine (Cert.ReferenceIdeal.Read.val_main_v88_eq _).trans ?_
    refine (Cert.ReferenceIdeal.Conv.v88_eq k0 k1 k2 k3 k4).trans ?_
    exact (Cert.Join.join_du U DX WD CW CB).symm.trans (Cert.KernelIdeal.Conv.g5 m c h0 h1 h2 h3 h4).symm
  · refine (Cert.ReferenceIdeal.Read.val_main_v96_eq _).trans ?_
    refine (Cert.ReferenceIdeal.Conv.v96_eq k0 k1 k2 k3 k4).trans ?_
    exact (Cert.Join.join_dw U DX WD CW CB).symm.trans (Cert.KernelIdeal.Conv.g6 m c h0 h1 h2 h3 h4).symm
  · refine (Cert.ReferenceIdeal.Read.val_main_v104_eq _).trans ?_
    refine (Cert.ReferenceIdeal.Conv.v104_eq k0 k1 k2 k3 k4).trans ?_
    exact (Cert.Join.join_db U DX WD CW CB).symm.trans (Cert.KernelIdeal.Conv.g7 m c h0 h1 h2 h3 h4).symm
  · refine (Cert.ReferenceIdeal.Read.val_main_v105_eq _).trans ?_
    refine (Cert.ReferenceIdeal.Conv.v105_eq k0 k1 k2 k3 k4).trans ?_
    exact (Cert.Join.join_dp U DX CW CB).symm.trans (Cert.KernelIdeal.Conv.g8 m c h0 h1 h2 h3 h4).symm

theorem claim : Cert.Claim :=
  ⟨Cert.Kernel.Gen.facts, Cert.KernelIdeal.Gen.facts, Cert.ReferenceIdeal.Gen.facts,
    Cert.Up.Gen.facts, Cert.UpIdeal.Gen.facts, Cert.UpRefIdeal.Gen.facts,
    Cert.UpBwd.Gen.facts, Cert.UpBwdIdeal.Gen.facts, Cert.UpBwdRefIdeal.Gen.facts,
    Cert.UpW.Gen.facts, Cert.UpWIdeal.Gen.facts, Cert.UpWRefIdeal.Gen.facts,
    Cert.Heads.Gen.facts, Cert.HeadsIdeal.Gen.facts, Cert.HeadsRefIdeal.Gen.facts,
    Cert.HeadsBwd.Gen.facts, Cert.HeadsBwdIdeal.Gen.facts, Cert.HeadsBwdRefIdeal.Gen.facts,
    Cert.In.Gen.facts, Cert.InIdeal.Gen.facts, Cert.InRefIdeal.Gen.facts,
    Cert.InBwd.Gen.facts, Cert.InBwdIdeal.Gen.facts, Cert.InBwdRefIdeal.Gen.facts,
    Cert.InW.Gen.facts, Cert.InWIdeal.Gen.facts, Cert.InWRefIdeal.Gen.facts,
    Cert.UkvBwd.Gen.facts, Cert.UkvBwdIdeal.Gen.facts, Cert.UkvBwdRefIdeal.Gen.facts,
    Cert.Loss.Gen.facts, Cert.LossIdeal.Gen.facts, Cert.LossRefIdeal.Gen.facts,
    Cert.Pre_all_finite.bcasts, Cert.Pre_finite_up_bwd.bcasts, Cert.Pre_finite_heads_bwd.bcasts, Cert.Pre_finite_in_bwd.bcasts, Cert.Pre_finite_ukv_bwd.bcasts, Cert.Pre_finite_loss.bcasts,
    fun m g _ => Cert.Kernel.Gen.frame m g, fun m g _ => Cert.KernelIdeal.Gen.frame m g,
    fun m g _ => Cert.KernelIdeal.Gen.frame m g, fun m g _ => frame_r m g, fun m g _ => frame_r m g,
    fun m g _ => Cert.Up.Gen.frame m g, fun m g _ => Cert.UpIdeal.Gen.frame m g, frame_up_ref,
    fun m g _ => Cert.UpBwd.Gen.frame m g, fun m g _ => Cert.UpBwdIdeal.Gen.frame m g,
    fun m g _ => Cert.UpBwdIdeal.Gen.frame m g, frame_up_bwd_ref, fun m g _ => frame_up_bwd_ref m g trivial,
    fun m g _ => Cert.UpW.Gen.frame m g, fun m g _ => Cert.UpWIdeal.Gen.frame m g, frame_up_w_ref,
    fun m g _ => Cert.Heads.Gen.frame m g, fun m g _ => Cert.HeadsIdeal.Gen.frame m g, frame_heads_ref,
    fun m g _ => Cert.HeadsBwd.Gen.frame m g, fun m g _ => Cert.HeadsBwdIdeal.Gen.frame m g,
    fun m g _ => Cert.HeadsBwdIdeal.Gen.frame m g, frame_heads_bwd_ref, fun m g _ => frame_heads_bwd_ref m g trivial,
    fun m g _ => Cert.In.Gen.frame m g, fun m g _ => Cert.InIdeal.Gen.frame m g, frame_in_ref,
    fun m g _ => Cert.InBwd.Gen.frame m g, fun m g _ => Cert.InBwdIdeal.Gen.frame m g,
    fun m g _ => Cert.InBwdIdeal.Gen.frame m g, frame_in_bwd_ref, fun m g _ => frame_in_bwd_ref m g trivial,
    fun m g _ => Cert.InW.Gen.frame m g, fun m g _ => Cert.InWIdeal.Gen.frame m g, frame_in_w_ref,
    fun m g _ => Cert.UkvBwd.Gen.frame m g, fun m g _ => Cert.UkvBwdIdeal.Gen.frame m g,
    fun m g _ => Cert.UkvBwdIdeal.Gen.frame m g, frame_ukv_bwd_ref, fun m g _ => frame_ukv_bwd_ref m g trivial,
    fun m g _ => Cert.Loss.Gen.frame m g, fun m g _ => Cert.LossIdeal.Gen.frame m g,
    fun m g _ => Cert.LossIdeal.Gen.frame m g, frame_loss_ref, fun m g _ => frame_loss_ref m g trivial,
    trivial, gradients, trivial, up_eq, trivial, up_bwd_eq, trivial, up_w_eq, trivial, heads_eq, trivial, heads_bwd_eq, trivial, in_eq, trivial, in_bwd_eq, trivial, in_w_eq, trivial, ukv_bwd_eq, trivial, loss_eq⟩

end Cert.Proof

end
